-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v26) = v0 c
          ∧ r.2.mem ((c.tc : Thread Cert.Reference3Ideal.nD Cert.Reference3Ideal.τ).loc Cert.Reference3Ideal.main_v29) = v1 c
          ∧ r.2.mem ((c.tc : Thread Cert.Reference3Ideal.nD Cert.Reference3Ideal.τ).loc Cert.Reference3Ideal.main_v32) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v123_0)) (v1 : (c : Dev Cert.Kernel6Ideal.nD) → Buf (Elt Ideal) ((c.tc : Thread Cert.Kernel6Ideal.nD Cert.Kernel6Ideal.τ).loc Cert.Kernel6Ideal.main_v123_1)) (v2 : (c : Dev Cert.Kernel6Ideal.nD) → Buf (Elt Ideal) ((c.tc : Thread Cert.Kernel6Ideal.nD Cert.Kernel6Ideal.τ).loc Cert.Kernel6Ideal.main_v123_2)) (v3 : (c : Dev Cert.Kernel6Ideal.nD) → Buf (Elt Ideal) ((c.tc : Thread Cert.Kernel6Ideal.nD Cert.Kernel6Ideal.τ).loc Cert.Kernel6Ideal.main_v123_3)) (v4 : (c : Dev Cert.Kernel6Ideal.nD) → Buf (Elt Ideal) ((c.tc : Thread Cert.Kernel6Ideal.nD Cert.Kernel6Ideal.τ).loc Cert.Kernel6Ideal.main_v123_4)) (v5 : (c : Dev Cert.Kernel6Ideal.nD) → Buf (Elt Ideal) ((c.tc : Thread Cert.Kernel6Ideal.nD Cert.Kernel6Ideal.τ).loc Cert.Kernel6Ideal.main_v123_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v123_0) = v0 c
          ∧ r.2.mem ((c.tc : Thread Cert.Kernel6Ideal.nD Cert.Kernel6Ideal.τ).loc Cert.Kernel6Ideal.main_v123_1) = v1 c
          ∧ r.2.mem ((c.tc : Thread Cert.Kernel6Ideal.nD Cert.Kernel6Ideal.τ).loc Cert.Kernel6Ideal.main_v123_2) = v2 c
          ∧ r.2.mem ((c.tc : Thread Cert.Kernel6Ideal.nD Cert.Kernel6Ideal.τ).loc Cert.Kernel6Ideal.main_v123_3) = v3 c
          ∧ r.2.mem ((c.tc : Thread Cert.Kernel6Ideal.nD Cert.Kernel6Ideal.τ).loc Cert.Kernel6Ideal.main_v123_4) = v4 c
          ∧ r.2.mem ((c.tc : Thread Cert.Kernel6Ideal.nD Cert.Kernel6Ideal.τ).loc Cert.Kernel6Ideal.main_v123_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v174) = v0 c
          ∧ r.2.mem ((c.tc : Thread Cert.Reference6Ideal.nD Cert.Reference6Ideal.τ).loc Cert.Reference6Ideal.main_v176) = v1 c
          ∧ r.2.mem ((c.tc : Thread Cert.Reference6Ideal.nD Cert.Reference6Ideal.τ).loc Cert.Reference6Ideal.main_v178) = v2 c
          ∧ r.2.mem ((c.tc : Thread Cert.Reference6Ideal.nD Cert.Reference6Ideal.τ).loc Cert.Reference6Ideal.main_v180) = v3 c
          ∧ r.2.mem ((c.tc : Thread Cert.Reference6Ideal.nD Cert.Reference6Ideal.τ).loc Cert.Reference6Ideal.main_v182) = v4 c
          ∧ r.2.mem ((c.tc : Thread Cert.Reference6Ideal.nD Cert.Reference6Ideal.τ).loc Cert.Reference6Ideal.main_v184) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v62) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8x8x4096x128 : Shape := ⟨4, ![8, 8, 4096, 128]⟩
abbrev S8x4x4096x128 : Shape := ⟨4, ![8, 4, 4096, 128]⟩
abbrev S_ : Shape := ⟨0, ![]⟩

class Facts : Prop where
  bitsLt_bf16_f32 : FTy.bits .bf16 < FTy.bits .f32
  bcast_S_S8x8x4096x128 : S_.BroadcastsInDim S8x8x4096x128 (![] : Fin 0 → Fin S8x8x4096x128.rank)
  reducesTo_S8x8x4096x128_S_d0_1_2_3 : S8x8x4096x128.ReducesTo [0, 1, 2, 3] S_
  h_S_ : 0 < S_.numel

variable [Facts]

def fn {F : FTy → Type} [FloatOps F] (main_arg0 : FVec F S8x8x4096x128 .bf16) (main_arg1 : FVec F S8x8x4096x128 .bf16) (main_arg2 : FVec F S8x4x4096x128 .bf16) : IVec S_ 1 :=
  let main_v0 : FVec F S8x8x4096x128 .f32 := (extf .f32 · bitsLt_bf16_f32) main_arg0
  let main_v1 : FVec F S8x8x4096x128 .f32 := Host.absf main_v0
  let main_cst : FVec F S_ .f32 := constant S_ .f32 0x7F800000#32
  let main_v2 : FVec F S8x8x4096x128 .f32 := broadcastInDim S8x8x4096x128 ![] bcast_S_S8x8x4096x128 main_cst
  let main_v3 : IVec S8x8x4096x128 1 := cmpf .olt main_v1 main_v2
  let main_c : IVec S_ 1 := constantI S_ 1 1#1
  let main_v4 : IVec S_ 1 := (fun x v => Host.reduce IntOp.andi x v reducesTo_S8x8x4096x128_S_d0_1_2_3 h_S_) main_v3 main_c
  let main_v5 : FVec F S8x8x4096x128 .f32 := (extf .f32 · bitsLt_bf16_f32) main_arg1
  let main_v6 : FVec F S8x8x4096x128 .f32 := Host.absf main_v5
  let main_cst_0 : FVec F S_ .f32 := constant S_ .f32 0x7F800000#32
  let main_v7 : FVec F S8x8x4096x128 .f32 := broadcastInDim S8x8x4096x128 ![] bcast_S_S8x8x4096x128 main_cst_0
  let main_v8 : IVec S8x8x4096x128 1 := cmpf .olt main_v6 main_v7
  let main_c_1 : IVec S_ 1 := constantI S_ 1 1#1
  let main_v9 : IVec S_ 1 := (fun x v => Host.reduce IntOp.andi x v reducesTo_S8x8x4096x128_S_d0_1_2_3 h_S_) main_v8 main_c_1
  let main_v10 : IVec S_ 1 := andi main_v4 main_v9
  main_v10
-- ==== Pre_finite2.lean ====
abbrev S4x32 : Shape := ⟨2, ![4, 32]⟩
abbrev S64 : Shape := ⟨1, ![64]⟩
abbrev S8x4x4096x128 : Shape := ⟨4, ![8, 4, 4096, 128]⟩
abbrev S_ : Shape := ⟨0, ![]⟩

class Facts : Prop where
  bcast_S_S4x32 : S_.BroadcastsInDim S4x32 (![] : Fin 0 → Fin S4x32.rank)
  reducesTo_S4x32_S_d0_1 : S4x32.ReducesTo [0, 1] S_
  h_S_ : 0 < S_.numel
  bitsLt_bf16_f32 : FTy.bits .bf16 < FTy.bits .f32
  bcast_S_S8x4x4096x128 : S_.BroadcastsInDim S8x4x4096x128 (![] : Fin 0 → Fin S8x4x4096x128.rank)
  reducesTo_S8x4x4096x128_S_d0_1_2_3 : S8x4x4096x128.ReducesTo [0, 1, 2, 3] S_

variable [Facts]

def fn_part1 {F : FTy → Type} [FloatOps F] (main_v15 : IVec S_ 1) (main_v17 : FVec F S8x4x4096x128 .f32) : IVec S_ 1 :=
  let main_cst_4 : FVec F S_ .f32 := constant S_ .f32 0x7F800000#32
  let main_v18 : FVec F S8x4x4096x128 .f32 := broadcastInDim S8x4x4096x128 ![] bcast_S_S8x4x4096x128 main_cst_4
  let main_v19 : IVec S8x4x4096x128 1 := cmpf .olt main_v17 main_v18
  let main_c_5 : IVec S_ 1 := constantI S_ 1 1#1
  let main_v20 : IVec S_ 1 := (fun x v => Host.reduce IntOp.andi x v reducesTo_S8x4x4096x128_S_d0_1_2_3 h_S_) main_v19 main_c_5
  let main_v21 : IVec S_ 1 := andi main_v15 main_v20
  main_v21

def fn {F : FTy → Type} [FloatOps F] (main_arg0 : FVec F S4x32 .f32) (main_arg1 : FVec F S64 .f32) (main_arg2 : FVec F S8x4x4096x128 .bf16) (main_arg3 : FVec F S8x4x4096x128 .bf16) (main_arg4 : FVec F S8x4x4096x128 .bf16) : IVec S_ 1 :=
  let main_v0 : FVec F S4x32 .f32 := Host.absf main_arg0
  let main_cst : FVec F S_ .f32 := constant S_ .f32 0x7F800000#32
  let main_v1 : FVec F S4x32 .f32 := broadcastInDim S4x32 ![] bcast_S_S4x32 main_cst
  let main_v2 : IVec S4x32 1 := cmpf .olt main_v0 main_v1
  let main_c : IVec S_ 1 := constantI S_ 1 1#1
  let main_v3 : IVec S_ 1 := (fun x v => Host.reduce IntOp.andi x v reducesTo_S4x32_S_d0_1 h_S_) main_v2 main_c
  let main_v4 : FVec F S8x4x4096x128 .f32 := (extf .f32 · bitsLt_bf16_f32) main_arg2
  let main_v5 : FVec F S8x4x4096x128 .f32 := Host.absf main_v4
  let main_cst_0 : FVec F S_ .f32 := constant S_ .f32 0x7F800000#32
  let main_v6 : FVec F S8x4x4096x128 .f32 := broadcastInDim S8x4x4096x128 ![] bcast_S_S8x4x4096x128 main_cst_0
  let main_v7 : IVec S8x4x4096x128 1 := cmpf .olt main_v5 main_v6
  let main_c_1 : IVec S_ 1 := constantI S_ 1 1#1
  let main_v8 : IVec S_ 1 := (fun x v => Host.reduce IntOp.andi x v reducesTo_S8x4x4096x128_S_d0_1_2_3 h_S_) main_v7 main_c_1
  let main_v9 : IVec S_ 1 := andi main_v3 main_v8
  let main_v10 : FVec F S8x4x4096x128 .f32 := (extf .f32 · bitsLt_bf16_f32) main_arg3
  let main_v11 : FVec F S8x4x4096x128 .f32 := Host.absf main_v10
  let main_cst_2 : FVec F S_ .f32 := constant S_ .f32 0x7F800000#32
  let main_v12 : FVec F S8x4x4096x128 .f32 := broadcastInDim S8x4x4096x128 ![] bcast_S_S8x4x4096x128 main_cst_2
  let main_v13 : IVec S8x4x4096x128 1 := cmpf .olt main_v11 main_v12
  let main_c_3 : IVec S_ 1 := constantI S_ 1 1#1
  let main_v14 : IVec S_ 1 := (fun x v => Host.reduce IntOp.andi x v reducesTo_S8x4x4096x128_S_d0_1_2_3 h_S_) main_v13 main_c_3
  let main_v15 : IVec S_ 1 := andi main_v9 main_v14
  let main_v16 : FVec F S8x4x4096x128 .f32 := (extf .f32 · bitsLt_bf16_f32) main_arg4
  let main_v17 : FVec F S8x4x4096x128 .f32 := Host.absf main_v16
  fn_part1 (F := F) main_v15 main_v17
-- ==== Pre_finite7.lean ====
abbrev S8x8x4096x128 : Shape := ⟨4, ![8, 8, 4096, 128]⟩
abbrev S16x257 : Shape := ⟨2, ![16, 257]⟩
abbrev S_ : Shape := ⟨0, ![]⟩

class Facts : Prop where
  bitsLt_bf16_f32 : FTy.bits .bf16 < FTy.bits .f32
  bcast_S_S8x8x4096x128 : S_.BroadcastsInDim S8x8x4096x128 (![] : Fin 0 → Fin S8x8x4096x128.rank)
  reducesTo_S8x8x4096x128_S_d0_1_2_3 : S8x8x4096x128.ReducesTo [0, 1, 2, 3] S_
  h_S_ : 0 < S_.numel
  bcast_S_S16x257 : S_.BroadcastsInDim S16x257 (![] : Fin 0 → Fin S16x257.rank)
  reducesTo_S16x257_S_d0_1 : S16x257.ReducesTo [0, 1] S_

variable [Facts]

def fn {F : FTy → Type} [FloatOps F] (main_arg0 : FVec F S8x8x4096x128 .bf16) (main_arg1 : FVec F S8x8x4096x128 .bf16) (main_arg2 : FVec F S8x8x4096x128 .bf16) (main_arg3 : FVec F S16x257 .f32) : IVec S_ 1 :=
  let main_v0 : FVec F S8x8x4096x128 .f32 := (extf .f32 · bitsLt_bf16_f32) main_arg0
  let main_v1 : FVec F S8x8x4096x128 .f32 := Host.absf main_v0
  let main_cst : FVec F S_ .f32 := constant S_ .f32 0x7F800000#32
  let main_v2 : FVec F S8x8x4096x128 .f32 := broadcastInDim S8x8x4096x128 ![] bcast_S_S8x8x4096x128 main_cst
  let main_v3 : IVec S8x8x4096x128 1 := cmpf .olt main_v1 main_v2
  let main_c : IVec S_ 1 := constantI S_ 1 1#1
  let main_v4 : IVec S_ 1 := (fun x v => Host.reduce IntOp.andi x v reducesTo_S8x8x4096x128_S_d0_1_2_3 h_S_) main_v3 main_c
  let main_v5 : FVec F S8x8x4096x128 .f32 := (extf .f32 · bitsLt_bf16_f32) main_arg1
  let main_v6 : FVec F S8x8x4096x128 .f32 := Host.absf main_v5
  let main_cst_0 : FVec F S_ .f32 := constant S_ .f32 0x7F800000#32
  let main_v7 : FVec F S8x8x4096x128 .f32 := broadcastInDim S8x8x4096x128 ![] bcast_S_S8x8x4096x128 main_cst_0
  let main_v8 : IVec S8x8x4096x128 1 := cmpf .olt main_v6 main_v7
  let main_c_1 : IVec S_ 1 := constantI S_ 1 1#1
  let main_v9 : IVec S_ 1 := (fun x v => Host.reduce IntOp.andi x v reducesTo_S8x8x4096x128_S_d0_1_2_3 h_S_) main_v8 main_c_1
  let main_v10 : IVec S_ 1 := andi main_v4 main_v9
  let main_v11 : FVec F S16x257 .f32 := Host.absf main_arg3
  let main_cst_2 : FVec F S_ .f32 := constant S_ .f32 0x7F800000#32
  let main_v12 : FVec F S16x257 .f32 := broadcastInDim S16x257 ![] bcast_S_S16x257 main_cst_2
  let main_v13 : IVec S16x257 1 := cmpf .olt main_v11 main_v12
  let main_c_3 : IVec S_ 1 := constantI S_ 1 1#1
  let main_v14 : IVec S_ 1 := (fun x v => Host.reduce IntOp.andi x v reducesTo_S16x257_S_d0_1 h_S_) main_v13 main_c_3
  let main_v15 : IVec S_ 1 := andi main_v10 main_v14
  main_v15
-- ==== Kernel.lean ====
abbrev S8x8x4096x128 : Shape := ⟨4, ![8, 8, 4096, 128]⟩
abbrev S8x4x4096x128 : Shape := ⟨4, ![8, 4, 4096, 128]⟩
abbrev S8x4096x512 : Shape := ⟨3, ![8, 4096, 512]⟩
abbrev S1x2x512x128 : Shape := ⟨4, ![1, 2, 512, 128]⟩
abbrev S1x2x4096x128 : Shape := ⟨4, ![1, 2, 4096, 128]⟩
abbrev S1x1x4096x128 : Shape := ⟨4, ![1, 1, 4096, 128]⟩
abbrev S1x512x128 : Shape := ⟨3, ![1, 512, 128]⟩
abbrev S2x512x128 : Shape := ⟨3, ![2, 512, 128]⟩
abbrev S2x8x512x512 : Shape := ⟨4, ![2, 8, 512, 512]⟩
abbrev S512x1 : Shape := ⟨2, ![512, 1]⟩
abbrev S1x512 : Shape := ⟨2, ![1, 512]⟩
abbrev S512x512 : Shape := ⟨2, ![512, 512]⟩
abbrev S1x1x512x128 : Shape := ⟨4, ![1, 1, 512, 128]⟩
abbrev S512x128 : Shape := ⟨2, ![512, 128]⟩
abbrev S1x1x512x512 : Shape := ⟨4, ![1, 1, 512, 512]⟩
abbrev S512 : Shape := ⟨1, ![512]⟩

abbrev nBuf : Space → Nat
  | .hbm => 4
  | .vmem => 12
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x4x4096x128, .bf16⟩
  | .hbm, ⟨3, _⟩ => ⟨S8x4096x512, .bf16⟩
  | .local _ .vmem, ⟨0, _⟩ => ⟨S1x2x512x128, .bf16⟩
  | .local _ .vmem, ⟨1, _⟩ => ⟨S1x2x512x128, .bf16⟩
  | .local _ .vmem, ⟨2, _⟩ => ⟨S1x2x4096x128, .bf16⟩
  | .local _ .vmem, ⟨3, _⟩ => ⟨S1x2x4096x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x512x128, .bf16⟩
  | .local _ .vmem, ⟨7, _⟩ => ⟨S1x512x128, .bf16⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x8x512x512, .f32⟩
  | _, _ => ⟨S8x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  v18
@[reducible] def k0_t1_loop (i : grid0.Coords) : Scf.Loop 32 :=
  let c0_i32_31 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v92 : BitVec 32 := Scalar.subi v17 c0_i32_31
  let c1_i32_32 : BitVec 32 := 1#32
  let v94 : BitVec 32 := Scalar.divsi v92 c1_i32_32
  let v95 : BitVec 32 := Scalar.muli v94 c1_i32_32
  let v96 : BitVec 32 := Scalar.addi c0_i32_31 v95
  let c1_i32_33 : BitVec 32 := 1#32
  ⟨c0_i32_31, v96, c1_i32_33⟩
def k0_mult2 (i : grid0.Coords) (k0_t1 : Fin (k0_t1_loop i).trips) : BitVec 32 :=
  let c0_i32_31 : BitVec 32 := 0#32
  let c1_i32_33 : BitVec 32 := 1#32
  let arg11 : BitVec 32 := Scf.iv c0_i32_31 c1_i32_33 k0_t1
  let c512_i32_163 : BitVec 32 := 512#32
  let v270 : BitVec 32 := Scalar.muli arg11 c512_i32_163
  v270
def k0_off1 (i : grid0.Coords) (k0_t1 : Fin (k0_t1_loop i).trips) : Fin 4 → Nat :=
  let c0_168 : Index := 0#32
  let c0_169 : Index := 0#32
  let c0_i32_31 : BitVec 32 := 0#32
  let c1_i32_33 : BitVec 32 := 1#32
  let arg11 : BitVec 32 := Scf.iv c0_i32_31 c1_i32_33 k0_t1
  let c512_i32_163 : BitVec 32 := 512#32
  let v270 : BitVec 32 := Scalar.muli arg11 c512_i32_163
  let v271 : BitVec 32 := v270
  let v274 : Index := Scalar.indexCast v271
  let c0_170 : Index := 0#32
  ![0, 0, v274.toNat, 0]
def k0_off2 (i : grid0.Coords) (k0_t1 : Fin (k0_t1_loop i).trips) : Fin 4 → Nat :=
  let c0_172 : Index := 0#32
  let c0_i32_31 : BitVec 32 := 0#32
  let c1_i32_33 : BitVec 32 := 1#32
  let arg11 : BitVec 32 := Scf.iv c0_i32_31 c1_i32_33 k0_t1
  let v278 : Index := Scalar.indexCast arg11
  let c0_173 : Index := 0#32
  let c0_174 : Index := 0#32
  ![0, v278.toNat, 0, 0]
def k0_off3 (i : grid0.Coords) (k0_t1 : Fin (k0_t1_loop i).trips) : Fin 4 → Nat :=
  let c0_185 : Index := 0#32
  let c1_186 : Index := 1#32
  let c0_i32_31 : BitVec 32 := 0#32
  let c1_i32_33 : BitVec 32 := 1#32
  let arg11 : BitVec 32 := Scf.iv c0_i32_31 c1_i32_33 k0_t1
  let c512_i32_163 : BitVec 32 := 512#32
  let v270 : BitVec 32 := Scalar.muli arg11 c512_i32_163
  let v271 : BitVec 32 := v270
  let v297 : Index := Scalar.indexCast v271
  let c0_187 : Index := 0#32
  ![0, 1, v297.toNat, 0]
def k0_off4 (i : grid0.Coords) (k0_t1 : Fin (k0_t1_loop i).trips) : Fin 4 → Nat :=
  let c1_189 : Index := 1#32
  let c0_i32_31 : BitVec 32 := 0#32
  let c1_i32_33 : BitVec 32 := 1#32
  let arg11 : BitVec 32 := Scf.iv c0_i32_31 c1_i32_33 k0_t1
  let v301 : Index := Scalar.indexCast arg11
  let c0_190 : Index := 0#32
  let c0_191 : Index := 0#32
  ![1, v301.toNat, 0, 0]
@[reducible] def k0_t2_loop (i : grid0.Coords) : Scf.Loop 32 :=
  let c0_i32_31 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v92 : BitVec 32 := Scalar.subi v17 c0_i32_31
  let c1_i32_32 : BitVec 32 := 1#32
  let v94 : BitVec 32 := Scalar.divsi v92 c1_i32_32
  let v95 : BitVec 32 := Scalar.muli v94 c1_i32_32
  let v96 : BitVec 32 := Scalar.addi c0_i32_31 v95
  let v93 : BitVec 32 := Scalar.addi c0_i32_31 v92
  let c1_i32_34 : BitVec 32 := 1#32
  ⟨v96, v93, c1_i32_34⟩
def k0_mult3 (i : grid0.Coords) (k0_t2 : Fin (k0_t2_loop i).trips) : BitVec 32 :=
  let c0_i32_31 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v92 : BitVec 32 := Scalar.subi v17 c0_i32_31
  let c1_i32_32 : BitVec 32 := 1#32
  let v94 : BitVec 32 := Scalar.divsi v92 c1_i32_32
  let v95 : BitVec 32 := Scalar.muli v94 c1_i32_32
  let v96 : BitVec 32 := Scalar.addi c0_i32_31 v95
  let c1_i32_34 : BitVec 32 := 1#32
  let arg11 : BitVec 32 := Scf.iv v96 c1_i32_34 k0_t2
  let c512_i32_163 : BitVec 32 := 512#32
  let v270 : BitVec 32 := Scalar.muli arg11 c512_i32_163
  v270
def k0_off5 (i : grid0.Coords) (k0_t2 : Fin (k0_t2_loop i).trips) : Fin 4 → Nat :=
  let c0_168 : Index := 0#32
  let c0_169 : Index := 0#32
  let c0_i32_31 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v92 : BitVec 32 := Scalar.subi v17 c0_i32_31
  let c1_i32_32 : BitVec 32 := 1#32
  let v94 : BitVec 32 := Scalar.divsi v92 c1_i32_32
  let v95 : BitVec 32 := Scalar.muli v94 c1_i32_32
  let v96 : BitVec 32 := Scalar.addi c0_i32_31 v95
  let c1_i32_34 : BitVec 32 := 1#32
  let arg11 : BitVec 32 := Scf.iv v96 c1_i32_34 k0_t2
  let c512_i32_163 : BitVec 32 := 512#32
  let v270 : BitVec 32 := Scalar.muli arg11 c512_i32_163
  let v271 : BitVec 32 := v270
  let v274 : Index := Scalar.indexCast v271
  let c0_170 : Index := 0#32
  ![0, 0, v274.toNat, 0]
def k0_off6 (i : grid0.Coords) (k0_t2 : Fin (k0_t2_loop i).trips) : Fin 4 → Nat :=
  let c0_172 : Index := 0#32
  let c0_i32_31 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v92 : BitVec 32 := Scalar.subi v17 c0_i32_31
  let c1_i32_32 : BitVec 32 := 1#32
  let v94 : BitVec 32 := Scalar.divsi v92 c1_i32_32
  let v95 : BitVec 32 := Scalar.muli v94 c1_i32_32
  let v96 : BitVec 32 := Scalar.addi c0_i32_31 v95
  let c1_i32_34 : BitVec 32 := 1#32
  let arg11 : BitVec 32 := Scf.iv v96 c1_i32_34 k0_t2
  let v278 : Index := Scalar.indexCast arg11
  let c0_173 : Index := 0#32
  let c0_174 : Index := 0#32
  ![0, v278.toNat, 0, 0]
def k0_off7 (i : grid0.Coords) (k0_t2 : Fin (k0_t2_loop i).trips) : Fin 4 → Nat :=
  let c0_185 : Index := 0#32
  let c1_186 : Index := 1#32
  let c0_i32_31 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v92 : BitVec 32 := Scalar.subi v17 c0_i32_31
  let c1_i32_32 : BitVec 32 := 1#32
  let v94 : BitVec 32 := Scalar.divsi v92 c1_i32_32
  let v95 : BitVec 32 := Scalar.muli v94 c1_i32_32
  let v96 : BitVec 32 := Scalar.addi c0_i32_31 v95
  let c1_i32_34 : BitVec 32 := 1#32
  let arg11 : BitVec 32 := Scf.iv v96 c1_i32_34 k0_t2
  let c512_i32_163 : BitVec 32 := 512#32
  let v270 : BitVec 32 := Scalar.muli arg11 c512_i32_163
  let v271 : BitVec 32 := v270
  let v297 : Index := Scalar.indexCast v271
  let c0_187 : Index := 0#32
  ![0, 1, v297.toNat, 0]
def k0_off8 (i : grid0.Coords) (k0_t2 : Fin (k0_t2_loop i).trips) : Fin 4 → Nat :=
  let c1_189 : Index := 1#32
  let c0_i32_31 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v92 : BitVec 32 := Scalar.subi v17 c0_i32_31
  let c1_i32_32 : BitVec 32 := 1#32
  let v94 : BitVec 32 := Scalar.divsi v92 c1_i32_32
  let v95 : BitVec 32 := Scalar.muli v94 c1_i32_32
  let v96 : BitVec 32 := Scalar.addi c0_i32_31 v95
  let c1_i32_34 : BitVec 32 := 1#32
  let arg11 : BitVec 32 := Scf.iv v96 c1_i32_34 k0_t2
  let v301 : Index := Scalar.indexCast arg11
  let c0_190 : Index := 0#32
  let c0_191 : Index := 0#32
  ![1, v301.toNat, 0, 0]
def k0_off9 (i : grid0.Coords) : Fin 4 → Nat :=
  let c0_39 : Index := 0#32
  let c0_40 : Index := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  let v19 : BitVec 32 := v18
  let v99 : Index := Scalar.indexCast v19
  let c0_41 : Index := 0#32
  ![0, 0, v99.toNat, 0]
def k0_off10 (i : grid0.Coords) : Fin 4 → Nat :=
  let c0_44 : Index := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v105 : Index := Scalar.indexCast v17
  let c0_45 : Index := 0#32
  let c0_46 : Index := 0#32
  ![0, v105.toNat, 0, 0]
def k0_off11 (i : grid0.Coords) : Fin 4 → Nat :=
  let c0_56 : Index := 0#32
  let c1_57 : Index := 1#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  let v19 : BitVec 32 := v18
  let v124 : Index := Scalar.indexCast v19
  let c0_58 : Index := 0#32
  ![0, 1, v124.toNat, 0]
def k0_off12 (i : grid0.Coords) : Fin 4 → Nat :=
  let c1_61 : Index := 1#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v130 : Index := Scalar.indexCast v17
  let c0_62 : Index := 0#32
  let c0_63 : Index := 0#32
  ![1, v130.toNat, 0, 0]
@[reducible] def k0_t3_loop (i : grid0.Coords) : Scf.Loop 32 :=
  let c0_i32_85 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v165 : BitVec 32 := Scalar.subi v17 c0_i32_85
  let c1_i32_86 : BitVec 32 := 1#32
  let v167 : BitVec 32 := Scalar.divsi v165 c1_i32_86
  let v168 : BitVec 32 := Scalar.muli v167 c1_i32_86
  let v169 : BitVec 32 := Scalar.addi c0_i32_85 v168
  let c1_i32_87 : BitVec 32 := 1#32
  ⟨c0_i32_85, v169, c1_i32_87⟩
def k0_mult4 (i : grid0.Coords) (k0_t3 : Fin (k0_t3_loop i).trips) : BitVec 32 :=
  let c0_i32_85 : BitVec 32 := 0#32
  let c1_i32_87 : BitVec 32 := 1#32
  let arg11 : BitVec 32 := Scf.iv c0_i32_85 c1_i32_87 k0_t3
  let c512_i32_163 : BitVec 32 := 512#32
  let v270 : BitVec 32 := Scalar.muli arg11 c512_i32_163
  v270
def k0_off13 (i : grid0.Coords) (k0_t3 : Fin (k0_t3_loop i).trips) : Fin 4 → Nat :=
  let c0_164 : Index := 0#32
  let c0_i32_85 : BitVec 32 := 0#32
  let c1_i32_87 : BitVec 32 := 1#32
  let arg11 : BitVec 32 := Scf.iv c0_i32_85 c1_i32_87 k0_t3
  let v272 : Index := Scalar.indexCast arg11
  let c0_165 : Index := 0#32
  let c0_166 : Index := 0#32
  ![0, v272.toNat, 0, 0]
def k0_off14 (i : grid0.Coords) (k0_t3 : Fin (k0_t3_loop i).trips) : Fin 4 → Nat :=
  let c0_179 : Index := 0#32
  let c0_180 : Index := 0#32
  let c0_i32_85 : BitVec 32 := 0#32
  let c1_i32_87 : BitVec 32 := 1#32
  let arg11 : BitVec 32 := Scf.iv c0_i32_85 c1_i32_87 k0_t3
  let c512_i32_163 : BitVec 32 := 512#32
  let v270 : BitVec 32 := Scalar.muli arg11 c512_i32_163
  let v271 : BitVec 32 := v270
  let v296 : Index := Scalar.indexCast v271
  let c0_181 : Index := 0#32
  ![0, 0, v296.toNat, 0]
def k0_off15 (i : grid0.Coords) (k0_t3 : Fin (k0_t3_loop i).trips) : Fin 4 → Nat :=
  let c1_186 : Index := 1#32
  let c0_i32_85 : BitVec 32 := 0#32
  let c1_i32_87 : BitVec 32 := 1#32
  let arg11 : BitVec 32 := Scf.iv c0_i32_85 c1_i32_87 k0_t3
  let v304 : Index := Scalar.indexCast arg11
  let c0_187 : Index := 0#32
  let c0_188 : Index := 0#32
  ![1, v304.toNat, 0, 0]
@[reducible] def k0_t4_loop (i : grid0.Coords) : Scf.Loop 32 :=
  let c0_i32_85 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v165 : BitVec 32 := Scalar.subi v17 c0_i32_85
  let c1_i32_86 : BitVec 32 := 1#32
  let v167 : BitVec 32 := Scalar.divsi v165 c1_i32_86
  let v168 : BitVec 32 := Scalar.muli v167 c1_i32_86
  let v169 : BitVec 32 := Scalar.addi c0_i32_85 v168
  let v166 : BitVec 32 := Scalar.addi c0_i32_85 v165
  let c1_i32_88 : BitVec 32 := 1#32
  ⟨v169, v166, c1_i32_88⟩
def k0_mult5 (i : grid0.Coords) (k0_t4 : Fin (k0_t4_loop i).trips) : BitVec 32 :=
  let c0_i32_85 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v165 : BitVec 32 := Scalar.subi v17 c0_i32_85
  let c1_i32_86 : BitVec 32 := 1#32
  let v167 : BitVec 32 := Scalar.divsi v165 c1_i32_86
  let v168 : BitVec 32 := Scalar.muli v167 c1_i32_86
  let v169 : BitVec 32 := Scalar.addi c0_i32_85 v168
  let c1_i32_88 : BitVec 32 := 1#32
  let arg11 : BitVec 32 := Scf.iv v169 c1_i32_88 k0_t4
  let c512_i32_163 : BitVec 32 := 512#32
  let v270 : BitVec 32 := Scalar.muli arg11 c512_i32_163
  v270
def k0_off16 (i : grid0.Coords) (k0_t4 : Fin (k0_t4_loop i).trips) : Fin 4 → Nat :=
  let c0_164 : Index := 0#32
  let c0_i32_85 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v165 : BitVec 32 := Scalar.subi v17 c0_i32_85
  let c1_i32_86 : BitVec 32 := 1#32
  let v167 : BitVec 32 := Scalar.divsi v165 c1_i32_86
  let v168 : BitVec 32 := Scalar.muli v167 c1_i32_86
  let v169 : BitVec 32 := Scalar.addi c0_i32_85 v168
  let c1_i32_88 : BitVec 32 := 1#32
  let arg11 : BitVec 32 := Scf.iv v169 c1_i32_88 k0_t4
  let v272 : Index := Scalar.indexCast arg11
  let c0_165 : Index := 0#32
  let c0_166 : Index := 0#32
  ![0, v272.toNat, 0, 0]
def k0_off17 (i : grid0.Coords) (k0_t4 : Fin (k0_t4_loop i).trips) : Fin 4 → Nat :=
  let c0_179 : Index := 0#32
  let c0_180 : Index := 0#32
  let c0_i32_85 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v165 : BitVec 32 := Scalar.subi v17 c0_i32_85
  let c1_i32_86 : BitVec 32 := 1#32
  let v167 : BitVec 32 := Scalar.divsi v165 c1_i32_86
  let v168 : BitVec 32 := Scalar.muli v167 c1_i32_86
  let v169 : BitVec 32 := Scalar.addi c0_i32_85 v168
  let c1_i32_88 : BitVec 32 := 1#32
  let arg11 : BitVec 32 := Scf.iv v169 c1_i32_88 k0_t4
  let c512_i32_163 : BitVec 32 := 512#32
  let v270 : BitVec 32 := Scalar.muli arg11 c512_i32_163
  let v271 : BitVec 32 := v270
  let v296 : Index := Scalar.indexCast v271
  let c0_181 : Index := 0#32
  ![0, 0, v296.toNat, 0]
def k0_off18 (i : grid0.Coords) (k0_t4 : Fin (k0_t4_loop i).trips) : Fin 4 → Nat :=
  let c1_186 : Index := 1#32
  let c0_i32_85 : BitVec 32 := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v165 : BitVec 32 := Scalar.subi v17 c0_i32_85
  let c1_i32_86 : BitVec 32 := 1#32
  let v167 : BitVec 32 := Scalar.divsi v165 c1_i32_86
  let v168 : BitVec 32 := Scalar.muli v167 c1_i32_86
  let v169 : BitVec 32 := Scalar.addi c0_i32_85 v168
  let c1_i32_88 : BitVec 32 := 1#32
  let arg11 : BitVec 32 := Scf.iv v169 c1_i32_88 k0_t4
  let v304 : Index := Scalar.indexCast arg11
  let c0_187 : Index := 0#32
  let c0_188 : Index := 0#32
  ![1, v304.toNat, 0, 0]
def k0_off19 (i : grid0.Coords) : Fin 4 → Nat :=
  let c0_104 : Index := 0#32
  let c0_105 : Index := 0#32
  let arg2 : BitVec 32 := BitVec.ofNat 32 (i 2).val
  let c512_i32 : BitVec 32 := 512#32
  let v0 : BitVec 32 := Scalar.muli arg2 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let c512_i32_5 : BitVec 32 := 512#32
  let v18 : BitVec 32 := Scalar.muli v17 c512_i32_5
  let v19 : BitVec 32 := v18
  let v194 : Index := Scalar.indexCast v19
  let c0_106 : Index := 0#32
  ![0, 0, v194.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x8x4096x128 : Shape := ⟨4, ![8, 8, 4096, 128]⟩
abbrev S8x4x4096x128 : Shape := ⟨4, ![8, 4, 4096, 128]⟩
abbrev S8x4x4096x2x64 : Shape := ⟨5, ![8, 4, 4096, 2, 64]⟩
abbrev S8x4x2x4096x64 : Shape := ⟨5, ![8, 4, 2, 4096, 64]⟩
abbrev S8x8x4096x64 : Shape := ⟨4, ![8, 8, 4096, 64]⟩
abbrev S8x8x4096x4096 : Shape := ⟨4, ![8, 8, 4096, 4096]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x8x64 : Shape := ⟨4, ![8, 4096, 8, 64]⟩
abbrev S8x4096x512 : Shape := ⟨3, ![8, 4096, 512]⟩

abbrev nBuf : Space → Nat
  | .hbm => 56
  | .vmem => 0
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x4x4096x128, .bf16⟩
  | .hbm, ⟨3, _⟩ => ⟨S8x8x4096x128, .f32⟩
  | .hbm, ⟨4, _⟩ => ⟨S8x8x4096x128, .f32⟩
  | .hbm, ⟨5, _⟩ => ⟨S8x4x4096x128, .f32⟩
  | .hbm, ⟨6, _⟩ => ⟨S8x4x4096x2x64, .f32⟩
  | .hbm, ⟨7, _⟩ => ⟨S8x4x2x4096x64, .f32⟩
  | .hbm, ⟨8, _⟩ => ⟨S8x8x4096x64, .f32⟩
  | .hbm, ⟨9, _⟩ => ⟨S8x8x4096x4096, .f32⟩
  | .hbm, ⟨10, _⟩ => ⟨S4096, .i32⟩
  | .hbm, ⟨11, _⟩ => ⟨S_, .i32⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S_, .f32⟩
  | .hbm, ⟨35, _⟩ => ⟨S_, .f32⟩
  | .hbm, ⟨36, _⟩ => ⟨S8x8x4096x4096, .i1⟩
  | .hbm, ⟨37, _⟩ => ⟨S8x8x4096x4096, .f32⟩
  | .hbm, ⟨38, _⟩ => ⟨S8x8x4096x4096, .f32⟩
  | .hbm, ⟨39, _⟩ => ⟨S_, .f32⟩
  | .hbm, ⟨40, _⟩ => ⟨S8x8x4096x4096, .f32⟩
  | .hbm, ⟨41, _⟩ => ⟨S_, .f32⟩
  | .hbm, ⟨42, _⟩ => ⟨S8x8x4096, .f32⟩
  | .hbm, ⟨43, _⟩ => ⟨S8x8x4096x1, .f32⟩
  | .hbm, ⟨44, _⟩ => ⟨S8x8x4096x4096, .f32⟩
  | .hbm, ⟨45, _⟩ => ⟨S8x8x4096x4096, .f32⟩
  | .hbm, ⟨46, _⟩ => ⟨S8x8x4096x4096, .f32⟩
  | .hbm, ⟨47, _⟩ => ⟨S_, .f32⟩
  | .hbm, ⟨48, _⟩ => ⟨S8x8x4096, .f32⟩
  | .hbm, ⟨49, _⟩ => ⟨S8x8x4096x1, .f32⟩
  | .hbm, ⟨50, _⟩ => ⟨S8x8x4096x4096, .f32⟩
  | .hbm, ⟨51, _⟩ => ⟨S8x8x4096x4096, .f32⟩
  | .hbm, ⟨52, _⟩ => ⟨S8x8x64x4096, .f32⟩
  | .hbm, ⟨53, _⟩ => ⟨S8x4096x8x64, .f32⟩
  | .hbm, ⟨54, _⟩ => ⟨S8x4096x512, .f32⟩
  | .hbm, ⟨55, _⟩ => ⟨S8x4096x512, .bf16⟩
  | _, _ => ⟨S8x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v14 : Ref sig .tc := ⟨.hbm, 38, rfl⟩
abbrev main_cst_0 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_cst_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩

abbrev nD : Nat := 1
abbrev τ : Topo := Topo.v7x

variable {F : FTy → Type} [FloatOps F]
-- ==== Kernel2.lean ====
abbrev S4x32 : Shape := ⟨2, ![4, 32]⟩
abbrev S64 : Shape := ⟨1, ![64]⟩
abbrev S8x4x4096x128 : Shape := ⟨4, ![8, 4, 4096, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8x4096x512 : Shape := ⟨3, ![8, 4096, 512]⟩
abbrev S1x1x256x128 : Shape := ⟨4, ![1, 1, 256, 128]⟩
abbrev S1x1x4096x128 : Shape := ⟨4, ![1, 1, 4096, 128]⟩
abbrev S1x256x128 : Shape := ⟨3, ![1, 256, 128]⟩
abbrev S1x1024x128 : Shape := ⟨3, ![1, 1024, 128]⟩
abbrev S1x8x1024x512 : Shape := ⟨4, ![1, 8, 1024, 512]⟩
abbrev S1024x128 : Shape := ⟨2, ![1024, 128]⟩
abbrev S256x128 : Shape := ⟨2, ![256, 128]⟩
abbrev S1024x1 : Shape := ⟨2, ![1024, 1]⟩
abbrev S1x512 : Shape := ⟨2, ![1, 512]⟩
abbrev S1024x512 : Shape := ⟨2, ![1024, 512]⟩
abbrev S1x1x512x128 : Shape := ⟨4, ![1, 1, 512, 128]⟩
abbrev S512x128 : Shape := ⟨2, ![512, 128]⟩
abbrev S1x1x1024x512 : Shape := ⟨4, ![1, 1, 1024, 512]⟩
abbrev S1024 : Shape := ⟨1, ![1024]⟩
abbrev S1x32 : Shape := ⟨2, ![1, 32]⟩
abbrev S1x1x32 : Shape := ⟨3, ![1, 1, 32]⟩
abbrev S1 : Shape := ⟨1, ![1]⟩
abbrev S1x1x1 : Shape := ⟨3, ![1, 1, 1]⟩
abbrev S1x1 : Shape := ⟨2, ![1, 1]⟩
abbrev S256 : Shape := ⟨1, ![256]⟩
abbrev S256x1 : Shape := ⟨2, ![256, 1]⟩

abbrev nBuf : Space → Nat
  | .hbm => 10
  | .vmem => 15
  | .smem => 0
  | _ => 0

abbrev bufTy : (tb : Table) → Fin (tcTables nBuf tb) → BufTy
  | .hbm, ⟨0, _⟩ => ⟨S4x32, .f32⟩
  | .hbm, ⟨1, _⟩ => ⟨S64, .f32⟩
  | .hbm, ⟨2, _⟩ => ⟨S8x4x4096x128, .bf16⟩
  | .hbm, ⟨3, _⟩ => ⟨S8x4x4096x128, .bf16⟩
  | .hbm, ⟨4, _⟩ => ⟨S8x4x4096x128, .bf16⟩
  | .hbm, ⟨5, _⟩ => ⟨S1x64, .f32⟩
  | .hbm, ⟨6, _⟩ => ⟨S2x64, .f32⟩
  | .hbm, ⟨7, _⟩ => ⟨S128, .f32⟩
  | .hbm, ⟨8, _⟩ => ⟨S1x128, .f32⟩
  | .hbm, ⟨9, _⟩ => ⟨S8x4096x512, .bf16⟩
  | .local _ .vmem, ⟨0, _⟩ => ⟨S4x32, .f32⟩
  | .local _ .vmem, ⟨1, _⟩ => ⟨S1x128, .f32⟩
  | .local _ .vmem, ⟨2, _⟩ => ⟨S1x1x256x128, .bf16⟩
  | .local _ .vmem, ⟨3, _⟩ => ⟨S1x1x256x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x1x4096x128, .bf16⟩
  | .local _ .vmem, ⟨7, _⟩ => ⟨S1x1x4096x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x8x1024x512, .f32⟩
  | .local _ .vmem, ⟨14, _⟩ => ⟨S1024x128, .bf16⟩
  | _, _ => ⟨S4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 4, 16], ![false, false, false]⟩

def k0_mult1 (i : grid0.Coords) : BitVec 32 :=
  let arg2 : BitVec 32 := BitVec.ofNat 32 (i 2).val
  let c256_i32 : BitVec 32 := 256#32
  let v40 : BitVec 32 := Scalar.muli arg2 c256_i32
  let c0_i32_11 : BitVec 32 := 0#32
  let v42 : BitVec 1 := Scalar.cmpi .sgt v40 c0_i32_11
  let v43 : BitVec 32 := Scalar.extui v42
  let c0_i32_12 : BitVec 32 := 0#32
  let v44 : BitVec 1 := Scalar.cmpi .slt v40 c0_i32_12
  let v45 : BitVec 32 := Scalar.extui v44
  let v46 : BitVec 32 := Scalar.subi v43 v45
  let c512_i32 : BitVec 32 := 512#32
  let c0_i32_13 : BitVec 32 := 0#32
  let v47 : BitVec 1 := Scalar.cmpi .sgt c512_i32 c0_i32_13
  let v48 : BitVec 32 := Scalar.extui v47
  let c0_i32_14 : BitVec 32 := 0#32
  let v49 : BitVec 1 := Scalar.cmpi .slt c512_i32 c0_i32_14
  let v50 : BitVec 32 := Scalar.extui v49
  let v51 : BitVec 32 := Scalar.subi v48 v50
  let v52 : BitVec 1 := Scalar.cmpi .ne v46 v51
  let v53 : BitVec 32 := Scalar.remsi v40 c512_i32
  let c0_i32_15 : BitVec 32 := 0#32
  let v54 : BitVec 1 := Scalar.cmpi .ne v53 c0_i32_15
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_16 : BitVec 32 := 512#32
  let v58 : BitVec 32 := Scalar.muli v57 c512_i32_16
  v58
@[reducible] def k0_t1_loop (i : grid0.Coords) : Scf.Loop 32 :=
  let c0_i32_45 : BitVec 32 := 0#32
  let arg2 : BitVec 32 := BitVec.ofNat 32 (i 2).val
  let c256_i32 : BitVec 32 := 256#32
  let v40 : BitVec 32 := Scalar.muli arg2 c256_i32
  let c0_i32_11 : BitVec 32 := 0#32
  let v42 : BitVec 1 := Scalar.cmpi .sgt v40 c0_i32_11
  let v43 : BitVec 32 := Scalar.extui v42
  let c0_i32_12 : BitVec 32 := 0#32
  let v44 : BitVec 1 := Scalar.cmpi .slt v40 c0_i32_12
  let v45 : BitVec 32 := Scalar.extui v44
  let v46 : BitVec 32 := Scalar.subi v43 v45
  let c512_i32 : BitVec 32 := 512#32
  let c0_i32_13 : BitVec 32 := 0#32
  let v47 : BitVec 1 := Scalar.cmpi .sgt c512_i32 c0_i32_13
  let v48 : BitVec 32 := Scalar.extui v47
  let c0_i32_14 : BitVec 32 := 0#32
  let v49 : BitVec 1 := Scalar.cmpi .slt c512_i32 c0_i32_14
  let v50 : BitVec 32 := Scalar.extui v49
  let v51 : BitVec 32 := Scalar.subi v48 v50
  let v52 : BitVec 1 := Scalar.cmpi .ne v46 v51
  let v53 : BitVec 32 := Scalar.remsi v40 c512_i32
  let c0_i32_15 : BitVec 32 := 0#32
  let v54 : BitVec 1 := Scalar.cmpi .ne v53 c0_i32_15
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v132 : BitVec 32 := Scalar.subi v57 c0_i32_45
  let c1_i32_46 : BitVec 32 := 1#32
  let v134 : BitVec 32 := Scalar.divsi v132 c1_i32_46
  let v135 : BitVec 32 := Scalar.muli v134 c1_i32_46
  let v136 : BitVec 32 := Scalar.addi c0_i32_45 v135
  let c1_i32_47 : BitVec 32 := 1#32
  ⟨c0_i32_45, v136, c1_i32_47⟩
def k0_mult2 (i : grid0.Coords) (k0_t1 : Fin (k0_t1_loop i).trips) : BitVec 32 :=
  let c0_i32_45 : BitVec 32 := 0#32
  let c1_i32_47 : BitVec 32 := 1#32
  let arg14 : BitVec 32 := Scf.iv c0_i32_45 c1_i32_47 k0_t1
  let c512_i32_149 : BitVec 32 := 512#32
  let v299 : BitVec 32 := Scalar.muli arg14 c512_i32_149
  v299
def k0_off1 (i : grid0.Coords) (k0_t1 : Fin (k0_t1_loop i).trips) : Fin 4 → Nat :=
  let c0_152 : Index := 0#32
  let c0_153 : Index := 0#32
  let c0_i32_45 : BitVec 32 := 0#32
  let c1_i32_47 : BitVec 32 := 1#32
  let arg14 : BitVec 32 := Scf.iv c0_i32_45 c1_i32_47 k0_t1
  let c512_i32_149 : BitVec 32 := 512#32
  let v299 : BitVec 32 := Scalar.muli arg14 c512_i32_149
  let v300 : BitVec 32 := v299
  let v302 : Index := Scalar.indexCast v300
  let c0_154 : Index := 0#32
  ![0, 0, v302.toNat, 0]
def k0_off2 (i : grid0.Coords) (k0_t1 : Fin (k0_t1_loop i).trips) : Fin 4 → Nat :=
  let c0_156 : Index := 0#32
  let c0_i32_45 : BitVec 32 := 0#32
  let c1_i32_47 : BitVec 32 := 1#32
  let arg14 : BitVec 32 := Scf.iv c0_i32_45 c1_i32_47 k0_t1
  let v306 : Index := Scalar.indexCast arg14
  let c0_157 : Index := 0#32
  let c0_158 : Index := 0#32
  ![0, v306.toNat, 0, 0]
@[reducible] def k0_t2_loop (i : grid0.Coords) : Scf.Loop 32 :=
  let c0_i32_45 : BitVec 32 := 0#32
  let arg2 : BitVec 32 := BitVec.ofNat 32 (i 2).val
  let c256_i32 : BitVec 32 := 256#32
  let v40 : BitVec 32 := Scalar.muli arg2 c256_i32
  let c0_i32_11 : BitVec 32 := 0#32
  let v42 : BitVec 1 := Scalar.cmpi .sgt v40 c0_i32_11
  let v43 : BitVec 32 := Scalar.extui v42
  let c0_i32_12 : BitVec 32 := 0#32
  let v44 : BitVec 1 := Scalar.cmpi .slt v40 c0_i32_12
  let v45 : BitVec 32 := Scalar.extui v44
  let v46 : BitVec 32 := Scalar.subi v43 v45
  let c512_i32 : BitVec 32 := 512#32
  let c0_i32_13 : BitVec 32 := 0#32
  let v47 : BitVec 1 := Scalar.cmpi .sgt c512_i32 c0_i32_13
  let v48 : BitVec 32 := Scalar.extui v47
  let c0_i32_14 : BitVec 32 := 0#32
  let v49 : BitVec 1 := Scalar.cmpi .slt c512_i32 c0_i32_14
  let v50 : BitVec 32 := Scalar.extui v49
  let v51 : BitVec 32 := Scalar.subi v48 v50
  let v52 : BitVec 1 := Scalar.cmpi .ne v46 v51
  let v53 : BitVec 32 := Scalar.remsi v40 c512_i32
  let c0_i32_15 : BitVec 32 := 0#32
  let v54 : BitVec 1 := Scalar.cmpi .ne v53 c0_i32_15
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v132 : BitVec 32 := Scalar.subi v57 c0_i32_45
  let c1_i32_46 : BitVec 32 := 1#32
  let v134 : BitVec 32 := Scalar.divsi v132 c1_i32_46
  let v135 : BitVec 32 := Scalar.muli v134 c1_i32_46
  let v136 : BitVec 32 := Scalar.addi c0_i32_45 v135
  let v133 : BitVec 32 := Scalar.addi c0_i32_45 v132
  let c1_i32_48 : BitVec 32 := 1#32
  ⟨v136, v133, c1_i32_48⟩
def k0_mult3 (i : grid0.Coords) (k0_t2 : Fin (k0_t2_loop i).trips) : BitVec 32 :=
  let c0_i32_45 : BitVec 32 := 0#32
  let arg2 : BitVec 32 := BitVec.ofNat 32 (i 2).val
  let c256_i32 : BitVec 32 := 256#32
  let v40 : BitVec 32 := Scalar.muli arg2 c256_i32
  let c0_i32_11 : BitVec 32 := 0#32
  let v42 : BitVec 1 := Scalar.cmpi .sgt v40 c0_i32_11
  let v43 : BitVec 32 := Scalar.extui v42
  let c0_i32_12 : BitVec 32 := 0#32
  let v44 : BitVec 1 := Scalar.cmpi .slt v40 c0_i32_12
  let v45 : BitVec 32 := Scalar.extui v44
  let v46 : BitVec 32 := Scalar.subi v43 v45
  let c512_i32 : BitVec 32 := 512#32
  let c0_i32_13 : BitVec 32 := 0#32
  let v47 : BitVec 1 := Scalar.cmpi .sgt c512_i32 c0_i32_13
  let v48 : BitVec 32 := Scalar.extui v47
  let c0_i32_14 : BitVec 32 := 0#32
  let v49 : BitVec 1 := Scalar.cmpi .slt c512_i32 c0_i32_14
  let v50 : BitVec 32 := Scalar.extui v49
  let v51 : BitVec 32 := Scalar.subi v48 v50
  let v52 : BitVec 1 := Scalar.cmpi .ne v46 v51
  let v53 : BitVec 32 := Scalar.remsi v40 c512_i32
  let c0_i32_15 : BitVec 32 := 0#32
  let v54 : BitVec 1 := Scalar.cmpi .ne v53 c0_i32_15
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v132 : BitVec 32 := Scalar.subi v57 c0_i32_45
  let c1_i32_46 : BitVec 32 := 1#32
  let v134 : BitVec 32 := Scalar.divsi v132 c1_i32_46
  let v135 : BitVec 32 := Scalar.muli v134 c1_i32_46
  let v136 : BitVec 32 := Scalar.addi c0_i32_45 v135
  let c1_i32_48 : BitVec 32 := 1#32
  let arg14 : BitVec 32 := Scf.iv v136 c1_i32_48 k0_t2
  let c512_i32_149 : BitVec 32 := 512#32
  let v299 : BitVec 32 := Scalar.muli arg14 c512_i32_149
  v299
def k0_off3 (i : grid0.Coords) (k0_t2 : Fin (k0_t2_loop i).trips) : Fin 4 → Nat :=
  let c0_152 : Index := 0#32
  let c0_153 : Index := 0#32
  let c0_i32_45 : BitVec 32 := 0#32
  let arg2 : BitVec 32 := BitVec.ofNat 32 (i 2).val
  let c256_i32 : BitVec 32 := 256#32
  let v40 : BitVec 32 := Scalar.muli arg2 c256_i32
  let c0_i32_11 : BitVec 32 := 0#32
  let v42 : BitVec 1 := Scalar.cmpi .sgt v40 c0_i32_11
  let v43 : BitVec 32 := Scalar.extui v42
  let c0_i32_12 : BitVec 32 := 0#32
  let v44 : BitVec 1 := Scalar.cmpi .slt v40 c0_i32_12
  let v45 : BitVec 32 := Scalar.extui v44
  let v46 : BitVec 32 := Scalar.subi v43 v45
  let c512_i32 : BitVec 32 := 512#32
  let c0_i32_13 : BitVec 32 := 0#32
  let v47 : BitVec 1 := Scalar.cmpi .sgt c512_i32 c0_i32_13
  let v48 : BitVec 32 := Scalar.extui v47
  let c0_i32_14 : BitVec 32 := 0#32
  let v49 : BitVec 1 := Scalar.cmpi .slt c512_i32 c0_i32_14
  let v50 : BitVec 32 := Scalar.extui v49
  let v51 : BitVec 32 := Scalar.subi v48 v50
  let v52 : BitVec 1 := Scalar.cmpi .ne v46 v51
  let v53 : BitVec 32 := Scalar.remsi v40 c512_i32
  let c0_i32_15 : BitVec 32 := 0#32
  let v54 : BitVec 1 := Scalar.cmpi .ne v53 c0_i32_15
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v132 : BitVec 32 := Scalar.subi v57 c0_i32_45
  let c1_i32_46 : BitVec 32 := 1#32
  let v134 : BitVec 32 := Scalar.divsi v132 c1_i32_46
  let v135 : BitVec 32 := Scalar.muli v134 c1_i32_46
  let v136 : BitVec 32 := Scalar.addi c0_i32_45 v135
  let c1_i32_48 : BitVec 32 := 1#32
  let arg14 : BitVec 32 := Scf.iv v136 c1_i32_48 k0_t2
  let c512_i32_149 : BitVec 32 := 512#32
  let v299 : BitVec 32 := Scalar.muli arg14 c512_i32_149
  let v300 : BitVec 32 := v299
  let v302 : Index := Scalar.indexCast v300
  let c0_154 : Index := 0#32
  ![0, 0, v302.toNat, 0]
def k0_off4 (i : grid0.Coords) (k0_t2 : Fin (k0_t2_loop i).trips) : Fin 4 → Nat :=
  let c0_156 : Index := 0#32
  let c0_i32_45 : BitVec 32 := 0#32
  let arg2 : BitVec 32 := BitVec.ofNat 32 (i 2).val
  let c256_i32 : BitVec 32 := 256#32
  let v40 : BitVec 32 := Scalar.muli arg2 c256_i32
  let c0_i32_11 : BitVec 32 := 0#32
  let v42 : BitVec 1 := Scalar.cmpi .sgt v40 c0_i32_11
  let v43 : BitVec 32 := Scalar.extui v42
  let c0_i32_12 : BitVec 32 := 0#32
  let v44 : BitVec 1 := Scalar.cmpi .slt v40 c0_i32_12
  let v45 : BitVec 32 := Scalar.extui v44
  let v46 : BitVec 32 := Scalar.subi v43 v45
  let c512_i32 : BitVec 32 := 512#32
  let c0_i32_13 : BitVec 32 := 0#32
  let v47 : BitVec 1 := Scalar.cmpi .sgt c512_i32 c0_i32_13
  let v48 : BitVec 32 := Scalar.extui v47
  let c0_i32_14 : BitVec 32 := 0#32
  let v49 : BitVec 1 := Scalar.cmpi .slt c512_i32 c0_i32_14
  let v50 : BitVec 32 := Scalar.extui v49
  let v51 : BitVec 32 := Scalar.subi v48 v50
  let v52 : BitVec 1 := Scalar.cmpi .ne v46 v51
  let v53 : BitVec 32 := Scalar.remsi v40 c512_i32
  let c0_i32_15 : BitVec 32 := 0#32
  let v54 : BitVec 1 := Scalar.cmpi .ne v53 c0_i32_15
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v132 : BitVec 32 := Scalar.subi v57 c0_i32_45
  let c1_i32_46 : BitVec 32 := 1#32
  let v134 : BitVec 32 := Scalar.divsi v132 c1_i32_46
  let v135 : BitVec 32 := Scalar.muli v134 c1_i32_46
  let v136 : BitVec 32 := Scalar.addi c0_i32_45 v135
  let c1_i32_48 : BitVec 32 := 1#32
  let arg14 : BitVec 32 := Scf.iv v136 c1_i32_48 k0_t2
  let v306 : Index := Scalar.indexCast arg14
  let c0_157 : Index := 0#32
  let c0_158 : Index := 0#32
  ![0, v306.toNat, 0, 0]
def k0_off5 (i : grid0.Coords) : Fin 4 → Nat :=
  let c0_51 : Index := 0#32
  let c0_52 : Index := 0#32
  let arg2 : BitVec 32 := BitVec.ofNat 32 (i 2).val
  let c256_i32 : BitVec 32 := 256#32
  let v40 : BitVec 32 := Scalar.muli arg2 c256_i32
  let c0_i32_11 : BitVec 32 := 0#32
  let v42 : BitVec 1 := Scalar.cmpi .sgt v40 c0_i32_11
  let v43 : BitVec 32 := Scalar.extui v42
  let c0_i32_12 : BitVec 32 := 0#32
  let v44 : BitVec 1 := Scalar.cmpi .slt v40 c0_i32_12
  let v45 : BitVec 32 := Scalar.extui v44
  let v46 : BitVec 32 := Scalar.subi v43 v45
  let c512_i32 : BitVec 32 := 512#32
  let c0_i32_13 : BitVec 32 := 0#32
  let v47 : BitVec 1 := Scalar.cmpi .sgt c512_i32 c0_i32_13
  let v48 : BitVec 32 := Scalar.extui v47
  let c0_i32_14 : BitVec 32 := 0#32
  let v49 : BitVec 1 := Scalar.cmpi .slt c512_i32 c0_i32_14
  let v50 : BitVec 32 := Scalar.extui v49
  let v51 : BitVec 32 := Scalar.subi v48 v50
  let v52 : BitVec 1 := Scalar.cmpi .ne v46 v51
  let v53 : BitVec 32 := Scalar.remsi v40 c512_i32
  let c0_i32_15 : BitVec 32 := 0#32
  let v54 : BitVec 1 := Scalar.cmpi .ne v53 c0_i32_15
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let c512_i32_16 : BitVec 32 := 512#32
  let v58 : BitVec 32 := Scalar.muli v57 c512_i32_16
  let v59 : BitVec 32 := v58
  let v138 : Index := Scalar.indexCast v59
  let c0_53 : Index := 0#32
  ![0, 0, v138.toNat, 0]
def k0_off6 (i : grid0.Coords) : Fin 4 → Nat :=
  let c0_56 : Index := 0#32
  let arg2 : BitVec 32 := BitVec.ofNat 32 (i 2).val
  let c256_i32 : BitVec 32 := 256#32
  let v40 : BitVec 32 := Scalar.muli arg2 c256_i32
  let c0_i32_11 : BitVec 32 := 0#32
  let v42 : BitVec 1 := Scalar.cmpi .sgt v40 c0_i32_11
  let v43 : BitVec 32 := Scalar.extui v42
  let c0_i32_12 : BitVec 32 := 0#32
  let v44 : BitVec 1 := Scalar.cmpi .slt v40 c0_i32_12
  let v45 : BitVec 32 := Scalar.extui v44
  let v46 : BitVec 32 := Scalar.subi v43 v45
  let c512_i32 : BitVec 32 := 512#32
  let c0_i32_13 : BitVec 32 := 0#32
  let v47 : BitVec 1 := Scalar.cmpi .sgt c512_i32 c0_i32_13
  let v48 : BitVec 32 := Scalar.extui v47
  let c0_i32_14 : BitVec 32 := 0#32
  let v49 : BitVec 1 := Scalar.cmpi .slt c512_i32 c0_i32_14
  let v50 : BitVec 32 := Scalar.extui v49
  let v51 : BitVec 32 := Scalar.subi v48 v50
  let v52 : BitVec 1 := Scalar.cmpi .ne v46 v51
  let v53 : BitVec 32 := Scalar.remsi v40 c512_i32
  let c0_i32_15 : BitVec 32 := 0#32
  let v54 : BitVec 1 := Scalar.cmpi .ne v53 c0_i32_15
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v144 : Index := Scalar.indexCast v57
  let c0_57 : Index := 0#32
  let c0_58 : Index := 0#32
  ![0, v144.toNat, 0, 0]
@[reducible] def k0_t3_loop (i : grid0.Coords) : Scf.Loop 32 :=
  let c0_i32_73 : BitVec 32 := 0#32
  let arg2 : BitVec 32 := BitVec.ofNat 32 (i 2).val
  let c256_i32 : BitVec 32 := 256#32
  let v40 : BitVec 32 := Scalar.muli arg2 c256_i32
  let c0_i32_11 : BitVec 32 := 0#32
  let v42 : BitVec 1 := Scalar.cmpi .sgt v40 c0_i32_11
  let v43 : BitVec 32 := Scalar.extui v42
  let c0_i32_12 : BitVec 32 := 0#32
  let v44 : BitVec 1 := Scalar.cmpi .slt v40 c0_i32_12
  let v45 : BitVec 32 := Scalar.extui v44
  let v46 : BitVec 32 := Scalar.subi v43 v45
  let c512_i32 : BitVec 32 := 512#32
  let c0_i32_13 : BitVec 32 := 0#32
  let v47 : BitVec 1 := Scalar.cmpi .sgt c512_i32 c0_i32_13
  let v48 : BitVec 32 := Scalar.extui v47
  let c0_i32_14 : BitVec 32 := 0#32
  let v49 : BitVec 1 := Scalar.cmpi .slt c512_i32 c0_i32_14
  let v50 : BitVec 32 := Scalar.extui v49
  let v51 : BitVec 32 := Scalar.subi v48 v50
  let v52 : BitVec 1 := Scalar.cmpi .ne v46 v51
  let v53 : BitVec 32 := Scalar.remsi v40 c512_i32
  let c0_i32_15 : BitVec 32 := 0#32
  let v54 : BitVec 1 := Scalar.cmpi .ne v53 c0_i32_15
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v170 : BitVec 32 := Scalar.subi v57 c0_i32_73
  let c1_i32_74 : BitVec 32 := 1#32
  let v172 : BitVec 32 := Scalar.divsi v170 c1_i32_74
  let v173 : BitVec 32 := Scalar.muli v172 c1_i32_74
  let v174 : BitVec 32 := Scalar.addi c0_i32_73 v173
  let c1_i32_75 : BitVec 32 := 1#32
  ⟨c0_i32_73, v174, c1_i32_75⟩
def k0_mult4 (i : grid0.Coords) (k0_t3 : Fin (k0_t3_loop i).trips) : BitVec 32 :=
  let c0_i32_73 : BitVec 32 := 0#32
  let c1_i32_75 : BitVec 32 := 1#32
  let arg14 : BitVec 32 := Scf.iv c0_i32_73 c1_i32_75 k0_t3
  let c512_i32_149 : BitVec 32 := 512#32
  let v299 : BitVec 32 := Scalar.muli arg14 c512_i32_149
  v299
def k0_off7 (i : grid0.Coords) (k0_t3 : Fin (k0_t3_loop i).trips) : Fin 4 → Nat :=
  let c0_150 : Index := 0#32
  let c0_i32_73 : BitVec 32 := 0#32
  let c1_i32_75 : BitVec 32 := 1#32
  let arg14 : BitVec 32 := Scf.iv c0_i32_73 c1_i32_75 k0_t3
  let v301 : Index := Scalar.indexCast arg14
  let c0_151 : Index := 0#32
  let c0_152 : Index := 0#32
  ![0, v301.toNat, 0, 0]
def k0_off8 (i : grid0.Coords) (k0_t3 : Fin (k0_t3_loop i).trips) : Fin 4 → Nat :=
  let c0_165 : Index := 0#32
  let c0_166 : Index := 0#32
  let c0_i32_73 : BitVec 32 := 0#32
  let c1_i32_75 : BitVec 32 := 1#32
  let arg14 : BitVec 32 := Scf.iv c0_i32_73 c1_i32_75 k0_t3
  let c512_i32_149 : BitVec 32 := 512#32
  let v299 : BitVec 32 := Scalar.muli arg14 c512_i32_149
  let v300 : BitVec 32 := v299
  let v325 : Index := Scalar.indexCast v300
  let c0_167 : Index := 0#32
  ![0, 0, v325.toNat, 0]
@[reducible] def k0_t4_loop (i : grid0.Coords) : Scf.Loop 32 :=
  let c0_i32_73 : BitVec 32 := 0#32
  let arg2 : BitVec 32 := BitVec.ofNat 32 (i 2).val
  let c256_i32 : BitVec 32 := 256#32
  let v40 : BitVec 32 := Scalar.muli arg2 c256_i32
  let c0_i32_11 : BitVec 32 := 0#32
  let v42 : BitVec 1 := Scalar.cmpi .sgt v40 c0_i32_11
  let v43 : BitVec 32 := Scalar.extui v42
  let c0_i32_12 : BitVec 32 := 0#32
  let v44 : BitVec 1 := Scalar.cmpi .slt v40 c0_i32_12
  let v45 : BitVec 32 := Scalar.extui v44
  let v46 : BitVec 32 := Scalar.subi v43 v45
  let c512_i32 : BitVec 32 := 512#32
  let c0_i32_13 : BitVec 32 := 0#32
  let v47 : BitVec 1 := Scalar.cmpi .sgt c512_i32 c0_i32_13
  let v48 : BitVec 32 := Scalar.extui v47
  let c0_i32_14 : BitVec 32 := 0#32
  let v49 : BitVec 1 := Scalar.cmpi .slt c512_i32 c0_i32_14
  let v50 : BitVec 32 := Scalar.extui v49
  let v51 : BitVec 32 := Scalar.subi v48 v50
  let v52 : BitVec 1 := Scalar.cmpi .ne v46 v51
  let v53 : BitVec 32 := Scalar.remsi v40 c512_i32
  let c0_i32_15 : BitVec 32 := 0#32
  let v54 : BitVec 1 := Scalar.cmpi .ne v53 c0_i32_15
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v170 : BitVec 32 := Scalar.subi v57 c0_i32_73
  let c1_i32_74 : BitVec 32 := 1#32
  let v172 : BitVec 32 := Scalar.divsi v170 c1_i32_74
  let v173 : BitVec 32 := Scalar.muli v172 c1_i32_74
  let v174 : BitVec 32 := Scalar.addi c0_i32_73 v173
  let v171 : BitVec 32 := Scalar.addi c0_i32_73 v170
  let c1_i32_76 : BitVec 32 := 1#32
  ⟨v174, v171, c1_i32_76⟩
def k0_mult5 (i : grid0.Coords) (k0_t4 : Fin (k0_t4_loop i).trips) : BitVec 32 :=
  let c0_i32_73 : BitVec 32 := 0#32
  let arg2 : BitVec 32 := BitVec.ofNat 32 (i 2).val
  let c256_i32 : BitVec 32 := 256#32
  let v40 : BitVec 32 := Scalar.muli arg2 c256_i32
  let c0_i32_11 : BitVec 32 := 0#32
  let v42 : BitVec 1 := Scalar.cmpi .sgt v40 c0_i32_11
  let v43 : BitVec 32 := Scalar.extui v42
  let c0_i32_12 : BitVec 32 := 0#32
  let v44 : BitVec 1 := Scalar.cmpi .slt v40 c0_i32_12
  let v45 : BitVec 32 := Scalar.extui v44
  let v46 : BitVec 32 := Scalar.subi v43 v45
  let c512_i32 : BitVec 32 := 512#32
  let c0_i32_13 : BitVec 32 := 0#32
  let v47 : BitVec 1 := Scalar.cmpi .sgt c512_i32 c0_i32_13
  let v48 : BitVec 32 := Scalar.extui v47
  let c0_i32_14 : BitVec 32 := 0#32
  let v49 : BitVec 1 := Scalar.cmpi .slt c512_i32 c0_i32_14
  let v50 : BitVec 32 := Scalar.extui v49
  let v51 : BitVec 32 := Scalar.subi v48 v50
  let v52 : BitVec 1 := Scalar.cmpi .ne v46 v51
  let v53 : BitVec 32 := Scalar.remsi v40 c512_i32
  let c0_i32_15 : BitVec 32 := 0#32
  let v54 : BitVec 1 := Scalar.cmpi .ne v53 c0_i32_15
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v170 : BitVec 32 := Scalar.subi v57 c0_i32_73
  let c1_i32_74 : BitVec 32 := 1#32
  let v172 : BitVec 32 := Scalar.divsi v170 c1_i32_74
  let v173 : BitVec 32 := Scalar.muli v172 c1_i32_74
  let v174 : BitVec 32 := Scalar.addi c0_i32_73 v173
  let c1_i32_76 : BitVec 32 := 1#32
  let arg14 : BitVec 32 := Scf.iv v174 c1_i32_76 k0_t4
  let c512_i32_149 : BitVec 32 := 512#32
  let v299 : BitVec 32 := Scalar.muli arg14 c512_i32_149
  v299
def k0_off9 (i : grid0.Coords) (k0_t4 : Fin (k0_t4_loop i).trips) : Fin 4 → Nat :=
  let c0_150 : Index := 0#32
  let c0_i32_73 : BitVec 32 := 0#32
  let arg2 : BitVec 32 := BitVec.ofNat 32 (i 2).val
  let c256_i32 : BitVec 32 := 256#32
  let v40 : BitVec 32 := Scalar.muli arg2 c256_i32
  let c0_i32_11 : BitVec 32 := 0#32
  let v42 : BitVec 1 := Scalar.cmpi .sgt v40 c0_i32_11
  let v43 : BitVec 32 := Scalar.extui v42
  let c0_i32_12 : BitVec 32 := 0#32
  let v44 : BitVec 1 := Scalar.cmpi .slt v40 c0_i32_12
  let v45 : BitVec 32 := Scalar.extui v44
  let v46 : BitVec 32 := Scalar.subi v43 v45
  let c512_i32 : BitVec 32 := 512#32
  let c0_i32_13 : BitVec 32 := 0#32
  let v47 : BitVec 1 := Scalar.cmpi .sgt c512_i32 c0_i32_13
  let v48 : BitVec 32 := Scalar.extui v47
  let c0_i32_14 : BitVec 32 := 0#32
  let v49 : BitVec 1 := Scalar.cmpi .slt c512_i32 c0_i32_14
  let v50 : BitVec 32 := Scalar.extui v49
  let v51 : BitVec 32 := Scalar.subi v48 v50
  let v52 : BitVec 1 := Scalar.cmpi .ne v46 v51
  let v53 : BitVec 32 := Scalar.remsi v40 c512_i32
  let c0_i32_15 : BitVec 32 := 0#32
  let v54 : BitVec 1 := Scalar.cmpi .ne v53 c0_i32_15
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v170 : BitVec 32 := Scalar.subi v57 c0_i32_73
  let c1_i32_74 : BitVec 32 := 1#32
  let v172 : BitVec 32 := Scalar.divsi v170 c1_i32_74
  let v173 : BitVec 32 := Scalar.muli v172 c1_i32_74
  let v174 : BitVec 32 := Scalar.addi c0_i32_73 v173
  let c1_i32_76 : BitVec 32 := 1#32
  let arg14 : BitVec 32 := Scf.iv v174 c1_i32_76 k0_t4
  let v301 : Index := Scalar.indexCast arg14
  let c0_151 : Index := 0#32
  let c0_152 : Index := 0#32
  ![0, v301.toNat, 0, 0]
def k0_off10 (i : grid0.Coords) (k0_t4 : Fin (k0_t4_loop i).trips) : Fin 4 → Nat :=
  let c0_165 : Index := 0#32
  let c0_166 : Index := 0#32
  let c0_i32_73 : BitVec 32 := 0#32
  let arg2 : BitVec 32 := BitVec.ofNat 32 (i 2).val
  let c256_i32 : BitVec 32 := 256#32
  let v40 : BitVec 32 := Scalar.muli arg2 c256_i32
  let c0_i32_11 : BitVec 32 := 0#32
  let v42 : BitVec 1 := Scalar.cmpi .sgt v40 c0_i32_11
  let v43 : BitVec 32 := Scalar.extui v42
  let c0_i32_12 : BitVec 32 := 0#32
  let v44 : BitVec 1 := Scalar.cmpi .slt v40 c0_i32_12
  let v45 : BitVec 32 := Scalar.extui v44
  let v46 : BitVec 32 := Scalar.subi v43 v45
  let c512_i32 : BitVec 32 := 512#32
  let c0_i32_13 : BitVec 32 := 0#32
  let v47 : BitVec 1 := Scalar.cmpi .sgt c512_i32 c0_i32_13
  let v48 : BitVec 32 := Scalar.extui v47
  let c0_i32_14 : BitVec 32 := 0#32
  let v49 : BitVec 1 := Scalar.cmpi .slt c512_i32 c0_i32_14
  let v50 : BitVec 32 := Scalar.extui v49
  let v51 : BitVec 32 := Scalar.subi v48 v50
  let v52 : BitVec 1 := Scalar.cmpi .ne v46 v51
  let v53 : BitVec 32 := Scalar.remsi v40 c512_i32
  let c0_i32_15 : BitVec 32 := 0#32
  let v54 : BitVec 1 := Scalar.cmpi .ne v53 c0_i32_15
  let v55 : BitVec 1 := Scalar.andi v52 v54
  let v41 : BitVec 32 := Scalar.divsi v40 c512_i32
  let c1_i32 : BitVec 32 := 1#32
  let v56 : BitVec 32 := Scalar.subi v41 c1_i32
  let v57 : BitVec 32 := Scalar.select v55 v56 v41
  let v170 : BitVec 32 := Scalar.subi v57 c0_i32_73
  let c1_i32_74 : BitVec 32 := 1#32
  let v172 : BitVec 32 := Scalar.divsi v170 c1_i32_74
  let v173 : BitVec 32 := Scalar.muli v172 c1_i32_74
  let v174 : BitVec 32 := Scalar.addi c0_i32_73 v173
  let c1_i32_76 : BitVec 32 := 1#32
  let arg14 : BitVec 32 := Scf.iv v174 c1_i32_76 k0_t4
  let c512_i32_149 : BitVec 32 := 512#32
  let v299 : BitVec 32 := Scalar.muli arg14 c512_i32_149
  let v300 : BitVec 32 := v299
  let v325 : Index := Scalar.indexCast v300
  let c0_167 : Index := 0#32
  ![0, 0, v325.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference2Ideal.lean ====
abbrev S4x32 : Shape := ⟨2, ![4, 32]⟩
abbrev S64 : Shape := ⟨1, ![64]⟩
abbrev S8x4x4096x128 : Shape := ⟨4, ![8, 4, 4096, 128]⟩
abbrev S8x4x4096x2x2x32 : Shape := ⟨6, ![8, 4, 4096, 2, 2, 32]⟩
abbrev S8x4x2x2x4096x32 : Shape := ⟨6, ![8, 4, 2, 2, 4096, 32]⟩
abbrev S8x8x2x4096x32 : Shape := ⟨5, ![8, 8, 2, 4096, 32]⟩
abbrev S8x4x4096x2x64 : Shape := ⟨5, ![8, 4, 4096, 2, 64]⟩
abbrev S8x4x2x4096x64 : Shape := ⟨5, ![8, 4, 2, 4096, 64]⟩
abbrev S8x8x4096x64 : Shape := ⟨4, ![8, 8, 4096, 64]⟩
abbrev S8x8x2x4096x4096 : Shape := ⟨5, ![8, 8, 2, 4096, 4096]⟩
abbrev S4096 : Shape := ⟨1, ![4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S8x8x2x4096 : Shape := ⟨4, ![8, 8, 2, 4096]⟩
abbrev S8x8x2x4096x1 : Shape := ⟨5, ![8, 8, 2, 4096, 1]⟩
abbrev S1x32 : Shape := ⟨2, ![1, 32]⟩
abbrev S32 : Shape := ⟨1, ![32]⟩
abbrev S8x8x1x4096x4096 : Shape := ⟨5, ![8, 8, 1, 4096, 4096]⟩
abbrev S8x8x4096x4096 : Shape := ⟨4, ![8, 8, 4096, 4096]⟩
abbrev S8x8x64x4096 : Shape := ⟨4, ![8, 8, 64, 4096]⟩
abbrev S8x4096x8x64 : Shape := ⟨4, ![8, 4096, 8, 64]⟩
abbrev S8x4096x8 : Shape := ⟨3, ![8, 4096, 8]⟩
abbrev S8x4096x8x1 : Shape := ⟨4, ![8, 4096, 8, 1]⟩
abbrev S1x1x1x64 : Shape := ⟨4, ![1, 1, 1, 64]⟩
abbrev S8x4096x512 : Shape := ⟨3, ![8, 4096, 512]⟩

abbrev nBuf : Space → Nat
  | .hbm => 109
  | .vmem => 0
  | .smem => 0
  | _ => 0

abbrev bufTy : (tb : Table) → Fin (tcTables nBuf tb) → BufTy
  | .hbm, ⟨0, _⟩ => ⟨S4x32, .f32⟩
  | .hbm, ⟨1, _⟩ => ⟨S64, .f32⟩
  | .hbm, ⟨2, _⟩ => ⟨S8x4x4096x128, .bf16⟩
  | .hbm, ⟨3, _⟩ => ⟨S8x4x4096x128, .bf16⟩
  | .hbm, ⟨4, _⟩ => ⟨S8x4x4096x128, .bf16⟩
  | .hbm, ⟨5, _⟩ => ⟨S8x4x4096x128, .f32⟩
  | .hbm, ⟨6, _⟩ => ⟨S8x4x4096x2x2x32, .f32⟩
  | .hbm, ⟨7, _⟩ => ⟨S8x4x2x2x4096x32, .f32⟩
  | .hbm, ⟨8, _⟩ => ⟨S8x8x2x4096x32, .f32⟩
  | .hbm, ⟨9, _⟩ => ⟨S8x4x4096x128, .f32⟩
  | .hbm, ⟨10, _⟩ => ⟨S8x4x4096x2x2x32, .f32⟩
  | .hbm, ⟨11, _⟩ => ⟨S8x4x2x2x4096x32, .f32⟩
  | .hbm, ⟨12, _⟩ => ⟨S8x8x2x4096x32, .f32⟩
  | .hbm, ⟨13, _⟩ => ⟨S8x4x4096x128, .f32⟩
  | .hbm, ⟨14, _⟩ => ⟨S8x4x4096x2x64, .f32⟩
  | .hbm, ⟨15, _⟩ => ⟨S8x4x2x4096x64, .f32⟩
  | .hbm, ⟨16, _⟩ => ⟨S8x8x4096x64, .f32⟩
  | .hbm, ⟨17, _⟩ => ⟨S8x8x2x4096x4096, .f32⟩
  | .hbm, ⟨18, _⟩ => ⟨S4096, .i32⟩
  | .hbm, ⟨19, _⟩ => ⟨S_, .i32⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S1x4096, .i32⟩
  | .hbm, ⟨38, _⟩ => ⟨S4096x1, .i32⟩
  | .hbm, ⟨39, _⟩ => ⟨S4096x4096, .i32⟩
  | .hbm, ⟨40, _⟩ => ⟨S4096x4096, .i32⟩
  | .hbm, ⟨41, _⟩ => ⟨S4096x4096, .i1⟩
  | .hbm, ⟨42, _⟩ => ⟨S_, .f32⟩
  | .hbm, ⟨43, _⟩ => ⟨S_, .f32⟩
  | .hbm, ⟨44, _⟩ => ⟨S8x8x2x4096x4096, .i1⟩
  | .hbm, ⟨45, _⟩ => ⟨S8x8x2x4096x4096, .f32⟩
  | .hbm, ⟨46, _⟩ => ⟨S8x8x2x4096x4096, .f32⟩
  | .hbm, ⟨47, _⟩ => ⟨S_, .f32⟩
  | .hbm, ⟨48, _⟩ => ⟨S8x8x2x4096x4096, .f32⟩
  | .hbm, ⟨49, _⟩ => ⟨S_, .f32⟩
  | .hbm, ⟨50, _⟩ => ⟨S8x8x2x4096, .f32⟩
  | .hbm, ⟨51, _⟩ => ⟨S8x8x2x4096x1, .f32⟩
  | .hbm, ⟨52, _⟩ => ⟨S8x8x2x4096x4096, .f32⟩
  | .hbm, ⟨53, _⟩ => ⟨S8x8x2x4096x4096, .f32⟩
  | .hbm, ⟨54, _⟩ => ⟨S8x8x2x4096x4096, .f32⟩
  | .hbm, ⟨55, _⟩ => ⟨S_, .f32⟩
  | .hbm, ⟨56, _⟩ => ⟨S8x8x2x4096, .f32⟩
  | .hbm, ⟨57, _⟩ => ⟨S8x8x2x4096x1, .f32⟩
  | .hbm, ⟨58, _⟩ => ⟨S8x8x2x4096x4096, .f32⟩
  | .hbm, ⟨59, _⟩ => ⟨S8x8x2x4096x4096, .f32⟩
  | .hbm, ⟨60, _⟩ => ⟨S1x32, .f32⟩
  | .hbm, ⟨61, _⟩ => ⟨S32, .f32⟩
  | .hbm, ⟨62, _⟩ => ⟨S1x32, .f32⟩
  | .hbm, ⟨63, _⟩ => ⟨S32, .f32⟩
  | .hbm, ⟨64, _⟩ => ⟨S32, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S1x32, .f32⟩
  | .hbm, ⟨69, _⟩ => ⟨S32, .f32⟩
  | .hbm, ⟨70, _⟩ => ⟨S1x32, .f32⟩
  | .hbm, ⟨71, _⟩ => ⟨S32, .f32⟩
  | .hbm, ⟨72, _⟩ => ⟨S32, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S8x8x1x4096x4096, .f32⟩
  | .hbm, ⟨80, _⟩ => ⟨S8x8x4096x4096, .f32⟩
  | .hbm, ⟨81, _⟩ => ⟨S8x8x1x4096x4096, .f32⟩
  | .hbm, ⟨82, _⟩ => ⟨S8x8x4096x4096, .f32⟩
  | .hbm, ⟨83, _⟩ => ⟨S8x8x4096x4096, .f32⟩
  | .hbm, ⟨84, _⟩ => ⟨S8x8x4096x4096, .f32⟩
  | .hbm, ⟨85, _⟩ => ⟨S8x8x4096x4096, .f32⟩
  | .hbm, ⟨86, _⟩ => ⟨S8x8x64x4096, .f32⟩
  | .hbm, ⟨87, _⟩ => ⟨S8x4096x8x64, .f32⟩
  | .hbm, ⟨88, _⟩ => ⟨S8x4096x8x64, .f32⟩
  | .hbm, ⟨89, _⟩ => ⟨S_, .f32⟩
  | .hbm, ⟨90, _⟩ => ⟨S8x4096x8, .f32⟩
  | .hbm, ⟨91, _⟩ => ⟨S8x4096x8x1, .f32⟩
  | .hbm, ⟨92, _⟩ => ⟨S_, .f32⟩
  | .hbm, ⟨93, _⟩ => ⟨S8x4096x8x1, .f32⟩
  | .hbm, ⟨94, _⟩ => ⟨S8x4096x8x1, .f32⟩
  | .hbm, ⟨95, _⟩ => ⟨S_, .f32⟩
  | .hbm, ⟨96, _⟩ => ⟨S8x4096x8x1, .f32⟩
  | .hbm, ⟨97, _⟩ => ⟨S8x4096x8x1, .f32⟩
  | .hbm, ⟨98, _⟩ => ⟨S8x4096x8x1, .f32⟩
  | .hbm, ⟨99, _⟩ => ⟨S8x4096x8x64, .f32⟩
  | .hbm, ⟨100, _⟩ => ⟨S8x4096x8x64, .f32⟩
  | .hbm, ⟨101, _⟩ => ⟨S1x1x1x64, .f32⟩
  | .hbm, ⟨102, _⟩ => ⟨S8x4096x8x64, .f32⟩
  | .hbm, ⟨103, _⟩ => ⟨S8x4096x8x64, .f32⟩
  | .hbm, ⟨104, _⟩ => ⟨S_, .f32⟩
  | .hbm, ⟨105, _⟩ => ⟨S8x4096x8x64, .f32⟩
  | .hbm, ⟨106, _⟩ => ⟨S8x4096x8x64, .f32⟩
  | .hbm, ⟨107, _⟩ => ⟨S8x4096x512, .f32⟩
  | .hbm, ⟨108, _⟩ => ⟨S8x4096x512, .bf16⟩
  | _, _ => ⟨S4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v20 : Ref sig .tc := ⟨.hbm, 46, rfl⟩
abbrev main_cst_0 : Ref sig .tc := ⟨.hbm, 47, rfl⟩
abbrev main_v21 : Ref sig .tc := ⟨.hbm, 48, rfl⟩
abbrev main_cst_1 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_2 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_3 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_4 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_5 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_6 : Ref sig .tc := ⟨.hbm, 89, rfl⟩
abbrev main_v57 : Ref sig .tc := ⟨.hbm, 90, rfl⟩
abbrev main_v58 : Ref sig .tc := ⟨.hbm, 91, rfl⟩
abbrev main_cst_7 : Ref sig .tc := ⟨.hbm, 92, rfl⟩
abbrev main_v59 : Ref sig .tc := ⟨.hbm, 93, rfl⟩
abbrev main_v60 : Ref sig .tc := ⟨.hbm, 94, rfl⟩
abbrev main_cst_8 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_9 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S8x1x1024 : Shape := ⟨3, ![8, 1, 1024]⟩
abbrev S1024x3072 : Shape := ⟨2, ![1024, 3072]⟩
abbrev S1x1024 : Shape := ⟨2, ![1, 1024]⟩
abbrev S8x8x4096x128 : Shape := ⟨4, ![8, 8, 4096, 128]⟩
abbrev S1x512x1024 : Shape := ⟨3, ![1, 512, 1024]⟩
abbrev S1x1x1024 : Shape := ⟨3, ![1, 1, 1024]⟩
abbrev S1x8x512x128 : Shape := ⟨4, ![1, 8, 512, 128]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S512x128 : Shape := ⟨2, ![512, 128]⟩
abbrev S1x1x512x128 : Shape := ⟨4, ![1, 1, 512, 128]⟩

abbrev nBuf : Space → Nat
  | .hbm => 10
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3072, .f32⟩
  | .hbm, ⟨5, _⟩ => ⟨S1x1024, .f32⟩
  | .hbm, ⟨6, _⟩ => ⟨S1024x3072, .bf16⟩
  | .hbm, ⟨7, _⟩ => ⟨S8x8x4096x128, .bf16⟩
  | .hbm, ⟨8, _⟩ => ⟨S8x8x4096x128, .bf16⟩
  | .hbm, ⟨9, _⟩ => ⟨S8x8x4096x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S1x8x512x128, .bf16⟩
  | .local _ .vmem, ⟨9, _⟩ => ⟨S1x8x512x128, .bf16⟩
  | .local _ .vmem, ⟨10, _⟩ => ⟨S1x8x512x128, .bf16⟩
  | .local _ .vmem, ⟨11, _⟩ => ⟨S1x8x512x128, .bf16⟩
  | .local _ .vmem, ⟨12, _⟩ => ⟨S1x8x512x128, .bf16⟩
  | .local _ .vmem, ⟨13, _⟩ => ⟨S1x8x512x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x4096x1024 : Shape := ⟨3, ![8, 4096, 1024]⟩
abbrev S1024 : Shape := ⟨1, ![1024]⟩
abbrev S8x1x1024 : Shape := ⟨3, ![8, 1, 1024]⟩
abbrev S1024x3072 : Shape := ⟨2, ![1024, 3072]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S8x4096x3x8x128 : Shape := ⟨5, ![8, 4096, 3, 8, 128]⟩
abbrev S3x8x8x4096x128 : Shape := ⟨5, ![3, 8, 8, 4096, 128]⟩
abbrev S1x8x8x4096x128 : Shape := ⟨5, ![1, 8, 8, 4096, 128]⟩
abbrev S8x8x4096x128 : Shape := ⟨4, ![8, 8, 4096, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3072, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x3072, .f32⟩
  | .hbm, ⟨29, _⟩ => ⟨S8x4096x3x8x128, .f32⟩
  | .hbm, ⟨30, _⟩ => ⟨S3x8x8x4096x128, .f32⟩
  | .hbm, ⟨31, _⟩ => ⟨S1x8x8x4096x128, .f32⟩
  | .hbm, ⟨32, _⟩ => ⟨S8x8x4096x128, .f32⟩
  | .hbm, ⟨33, _⟩ => ⟨S_, .f32⟩
  | .hbm, ⟨34, _⟩ => ⟨S8x8x4096x128, .f32⟩
  | .hbm, ⟨35, _⟩ => ⟨S8x8x4096x128, .f32⟩
  | .hbm, ⟨36, _⟩ => ⟨S8x8x4096x128, .bf16⟩
  | .hbm, ⟨37, _⟩ => ⟨S1x8x8x4096x128, .f32⟩
  | .hbm, ⟨38, _⟩ => ⟨S8x8x4096x128, .f32⟩
  | .hbm, ⟨39, _⟩ => ⟨S8x8x4096x128, .bf16⟩
  | .hbm, ⟨40, _⟩ => ⟨S1x8x8x4096x128, .f32⟩
  | .hbm, ⟨41, _⟩ => ⟨S8x8x4096x128, .f32⟩
  | .hbm, ⟨42, _⟩ => ⟨S8x8x4096x128, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Kernel4.lean ====
abbrev S8x4096x1024 : Shape := ⟨3, ![8, 4096, 1024]⟩
abbrev S8x1x1024 : Shape := ⟨3, ![8, 1, 1024]⟩
abbrev S8x4096x512 : Shape := ⟨3, ![8, 4096, 512]⟩
abbrev S1024x1024 : Shape := ⟨2, ![1024, 1024]⟩
abbrev S512x1024 : Shape := ⟨2, ![512, 1024]⟩
abbrev S1x512x1024 : Shape := ⟨3, ![1, 512, 1024]⟩
abbrev S1x1x1024 : Shape := ⟨3, ![1, 1, 1024]⟩
abbrev S1x512x512 : Shape := ⟨3, ![1, 512, 512]⟩
abbrev S512x512 : Shape := ⟨2, ![512, 512]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x4096x512, .bf16⟩
  | .hbm, ⟨3, _⟩ => ⟨S8x4096x512, .bf16⟩
  | .hbm, ⟨4, _⟩ => ⟨S1024x1024, .f32⟩
  | .hbm, ⟨5, _⟩ => ⟨S1024x1024, .bf16⟩
  | .hbm, ⟨6, _⟩ => ⟨S512x1024, .bf16⟩
  | .hbm, ⟨7, _⟩ => ⟨S512x1024, .bf16⟩
  | .hbm, ⟨8, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x512, .bf16⟩
  | .local _ .vmem, ⟨5, _⟩ => ⟨S1x512x512, .bf16⟩
  | .local _ .vmem, ⟨6, _⟩ => ⟨S512x1024, .bf16⟩
  | .local _ .vmem, ⟨7, _⟩ => ⟨S1x512x512, .bf16⟩
  | .local _ .vmem, ⟨8, _⟩ => ⟨S1x512x512, .bf16⟩
  | .local _ .vmem, ⟨9, _⟩ => ⟨S512x1024, .bf16⟩
  | .local _ .vmem, ⟨10, _⟩ => ⟨S1x512x1024, .f32⟩
  | .local _ .vmem, ⟨11, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8x4096x1024 : Shape := ⟨3, ![8, 4096, 1024]⟩
abbrev S8x1x1024 : Shape := ⟨3, ![8, 1, 1024]⟩
abbrev S8x4096x512 : Shape := ⟨3, ![8, 4096, 512]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x4096x512, .bf16⟩
  | .hbm, ⟨3, _⟩ => ⟨S8x4096x512, .bf16⟩
  | .hbm, ⟨4, _⟩ => ⟨S1024x1024, .f32⟩
  | .hbm, ⟨5, _⟩ => ⟨S8x4096x512, .f32⟩
  | .hbm, ⟨6, _⟩ => ⟨S8x4096x512, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x1x1024 : Shape := ⟨3, ![8, 1, 1024]⟩
abbrev S1024x1024 : Shape := ⟨2, ![1024, 1024]⟩
abbrev S1x512x1024 : Shape := ⟨3, ![1, 512, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x4096x1024, .bf16⟩
  | .hbm, ⟨3, _⟩ => ⟨S1024x1024, .f32⟩
  | .hbm, ⟨4, _⟩ => ⟨S1024x1024, .bf16⟩
  | .hbm, ⟨5, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x1024, .bf16⟩
  | .local _ .vmem, ⟨5, _⟩ => ⟨S1x512x1024, .bf16⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8x4096x1024 : Shape := ⟨3, ![8, 4096, 1024]⟩
abbrev S8x1x1024 : Shape := ⟨3, ![8, 1, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1x1024, .f32⟩
  | .hbm, ⟨2, _⟩ => ⟨S8x4096x1024, .bf16⟩
  | .hbm, ⟨3, _⟩ => ⟨S1024x1024, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel6.lean ====
abbrev S8x4096x1024 : Shape := ⟨3, ![8, 4096, 1024]⟩
abbrev S1024 : Shape := ⟨1, ![1024]⟩
abbrev S8x1x1024 : Shape := ⟨3, ![8, 1, 1024]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8x4096 : Shape := ⟨2, ![8, 4096]⟩
abbrev S16 : Shape := ⟨1, ![16]⟩
abbrev S_ : Shape := ⟨0, ![]⟩
abbrev S8x4096x1 : Shape := ⟨3, ![8, 4096, 1]⟩
abbrev S1x1x16 : Shape := ⟨3, ![1, 1, 16]⟩
abbrev S8x4096x16 : Shape := ⟨3, ![8, 4096, 16]⟩
abbrev S8x4096x64 : Shape := ⟨3, ![8, 4096, 64]⟩
abbrev S8x4096x32 : Shape := ⟨3, ![8, 4096, 32]⟩
abbrev S8x4096x128 : Shape := ⟨3, ![8, 4096, 128]⟩
abbrev S1x8x1x4096x1x128 : Shape := ⟨6, ![1, 8, 1, 4096, 1, 128]⟩
abbrev S4 : Shape := ⟨1, ![4]⟩
abbrev S1x1x4 : Shape := ⟨3, ![1, 1, 4]⟩
abbrev S8x4096x4 : Shape := ⟨3, ![8, 4096, 4]⟩
abbrev S8x4096x0 : Shape := ⟨3, ![8, 4096, 0]⟩
abbrev S8x4096x24 : Shape := ⟨3, ![8, 4096, 24]⟩
abbrev S1x8x1x4096x1x32 : Shape := ⟨6, ![1, 8, 1, 4096, 1, 32]⟩
abbrev S1x8x1x4096x4x32 : Shape := ⟨6, ![1, 8, 1, 4096, 4, 32]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x64 : Shape := ⟨2, ![1024, 64]⟩
abbrev S1024x16 : Shape := ⟨2, ![1024, 16]⟩
abbrev S1024x0 : Shape := ⟨2, ![1024, 0]⟩
abbrev S1024x16x32 : Shape := ⟨3, ![1024, 16, 32]⟩
abbrev S1024x16x4 : Shape := ⟨3, ![1024, 16, 4]⟩
abbrev S1024x16x24 : Shape := ⟨3, ![1024, 16, 24]⟩
abbrev S1024x3200 : Shape := ⟨2, ![1024, 3200]⟩
abbrev S256x8x96 : Shape := ⟨3, ![256, 8, 96]⟩
abbrev S256x8x32 : Shape := ⟨3, ![256, 8, 32]⟩
abbrev S256x8x128 : Shape := ⟨3, ![256, 8, 128]⟩
abbrev S256x1024 : Shape := ⟨2, ![256, 1024]⟩
abbrev S256x8x64 : Shape := ⟨3, ![256, 8, 64]⟩
abbrev S256x8x16 : Shape := ⟨3, ![256, 8, 16]⟩
abbrev S256x8x0 : Shape := ⟨3, ![256, 8, 0]⟩
abbrev S256x2048 : Shape := ⟨2, ![256, 2048]⟩
abbrev S128x8x128 : Shape := ⟨3, ![128, 8, 128]⟩
abbrev S128x8x64 : Shape := ⟨3, ![128, 8, 64]⟩
abbrev S128x512 : Shape := ⟨2, ![128, 512]⟩
abbrev S128x1536 : Shape := ⟨2, ![128, 1536]⟩
abbrev S1x1024 : Shape := ⟨2, ![1, 1024]⟩
abbrev S1x256 : Shape := ⟨2, ![1, 256]⟩
abbrev S1x128 : Shape := ⟨2, ![1, 128]⟩
abbrev S8x8x4096x128 : Shape := ⟨4, ![8, 8, 4096, 128]⟩
abbrev S8x4x4096x128 : Shape := ⟨4, ![8, 4, 4096, 128]⟩
abbrev S1x512x1024 : Shape := ⟨3, ![1, 512, 1024]⟩
abbrev S1x1x1024 : Shape := ⟨3, ![1, 1, 1024]⟩
abbrev S1x512x128 : Shape := ⟨3, ![1, 512, 128]⟩
abbrev S1x8x512x128 : Shape := ⟨4, ![1, 8, 512, 128]⟩
abbrev S1x4x512x128 : Shape := ⟨4, ![1, 4, 512, 128]⟩
abbrev S512x1024 : Shape := ⟨2, ![512, 1024]⟩
abbrev S512 : Shape := ⟨1, ![512]⟩
abbrev S512x1 : Shape := ⟨2, ![512, 1]⟩
abbrev S512x3200 : Shape := ⟨2, ![512, 3200]⟩
abbrev S512x256 : Shape := ⟨2, ![512, 256]⟩
abbrev S512x128 : Shape := ⟨2, ![512, 128]⟩
abbrev S512x512 : Shape := ⟨2, ![512, 512]⟩
abbrev S512x2048 : Shape := ⟨2, ![512, 2048]⟩
abbrev S1x1x512x128 : Shape := ⟨4, ![1, 1, 512, 128]⟩
abbrev S512x1536 : Shape := ⟨2, ![512, 1536]⟩

abbrev nBuf : Space → Nat
  | .hbm => 167
  | .vmem => 32
  | .smem => 0
  | _ => 0

abbrev hbmTy0_0 (i : Nat) : BufTy := match i % 128 with
  | 0 => ⟨S8x4096x1024, .f32⟩
  | 1 => ⟨S1024, .f32⟩
  | 2 => ⟨S8x1x1024, .f32⟩
  | 3 => ⟨S8x1x1024, .f32⟩
  | 4 => ⟨S1024x1952, .f32⟩
  | 5 => ⟨S256, .f32⟩
  | 6 => ⟨S256x768, .f32⟩
  | 7 => ⟨S128, .f32⟩
  | 8 => ⟨S128x1024, .f32⟩
  | 9 => ⟨S8x4096, .i32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S8x4096, .f32⟩
  | 25 => ⟨S8x4096x1, .f32⟩
  | 26 => ⟨S1x1x16, .f32⟩
  | 27 => ⟨S8x4096x16, .f32⟩
  | 28 => ⟨S8x4096x16, .f32⟩
  | 29 => ⟨S8x4096x16, .f32⟩
  | 30 => ⟨S8x4096x16, .f32⟩
  | 31 => ⟨S8x4096x16, .f32⟩
  | 32 => ⟨S_, .f32⟩
  | 33 => ⟨S8x4096x64, .f32⟩
  | 34 => ⟨S_, .f32⟩
  | 35 => ⟨S8x4096x32, .f32⟩
  | 36 => ⟨S8x4096x128, .f32⟩
  | 37 => ⟨S_, .f32⟩
  | 38 => ⟨S8x4096x64, .f32⟩
  | 39 => ⟨S8x4096x16, .f32⟩
  | 40 => ⟨S_, .f32⟩
  | 41 => ⟨S8x4096x32, .f32⟩
  | 42 => ⟨S8x4096x128, .f32⟩
  | 43 => ⟨S1x8x1x4096x1x128, .f32⟩
  | 44 => ⟨S1x8x1x4096x1x128, .f32⟩
  | 45 => ⟨S8x4096x128, .f32⟩
  | 46 => ⟨S1x8x1x4096x1x128, .f32⟩
  | 47 => ⟨S1x8x1x4096x1x128, .f32⟩
  | 48 => ⟨S8x4096x128, .f32⟩
  | 49 => ⟨S4, .f32⟩
  | 50 => ⟨S_, .f32⟩
  | 51 => ⟨S4, .f32⟩
  | 52 => ⟨S4, .f32⟩
  | 53 => ⟨S_, .f32⟩
  | 54 => ⟨S4, .f32⟩
  | 55 => ⟨S4, .f32⟩
  | 56 => ⟨S4, .f32⟩
  | 57 => ⟨S_, .f32⟩
  | 58 => ⟨S4, .f32⟩
  | 59 => ⟨S4, .f32⟩
  | 60 => ⟨S_, .f32⟩
  | 61 => ⟨S4, .f32⟩
  | 62 => ⟨S4, .f32⟩
  | 63 => ⟨S8x4096, .f32⟩
  | 64 => ⟨S8x4096x1, .f32⟩
  | 65 => ⟨S1x1x4, .f32⟩
  | 66 => ⟨S8x4096x4, .f32⟩
  | 67 => ⟨S8x4096x4, .f32⟩
  | 68 => ⟨S8x4096x4, .f32⟩
  | 69 => ⟨S8x4096x4, .f32⟩
  | 70 => ⟨S8x4096x4, .f32⟩
  | 71 => ⟨S_, .f32⟩
  | 72 => ⟨S8x4096x0, .f32⟩
  | 73 => ⟨S_, .f32⟩
  | 74 => ⟨S8x4096x24, .f32⟩
  | 75 => ⟨S8x4096x32, .f32⟩
  | 76 => ⟨S_, .f32⟩
  | 77 => ⟨S8x4096x0, .f32⟩
  | 78 => ⟨S8x4096x4, .f32⟩
  | 79 => ⟨S_, .f32⟩
  | 80 => ⟨S8x4096x24, .f32⟩
  | 81 => ⟨S8x4096x32, .f32⟩
  | 82 => ⟨S1x8x1x4096x1x32, .f32⟩
  | 83 => ⟨S1x8x1x4096x4x32, .f32⟩
  | 84 => ⟨S8x4096x128, .f32⟩
  | 85 => ⟨S1x8x1x4096x1x32, .f32⟩
  | 86 => ⟨S1x8x1x4096x4x32, .f32⟩
  | 87 => ⟨S8x4096x128, .f32⟩
  | 88 => ⟨S1024x256, .f32⟩
  | 89 => ⟨S1024x128, .f32⟩
  | 90 => ⟨S1024x32, .f32⟩
  | 91 => ⟨S1024x512, .f32⟩
  | 92 => ⟨S1024x512, .f32⟩
  | 93 => ⟨S1024x512, .f32⟩
  | 94 => ⟨S_, .f32⟩
  | 95 => ⟨S1024x64, .f32⟩
  | 96 => ⟨S_, .f32⟩
  | 97 => ⟨S1024x32, .f32⟩
  | 98 => ⟨S1024x128, .f32⟩
  | 99 => ⟨S_, .f32⟩
  | 100 => ⟨S1024x64, .f32⟩
  | 101 => ⟨S1024x16, .f32⟩
  | 102 => ⟨S1024x16, .f32⟩
  | 103 => ⟨S1024x0, .f32⟩
  | 104 => ⟨S_, .f32⟩
  | 105 => ⟨S1024x0, .f32⟩
  | 106 => ⟨S1024x32, .f32⟩
  | 107 => ⟨S_, .f32⟩
  | 108 => ⟨S1024x32, .f32⟩
  | 109 => ⟨S1024x128, .f32⟩
  | 110 => ⟨S1024x16x32, .f32⟩
  | 111 => ⟨S1024x16x4, .f32⟩
  | 112 => ⟨S1024x16x4, .f32⟩
  | 113 => ⟨S1024x16x24, .f32⟩
  | 114 => ⟨S_, .f32⟩
  | 115 => ⟨S1024x16x24, .f32⟩
  | 116 => ⟨S1024x16x32, .f32⟩
  | 117 => ⟨S1024x512, .f32⟩
  | 118 => ⟨S1024x16x32, .f32⟩
  | 119 => ⟨S1024x16x4, .f32⟩
  | 120 => ⟨S1024x16x4, .f32⟩
  | 121 => ⟨S1024x16x24, .f32⟩
  | 122 => ⟨S_, .f32⟩
  | 123 => ⟨S1024x16x24, .f32⟩
  | 124 => ⟨S1024x16x32, .f32⟩
  | 125 => ⟨S1024x512, .f32⟩
  | 126 => ⟨S1024x3200, .f32⟩
  | 127 => ⟨S1024x3200, .bf16⟩
  | _ => ⟨S8x4096x1024, .f32⟩

abbrev hbmTy0_1 (i : Nat) : BufTy := match i % 128 with
  | 0 => ⟨S256x8x96, .f32⟩
  | 1 => ⟨S_, .f32⟩
  | 2 => ⟨S256x8x32, .f32⟩
  | 3 => ⟨S256x8x128, .f32⟩
  | 4 => ⟨S256x1024, .f32⟩
  | 5 => ⟨S_, .f32⟩
  | 6 => ⟨S256x8x64, .f32⟩
  | 7 => ⟨S256x8x32, .f32⟩
  | 8 => ⟨S256x8x16, .f32⟩
  | 9 => ⟨S256x8x16, .f32⟩
  | 10 => ⟨S256x8x0, .f32⟩
  | 11 => ⟨S_, .f32⟩
  | 12 => ⟨S256x8x0, .f32⟩
  | 13 => ⟨S256x8x32, .f32⟩
  | 14 => ⟨S_, .f32⟩
  | 15 => ⟨S256x8x32, .f32⟩
  | 16 => ⟨S256x8x128, .f32⟩
  | 17 => ⟨S256x1024, .f32⟩
  | 18 => ⟨S256x2048, .f32⟩
  | 19 => ⟨S256x2048, .bf16⟩
  | 20 => ⟨S128x8x128, .f32⟩
  | 21 => ⟨S128x8x64, .f32⟩
  | 22 => ⟨S_, .f32⟩
  | 23 => ⟨S128x8x64, .f32⟩
  | 24 => ⟨S128x8x128, .f32⟩
  | 25 => ⟨S128x8x64, .f32⟩
  | 26 => ⟨S128x1024, .f32⟩
  | 27 => ⟨S128x512, .f32⟩
  | 28 => ⟨S128x1536, .f32⟩
  | 29 => ⟨S128x1536, .bf16⟩
  | 30 => ⟨S1x1024, .f32⟩
  | 31 => ⟨S1x256, .f32⟩
  | 32 => ⟨S1x128, .f32⟩
  | 33 => ⟨S8x8x4096x128, .bf16⟩
  | 34 => ⟨S8x8x4096x128, .bf16⟩
  | 35 => ⟨S8x4x4096x128, .bf16⟩
  | 36 => ⟨S8x4x4096x128, .bf16⟩
  | 37 => ⟨S8x4x4096x128, .bf16⟩
  | 38 => ⟨S8x4x4096x128, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3200, .bf16⟩
  | .local _ .vmem, ⟨8, _⟩ => ⟨S1x256, .f32⟩
  | .local _ .vmem, ⟨9, _⟩ => ⟨S256x2048, .bf16⟩
  | .local _ .vmem, ⟨10, _⟩ => ⟨S1x128, .f32⟩
  | .local _ .vmem, ⟨11, _⟩ => ⟨S128x1536, .bf16⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x8x512x128, .bf16⟩
  | .local _ .vmem, ⟨21, _⟩ => ⟨S1x8x512x128, .bf16⟩
  | .local _ .vmem, ⟨22, _⟩ => ⟨S1x8x512x128, .bf16⟩
  | .local _ .vmem, ⟨23, _⟩ => ⟨S1x8x512x128, .bf16⟩
  | .local _ .vmem, ⟨24, _⟩ => ⟨S1x4x512x128, .bf16⟩
  | .local _ .vmem, ⟨25, _⟩ => ⟨S1x4x512x128, .bf16⟩
  | .local _ .vmem, ⟨26, _⟩ => ⟨S1x4x512x128, .bf16⟩
  | .local _ .vmem, ⟨27, _⟩ => ⟨S1x4x512x128, .bf16⟩
  | .local _ .vmem, ⟨28, _⟩ => ⟨S1x4x512x128, .bf16⟩
  | .local _ .vmem, ⟨29, _⟩ => ⟨S1x4x512x128, .bf16⟩
  | .local _ .vmem, ⟨30, _⟩ => ⟨S1x4x512x128, .bf16⟩
  | .local _ .vmem, ⟨31, _⟩ => ⟨S1x4x512x128, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_cst_13 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_15 : Ref sig .tc := ⟨.hbm, 94, rfl⟩
abbrev main_v68 : Ref sig .tc := ⟨.hbm, 95, rfl⟩
abbrev main_cst_16 : Ref sig .tc := ⟨.hbm, 96, rfl⟩
abbrev main_v69 : Ref sig .tc := ⟨.hbm, 97, rfl⟩
abbrev main_v70 : Ref sig .tc := ⟨.hbm, 98, rfl⟩
abbrev main_cst_17 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_18 : Ref sig .tc := ⟨.hbm, 104, rfl⟩
abbrev main_v75 : Ref sig .tc := ⟨.hbm, 105, rfl⟩
abbrev main_v76 : Ref sig .tc := ⟨.hbm, 106, rfl⟩
abbrev main_cst_19 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_20 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_21 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_22 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_23 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_24 : Ref sig .tc := ⟨.hbm, 139, rfl⟩
abbrev main_v104 : Ref sig .tc := ⟨.hbm, 140, rfl⟩
abbrev main_v105 : Ref sig .tc := ⟨.hbm, 141, rfl⟩
abbrev main_cst_25 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_26 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123_0 : Ref sig .tc := ⟨.hbm, 161, rfl⟩
abbrev main_v123_1 : Ref sig .tc := ⟨.hbm, 162, rfl⟩
abbrev main_v123_2 : Ref sig .tc := ⟨.hbm, 163, rfl⟩
abbrev main_v123_3 : Ref sig .tc := ⟨.hbm, 164, rfl⟩
abbrev main_v123_4 : Ref sig .tc := ⟨.hbm, 165, rfl⟩
abbrev main_v123_5 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x512x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x4x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference6Ideal.lean ====
abbrev S8x4096x1024 : Shape := ⟨3, ![8, 4096, 1024]⟩
abbrev S1024 : Shape := ⟨1, ![1024]⟩
abbrev S8x1x1024 : Shape := ⟨3, ![8, 1, 1024]⟩
abbrev S1024x1952 : Shape := ⟨2, ![1024, 1952]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8x4096 : Shape := ⟨2, ![8, 4096]⟩
abbrev S16 : Shape := ⟨1, ![16]⟩
abbrev S_ : Shape := ⟨0, ![]⟩
abbrev S8x4096x1 : Shape := ⟨3, ![8, 4096, 1]⟩
abbrev S1x1x16 : Shape := ⟨3, ![1, 1, 16]⟩
abbrev S8x4096x16 : Shape := ⟨3, ![8, 4096, 16]⟩
abbrev S4 : Shape := ⟨1, ![4]⟩
abbrev S1x1x4 : Shape := ⟨3, ![1, 1, 4]⟩
abbrev S8x4096x4 : Shape := ⟨3, ![8, 4096, 4]⟩
abbrev S1x1x1024 : Shape := ⟨3, ![1, 1, 1024]⟩
abbrev S8x4096x1952 : Shape := ⟨3, ![8, 4096, 1952]⟩
abbrev S8x4096x256 : Shape := ⟨3, ![8, 4096, 256]⟩
abbrev S1x1x256 : Shape := ⟨3, ![1, 1, 256]⟩
abbrev S8x4096x768 : Shape := ⟨3, ![8, 4096, 768]⟩
abbrev S8x4096x8x96 : Shape := ⟨4, ![8, 4096, 8, 96]⟩
abbrev S8x4096x128 : Shape := ⟨3, ![8, 4096, 128]⟩
abbrev S1x1x128 : Shape := ⟨3, ![1, 1, 128]⟩
abbrev S8x4096x8x128 : Shape := ⟨4, ![8, 4096, 8, 128]⟩
abbrev S8x4096x32 : Shape := ⟨3, ![8, 4096, 32]⟩
abbrev S8x4096x1x32 : Shape := ⟨4, ![8, 4096, 1, 32]⟩
abbrev S8x4096x1x16 : Shape := ⟨4, ![8, 4096, 1, 16]⟩
abbrev S8x4096x8x32 : Shape := ⟨4, ![8, 4096, 8, 32]⟩
abbrev S8x4096x8x64 : Shape := ⟨4, ![8, 4096, 8, 64]⟩
abbrev S8x4096x8x16 : Shape := ⟨4, ![8, 4096, 8, 16]⟩
abbrev S8x4096x4x128 : Shape := ⟨4, ![8, 4096, 4, 128]⟩
abbrev S8x4096x512 : Shape := ⟨3, ![8, 4096, 512]⟩
abbrev S8x4096x8x2x32 : Shape := ⟨5, ![8, 4096, 8, 2, 32]⟩
abbrev S8x4096x8x2x8 : Shape := ⟨5, ![8, 4096, 8, 2, 8]⟩
abbrev S8x4096x1x1x4 : Shape := ⟨5, ![8, 4096, 1, 1, 4]⟩
abbrev S8x4096x8x2x4 : Shape := ⟨5, ![8, 4096, 8, 2, 4]⟩
abbrev S8x4096x8x2x24 : Shape := ⟨5, ![8, 4096, 8, 2, 24]⟩
abbrev S8x8x4096x128 : Shape := ⟨4, ![8, 8, 4096, 128]⟩
abbrev S8x4x4096x128 : Shape := ⟨4, ![8, 4, 4096, 128]⟩

abbrev nBuf : Space → Nat
  | .hbm => 216
  | .vmem => 0
  | .smem => 0
  | _ => 0

abbrev hbmTy0_0 (i : Nat) : BufTy := match i % 128 with
  | 0 => ⟨S8x4096x1024, .f32⟩
  | 1 => ⟨S1024, .f32⟩
  | 2 => ⟨S8x1x1024, .f32⟩
  | 3 => ⟨S8x1x1024, .f32⟩
  | 4 => ⟨S1024x1952, .f32⟩
  | 5 => ⟨S256, .f32⟩
  | 6 => ⟨S256x768, .f32⟩
  | 7 => ⟨S128, .f32⟩
  | 8 => ⟨S128x1024, .f32⟩
  | 9 => ⟨S8x4096, .i32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S8x4096, .f32⟩
  | 25 => ⟨S8x4096x1, .f32⟩
  | 26 => ⟨S1x1x16, .f32⟩
  | 27 => ⟨S8x4096x16, .f32⟩
  | 28 => ⟨S8x4096x16, .f32⟩
  | 29 => ⟨S8x4096x16, .f32⟩
  | 30 => ⟨S8x4096x16, .f32⟩
  | 31 => ⟨S8x4096x16, .f32⟩
  | 32 => ⟨S4, .f32⟩
  | 33 => ⟨S_, .f32⟩
  | 34 => ⟨S4, .f32⟩
  | 35 => ⟨S4, .f32⟩
  | 36 => ⟨S_, .f32⟩
  | 37 => ⟨S4, .f32⟩
  | 38 => ⟨S4, .f32⟩
  | 39 => ⟨S4, .f32⟩
  | 40 => ⟨S_, .f32⟩
  | 41 => ⟨S4, .f32⟩
  | 42 => ⟨S4, .f32⟩
  | 43 => ⟨S_, .f32⟩
  | 44 => ⟨S4, .f32⟩
  | 45 => ⟨S4, .f32⟩
  | 46 => ⟨S8x4096, .f32⟩
  | 47 => ⟨S8x4096x1, .f32⟩
  | 48 => ⟨S1x1x4, .f32⟩
  | 49 => ⟨S8x4096x4, .f32⟩
  | 50 => ⟨S8x4096x4, .f32⟩
  | 51 => ⟨S8x4096x4, .f32⟩
  | 52 => ⟨S8x4096x4, .f32⟩
  | 53 => ⟨S8x4096x4, .f32⟩
  | 54 => ⟨S8x4096x1024, .f32⟩
  | 55 => ⟨S_, .f32⟩
  | 56 => ⟨S8x4096, .f32⟩
  | 57 => ⟨S8x4096x1, .f32⟩
  | 58 => ⟨S_, .f32⟩
  | 59 => ⟨S8x4096x1, .f32⟩
  | 60 => ⟨S8x4096x1, .f32⟩
  | 61 => ⟨S_, .f32⟩
  | 62 => ⟨S8x4096x1, .f32⟩
  | 63 => ⟨S8x4096x1, .f32⟩
  | 64 => ⟨S8x4096x1, .f32⟩
  | 65 => ⟨S8x4096x1024, .f32⟩
  | 66 => ⟨S8x4096x1024, .f32⟩
  | 67 => ⟨S1x1x1024, .f32⟩
  | 68 => ⟨S8x4096x1024, .f32⟩
  | 69 => ⟨S8x4096x1024, .f32⟩
  | 70 => ⟨S_, .f32⟩
  | 71 => ⟨S8x1x1024, .f32⟩
  | 72 => ⟨S8x1x1024, .f32⟩
  | 73 => ⟨S8x4096x1024, .f32⟩
  | 74 => ⟨S8x4096x1024, .f32⟩
  | 75 => ⟨S8x4096x1024, .f32⟩
  | 76 => ⟨S8x4096x1024, .f32⟩
  | 77 => ⟨S8x4096x1952, .f32⟩
  | 78 => ⟨S8x4096x256, .f32⟩
  | 79 => ⟨S8x4096x256, .f32⟩
  | 80 => ⟨S_, .f32⟩
  | 81 => ⟨S8x4096, .f32⟩
  | 82 => ⟨S8x4096x1, .f32⟩
  | 83 => ⟨S_, .f32⟩
  | 84 => ⟨S8x4096x1, .f32⟩
  | 85 => ⟨S8x4096x1, .f32⟩
  | 86 => ⟨S_, .f32⟩
  | 87 => ⟨S8x4096x1, .f32⟩
  | 88 => ⟨S8x4096x1, .f32⟩
  | 89 => ⟨S8x4096x1, .f32⟩
  | 90 => ⟨S8x4096x256, .f32⟩
  | 91 => ⟨S8x4096x256, .f32⟩
  | 92 => ⟨S1x1x256, .f32⟩
  | 93 => ⟨S8x4096x256, .f32⟩
  | 94 => ⟨S8x4096x256, .f32⟩
  | 95 => ⟨S8x4096x768, .f32⟩
  | 96 => ⟨S8x4096x8x96, .f32⟩
  | 97 => ⟨S8x4096x128, .f32⟩
  | 98 => ⟨S8x4096x128, .f32⟩
  | 99 => ⟨S_, .f32⟩
  | 100 => ⟨S8x4096, .f32⟩
  | 101 => ⟨S8x4096x1, .f32⟩
  | 102 => ⟨S_, .f32⟩
  | 103 => ⟨S8x4096x1, .f32⟩
  | 104 => ⟨S8x4096x1, .f32⟩
  | 105 => ⟨S_, .f32⟩
  | 106 => ⟨S8x4096x1, .f32⟩
  | 107 => ⟨S8x4096x1, .f32⟩
  | 108 => ⟨S8x4096x1, .f32⟩
  | 109 => ⟨S8x4096x128, .f32⟩
  | 110 => ⟨S8x4096x128, .f32⟩
  | 111 => ⟨S1x1x128, .f32⟩
  | 112 => ⟨S8x4096x128, .f32⟩
  | 113 => ⟨S8x4096x128, .f32⟩
  | 114 => ⟨S8x4096x1024, .f32⟩
  | 115 => ⟨S8x4096x8x128, .f32⟩
  | 116 => ⟨S8x4096x32, .f32⟩
  | 117 => ⟨S8x4096x1x32, .f32⟩
  | 118 => ⟨S8x4096x1x16, .f32⟩
  | 119 => ⟨S8x4096x1x16, .f32⟩
  | 120 => ⟨S8x4096x1x16, .f32⟩
  | 121 => ⟨S8x4096x1x16, .f32⟩
  | 122 => ⟨S8x4096x1x16, .f32⟩
  | 123 => ⟨S8x4096x1x16, .f32⟩
  | 124 => ⟨S8x4096x1x16, .f32⟩
  | 125 => ⟨S8x4096x1x16, .f32⟩
  | 126 => ⟨S8x4096x1x16, .f32⟩
  | 127 => ⟨S8x4096x1x16, .f32⟩
  | _ => ⟨S8x4096x1024, .f32⟩

abbrev hbmTy0_1 (i : Nat) : BufTy := match i % 128 with
  | 0 => ⟨S8x4096x1x32, .f32⟩
  | 1 => ⟨S_, .f32⟩
  | 2 => ⟨S8x4096x8x32, .f32⟩
  | 3 => ⟨S8x4096x8x64, .f32⟩
  | 4 => ⟨S8x4096x8x32, .f32⟩
  | 5 => ⟨S8x4096x1x16, .f32⟩
  | 6 => ⟨S8x4096x1x16, .f32⟩
  | 7 => ⟨S8x4096x8x16, .f32⟩
  | 8 => ⟨S8x4096x8x16, .f32⟩
  | 9 => ⟨S8x4096x8x16, .f32⟩
  | 10 => ⟨S8x4096x8x16, .f32⟩
  | 11 => ⟨S8x4096x8x16, .f32⟩
  | 12 => ⟨S8x4096x8x16, .f32⟩
  | 13 => ⟨S8x4096x8x16, .f32⟩
  | 14 => ⟨S8x4096x8x16, .f32⟩
  | 15 => ⟨S8x4096x8x16, .f32⟩
  | 16 => ⟨S8x4096x8x16, .f32⟩
  | 17 => ⟨S8x4096x8x16, .f32⟩
  | 18 => ⟨S8x4096x8x16, .f32⟩
  | 19 => ⟨S8x4096x8x32, .f32⟩
  | 20 => ⟨S8x4096x8x128, .f32⟩
  | 21 => ⟨S_, .f32⟩
  | 22 => ⟨S8x4096x8x128, .f32⟩
  | 23 => ⟨S8x4096x8x128, .f32⟩
  | 24 => ⟨S8x4096x8x64, .f32⟩
  | 25 => ⟨S8x4096x8x32, .f32⟩
  | 26 => ⟨S8x4096x8x128, .f32⟩
  | 27 => ⟨S8x4096x8x64, .f32⟩
  | 28 => ⟨S8x4096x4x128, .f32⟩
  | 29 => ⟨S8x4096x512, .f32⟩
  | 30 => ⟨S8x4096x8x2x32, .f32⟩
  | 31 => ⟨S8x4096x8x2x8, .f32⟩
  | 32 => ⟨S8x4096x1x1x4, .f32⟩
  | 33 => ⟨S8x4096x1x1x4, .f32⟩
  | 34 => ⟨S8x4096x8x2x4, .f32⟩
  | 35 => ⟨S8x4096x8x2x4, .f32⟩
  | 36 => ⟨S8x4096x8x2x4, .f32⟩
  | 37 => ⟨S8x4096x8x2x4, .f32⟩
  | 38 => ⟨S8x4096x8x2x4, .f32⟩
  | 39 => ⟨S8x4096x8x2x4, .f32⟩
  | 40 => ⟨S8x4096x8x2x4, .f32⟩
  | 41 => ⟨S8x4096x8x2x4, .f32⟩
  | 42 => ⟨S8x4096x8x2x4, .f32⟩
  | 43 => ⟨S8x4096x8x2x4, .f32⟩
  | 44 => ⟨S8x4096x8x2x4, .f32⟩
  | 45 => ⟨S8x4096x8x2x4, .f32⟩
  | 46 => ⟨S8x4096x8x2x8, .f32⟩
  | 47 => ⟨S8x4096x8x2x24, .f32⟩
  | 48 => ⟨S8x4096x8x2x32, .f32⟩
  | 49 => ⟨S8x4096x4x128, .f32⟩
  | 50 => ⟨S_, .f32⟩
  | 51 => ⟨S8x4096x4x128, .f32⟩
  | 52 => ⟨S8x4096x4x128, .f32⟩
  | 53 => ⟨S8x4096x512, .f32⟩
  | 54 => ⟨S8x4096x8x2x32, .f32⟩
  | 55 => ⟨S8x4096x8x2x8, .f32⟩
  | 56 => ⟨S8x4096x1x1x4, .f32⟩
  | 57 => ⟨S8x4096x1x1x4, .f32⟩
  | 58 => ⟨S8x4096x8x2x4, .f32⟩
  | 59 => ⟨S8x4096x8x2x4, .f32⟩
  | 60 => ⟨S8x4096x8x2x4, .f32⟩
  | 61 => ⟨S8x4096x8x2x4, .f32⟩
  | 62 => ⟨S8x4096x8x2x4, .f32⟩
  | 63 => ⟨S8x4096x8x2x4, .f32⟩
  | 64 => ⟨S8x4096x8x2x4, .f32⟩
  | 65 => ⟨S8x4096x8x2x4, .f32⟩
  | 66 => ⟨S8x4096x8x2x4, .f32⟩
  | 67 => ⟨S8x4096x8x2x4, .f32⟩
  | 68 => ⟨S8x4096x8x2x4, .f32⟩
  | 69 => ⟨S8x4096x8x2x4, .f32⟩
  | 70 => ⟨S8x4096x8x2x8, .f32⟩
  | 71 => ⟨S8x4096x8x2x24, .f32⟩
  | 72 => ⟨S8x4096x8x2x32, .f32⟩
  | 73 => ⟨S8x4096x4x128, .f32⟩
  | 74 => ⟨S8x4096x512, .f32⟩
  | 75 => ⟨S8x4096x4x128, .f32⟩
  | 76 => ⟨S8x8x4096x128, .f32⟩
  | 77 => ⟨S8x8x4096x128, .bf16⟩
  | 78 => ⟨S8x8x4096x128, .f32⟩
  | 79 => ⟨S8x8x4096x128, .bf16⟩
  | 80 => ⟨S8x4x4096x128, .f32⟩
  | 81 => ⟨S8x4x4096x128, .bf16⟩
  | 82 => ⟨S8x4x4096x128, .f32⟩
  | 83 => ⟨S8x4x4096x128, .bf16⟩
  | 84 => ⟨S8x4x4096x128, .f32⟩
  | 85 => ⟨S8x4x4096x128, .bf16⟩
  | 86 => ⟨S8x4x4096x128, .f32⟩
  | 87 => ⟨S8x4x4096x128, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_14 : Ref sig .tc := ⟨.hbm, 99, rfl⟩
abbrev main_v74 : Ref sig .tc := ⟨.hbm, 100, rfl⟩
abbrev main_v75 : Ref sig .tc := ⟨.hbm, 101, rfl⟩
abbrev main_cst_15 : Ref sig .tc := ⟨.hbm, 102, rfl⟩
abbrev main_v76 : Ref sig .tc := ⟨.hbm, 103, rfl⟩
abbrev main_v77 : Ref sig .tc := ⟨.hbm, 104, rfl⟩
abbrev main_cst_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_17 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_cst_18 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_cst_19 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_v181 : Ref sig .tc := ⟨.hbm, 212, rfl⟩
abbrev main_v182 : Ref sig .tc := ⟨.hbm, 213, rfl⟩
abbrev main_v183 : Ref sig .tc := ⟨.hbm, 214, rfl⟩
abbrev main_v184 : Ref sig .tc := ⟨.hbm, 215, rfl⟩

abbrev nD : Nat := 1
abbrev τ : Topo := Topo.v7x

variable {F : FTy → Type} [FloatOps F]
-- ==== Kernel7.lean ====
abbrev S8x8x4096x128 : Shape := ⟨4, ![8, 8, 4096, 128]⟩
abbrev S16x257 : Shape := ⟨2, ![16, 257]⟩
abbrev S_ : Shape := ⟨0, ![]⟩
abbrev S16x384 : Shape := ⟨2, ![16, 384]⟩
abbrev S256x16x768 : Shape := ⟨3, ![256, 16, 768]⟩
abbrev S8x16x768 : Shape := ⟨3, ![8, 16, 768]⟩
abbrev S384x768 : Shape := ⟨2, ![384, 768]⟩
abbrev S1x768 : Shape := ⟨2, ![1, 768]⟩
abbrev S16x768 : Shape := ⟨2, ![16, 768]⟩
abbrev S1x16x768 : Shape := ⟨3, ![1, 16, 768]⟩
abbrev S16x256x768 : Shape := ⟨3, ![16, 256, 768]⟩
abbrev S8x8x4608x128 : Shape := ⟨4, ![8, 8, 4608, 128]⟩
abbrev S8x4096x1024 : Shape := ⟨3, ![8, 4096, 1024]⟩
abbrev S1x1x1024x128 : Shape := ⟨4, ![1, 1, 1024, 128]⟩
abbrev S1x1x4608x128 : Shape := ⟨4, ![1, 1, 4608, 128]⟩
abbrev S2x256x768 : Shape := ⟨3, ![2, 256, 768]⟩
abbrev S1x1024x128 : Shape := ⟨3, ![1, 1024, 128]⟩
abbrev S256x128 : Shape := ⟨2, ![256, 128]⟩
abbrev S1x1x768x128 : Shape := ⟨4, ![1, 1, 768, 128]⟩
abbrev S768x128 : Shape := ⟨2, ![768, 128]⟩
abbrev S1x1x256x128 : Shape := ⟨4, ![1, 1, 256, 128]⟩
abbrev S256x768 : Shape := ⟨2, ![256, 768]⟩
abbrev S1x256x768 : Shape := ⟨3, ![1, 256, 768]⟩
abbrev S256 : Shape := ⟨1, ![256]⟩
abbrev S256x1 : Shape := ⟨2, ![256, 1]⟩
abbrev S1x256x128 : Shape := ⟨3, ![1, 256, 128]⟩

abbrev nBuf : Space → Nat
  | .hbm => 16
  | .vmem => 13
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x8x4096x128, .bf16⟩
  | .hbm, ⟨3, _⟩ => ⟨S16x257, .f32⟩
  | .hbm, ⟨4, _⟩ => ⟨S_, .i32⟩
  | .hbm, ⟨5, _⟩ => ⟨S_, .f32⟩
  | .hbm, ⟨6, _⟩ => ⟨S16x384, .f32⟩
  | .hbm, ⟨7, _⟩ => ⟨S256x16x768, .f32⟩
  | .hbm, ⟨8, _⟩ => ⟨S16x256x768, .f32⟩
  | .hbm, ⟨9, _⟩ => ⟨S_, .i32⟩
  | .hbm, ⟨10, _⟩ => ⟨S_, .bf16⟩
  | .hbm, ⟨11, _⟩ => ⟨S8x8x4608x128, .bf16⟩
  | .hbm, ⟨12, _⟩ => ⟨S_, .i32⟩
  | .hbm, ⟨13, _⟩ => ⟨S_, .bf16⟩
  | .hbm, ⟨14, _⟩ => ⟨S8x8x4608x128, .bf16⟩
  | .hbm, ⟨15, _⟩ => ⟨S8x4096x1024, .bf16⟩
  | .local _ .vmem, ⟨0, _⟩ => ⟨S16x384, .f32⟩
  | .local _ .vmem, ⟨1, _⟩ => ⟨S8x16x768, .f32⟩
  | .local _ .vmem, ⟨2, _⟩ => ⟨S8x16x768, .f32⟩
  | .local _ .vmem, ⟨3, _⟩ => ⟨S1x1x1024x128, .bf16⟩
  | .local _ .vmem, ⟨4, _⟩ => ⟨S1x1x1024x128, .bf16⟩
  | .local _ .vmem, ⟨5, _⟩ => ⟨S1x1x4608x128, .bf16⟩
  | .local _ .vmem, ⟨6, _⟩ => ⟨S1x1x4608x128, .bf16⟩
  | .local _ .vmem, ⟨7, _⟩ => ⟨S1x1x4608x128, .bf16⟩
  | .local _ .vmem, ⟨8, _⟩ => ⟨S1x1x4608x128, .bf16⟩
  | .local _ .vmem, ⟨9, _⟩ => ⟨S2x256x768, .f32⟩
  | .local _ .vmem, ⟨10, _⟩ => ⟨S2x256x768, .f32⟩
  | .local _ .vmem, ⟨11, _⟩ => ⟨S1x1024x128, .bf16⟩
  | .local _ .vmem, ⟨12, _⟩ => ⟨S1x1024x128, .bf16⟩
  | _, _ => ⟨S8x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_c_1 : Ref sig .tc := ⟨.hbm, 12, rfl⟩
abbrev main_call2_v0 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 8, 4], ![false, false, false]⟩

def k1_mult1 (i : grid1.Coords) : BitVec 32 :=
  let arg2 : BitVec 32 := BitVec.ofNat 32 (i 2).val
  let c4_i32 : BitVec 32 := 4#32
  let v1 : BitVec 32 := Scalar.muli arg2 c4_i32
  let c0_i32 : BitVec 32 := 0#32
  let v2 : BitVec 32 := Scalar.addi v1 c0_i32
  let c256_i32 : BitVec 32 := 256#32
  let v3 : BitVec 32 := Scalar.muli v2 c256_i32
  v3
def k1_off1 (i : grid1.Coords) (c0_i32 : BitVec 32) : Fin 4 → Nat :=
  let c0 : Index := 0#32
  let c0_0 : Index := 0#32
  let arg2 : BitVec 32 := BitVec.ofNat 32 (i 2).val
  let c4_i32 : BitVec 32 := 4#32
  let v1 : BitVec 32 := Scalar.muli arg2 c4_i32
  let v2 : BitVec 32 := Scalar.addi v1 c0_i32
  let c256_i32 : BitVec 32 := 256#32
  let v3 : BitVec 32 := Scalar.muli v2 c256_i32
  let v4 : BitVec 32 := v3
  let v5 : Index := Scalar.indexCast v4
  let c0_1 : Index := 0#32
  ![0, 0, v5.toNat, 0]
def k1_mult2 (i : grid1.Coords) : BitVec 32 :=
  let arg2 : BitVec 32 := BitVec.ofNat 32 (i 2).val
  let c4_i32_30 : BitVec 32 := 4#32
  let v76 : BitVec 32 := Scalar.muli arg2 c4_i32_30
  let c1_i32 : BitVec 32 := 1#32
  let v77 : BitVec 32 := Scalar.addi v76 c1_i32
  let c256_i32_31 : BitVec 32 := 256#32
  let v78 : BitVec 32 := Scalar.muli v77 c256_i32_31
  v78
def k1_mult3 (i : grid1.Coords) : BitVec 32 :=
  let arg2 : BitVec 32 := BitVec.ofNat 32 (i 2).val
  let c4_i32_67 : BitVec 32 := 4#32
  let v151 : BitVec 32 := Scalar.muli arg2 c4_i32_67
  let c2_i32 : BitVec 32 := 2#32
  let v152 : BitVec 32 := Scalar.addi v151 c2_i32
  let c256_i32_68 : BitVec 32 := 256#32
  let v153 : BitVec 32 := Scalar.muli v152 c256_i32_68
  v153
def k1_mult4 (i : grid1.Coords) : BitVec 32 :=
  let arg2 : BitVec 32 := BitVec.ofNat 32 (i 2).val
  let c4_i32_104 : BitVec 32 := 4#32
  let v226 : BitVec 32 := Scalar.muli arg2 c4_i32_104
  let c3_i32 : BitVec 32 := 3#32
  let v227 : BitVec 32 := Scalar.addi v226 c3_i32
  let c256_i32_105 : BitVec 32 := 256#32
  let v228 : BitVec 32 := Scalar.muli v227 c256_i32_105
  v228
def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x1x1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x4608x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x4608x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2x256x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]
-- ==== Reference7Ideal.lean ====
abbrev S8x8x4096x128 : Shape := ⟨4, ![8, 8, 4096, 128]⟩
abbrev S16x257 : Shape := ⟨2, ![16, 257]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S4096x4096x1 : Shape := ⟨3, ![4096, 4096, 1]⟩
abbrev S16x4096x4096 : Shape := ⟨3, ![16, 4096, 4096]⟩
abbrev S8x8x4096x2x64 : Shape := ⟨5, ![8, 8, 4096, 2, 64]⟩
abbrev S8x8x2x4096x64 : Shape := ⟨5, ![8, 8, 2, 4096, 64]⟩
abbrev S8x16x4096x64 : Shape := ⟨4, ![8, 16, 4096, 64]⟩
abbrev S8x16x4096x4096 : Shape := ⟨4, ![8, 16, 4096, 4096]⟩
abbrev S1x16x4096x4096 : Shape := ⟨4, ![1, 16, 4096, 4096]⟩
abbrev S8x16x4096 : Shape := ⟨3, ![8, 16, 4096]⟩
abbrev S8x16x4096x1 : Shape := ⟨4, ![8, 16, 4096, 1]⟩
abbrev S8x16x64x4096 : Shape := ⟨4, ![8, 16, 64, 4096]⟩
abbrev S8x4096x16x64 : Shape := ⟨4, ![8, 4096, 16, 64]⟩
abbrev S8x4096x1024 : Shape := ⟨3, ![8, 4096, 1024]⟩

abbrev nBuf : Space → Nat
  | .hbm => 103
  | .vmem => 0
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x8x4096x128, .bf16⟩
  | .hbm, ⟨3, _⟩ => ⟨S16x257, .f32⟩
  | .hbm, ⟨4, _⟩ => ⟨S4096, .i32⟩
  | .hbm, ⟨5, _⟩ => ⟨S4096x1, .i32⟩
  | .hbm, ⟨6, _⟩ => ⟨S1x4096, .i32⟩
  | .hbm, ⟨7, _⟩ => ⟨S4096x4096, .i32⟩
  | .hbm, ⟨8, _⟩ => ⟨S4096x4096, .i32⟩
  | .hbm, ⟨9, _⟩ => ⟨S4096x4096, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S_, .i32⟩
  | .hbm, ⟨16, _⟩ => ⟨S4096x4096, .i32⟩
  | .hbm, ⟨17, _⟩ => ⟨S4096x4096, .i32⟩
  | .hbm, ⟨18, _⟩ => ⟨S_, .i32⟩
  | .hbm, ⟨19, _⟩ => ⟨S4096x4096, .i32⟩
  | .hbm, ⟨20, _⟩ => ⟨S4096x4096, .i32⟩
  | .hbm, ⟨21, _⟩ => ⟨S_, .i32⟩
  | .hbm, ⟨22, _⟩ => ⟨S4096x4096, .i32⟩
  | .hbm, ⟨23, _⟩ => ⟨S4096x4096, .i1⟩
  | .hbm, ⟨24, _⟩ => ⟨S_, .i32⟩
  | .hbm, ⟨25, _⟩ => ⟨S4096x4096, .i32⟩
  | .hbm, ⟨26, _⟩ => ⟨S4096x4096, .i32⟩
  | .hbm, ⟨27, _⟩ => ⟨S4096x4096, .i32⟩
  | .hbm, ⟨28, _⟩ => ⟨S4096x4096x1, .i32⟩
  | .hbm, ⟨29, _⟩ => ⟨S16x4096x4096, .f32⟩
  | .hbm, ⟨30, _⟩ => ⟨S8x8x4096x128, .f32⟩
  | .hbm, ⟨31, _⟩ => ⟨S8x8x4096x2x64, .f32⟩
  | .hbm, ⟨32, _⟩ => ⟨S8x8x2x4096x64, .f32⟩
  | .hbm, ⟨33, _⟩ => ⟨S8x16x4096x64, .f32⟩
  | .hbm, ⟨34, _⟩ => ⟨S8x8x4096x128, .f32⟩
  | .hbm, ⟨35, _⟩ => ⟨S8x8x4096x2x64, .f32⟩
  | .hbm, ⟨36, _⟩ => ⟨S8x8x2x4096x64, .f32⟩
  | .hbm, ⟨37, _⟩ => ⟨S8x16x4096x64, .f32⟩
  | .hbm, ⟨38, _⟩ => ⟨S8x16x4096x4096, .f32⟩
  | .hbm, ⟨39, _⟩ => ⟨S_, .f32⟩
  | .hbm, ⟨40, _⟩ => ⟨S16x4096x4096, .f32⟩
  | .hbm, ⟨41, _⟩ => ⟨S16x4096x4096, .f32⟩
  | .hbm, ⟨42, _⟩ => ⟨S1x16x4096x4096, .f32⟩
  | .hbm, ⟨43, _⟩ => ⟨S8x16x4096x4096, .f32⟩
  | .hbm, ⟨44, _⟩ => ⟨S8x16x4096x4096, .f32⟩
  | .hbm, ⟨45, _⟩ => ⟨S_, .i32⟩
  | .hbm, ⟨46, _⟩ => ⟨S_, .i32⟩
  | .hbm, ⟨47, _⟩ => ⟨S4096, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i1⟩
  | .hbm, ⟨58, _⟩ => ⟨S4096, .i1⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S4096, .i32⟩
  | .hbm, ⟨63, _⟩ => ⟨S1x4096, .i32⟩
  | .hbm, ⟨64, _⟩ => ⟨S4096x1, .i32⟩
  | .hbm, ⟨65, _⟩ => ⟨S4096x4096, .i32⟩
  | .hbm, ⟨66, _⟩ => ⟨S4096x4096, .i32⟩
  | .hbm, ⟨67, _⟩ => ⟨S4096x4096, .i1⟩
  | .hbm, ⟨68, _⟩ => ⟨S4096x1, .i32⟩
  | .hbm, ⟨69, _⟩ => ⟨S1x4096, .i32⟩
  | .hbm, ⟨70, _⟩ => ⟨S_, .i32⟩
  | .hbm, ⟨71, _⟩ => ⟨S1x4096, .i32⟩
  | .hbm, ⟨72, _⟩ => ⟨S1x4096, .i32⟩
  | .hbm, ⟨73, _⟩ => ⟨S4096x4096, .i32⟩
  | .hbm, ⟨74, _⟩ => ⟨S4096x4096, .i32⟩
  | .hbm, ⟨75, _⟩ => ⟨S4096x4096, .i1⟩
  | .hbm, ⟨76, _⟩ => ⟨S4096x4096, .i1⟩
  | .hbm, ⟨77, _⟩ => ⟨S_, .f32⟩
  | .hbm, ⟨78, _⟩ => ⟨S_, .f32⟩
  | .hbm, ⟨79, _⟩ => ⟨S8x16x4096x4096, .i1⟩
  | .hbm, ⟨80, _⟩ => ⟨S8x16x4096x4096, .f32⟩
  | .hbm, ⟨81, _⟩ => ⟨S8x16x4096x4096, .f32⟩
  | .hbm, ⟨82, _⟩ => ⟨S_, .f32⟩
  | .hbm, ⟨83, _⟩ => ⟨S8x16x4096x4096, .f32⟩
  | .hbm, ⟨84, _⟩ => ⟨S_, .f32⟩
  | .hbm, ⟨85, _⟩ => ⟨S8x16x4096, .f32⟩
  | .hbm, ⟨86, _⟩ => ⟨S8x16x4096x1, .f32⟩
  | .hbm, ⟨87, _⟩ => ⟨S8x16x4096x4096, .f32⟩
  | .hbm, ⟨88, _⟩ => ⟨S8x16x4096x4096, .f32⟩
  | .hbm, ⟨89, _⟩ => ⟨S8x16x4096x4096, .f32⟩
  | .hbm, ⟨90, _⟩ => ⟨S_, .f32⟩
  | .hbm, ⟨91, _⟩ => ⟨S8x16x4096, .f32⟩
  | .hbm, ⟨92, _⟩ => ⟨S8x16x4096x1, .f32⟩
  | .hbm, ⟨93, _⟩ => ⟨S8x16x4096x4096, .f32⟩
  | .hbm, ⟨94, _⟩ => ⟨S8x16x4096x4096, .f32⟩
  | .hbm, ⟨95, _⟩ => ⟨S8x8x4096x128, .f32⟩
  | .hbm, ⟨96, _⟩ => ⟨S8x8x4096x2x64, .f32⟩
  | .hbm, ⟨97, _⟩ => ⟨S8x8x2x4096x64, .f32⟩
  | .hbm, ⟨98, _⟩ => ⟨S8x16x4096x64, .f32⟩
  | .hbm, ⟨99, _⟩ => ⟨S8x16x64x4096, .f32⟩
  | .hbm, ⟨100, _⟩ => ⟨S8x4096x16x64, .f32⟩
  | .hbm, ⟨101, _⟩ => ⟨S8x4096x1024, .f32⟩
  | .hbm, ⟨102, _⟩ => ⟨S8x4096x1024, .bf16⟩
  | _, _ => ⟨S8x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_c_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_c : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_0 : Ref sig .tc := ⟨.hbm, 59, rfl⟩
abbrev main_call1_v12 : Ref sig .tc := ⟨.hbm, 60, rfl⟩
abbrev main_call1_v13 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_5 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_6 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v44 : Ref sig .tc := ⟨.hbm, 81, rfl⟩
abbrev main_cst_7 : Ref sig .tc := ⟨.hbm, 82, rfl⟩
abbrev main_v45 : Ref sig .tc := ⟨.hbm, 83, rfl⟩
abbrev main_cst_8 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_cst_9 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩

abbrev nD : Nat := 1
abbrev τ : Topo := Topo.v7x

variable {F : FTy → Type} [FloatOps F]
-- ==== Kernel8.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x512 : Shape := ⟨3, ![1, 1024, 512]⟩
abbrev S1x1x512 : Shape := ⟨3, ![1, 1, 512]⟩
abbrev S1x8x512 : Shape := ⟨3, ![1, 8, 512]⟩
abbrev S1024x512 : Shape := ⟨2, ![1024, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x6144x8, .f32⟩
  | .hbm, ⟨13, _⟩ => ⟨S2x8x6144, .f32⟩
  | .hbm, ⟨14, _⟩ => ⟨S2x1x6144, .f32⟩
  | .hbm, ⟨15, _⟩ => ⟨S2x8x6144, .f32⟩
  | .hbm, ⟨16, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel9.lean ====
abbrev S32768x1024 : Shape := ⟨2, ![32768, 1024]⟩
abbrev S16384x1024 : Shape := ⟨2, ![16384, 1024]⟩
abbrev S4096x1024x128 : Shape := ⟨3, ![4096, 1024, 128]⟩
abbrev S8x1x1024 : Shape := ⟨3, ![8, 1, 1024]⟩
abbrev S_ : Shape := ⟨0, ![]⟩
abbrev S1024 : Shape := ⟨1, ![1024]⟩
abbrev S1x1024 : Shape := ⟨2, ![1, 1024]⟩
abbrev S512x1024 : Shape := ⟨2, ![512, 1024]⟩
abbrev S2048x1024 : Shape := ⟨2, ![2048, 1024]⟩
abbrev S64x128x128 : Shape := ⟨3, ![64, 128, 128]⟩
abbrev S1x1x1024 : Shape := ⟨3, ![1, 1, 1024]⟩
abbrev S512x2048 : Shape := ⟨2, ![512, 2048]⟩
abbrev S64x8x128 : Shape := ⟨3, ![64, 8, 128]⟩
abbrev S512x128 : Shape := ⟨2, ![512, 128]⟩

abbrev nBuf : Space → Nat
  | .hbm => 12
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S16384x1024, .f32⟩
  | .hbm, ⟨2, _⟩ => ⟨S16384x1024, .f32⟩
  | .hbm, ⟨3, _⟩ => ⟨S4096x1024x128, .f32⟩
  | .hbm, ⟨4, _⟩ => ⟨S32768x1024, .f32⟩
  | .hbm, ⟨5, _⟩ => ⟨S8x1x1024, .f32⟩
  | .hbm, ⟨6, _⟩ => ⟨S16384x1024, .bf16⟩
  | .hbm, ⟨7, _⟩ => ⟨S16384x1024, .bf16⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S64x128x128, .f32⟩
  | .local _ .vmem, ⟨7, _⟩ => ⟨S64x128x128, .f32⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![64, 8], ![false, false]⟩

def k0_cond2 (i : grid0.Coords) : BitVec 1 :=
  let arg1 : BitVec 32 := BitVec.ofNat 32 (i 1).val
  let c7_i32 : BitVec 32 := 7#32
  let v58 : BitVec 1 := Scalar.cmpi .eq arg1 c7_i32
  let v59 : BitVec 32 := Scalar.extui v58
  let c0_i32_47 : BitVec 32 := 0#32
  let v60 : BitVec 1 := Scalar.cmpi .ne v59 c0_i32_47
  v60

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference9Ideal.lean ====
abbrev S32768x1024 : Shape := ⟨2, ![32768, 1024]⟩
abbrev S16384x1024 : Shape := ⟨2, ![16384, 1024]⟩
abbrev S4096x1024x128 : Shape := ⟨3, ![4096, 1024, 128]⟩
abbrev S8x1x1024 : Shape := ⟨3, ![8, 1, 1024]⟩
abbrev S4096x128x8x128 : Shape := ⟨4, ![4096, 128, 8, 128]⟩
abbrev S4096x8x128x128 : Shape := ⟨4, ![4096, 8, 128, 128]⟩
abbrev S32768x16384 : Shape := ⟨2, ![32768, 16384]⟩
abbrev S_ : Shape := ⟨0, ![]⟩
abbrev S8x4096x1024 : Shape := ⟨3, ![8, 4096, 1024]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S16384x1024, .f32⟩
  | .hbm, ⟨2, _⟩ => ⟨S16384x1024, .f32⟩
  | .hbm, ⟨3, _⟩ => ⟨S4096x1024x128, .f32⟩
  | .hbm, ⟨4, _⟩ => ⟨S32768x1024, .f32⟩
  | .hbm, ⟨5, _⟩ => ⟨S8x1x1024, .f32⟩
  | .hbm, ⟨6, _⟩ => ⟨S4096x128x8x128, .f32⟩
  | .hbm, ⟨7, _⟩ => ⟨S4096x8x128x128, .f32⟩
  | .hbm, ⟨8, _⟩ => ⟨S32768x16384, .f32⟩
  | .hbm, ⟨9, _⟩ => ⟨S32768x1024, .f32⟩
  | .hbm, ⟨10, _⟩ => ⟨S32768x16384, .f32⟩
  | .hbm, ⟨11, _⟩ => ⟨S_, .f32⟩
  | .hbm, ⟨12, _⟩ => ⟨S32768x16384, .f32⟩
  | .hbm, ⟨13, _⟩ => ⟨S32768x16384, .f32⟩
  | .hbm, ⟨14, _⟩ => ⟨S_, .f32⟩
  | .hbm, ⟨15, _⟩ => ⟨S32768x16384, .f32⟩
  | .hbm, ⟨16, _⟩ => ⟨S32768x16384, .f32⟩
  | .hbm, ⟨17, _⟩ => ⟨S32768x16384, .f32⟩
  | .hbm, ⟨18, _⟩ => ⟨S_, .f32⟩
  | .hbm, ⟨19, _⟩ => ⟨S32768x16384, .f32⟩
  | .hbm, ⟨20, _⟩ => ⟨S32768x16384, .f32⟩
  | .hbm, ⟨21, _⟩ => ⟨S32768x16384, .f32⟩
  | .hbm, ⟨22, _⟩ => ⟨S32768x16384, .f32⟩
  | .hbm, ⟨23, _⟩ => ⟨S32768x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S32768x1024, .f32⟩
  | .hbm, ⟨28, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Proof.IOff.lean ====
/- Where the kernel's body loads and stores: each offset the body computes from its query tile's number and from a loop's
   trip, in closed form, and the two main loops' trip counts. -/
module

public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic

/-- The grid point of query tile `n` in the first batch row and head pair: the body's offsets read no other coordinate. -/
def ctr (n : Fin 8) : grid0.Coords := fun a => match a with
  | ⟨0, _⟩ => (0 : Fin 8)
  | ⟨1, _⟩ => (0 : Fin 4)
  | ⟨2, _⟩ => n

/-- The query tile's number at a grid point. -/
abbrev qt (i : grid0.Coords) : ℕ := (i 2).val

theorem qt_lt (i : grid0.Coords) : qt i < 8 := (i 2).isLt

private theorem trips1_n : ∀ n : Fin 8, (k0_t1_loop (ctr n)).trips = n.val := by decide +kernel
private theorem trips3_n : ∀ n : Fin 8, (k0_t3_loop (ctr n)).trips = n.val := by decide +kernel

/-- The first loop walks the key tiles before the query tile's own. -/
theorem trips1 (i : grid0.Coords) : (k0_t1_loop i).trips = qt i := trips1_n (i 2)
/-- The second loop walks the same tiles. -/
theorem trips3 (i : grid0.Coords) : (k0_t3_loop i).trips = qt i := trips3_n (i 2)

private theorem off1_n : ∀ (n : Fin 8) (k : Fin (k0_t1_loop (ctr n)).trips), k0_off1 (ctr n) k = ![0, 0, 512 * (k.val % 8), 0] := by decide +kernel
private theorem off2_n : ∀ (n : Fin 8) (k : Fin (k0_t1_loop (ctr n)).trips), k0_off2 (ctr n) k = ![0, k.val % 8, 0, 0] := by decide +kernel
private theorem off3_n : ∀ (n : Fin 8) (k : Fin (k0_t1_loop (ctr n)).trips), k0_off3 (ctr n) k = ![0, 1, 512 * (k.val % 8), 0] := by decide +kernel
private theorem off4_n : ∀ (n : Fin 8) (k : Fin (k0_t1_loop (ctr n)).trips), k0_off4 (ctr n) k = ![1, k.val % 8, 0, 0] := by decide +kernel
private theorem off9_n : ∀ n : Fin 8, k0_off9 (ctr n) = ![0, 0, 512 * (n.val % 8), 0] := by decide +kernel
private theorem off10_n : ∀ n : Fin 8, k0_off10 (ctr n) = ![0, n.val % 8, 0, 0] := by decide +kernel
private theorem off11_n : ∀ n : Fin 8, k0_off11 (ctr n) = ![0, 1, 512 * (n.val % 8), 0] := by decide +kernel
private theorem off12_n : ∀ n : Fin 8, k0_off12 (ctr n) = ![1, n.val % 8, 0, 0] := by decide +kernel
private theorem off13_n : ∀ (n : Fin 8) (k : Fin (k0_t3_loop (ctr n)).trips), k0_off13 (ctr n) k = ![0, k.val % 8, 0, 0] := by decide +kernel
private theorem off14_n : ∀ (n : Fin 8) (k : Fin (k0_t3_loop (ctr n)).trips), k0_off14 (ctr n) k = ![0, 0, 512 * (k.val % 8), 0] := by decide +kernel
private theorem off15_n : ∀ (n : Fin 8) (k : Fin (k0_t3_loop (ctr n)).trips), k0_off15 (ctr n) k = ![1, k.val % 8, 0, 0] := by decide +kernel
private theorem off19_n : ∀ n : Fin 8, k0_off19 (ctr n) = ![0, 0, 512 * (n.val % 8), 0] := by decide +kernel

/-- Trip `k` of the first loop loads key tile `k` of the first head, -/
theorem off1_eq (i : grid0.Coords) (k : Fin (k0_t1_loop i).trips) : k0_off1 i k = ![0, 0, 512 * (k.val % 8), 0] := off1_n (i 2) k
/-- keeps its scores as tile `k` of the first head, -/
theorem off2_eq (i : grid0.Coords) (k : Fin (k0_t1_loop i).trips) : k0_off2 i k = ![0, k.val % 8, 0, 0] := off2_n (i 2) k
/-- and does the same for the second head. -/
theorem off3_eq (i : grid0.Coords) (k : Fin (k0_t1_loop i).trips) : k0_off3 i k = ![0, 1, 512 * (k.val % 8), 0] := off3_n (i 2) k
theorem off4_eq (i : grid0.Coords) (k : Fin (k0_t1_loop i).trips) : k0_off4 i k = ![1, k.val % 8, 0, 0] := off4_n (i 2) k
/-- After the loop the diagonal tile is the query tile's own. -/
theorem off9_eq (i : grid0.Coords) : k0_off9 i = ![0, 0, 512 * (qt i % 8), 0] := off9_n (i 2)
theorem off10_eq (i : grid0.Coords) : k0_off10 i = ![0, qt i % 8, 0, 0] := off10_n (i 2)
theorem off11_eq (i : grid0.Coords) : k0_off11 i = ![0, 1, 512 * (qt i % 8), 0] := off11_n (i 2)
theorem off12_eq (i : grid0.Coords) : k0_off12 i = ![1, qt i % 8, 0, 0] := off12_n (i 2)
/-- Trip `k` of the second loop reads back the scores of tile `k` and loads value tile `k`. -/
theorem off13_eq (i : grid0.Coords) (k : Fin (k0_t3_loop i).trips) : k0_off13 i k = ![0, k.val % 8, 0, 0] := off13_n (i 2) k
theorem off14_eq (i : grid0.Coords) (k : Fin (k0_t3_loop i).trips) : k0_off14 i k = ![0, 0, 512 * (k.val % 8), 0] := off14_n (i 2) k
theorem off15_eq (i : grid0.Coords) (k : Fin (k0_t3_loop i).trips) : k0_off15 i k = ![1, k.val % 8, 0, 0] := off15_n (i 2) k
/-- The diagonal value tile. -/
theorem off19_eq (i : grid0.Coords) : k0_off19 i = ![0, 0, 512 * (qt i % 8), 0] := off19_n (i 2)

end Cert.KernelIdeal.Hand

end
-- ==== Proof.IStep.lean ====
/- What one grid point computes, as pure functions of its three input blocks: the score tiles of a query tile against the key
   tiles up to its own, the running lane maxima, the row maxima, the running lane sums and products with the value tiles, and
   the block written out. Also: what the kernel's scratch buffers hold after each step, window by window. -/
module

public import proofs.«01_k».proof.Proof.IOff
public import Idealize.ShloMosaic.Lib.VecWindow

@[expose] public section

set_option maxRecDepth 16384

noncomputable section

namespace Cert.KernelIdeal.Hand

open Cert.KernelIdeal Cert.KernelIdeal.Gen
open Idealize.ShloMosaic

variable {F : FTy → Type} [FloatOps F]

theorem in_q (h : Fin 2) : ∀ a, (![0, h.val, 0, 0] : Fin 4 → ℕ) a + S1x1x512x128.size a ≤ S1x2x512x128.size a := by
  revert h; decide
theorem in_k (h : Fin 2) (k : ℕ) : ∀ a, (![0, h.val, 512 * (k % 8), 0] : Fin 4 → ℕ) a + S1x1x512x128.size a ≤ S1x2x4096x128.size a := by
  have : ∀ (h : Fin 2) (k : Fin 8), ∀ a, (![0, h.val, 512 * k.val, 0] : Fin 4 → ℕ) a + S1x1x512x128.size a ≤ S1x2x4096x128.size a := by decide
  exact this h ⟨k % 8, Nat.mod_lt _ (by decide)⟩
theorem in_v (k : ℕ) : ∀ a, (![0, 0, 512 * (k % 8), 0] : Fin 4 → ℕ) a + S1x1x512x128.size a ≤ S1x1x4096x128.size a := by
  have : ∀ (k : Fin 8), ∀ a, (![0, 0, 512 * k.val, 0] : Fin 4 → ℕ) a + S1x1x512x128.size a ≤ S1x1x4096x128.size a := by decide
  exact this ⟨k % 8, Nat.mod_lt _ (by decide)⟩
theorem in_m (h : Fin 2) : ∀ a, (![h.val, 0, 0] : Fin 3 → ℕ) a + S1x512x128.size a ≤ S2x512x128.size a := by
  revert h; decide
theorem in_s (h : Fin 2) (k : ℕ) : ∀ a, (![h.val, k % 8, 0, 0] : Fin 4 → ℕ) a + S1x1x512x512.size a ≤ S2x8x512x512.size a := by
  have : ∀ (h : Fin 2) (k : Fin 8), ∀ a, (![h.val, k.val, 0, 0] : Fin 4 → ℕ) a + S1x1x512x512.size a ≤ S2x8x512x512.size a := by decide
  exact this h ⟨k % 8, Nat.mod_lt _ (by decide)⟩

/-- Head `h` of the query block. -/
def qh (q : Vec F S1x2x512x128 .bf16) (h : Fin 2) : Vec F S1x1x512x128 .bf16 := VecWindow.window q ![0, h.val, 0, 0] S1x1x512x128.size (in_q h)
/-- Key tile `k` of head `h`. -/
def ktile (kk : Vec F S1x2x4096x128 .bf16) (h : Fin 2) (k : ℕ) : Vec F S1x1x512x128 .bf16 :=
  VecWindow.window kk ![0, h.val, 512 * (k % 8), 0] S1x1x512x128.size (in_k h k)
/-- Value tile `k`, the pair's two heads side by side. -/
def vtile (v : Vec F S1x1x4096x128 .bf16) (k : ℕ) : Vec F S1x1x512x128 .bf16 :=
  VecWindow.window v ![0, 0, 512 * (k % 8), 0] S1x1x512x128.size (in_v k)
/-- Head `h` of a scratch buffer of the pair. -/
def hd (x : Vec F S2x512x128 .f32) (h : Fin 2) : Vec F S1x512x128 .f32 := VecWindow.window x ![h.val, 0, 0] S1x512x128.size (in_m h)
/-- Tile `k` of head `h` of the scores' scratch buffer. -/
def ts (x : Vec F S2x8x512x512 .f32) (h : Fin 2) (k : ℕ) : Vec F S1x1x512x512 .f32 :=
  VecWindow.window x ![h.val, k % 8, 0, 0] S1x1x512x512.size (in_s h k)

/-- The diagonal tile's mask: a key is seen when its chunk is not later than the query's. -/
def mask (i : grid0.Coords) : IVec S512x512 1 := k0_pay21 (k0_mult1 i) (k0_pay17 i) 64#32 (k0_pay18 i) (k0_pay19 i) k0_pay20

/-- The scores of key tile `k` in head `h`: plain before the query tile's own, masked on it. -/
def stile (i : grid0.Coords) (q : Vec F S1x2x512x128 .bf16) (kk : Vec F S1x2x4096x128 .bf16) (h : Fin 2) (k : ℕ) : FVec F S512x512 .f32 :=
  if k < qt i then k0_pay6 (qh q h) (ktile kk h k) else k0_pay30 (mask i) (qh q h) (ktile kk h k)

/-- The running maximum of each lane of head `h` after `k` tiles. -/
def mrun (i : grid0.Coords) (q : Vec F S1x2x512x128 .bf16) (kk : Vec F S1x2x4096x128 .bf16) (h : Fin 2) : ℕ → Vec F S1x512x128 .f32
  | 0 => hd k0_pay22 h
  | k + 1 => k0_pay27 (stile i q kk h k) (mrun i q kk h k)

/-- The row maxima of head `h`, spread over the lanes. -/
def mfin (i : grid0.Coords) (q : Vec F S1x2x512x128 .bf16) (kk : Vec F S1x2x4096x128 .bf16) (h : Fin 2) : Vec F S1x512x128 .f32 :=
  k0_pay40 (mrun i q kk h (qt i + 1))

/-- The running sum of each lane of head `h` after `k` tiles. -/
def lrun (i : grid0.Coords) (q : Vec F S1x2x512x128 .bf16) (kk : Vec F S1x2x4096x128 .bf16) (h : Fin 2) : ℕ → Vec F S1x512x128 .f32
  | 0 => hd (k0_pay24 k0_pay23) h
  | k + 1 => k0_pay12 (k0_pay26 (stile i q kk h k)) (mfin i q kk h) (lrun i q kk h k)

/-- The running product of head `h`'s weights with the values after `k` tiles. -/
def arun (i : grid0.Coords) (q : Vec F S1x2x512x128 .bf16) (kk : Vec F S1x2x4096x128 .bf16) (v : Vec F S1x1x4096x128 .bf16) (h : Fin 2) :
    ℕ → Vec F S1x512x128 .f32
  | 0 => hd k0_pay25 h
  | k + 1 => k0_pay13 (k0_pay26 (stile i q kk h k)) (mfin i q kk h) (arun i q kk v h k) (vtile v k)

/-- The row sums of head `h`, spread over the lanes. -/
def lfin (i : grid0.Coords) (q : Vec F S1x2x512x128 .bf16) (kk : Vec F S1x2x4096x128 .bf16) (h : Fin 2) : Vec F S1x512x128 .f32 :=
  k0_pay57 (lrun i q kk h (qt i + 1))

/-- The block one grid point writes. -/
def outB (i : grid0.Coords) (q : Vec F S1x2x512x128 .bf16) (kk : Vec F S1x2x4096x128 .bf16) (v : Vec F S1x1x4096x128 .bf16) : Vec F S1x512x128 .bf16 :=
  k0_pay2 (arun i q kk v 0 (qt i + 1)) (lfin i q kk 0) (arun i q kk v 1 (qt i + 1)) (lfin i q kk 1)

/-! ## The second head's and the diagonal's payloads are the same functions -/

theorem pay4_eq (a b : Vec F S1x1x512x128 .bf16) : k0_pay4 a b = k0_pay26 (k0_pay6 a b) := rfl
theorem pay5_eq (a b : Vec F S1x1x512x128 .bf16) (x : Vec F S1x512x128 .f32) : k0_pay5 a b x = k0_pay27 (k0_pay6 a b) x := rfl
theorem pay31_eq (w : IVec S512x512 1) (a b : Vec F S1x1x512x128 .bf16) : k0_pay31 w a b = k0_pay26 (k0_pay30 w a b) := rfl
theorem pay38_eq (w : IVec S512x512 1) (a b : Vec F S1x1x512x128 .bf16) : k0_pay38 w a b = k0_pay26 (k0_pay30 w a b) := rfl
theorem pay36_eq (w : IVec S512x512 1) (a b : Vec F S1x1x512x128 .bf16) (x : Vec F S1x512x128 .f32) :
    k0_pay36 (k0_pay30 w a b) (k0_pay32 x) (k0_pay33 w a b) (k0_pay34 w a b) (k0_pay35 w a b) = k0_pay27 (k0_pay30 w a b) x := rfl
theorem pay39_eq (w : IVec S512x512 1) (a b : Vec F S1x1x512x128 .bf16) (x : Vec F S1x512x128 .f32) : k0_pay39 w a b x = k0_pay27 (k0_pay30 w a b) x := rfl
theorem pay41_eq (x : Vec F S1x512x128 .f32) : k0_pay41 x = k0_pay40 x := rfl
theorem pay43_eq (s : Vec F S1x1x512x512 .f32) (x y : Vec F S1x512x128 .f32) : k0_pay43 s x y = k0_pay12 s x y := rfl
theorem pay44_eq (s : Vec F S1x1x512x512 .f32) (x y : Vec F S1x512x128 .f32) (w : Vec F S1x1x512x128 .bf16) : k0_pay44 s x y w = k0_pay13 s x y w := rfl
theorem pay49_eq (s : Vec F S1x1x512x512 .f32) (x y : Vec F S1x512x128 .f32) : k0_pay49 (k0_pay48 s x) y = k0_pay12 s x y := rfl
theorem pay50_eq (s : Vec F S1x1x512x512 .f32) (x y : Vec F S1x512x128 .f32) (w : Vec F S1x1x512x128 .bf16) : k0_pay50 (k0_pay48 s x) y w = k0_pay13 s x y w := rfl
theorem pay55_eq (s : Vec F S1x1x512x512 .f32) (x y : Vec F S1x512x128 .f32) :
    k0_pay55 (k0_pay51 s x) (k0_pay52 y) (k0_pay53 s x) (k0_pay54 s x) = k0_pay12 s x y := rfl
theorem pay56_eq (s : Vec F S1x1x512x512 .f32) (x y : Vec F S1x512x128 .f32) (w : Vec F S1x1x512x128 .bf16) : k0_pay56 (k0_pay51 s x) y w = k0_pay13 s x y w := rfl
theorem pay1_eq (x : Vec F S1x512x128 .f32) : k0_pay1 (k0_pay58 x) = k0_pay57 x := rfl

/-! ## The scratch buffers, head by head -/

/-- A buffer of the pair with both heads replaced. -/
def put2 (x : Vec F S2x512x128 .f32) (a b : Vec F S1x512x128 .f32) : Vec F S2x512x128 .f32 :=
  VecWindow.put (s := S2x512x128) (VecWindow.put (s := S2x512x128) x ![0, 0, 0] S1x512x128.size a) ![1, 0, 0] S1x512x128.size b

theorem hd_put2_0 (x : Vec F S2x512x128 .f32) (a b : Vec F S1x512x128 .f32) : hd (put2 x a b) 0 = a :=
  (VecWindow.window_put_of_disjoint (s := S2x512x128) _ ![1, 0, 0] S1x512x128.size ![0, 0, 0] S1x512x128.size (in_m 0) b 0 (Or.inl (by decide))).trans
    (VecWindow.window_put_same (s := S2x512x128) x ![0, 0, 0] S1x512x128.size (in_m 0) a)

theorem hd_put2_1 (x : Vec F S2x512x128 .f32) (a b : Vec F S1x512x128 .f32) : hd (put2 x a b) 1 = b :=
  VecWindow.window_put_same (s := S2x512x128) _ ![1, 0, 0] S1x512x128.size (in_m 1) b

theorem hd_put0_1 (x : Vec F S2x512x128 .f32) (a : Vec F S1x512x128 .f32) : hd (VecWindow.put (s := S2x512x128) x ![0, 0, 0] S1x512x128.size a) 1 = hd x 1 :=
  VecWindow.window_put_of_disjoint (s := S2x512x128) x ![0, 0, 0] S1x512x128.size ![1, 0, 0] S1x512x128.size (in_m 1) a 0 (Or.inr (by decide))

/-- The scores' buffer with tile `k` of both heads replaced. -/
def putS (x : Vec F S2x8x512x512 .f32) (k : ℕ) (a b : Vec F S1x1x512x512 .f32) : Vec F S2x8x512x512 .f32 :=
  VecWindow.put (s := S2x8x512x512) (VecWindow.put (s := S2x8x512x512) x ![0, k % 8, 0, 0] S1x1x512x512.size a) ![1, k % 8, 0, 0] S1x1x512x512.size b

theorem ts_putS_0 (x : Vec F S2x8x512x512 .f32) (k : ℕ) (a b : Vec F S1x1x512x512 .f32) : ts (putS x k a b) 0 k = a :=
  (VecWindow.window_put_of_disjoint (s := S2x8x512x512) _ ![1, k % 8, 0, 0] S1x1x512x512.size ![0, k % 8, 0, 0] S1x1x512x512.size (in_s 0 k) b 0 (Or.inl (by show 0 + 1 ≤ 1; omega))).trans
    (VecWindow.window_put_same (s := S2x8x512x512) x ![0, k % 8, 0, 0] S1x1x512x512.size (in_s 0 k) a)

theorem ts_putS_1 (x : Vec F S2x8x512x512 .f32) (k : ℕ) (a b : Vec F S1x1x512x512 .f32) : ts (putS x k a b) 1 k = b :=
  VecWindow.window_put_same (s := S2x8x512x512) _ ![1, k % 8, 0, 0] S1x1x512x512.size (in_s 1 k) b

theorem ts_putS_ne (x : Vec F S2x8x512x512 .f32) (h : Fin 2) (k j : ℕ) (hj : j % 8 ≠ k % 8) (a b : Vec F S1x1x512x512 .f32) :
    ts (putS x k a b) h j = ts x h j := by
  have hd : j % 8 + 1 ≤ k % 8 ∨ k % 8 + 1 ≤ j % 8 := by omega
  exact (VecWindow.window_put_of_disjoint (s := S2x8x512x512) _ ![1, k % 8, 0, 0] S1x1x512x512.size ![h.val, j % 8, 0, 0] S1x1x512x512.size (in_s h j) b 1 hd).trans
    (VecWindow.window_put_of_disjoint (s := S2x8x512x512) x ![0, k % 8, 0, 0] S1x1x512x512.size ![h.val, j % 8, 0, 0] S1x1x512x512.size (in_s h j) a 1 hd)

/-- After `k` tiles of the first pass: the running maxima, and the tiles' scores kept. -/
def P1 (i : grid0.Coords) (q : Vec F S1x2x512x128 .bf16) (kk : Vec F S1x2x4096x128 .bf16) (k : ℕ)
    (x7 : Vec F S2x512x128 .f32) (x10 : Vec F S2x8x512x512 .f32) : Prop :=
  (∀ h, hd x7 h = mrun i q kk h k) ∧ ∀ h, ∀ j < k, ts x10 h j = k0_pay26 (stile i q kk h j)

theorem P1_zero (i : grid0.Coords) (q : Vec F S1x2x512x128 .bf16) (kk : Vec F S1x2x4096x128 .bf16) (x10 : Vec F S2x8x512x512 .f32) :
    P1 i q kk 0 k0_pay22 x10 := ⟨fun _ => rfl, fun _ j hj => absurd hj (Nat.not_lt_zero j)⟩

/-- One more tile. -/
theorem P1_succ (i : grid0.Coords) (q : Vec F S1x2x512x128 .bf16) (kk : Vec F S1x2x4096x128 .bf16) (k : ℕ) (hk : k < 8)
    (x7 : Vec F S2x512x128 .f32) (x10 : Vec F S2x8x512x512 .f32) (h : P1 i q kk k x7 x10) :
    P1 i q kk (k + 1) (put2 x7 (k0_pay27 (stile i q kk 0 k) (hd x7 0)) (k0_pay27 (stile i q kk 1 k) (hd x7 1)))
      (putS x10 k (k0_pay26 (stile i q kk 0 k)) (k0_pay26 (stile i q kk 1 k))) := by
  refine ⟨fun e => ?_, fun e j hj => ?_⟩
  · match e with
    | 0 => rw [hd_put2_0, h.1 0]; rfl
    | 1 => rw [hd_put2_1, h.1 1]; rfl
  · rcases Nat.lt_succ_iff_lt_or_eq.mp hj with hj | rfl
    · rw [ts_putS_ne _ _ _ _ (by omega)]; exact h.2 e j hj
    · match e with
      | 0 => exact ts_putS_0 _ _ _ _
      | 1 => exact ts_putS_1 _ _ _ _

/-- After `k` tiles of the second pass: the running sums and products. -/
def P3 (i : grid0.Coords) (q : Vec F S1x2x512x128 .bf16) (kk : Vec F S1x2x4096x128 .bf16) (v : Vec F S1x1x4096x128 .bf16) (k : ℕ)
    (x8 x9 : Vec F S2x512x128 .f32) : Prop :=
  (∀ h, hd x8 h = lrun i q kk h k) ∧ ∀ h, hd x9 h = arun i q kk v h k

theorem P3_zero (i : grid0.Coords) (q : Vec F S1x2x512x128 .bf16) (kk : Vec F S1x2x4096x128 .bf16) (v : Vec F S1x1x4096x128 .bf16) :
    P3 i q kk v 0 (k0_pay24 k0_pay23) k0_pay25 := ⟨fun _ => rfl, fun _ => rfl⟩

/-- One more tile. -/
theorem P3_succ (i : grid0.Coords) (q : Vec F S1x2x512x128 .bf16) (kk : Vec F S1x2x4096x128 .bf16) (v : Vec F S1x1x4096x128 .bf16) (k : ℕ)
    (x8 x9 : Vec F S2x512x128 .f32) (h : P3 i q kk v k x8 x9) :
    P3 i q kk v (k + 1)
      (put2 x8 (k0_pay12 (k0_pay26 (stile i q kk 0 k)) (mfin i q kk 0) (hd x8 0)) (k0_pay12 (k0_pay26 (stile i q kk 1 k)) (mfin i q kk 1) (hd x8 1)))
      (put2 x9 (k0_pay13 (k0_pay26 (stile i q kk 0 k)) (mfin i q kk 0) (hd x9 0) (vtile v k))
        (k0_pay13 (k0_pay26 (stile i q kk 1 k)) (mfin i q kk 1) (hd x9 1) (vtile v k))) := by
  refine ⟨fun e => ?_, fun e => ?_⟩
  · match e with
    | 0 => rw [hd_put2_0, h.1 0]; rfl
    | 1 => rw [hd_put2_1, h.1 1]; rfl
  · match e with
    | 0 => rw [hd_put2_0, h.2 0]; rfl
    | 1 => rw [hd_put2_1, h.2 1]; rfl

end Cert.KernelIdeal.Hand

end
-- ==== Proof.IRun.lean ====
/- The kernel's body at one grid point, run: from the three input blocks it leaves `outB` in the output block, whatever the
   scratch buffers held. -/
module

public import proofs.«01_k».proof.Proof.IStep
public import proofs.«01_k».proof.Proof.Gen.KernelIdeal.Launch
public import proofs.«01_k».proof.Proof.Gen.KernelIdeal.Points
public import Idealize.ShloMosaic.Lib.Pipeline.FrameBody
public import Idealize.ShloMosaic.Lib.Pipeline.TableIdle
public import Idealize.ShloMosaic.Lib.Tactic
public import Idealize.ShloMosaic.Lib.LoopRemainder

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref of the body held whole at the values `x`. -/
abbrev at_ (c : Dev nD) {sp : Space} {s : Shape} {e : EltTy} (r : Memref sig .tc sp s e) (x : Vec F s e) : sProp 𝕄 :=
  r.view.loc (c : Thread nD τ) ↦[r.view.set]{fullShare} r.view.rep x

/-! ## Loads and stores at the body's rectangles -/

/-- A load of one head of the query block. -/
theorem ld_q0 (r : Memref sig .tc .vmem S1x2x512x128 .bf16) (q : Vec F S1x2x512x128 .bf16)
    (inb : ∀ a, (![0, 0, 0, 0] : Fin 4 → ℕ) a + S1x1x512x128.size a ≤ S1x2x512x128.size a) :
    r.view.readAt (Elt F) (Rect.unit (s := S1x2x512x128) ![0, 0, 0, 0] S1x1x512x128.size inb).toLoadRect (r.view.rep q) = qh q 0 :=
  View.readAt_rep_unit _ _ _ rfl _
theorem ld_q1 (r : Memref sig .tc .vmem S1x2x512x128 .bf16) (q : Vec F S1x2x512x128 .bf16)
    (inb : ∀ a, (![0, 1, 0, 0] : Fin 4 → ℕ) a + S1x1x512x128.size a ≤ S1x2x512x128.size a) :
    r.view.readAt (Elt F) (Rect.unit (s := S1x2x512x128) ![0, 1, 0, 0] S1x1x512x128.size inb).toLoadRect (r.view.rep q) = qh q 1 :=
  View.readAt_rep_unit _ _ _ rfl _
/-- A load of one key tile. -/
theorem ld_k (r : Memref sig .tc .vmem S1x2x4096x128 .bf16) (kk : Vec F S1x2x4096x128 .bf16) (h : Fin 2) (k : ℕ) {off : Fin 4 → ℕ}
    (e : off = ![0, h.val, 512 * (k % 8), 0]) (inb : ∀ a, off a + S1x1x512x128.size a ≤ S1x2x4096x128.size a) :
    r.view.readAt (Elt F) (Rect.unit (s := S1x2x4096x128) off S1x1x512x128.size inb).toLoadRect (r.view.rep kk) = ktile kk h k :=
  View.readAt_rep_unit _ _ _ e _
/-- A load of one value tile. -/
theorem ld_v (r : Memref sig .tc .vmem S1x1x4096x128 .bf16) (v : Vec F S1x1x4096x128 .bf16) (k : ℕ) {off : Fin 4 → ℕ}
    (e : off = ![0, 0, 512 * (k % 8), 0]) (inb : ∀ a, off a + S1x1x512x128.size a ≤ S1x1x4096x128.size a) :
    r.view.readAt (Elt F) (Rect.unit (s := S1x1x4096x128) off S1x1x512x128.size inb).toLoadRect (r.view.rep v) = vtile v k :=
  View.readAt_rep_unit _ _ _ e _
/-- A load of one kept score tile. -/
theorem ld_s (r : Memref sig .tc .vmem S2x8x512x512 .f32) (x : Vec F S2x8x512x512 .f32) (h : Fin 2) (k : ℕ) {off : Fin 4 → ℕ}
    (e : off = ![h.val, k % 8, 0, 0]) (inb : ∀ a, off a + S1x1x512x512.size a ≤ S2x8x512x512.size a) :
    r.view.readAt (Elt F) (Rect.unit (s := S2x8x512x512) off S1x1x512x512.size inb).toLoadRect (r.view.rep x) = ts x h k :=
  View.readAt_rep_unit _ _ _ e _
/-- A load of one head of a scratch buffer of the pair, at any contents. -/
theorem ld_h0 (r : Memref sig .tc .vmem S2x512x128 .f32) (f : r.view.ty.Contents (Elt F)) (inb : ∀ a, (![0, 0, 0] : Fin 3 → ℕ) a + S1x512x128.size a ≤ S2x512x128.size a) :
    r.view.readAt (Elt F) (Rect.unit (s := S2x512x128) ![0, 0, 0] S1x512x128.size inb).toLoadRect f = hd (r.view.read (Elt F) f) 0 :=
  View.readAt_unit _ _ _ rfl _
theorem ld_h1 (r : Memref sig .tc .vmem S2x512x128 .f32) (f : r.view.ty.Contents (Elt F)) (inb : ∀ a, (![1, 0, 0] : Fin 3 → ℕ) a + S1x512x128.size a ≤ S2x512x128.size a) :
    r.view.readAt (Elt F) (Rect.unit (s := S2x512x128) ![1, 0, 0] S1x512x128.size inb).toLoadRect f = hd (r.view.read (Elt F) f) 1 :=
  View.readAt_unit _ _ _ rfl _
/-- The same loads as the run states them when the stores before them cover the rectangle. -/
theorem cov_h0 (r : Memref sig .tc .vmem S2x512x128 .f32) (L : List (View.Piece (Elt F) S2x512x128 .f32)) (inb : ∀ a, (![0, 0, 0] : Fin 3 → ℕ) a + S1x512x128.size a ≤ S2x512x128.size a) :
    r.view.readCov L (Rect.unit (s := S2x512x128) ![0, 0, 0] S1x512x128.size inb).toLoadRect = hd (r.view.read (Elt F) (r.view.writes (Elt F) r.view.junk L)) 0 :=
  View.readAt_unit _ _ _ rfl _
theorem cov_h1 (r : Memref sig .tc .vmem S2x512x128 .f32) (L : List (View.Piece (Elt F) S2x512x128 .f32)) (inb : ∀ a, (![1, 0, 0] : Fin 3 → ℕ) a + S1x512x128.size a ≤ S2x512x128.size a) :
    r.view.readCov L (Rect.unit (s := S2x512x128) ![1, 0, 0] S1x512x128.size inb).toLoadRect = hd (r.view.read (Elt F) (r.view.writes (Elt F) r.view.junk L)) 1 :=
  View.readAt_unit _ _ _ rfl _

/-- A head just stored, and a head stored before the other one. -/
theorem st_00 (r : Memref sig .tc .vmem S2x512x128 .f32) (f : r.view.ty.Contents (Elt F)) (inb : ∀ a, (![0, 0, 0] : Fin 3 → ℕ) a + S1x512x128.size a ≤ S2x512x128.size a)
    (a : Vec F S1x512x128 .f32) (L : List (View.Piece (Elt F) S2x512x128 .f32)) :
    hd (r.view.read (Elt F) (r.view.writes (Elt F) f (⟨Rect.unit (s := S2x512x128) ![0, 0, 0] S1x512x128.size inb, a⟩ :: L))) 0 = a := by
  refine (congrArg (fun x => hd x 0) (View.read_writes_cons_put (off' := ![0, 0, 0]) r.view f inb a L rfl)).trans ?_
  exact VecWindow.window_put_same (s := S2x512x128) _ ![0, 0, 0] S1x512x128.size (in_m 0) a
theorem st_11 (r : Memref sig .tc .vmem S2x512x128 .f32) (f : r.view.ty.Contents (Elt F)) (inb : ∀ a, (![1, 0, 0] : Fin 3 → ℕ) a + S1x512x128.size a ≤ S2x512x128.size a)
    (a : Vec F S1x512x128 .f32) (L : List (View.Piece (Elt F) S2x512x128 .f32)) :
    hd (r.view.read (Elt F) (r.view.writes (Elt F) f (⟨Rect.unit (s := S2x512x128) ![1, 0, 0] S1x512x128.size inb, a⟩ :: L))) 1 = a := by
  refine (congrArg (fun x => hd x 1) (View.read_writes_cons_put (off' := ![1, 0, 0]) r.view f inb a L rfl)).trans ?_
  exact VecWindow.window_put_same (s := S2x512x128) _ ![1, 0, 0] S1x512x128.size (in_m 1) a
theorem st_01 (r : Memref sig .tc .vmem S2x512x128 .f32) (f : r.view.ty.Contents (Elt F)) (inb : ∀ a, (![0, 0, 0] : Fin 3 → ℕ) a + S1x512x128.size a ≤ S2x512x128.size a)
    (a : Vec F S1x512x128 .f32) (L : List (View.Piece (Elt F) S2x512x128 .f32)) :
    hd (r.view.read (Elt F) (r.view.writes (Elt F) f (⟨Rect.unit (s := S2x512x128) ![0, 0, 0] S1x512x128.size inb, a⟩ :: L))) 1
      = hd (r.view.read (Elt F) (r.view.writes (Elt F) f L)) 1 := by
  refine (congrArg (fun x => hd x 1) (View.read_writes_cons_put (off' := ![0, 0, 0]) r.view f inb a L rfl)).trans ?_
  exact VecWindow.window_put_of_disjoint (s := S2x512x128) _ ![0, 0, 0] S1x512x128.size ![1, 0, 0] S1x512x128.size (in_m 1) a 0 (Or.inr (by decide))
theorem st_10 (r : Memref sig .tc .vmem S2x512x128 .f32) (f : r.view.ty.Contents (Elt F)) (inb : ∀ a, (![1, 0, 0] : Fin 3 → ℕ) a + S1x512x128.size a ≤ S2x512x128.size a)
    (a : Vec F S1x512x128 .f32) (L : List (View.Piece (Elt F) S2x512x128 .f32)) :
    hd (r.view.read (Elt F) (r.view.writes (Elt F) f (⟨Rect.unit (s := S2x512x128) ![1, 0, 0] S1x512x128.size inb, a⟩ :: L))) 0
      = hd (r.view.read (Elt F) (r.view.writes (Elt F) f L)) 0 := by
  refine (congrArg (fun x => hd x 0) (View.read_writes_cons_put (off' := ![1, 0, 0]) r.view f inb a L rfl)).trans ?_
  exact VecWindow.window_put_of_disjoint (s := S2x512x128) _ ![1, 0, 0] S1x512x128.size ![0, 0, 0] S1x512x128.size (in_m 0) a 0 (Or.inl (by decide))
/-- Both heads stored. -/
theorem st_2 (r : Memref sig .tc .vmem S2x512x128 .f32) (x : Vec F S2x512x128 .f32) (inb0 : ∀ a, (![0, 0, 0] : Fin 3 → ℕ) a + S1x512x128.size a ≤ S2x512x128.size a)
    (inb1 : ∀ a, (![1, 0, 0] : Fin 3 → ℕ) a + S1x512x128.size a ≤ S2x512x128.size a) (a b : Vec F S1x512x128 .f32) :
    r.view.read (Elt F) (r.view.writes (Elt F) (r.view.rep x)
      [⟨Rect.unit (s := S2x512x128) ![1, 0, 0] S1x512x128.size inb1, b⟩, ⟨Rect.unit (s := S2x512x128) ![0, 0, 0] S1x512x128.size inb0, a⟩]) = put2 x a b := by
  exact (View.read_writes_cons_put (off' := ![1, 0, 0]) r.view _ inb1 b _ rfl).trans
    (congrArg (fun y => VecWindow.put (s := S2x512x128) y ![1, 0, 0] S1x512x128.size b) (View.read_writes_rep_unit (off' := ![0, 0, 0]) r.view x inb0 a rfl))
/-- One score tile of each head stored. -/
theorem st_s (r : Memref sig .tc .vmem S2x8x512x512 .f32) (x : Vec F S2x8x512x512 .f32) (k : ℕ) {o0 o1 : Fin 4 → ℕ} (e0 : o0 = ![0, k % 8, 0, 0])
    (e1 : o1 = ![1, k % 8, 0, 0]) (inb0 : ∀ a, o0 a + S1x1x512x512.size a ≤ S2x8x512x512.size a) (inb1 : ∀ a, o1 a + S1x1x512x512.size a ≤ S2x8x512x512.size a)
    (a b : Vec F S1x1x512x512 .f32) :
    r.view.read (Elt F) (r.view.writes (Elt F) (r.view.rep x)
      [⟨Rect.unit (s := S2x8x512x512) o1 S1x1x512x512.size inb1, b⟩, ⟨Rect.unit (s := S2x8x512x512) o0 S1x1x512x512.size inb0, a⟩]) = putS x k a b := by
  exact (View.read_writes_cons_put (off' := ![1, k % 8, 0, 0]) r.view _ inb1 b _ e1).trans
    (congrArg (fun y => VecWindow.put (s := S2x8x512x512) y ![1, k % 8, 0, 0] S1x1x512x512.size b) (View.read_writes_rep_unit (off' := ![0, k % 8, 0, 0]) r.view x inb0 a e0))

theorem stile_lt (i : grid0.Coords) (q : Vec F S1x2x512x128 .bf16) (kk : Vec F S1x2x4096x128 .bf16) (h : Fin 2) {k : ℕ} (hk : k < qt i) :
    stile i q kk h k = k0_pay6 (qh q h) (ktile kk h k) := if_pos hk
theorem stile_qt (i : grid0.Coords) (q : Vec F S1x2x512x128 .bf16) (kk : Vec F S1x2x4096x128 .bf16) (h : Fin 2) :
    stile i q kk h (qt i) = k0_pay30 (mask i) (qh q h) (ktile kk h (qt i)) := if_neg (lt_irrefl _)

/-! ## The run -/

/-- The first pass before tile `k`. -/
def inv1 (c : Dev nD) (i : grid0.Coords) (arg3 : Memref sig .tc .vmem S1x2x512x128 .bf16) (arg4 : Memref sig .tc .vmem S1x2x4096x128 .bf16)
    (arg7 : Memref sig .tc .vmem S2x512x128 .f32) (arg10 : Memref sig .tc .vmem S2x8x512x512 .f32)
    (q : Vec F S1x2x512x128 .bf16) (kk : Vec F S1x2x4096x128 .bf16) (k : ℕ) (_ : Unit) : sProp 𝕄 :=
  iprop(∃ x7 x10, ⌜P1 i q kk k x7 x10⌝ ∗ at_ c arg3 q ∗ at_ c arg4 kk ∗ at_ c arg7 x7 ∗ at_ c arg10 x10)

/-- The second pass before tile `k`: the row maxima and the kept scores stand still. -/
def inv3 (c : Dev nD) (i : grid0.Coords) (arg5 : Memref sig .tc .vmem S1x1x4096x128 .bf16)
    (arg7 arg8 arg9 : Memref sig .tc .vmem S2x512x128 .f32) (arg10 : Memref sig .tc .vmem S2x8x512x512 .f32)
    (q : Vec F S1x2x512x128 .bf16) (kk : Vec F S1x2x4096x128 .bf16) (v : Vec F S1x1x4096x128 .bf16)
    (x7 : Vec F S2x512x128 .f32) (x10 : Vec F S2x8x512x512 .f32) (k : ℕ) (_ : Unit) : sProp 𝕄 :=
  iprop(∃ x8 x9, ⌜P3 i q kk v k x8 x9⌝ ∗ at_ c arg5 v ∗ at_ c arg7 x7 ∗ at_ c arg10 x10 ∗ at_ c arg8 x8 ∗ at_ c arg9 x9)

set_option maxHeartbeats 4000000 in
/-- The body at a grid point: the inputs stand, the output block holds `outB`, the scratch buffers hold something. -/
theorem run (c : Dev nD) (i : grid0.Coords)
    (arg3 : Memref sig .tc .vmem S1x2x512x128 .bf16) (harg3 : arg3.IsWhole) (arg4 : Memref sig .tc .vmem S1x2x4096x128 .bf16) (harg4 : arg4.IsWhole)
    (arg5 : Memref sig .tc .vmem S1x1x4096x128 .bf16) (harg5 : arg5.IsWhole) (arg6 : Memref sig .tc .vmem S1x512x128 .bf16) (harg6 : arg6.IsWhole)
    (arg7 : Memref sig .tc .vmem S2x512x128 .f32) (harg7 : arg7.IsWhole) (arg8 : Memref sig .tc .vmem S2x512x128 .f32) (harg8 : arg8.IsWhole)
    (arg9 : Memref sig .tc .vmem S2x512x128 .f32) (harg9 : arg9.IsWhole) (arg10 : Memref sig .tc .vmem S2x8x512x512 .f32) (harg10 : arg10.IsWhole)
    (q : Vec F S1x2x512x128 .bf16) (kk : Vec F S1x2x4096x128 .bf16) (v : Vec F S1x1x4096x128 .bf16)
    (x6 : Vec F S1x512x128 .bf16) (x7 x8 x9 : Vec F S2x512x128 .f32) (x10 : Vec F S2x8x512x512 .f32) (K : PUnit → sProp 𝕄) :
    iprop(at_ c arg3 q ∗ at_ c arg4 kk ∗ at_ c arg5 v ∗ at_ c arg6 x6 ∗ at_ c arg7 x7 ∗ at_ c arg8 x8 ∗ at_ c arg9 x9 ∗ at_ c arg10 x10
      ∗ (iprop(at_ c arg3 q ∗ at_ c arg4 kk ∗ at_ c arg5 v ∗ at_ c arg6 (outB i q kk v)
          ∗ (∃ x, at_ (F := F) c arg7 x) ∗ (∃ x, at_ (F := F) c arg8 x) ∗ (∃ x, at_ (F := F) c arg9 x) ∗ (∃ x, at_ (F := F) c arg10 x)) -∗ K ⟨⟩))
      ⊢ wp frame (wpE (defs₀ (F := F)) Variants.none c none) Set.univ
          (cc0_mla_attention i arg3 harg3 arg4 harg4 arg5 harg5 arg6 harg6 arg7 harg7 arg8 harg8 arg9 harg9 arg10 harg10) K := by
  simp only [cc0_mla_attention_eq_skeleton]; unfold cc0_mla_attention_skel
  iintro ⟨H3, H4, H5, H6, H7, H8, H9, H10, Hk⟩
  sl_exec
  ihave G7 := (pointsTo_rep_of_read (Ix := Unit) (Name := ℕ) (U := UR sig nD τ) (Lvl := ℕ) (c : Thread nD τ) arg7 _ fullShare k0_pay22 (by unfold run.sl.H7_1; exact View.read_writes_full _ _ _ _ _)) $$ H7
  sl_for (inv1 c i arg3 arg4 arg7 arg10 q kk) $$ [H3 H4 G7 H10]
  case region =>
    intro k a; unfold inv1
    iintro ⟨%y7, %y10, %hP, H3, H4, H7, H10⟩
    sl_exec
    sl_step
    have hk : k.val < qt i := lt_of_lt_of_eq k.isLt (trips1 i)
    iexists put2 y7 (k0_pay27 (stile i q kk 0 k) (hd y7 0)) (k0_pay27 (stile i q kk 1 k) (hd y7 1)),
      putS y10 k (k0_pay26 (stile i q kk 0 k)) (k0_pay26 (stile i q kk 1 k))
    isplitr; · ipureintro; exact P1_succ i q kk k (hk.trans (qt_lt i)) y7 y10 hP
    isplitl [H3]; · iexact H3
    isplitl [H4]; · iexact H4
    isplitl [H7]
    · iapply (pointsTo_rep_of_read (Ix := Unit) (Name := ℕ) (U := UR sig nD τ) (Lvl := ℕ) (c : Thread nD τ) arg7 _ fullShare _ ?_) $$ H7
      rw [st_2, stile_lt i q kk 0 hk, stile_lt i q kk 1 hk]
      unfold run.sl.r_1 run.sl.v305
      rw [ld_h0, ld_h1, ld_q0, ld_q1, ld_k arg4 kk 0 k (off1_eq i k), ld_k arg4 kk 1 k (off3_eq i k), View.read_rep, pay5_eq]
    · iapply (pointsTo_rep_of_read (Ix := Unit) (Name := ℕ) (U := UR sig nD τ) (Lvl := ℕ) (c : Thread nD τ) arg10 _ fullShare _ ?_) $$ H10
      rw [st_s _ _ k (off2_eq i k) (off4_eq i k), stile_lt i q kk 0 hk, stile_lt i q kk 1 hk]
      unfold run.sl.r_1
      rw [ld_q0, ld_q1, ld_k arg4 kk 0 k (off1_eq i k), ld_k arg4 kk 1 k (off3_eq i k), pay4_eq]
  · unfold inv1
    iexists k0_pay22, x10
    isplitr; · ipureintro; exact P1_zero i q kk x10
    isplitl [H3]; · iexact H3
    isplitl [H4]; · iexact H4
    isplitl [G7]; · iexact G7
    iexact H10
  iintro %a HI
  unfold inv1; icases HI with ⟨%y7, %y10, %hP, H3, H4, H7, H10⟩
  sl_exec
  have hP' : P1 i q kk (qt i) y7 y10 := (trips1 i) ▸ hP
  have hm : run.sl.r i = mask i := rfl
  have e7 : ∀ h, hd (arg7.view.read (Elt F) (arg7.view.writes (Elt F) arg7.view.junk (run.sl.H7_4 i arg3 arg4 arg7 q kk y7))) h = mfin i q kk h := by
    unfold run.sl.H7_4 run.sl.v156 run.sl.H7_3 run.sl.v147 run.sl.H7_2
    intro h
    match h with
    | 0 =>
      rw [st_10, st_00, cov_h0, st_10, st_00]
      unfold run.sl.r_2 run.sl.r_3 run.sl.r_4 run.sl.r_5 run.sl.r_6
      rw [hm, pay36_eq, ld_q0, ld_k arg4 kk 0 (qt i) (off9_eq i), ← stile_qt, ld_h0, View.read_rep, hP'.1 0]
      rfl
    | 1 =>
      unfold run.sl.v134
      rw [st_11, cov_h1, st_01, st_11, pay41_eq, hm, pay39_eq, ld_q1, ld_k arg4 kk 1 (qt i) (off11_eq i), ← stile_qt, ld_h1, View.read_rep, hP'.1 1]
      rfl
  have P1s := (P1_succ i q kk (qt i) (qt_lt i) y7 y10 hP').2
  ihave G7 := (pointsTo_rep_entails (Ix := Unit) (Name := ℕ) (U := UR sig nD τ) (Lvl := ℕ) (c : Thread nD τ) arg7 _ fullShare) $$ H7
  ihave G8 := (pointsTo_rep_of_read (Ix := Unit) (Name := ℕ) (U := UR sig nD τ) (Lvl := ℕ) (c : Thread nD τ) arg8 _ fullShare (k0_pay24 k0_pay23) (by unfold run.sl.H8_1; exact View.read_writes_full _ _ _ _ _)) $$ H8
  ihave G9 := (pointsTo_rep_of_read (Ix := Unit) (Name := ℕ) (U := UR sig nD τ) (Lvl := ℕ) (c : Thread nD τ) arg9 _ fullShare k0_pay25 (by unfold run.sl.H9_1; exact View.read_writes_full _ _ _ _ _)) $$ H9
  ihave G10 := (pointsTo_rep_of_read (Ix := Unit) (Name := ℕ) (U := UR sig nD τ) (Lvl := ℕ) (c : Thread nD τ) arg10 _ fullShare
    (putS y10 (qt i) (k0_pay26 (stile i q kk 0 (qt i))) (k0_pay26 (stile i q kk 1 (qt i)))) (by
      rw [st_s _ _ (qt i) (off10_eq i) (off12_eq i), stile_qt, stile_qt, hm, ld_q0, ld_q1, ld_k arg4 kk 0 (qt i) (off9_eq i), ld_k arg4 kk 1 (qt i) (off11_eq i),
        pay31_eq, pay38_eq])) $$ H10
  generalize hz7 : arg7.view.read (Elt F) (arg7.view.writes (Elt F) arg7.view.junk (run.sl.H7_4 i arg3 arg4 arg7 q kk y7)) = z7
  rw [hz7] at e7
  generalize hz10 : putS y10 (qt i) (k0_pay26 (stile i q kk 0 (qt i))) (k0_pay26 (stile i q kk 1 (qt i))) = z10
  rw [hz10] at P1s
  sl_for (inv3 c i arg5 arg7 arg8 arg9 arg10 q kk v z7 z10) $$ [H5 G7 G8 G9 G10]
  case region =>
    intro k b; unfold inv3
    iintro ⟨%y8, %y9, %hQ, H5, H7, H10, H8, H9⟩
    sl_exec
    sl_step
    have hk : k.val < qt i := lt_of_lt_of_eq k.isLt (trips3 i)
    iexists put2 y8 (k0_pay12 (k0_pay26 (stile i q kk 0 k)) (mfin i q kk 0) (hd y8 0)) (k0_pay12 (k0_pay26 (stile i q kk 1 k)) (mfin i q kk 1) (hd y8 1)),
      put2 y9 (k0_pay13 (k0_pay26 (stile i q kk 0 k)) (mfin i q kk 0) (hd y9 0) (vtile v k))
        (k0_pay13 (k0_pay26 (stile i q kk 1 k)) (mfin i q kk 1) (hd y9 1) (vtile v k))
    isplitr; · ipureintro; exact P3_succ i q kk v k y8 y9 hQ
    isplitl [H5]; · iexact H5
    isplitl [H7]; · iexact H7
    isplitl [H10]; · iexact H10
    isplitl [H8]
    · iapply (pointsTo_rep_of_read (Ix := Unit) (Name := ℕ) (U := UR sig nD τ) (Lvl := ℕ) (c : Thread nD τ) arg8 _ fullShare _ ?_) $$ H8
      unfold run.sl.v312
      rw [st_2, pay43_eq, ld_s arg10 z10 0 k (off13_eq i k), ld_s arg10 z10 1 k (off15_eq i k), P1s 0 k (hk.trans (Nat.lt_succ_self _)), P1s 1 k (hk.trans (Nat.lt_succ_self _)),
        ld_h0, ld_h1, ld_h0, ld_h1, View.read_rep, View.read_rep, e7 0, e7 1]
    · iapply (pointsTo_rep_of_read (Ix := Unit) (Name := ℕ) (U := UR sig nD τ) (Lvl := ℕ) (c : Thread nD τ) arg9 _ fullShare _ ?_) $$ H9
      unfold run.sl.v325
      rw [st_2, pay44_eq, ld_s arg10 z10 0 k (off13_eq i k), ld_s arg10 z10 1 k (off15_eq i k), P1s 0 k (hk.trans (Nat.lt_succ_self _)), P1s 1 k (hk.trans (Nat.lt_succ_self _)),
        ld_h0, ld_h1, ld_h0, ld_h1, View.read_rep, View.read_rep, e7 0, e7 1, ld_v arg5 v k (off14_eq i k)]
  · unfold inv3
    iexists k0_pay24 k0_pay23, k0_pay25
    isplitr; · ipureintro; exact P3_zero i q kk v
    isplitl [H5]; · iexact H5
    isplitl [G7]; · iexact G7
    isplitl [G10]; · iexact G10
    isplitl [G8]; · iexact G8
    iexact G9
  iintro %b HI
  unfold inv3; icases HI with ⟨%y8, %y9, %hQ, H5, H7, H10, H8, H9⟩
  sl_exec
  sl_step
  have hQ' : P3 i q kk v (qt i) y8 y9 := (trips3 i) ▸ hQ
  have s0 := P1s 0 (qt i) (Nat.lt_succ_self _)
  have s1 := P1s 1 (qt i) (Nat.lt_succ_self _)
  have a0 : run.sl.v253 i arg5 arg7 arg9 arg10 v z7 z10 y9 = arun i q kk v 0 (qt i + 1) := by
    unfold run.sl.v253 run.sl.H9_2 run.sl.r_7
    rw [cov_h0, st_10, st_00, pay50_eq, ld_s arg10 z10 0 (qt i) (off10_eq i), s0, ld_h0, ld_h0, View.read_rep, View.read_rep, e7 0, hQ'.2 0, ld_v arg5 v (qt i) (off19_eq i)]
    rfl
  have a1 : run.sl.v258 i arg5 arg7 arg9 arg10 v z7 z10 y9 = arun i q kk v 1 (qt i + 1) := by
    unfold run.sl.v258 run.sl.H9_2 run.sl.r_8 run.sl.v223
    rw [cov_h1, st_11, pay56_eq, ld_s arg10 z10 1 (qt i) (off12_eq i), s1, ld_h1, ld_h1, View.read_rep, View.read_rep, e7 1, hQ'.2 1, ld_v arg5 v (qt i) (off19_eq i)]
    rfl
  have l0 : run.sl.v255 i arg7 arg8 arg10 z7 z10 y8 = lfin i q kk 0 := by
    unfold run.sl.v255 run.sl.H8_4 run.sl.H8_3 run.sl.v234 run.sl.H8_2 run.sl.r_7
    rw [cov_h0, st_10, st_00, cov_h0, st_10, st_00, pay49_eq, ld_s arg10 z10 0 (qt i) (off10_eq i), s0, ld_h0, ld_h0, View.read_rep, View.read_rep, e7 0, hQ'.1 0]
    rfl
  have l1 : run.sl.v260 i arg7 arg8 arg10 z7 z10 y8 = lfin i q kk 1 := by
    unfold run.sl.v260 run.sl.H8_4 run.sl.r_12 run.sl.v243 run.sl.H8_3 run.sl.H8_2 run.sl.r_8 run.sl.r_9 run.sl.r_10 run.sl.r_11 run.sl.v210
    rw [cov_h1, st_11, pay1_eq, cov_h1, st_01, st_11, pay55_eq, ld_s arg10 z10 1 (qt i) (off12_eq i), s1, ld_h1, ld_h1, View.read_rep, View.read_rep, e7 1, hQ'.1 1]
    rfl
  iapply Hk
  isplitl [H3]; · iexact H3
  isplitl [H4]; · iexact H4
  isplitl [H5]; · iexact H5
  isplitl [H6]
  · iapply (pointsTo_rep_of_read (Ix := Unit) (Name := ℕ) (U := UR sig nD τ) (Lvl := ℕ) (c : Thread nD τ) arg6 _ fullShare _ ?_) $$ H6
    rw [a0, a1, l0, l1]
    exact View.read_writes_full _ _ _ _ _
  isplitl [H7]; · iexists _; iexact H7
  isplitl [H8]
  · ihave G8 := (pointsTo_rep_entails (Ix := Unit) (Name := ℕ) (U := UR sig nD τ) (Lvl := ℕ) (c : Thread nD τ) arg8 _ fullShare) $$ H8
    iexists _; iexact G8
  isplitl [H9]
  · ihave G9 := (pointsTo_rep_entails (Ix := Unit) (Name := ℕ) (U := UR sig nD τ) (Lvl := ℕ) (c : Thread nD τ) arg9 _ fullShare) $$ H9
    iexists _; iexact G9
  iexists _; iexact H10

end Cert.KernelIdeal.Hand

end
-- ==== Proof.IFrame.lean ====
/- The kernel's launch: every grid point's body leaves `outB` of its three input blocks in the output window, so the whole
   call runs, leaves its arguments as they were and every semaphore counter at zero. -/
module

public import proofs.«01_k».proof.Proof.IRun
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block the body leaves at grid point `t`. -/
def outAt (c : Dev nD) (t : Fin cfg0.N) : Vec F S1x512x128 .bf16 :=
  outB (grid0.coords t) (iblk m c 0 t) (iblk m c 1 t) (iblk m c 2 t)

/-- The launch's data: the arrays as the call finds them, each input window's block kept, the output window's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

theorem before_0 (c : Dev nD) (t : Fin cfg0.N) (d) : (dats m 0 c).before 0 t d = iblk m c 0 t :=
  before0_0_of m _ (A_eq m c 0) (after_0 m c) t d
theorem before_1 (c : Dev nD) (t : Fin cfg0.N) (d) : (dats m 0 c).before 1 t d = iblk m c 1 t :=
  before0_1_of m _ (A_eq m c 1) (after_1 m c) t d
theorem before_2 (c : Dev nD) (t : Fin cfg0.N) (d) : (dats m 0 c).before 2 t d = iblk m c 2 t :=
  before0_2_of m _ (A_eq m c 2) (after_2 m c) t d

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- What the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- A scratch buffer at some contents is that buffer's memref at some values. -/
theorem scr_in (c : Dev nD) (b : Ref sig .tc) :
    iprop(∃ f : Buf (Elt F) ((c : Thread nD τ).loc b), ((c : Thread nD τ).loc b) ↦{fullShare} f)
      ⊢ (iprop(∃ x, owns (c : Thread nD τ) (Memref.whole b) fullShare x) : sProp 𝕄) := by
  iintro ⟨%f, H⟩
  iexists f
  rw [owns_whole]
  iexact H
theorem scr_out (c : Dev nD) (b : Ref sig .tc) :
    (iprop(∃ x, owns (c : Thread nD τ) (Memref.whole b) fullShare x) : sProp 𝕄)
      ⊢ iprop(∃ f : Buf (Elt F) ((c : Thread nD τ).loc b), ((c : Thread nD τ).loc b) ↦{fullShare} f) := by
  iintro ⟨%f, H⟩
  iexists f
  iapply (Entails.of_eq (owns_whole (c : Thread nD τ) b fullShare f)) $$ H

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl,
    after_0, after_1, after_2, after_3]
  simp only [before_0, before_1, before_2]
  unfold Dat.owesAt Pipeline.owesWithin Pipeline.ΦA
  rw [show (dats m 0 c).owed t.castSucc = 0 from rfl, show (dats m 0 c).owed t.succ = 0 from rfl, scopedRest0_eq]
  unfold outAt
  iintro ⟨⟨⟨HS0, HS1, HS2, HS3⟩, Hg⟩, HW, ⟨%d0, H0⟩, ⟨%d1, H1⟩, ⟨%d2, H2⟩, ⟨%d3, H3⟩⟩
  ihave G0 := (scr_in c cc0_scratch0) $$ HS0
  ihave G1 := (scr_in c cc0_scratch1) $$ HS1
  ihave G2 := (scr_in c cc0_scratch2) $$ HS2
  ihave G3 := (scr_in c cc0_scratch3) $$ HS3
  icases G0 with ⟨%f0, G0⟩
  icases G1 with ⟨%f1, G1⟩
  icases G2 with ⟨%f2, G2⟩
  icases G3 with ⟨%f3, G3⟩
  iapply (run c (grid0.coords t) _ _ _ _ _ _ _ _ _ _ _ _ _ _ _ _ (iblk m c 0 t) (iblk m c 1 t) (iblk m c 2 t) _ f0 f1 f2 f3 _)
  isplitl [H0]; · iapply (rep_of_owns (c : Thread nD τ) _ _ _) $$ H0
  isplitl [H1]; · iapply (rep_of_owns (c : Thread nD τ) _ _ _) $$ H1
  isplitl [H2]; · iapply (rep_of_owns (c : Thread nD τ) _ _ _) $$ H2
  isplitl [H3]; · iapply (rep_of_owns (c : Thread nD τ) _ _ _) $$ H3
  isplitl [G0]; · iapply (rep_of_owns (c : Thread nD τ) _ _ _) $$ G0
  isplitl [G1]; · iapply (rep_of_owns (c : Thread nD τ) _ _ _) $$ G1
  isplitl [G2]; · iapply (rep_of_owns (c : Thread nD τ) _ _ _) $$ G2
  isplitl [G3]; · iapply (rep_of_owns (c : Thread nD τ) _ _ _) $$ G3
  iintro ⟨H0, H1, H2, H3, ⟨%x0, G0⟩, ⟨%x1, G1⟩, ⟨%x2, G2⟩, ⟨%x3, G3⟩⟩
  isplitl [G0 G1 G2 G3 Hg]
  · isplitl [G0 G1 G2 G3]
    · isplitl [G0]; · iapply (scr_out c cc0_scratch0); iexists x0; iapply (owns_of_rep (c : Thread nD τ) _ _ _) $$ G0
      isplitl [G1]; · iapply (scr_out c cc0_scratch1); iexists x1; iapply (owns_of_rep (c : Thread nD τ) _ _ _) $$ G1
      isplitl [G2]; · iapply (scr_out c cc0_scratch2); iexists x2; iapply (owns_of_rep (c : Thread nD τ) _ _ _) $$ G2
      iapply (scr_out c cc0_scratch3); iexists x3; iapply (owns_of_rep (c : Thread nD τ) _ _ _) $$ G3
    iexact Hg
  isplitl [HW]; · iexact HW
  isplitl [H0]; · iapply (owns_of_rep (c : Thread nD τ) _ _ _) $$ H0
  isplitl [H1]; · iapply (owns_of_rep (c : Thread nD τ) _ _ _) $$ H1
  isplitl [H2]; · iapply (owns_of_rep (c : Thread nD τ) _ _ _) $$ H2
  iapply (owns_of_rep (c : Thread nD τ) _ _ _) $$ H3

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The call runs: every window's array ends at its launch data's contents, every counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the call runs, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) (A_eq m)) (run_main m ρ)

end Cert.KernelIdeal.Hand

end
-- ==== Proof.Soft.lean ====
/- The arithmetic of one row of the softmax over the extended reals, and the words the causal mask compares. -/
module

public import Idealize.ShloMosaic.Lib.Pointwise
public import Idealize.ShloMosaic.Lib.WordCmp

@[expose] public section

noncomputable section

namespace Cert.Soft

open Idealize.ShloMosaic

/-- The bit pattern of minus infinity. -/
theorem ofBits_ninf : Ideal.ofBits FTy.f32 0xFF800000#32 = ⊥ := by simp [Ideal.ofBits, Ideal.ieee]
/-- The bit pattern of infinity. -/
theorem ofBits_inf : Ideal.ofBits FTy.f32 0x7F800000#32 = ⊤ := by simp [Ideal.ofBits, Ideal.ieee]
/-- The bit pattern of two. -/
theorem ofBits_two : Ideal.ofBits FTy.f32 0x40000000#32 = ((2 : ℝ) : EReal) := by
  simp [Ideal.ofBits, Ideal.ieee, -EReal.coe_mul]; norm_num

/-- A maximum started at minus infinity is a supremum. -/
theorem fold_max_bot {ι : Type} (S : Finset ι) (f : ι → EReal) : Finset.fold max ⊥ f S = S.sup f := rfl

theorem exp2_bot : Ideal.exp2 ⊥ = 0 := rfl
theorem exp2_top : Ideal.exp2 ⊤ = ⊤ := rfl

/-- A power of two, by either operation. -/
theorem pow_two (x : EReal) : Ideal.pow ((2 : ℝ) : EReal) x = Ideal.exp2 x := by
  induction x with
  | bot => rw [exp2_bot, Ideal.pow_coe_bot, if_neg (by norm_num), if_pos (by norm_num)]
  | top => rw [exp2_top, Ideal.pow_coe_top, if_neg (by norm_num), if_pos (by norm_num)]
  | coe r => rfl

theorem exp2_nonneg (x : EReal) : 0 ≤ Ideal.exp2 x := by
  induction x with
  | bot => exact exp2_bot.ge
  | top => rw [exp2_top]; exact le_top
  | coe r => exact EReal.coe_nonneg.mpr (Real.rpow_nonneg (by norm_num) _)

theorem exp2_ne_top (x : EReal) (hx : x ≠ ⊤) : Ideal.exp2 x ≠ ⊤ := by
  induction x with
  | bot => rw [exp2_bot]; exact EReal.zero_ne_top
  | top => exact absurd rfl hx
  | coe r => exact EReal.coe_ne_top _

theorem exp2_zero : Ideal.exp2 0 = 1 := by
  show ((Real.rpow 2 0 : ℝ) : EReal) = 1
  simp

theorem sum_ne_top {ι : Type} (S : Finset ι) (f : ι → EReal) (hf : ∀ i ∈ S, f i ≠ ⊤) : ∑ i ∈ S, f i ≠ ⊤ := by
  classical
  induction S using Finset.induction_on with
  | empty => simp
  | insert a S ha ih =>
    rw [Finset.sum_insert ha]
    exact EReal.add_ne_top (hf a (Finset.mem_insert_self ..)) (ih fun i hi => hf i (Finset.mem_insert_of_mem hi))

theorem sum_ne_bot {ι : Type} (S : Finset ι) (f : ι → EReal) (hf : ∀ i ∈ S, f i ≠ ⊥) : ∑ i ∈ S, f i ≠ ⊥ := by
  classical
  induction S using Finset.induction_on with
  | empty => simp
  | insert a S ha ih =>
    rw [Finset.sum_insert ha]
    exact EReal.add_ne_bot_iff.mpr ⟨hf a (Finset.mem_insert_self ..), ih fun i hi => hf i (Finset.mem_insert_of_mem hi)⟩

theorem mul_ne_top (x y : EReal) (hx : x ≠ ⊤ ∧ x ≠ ⊥) (hy : y ≠ ⊤ ∧ y ≠ ⊥) : x * y ≠ ⊤ := by
  lift x to ℝ using hx
  lift y to ℝ using hy
  rw [← EReal.coe_mul]; exact EReal.coe_ne_top _
theorem mul_ne_bot (x y : EReal) (hx : x ≠ ⊤ ∧ x ≠ ⊥) (hy : y ≠ ⊤ ∧ y ≠ ⊥) : x * y ≠ ⊥ := by
  lift x to ℝ using hx
  lift y to ℝ using hy
  rw [← EReal.coe_mul]; exact EReal.coe_ne_bot _

/-- A finite nonnegative factor goes into a sum. -/
theorem sum_mul_const {ι : Type} (S : Finset ι) (f : ι → EReal) (c : EReal) (h0 : 0 ≤ c) (hc : c ≠ ⊤) : (∑ i ∈ S, f i) * c = ∑ i ∈ S, f i * c := by
  classical
  induction S using Finset.induction_on with
  | empty => simp
  | insert a S ha ih => rw [Finset.sum_insert ha, Finset.sum_insert ha, EReal.right_distrib_of_nonneg_of_ne_top h0 hc, ih]

/-- Weighting and then dividing by the weights' sum is weighting by the quotients: one row of a softmax whose scores are
    below infinity and not all minus infinity. The values are arbitrary. -/
theorem soft {ι : Type} [Fintype ι] (s v : ι → EReal) (hs : ∀ k, s k ≠ ⊤) (k0 : ι) (h0 : s k0 ≠ ⊥) :
    Ideal.div (∑ k, Ideal.exp2 (s k - Finset.univ.sup s) * v k) (∑ k, Ideal.exp2 (s k - Finset.univ.sup s))
      = ∑ k, v k * Ideal.div (Ideal.exp2 (s k - Finset.univ.sup s)) (∑ k, Ideal.exp2 (s k - Finset.univ.sup s)) := by
  obtain ⟨k1, -, h1⟩ := Finset.exists_mem_eq_sup Finset.univ ⟨k0, Finset.mem_univ _⟩ s
  have hle : s k0 ≤ Finset.univ.sup s := Finset.le_sup (f := s) (Finset.mem_univ k0)
  generalize Finset.univ.sup s = M at h1 hle ⊢
  have hMt : M ≠ ⊤ := h1 ▸ hs k1
  have hMb : M ≠ ⊥ := fun h => h0 (le_bot_iff.mp (h ▸ hle))
  have hd : ∀ k, s k - M ≠ ⊤ := fun k => by
    rw [sub_eq_add_neg]
    exact EReal.add_ne_top (hs k) (fun h => hMb (EReal.neg_eq_top_iff.mp h))
  have he : Ideal.exp2 (s k1 - M) = 1 := by rw [← h1, EReal.sub_self hMt hMb, exp2_zero]
  have hL1 : 1 ≤ ∑ k, Ideal.exp2 (s k - M) := he ▸ Finset.single_le_sum (f := fun k => Ideal.exp2 (s k - M)) (fun k _ => exp2_nonneg _) (Finset.mem_univ k1)
  have hLt : ∑ k, Ideal.exp2 (s k - M) ≠ ⊤ := sum_ne_top _ _ fun k _ => exp2_ne_top _ (hd k)
  generalize ∑ k, Ideal.exp2 (s k - M) = L at hL1 hLt ⊢
  have hL0 : L ≠ 0 := fun h => by rw [h] at hL1; exact absurd hL1 (by norm_num)
  have hp : 0 ≤ L := le_trans zero_le_one hL1
  have hi0 : 0 ≤ L⁻¹ := EReal.inv_nonneg_of_nonneg hp
  have hit : L⁻¹ ≠ ⊤ := by
    lift L to ℝ using ⟨hLt, fun h => by rw [h] at hL1; exact absurd (le_bot_iff.mp hL1) (by exact EReal.coe_ne_bot 1)⟩
    rw [← EReal.coe_inv]; exact EReal.coe_ne_top _
  simp only [Ideal.div, if_neg hL0]
  rw [sum_mul_const _ _ _ hi0 hit]
  exact Finset.sum_congr rfl fun k _ => by rw [mul_comm (Ideal.exp2 _) (v k), mul_assoc]

/-- A lane of a tile's row: lane `l` of the `u`-th group of 128. -/
def lane (u : Fin 4) (l : Fin 128) : Fin 512 := ⟨128 * u.val + l.val, by omega⟩

theorem lane_zero (l : Fin 128) (h : l.val < 512) : (⟨l.val, h⟩ : Fin 512) = lane 0 l := Fin.ext (by simp [lane])

/-- A row's sum by lanes. -/
theorem sum_lanes (g : Fin 512 → EReal) : ∑ l : Fin 128, ∑ u : Fin 4, g (lane u l) = ∑ c, g c := by
  rw [Finset.sum_comm, ← Fintype.sum_prod_type', ← (finProdFinEquiv (m := 4) (n := 128)).sum_comp]
  exact Finset.sum_congr rfl fun x _ => congrArg g (Fin.ext (by simp [lane, finProdFinEquiv, add_comm]))

/-- A row's supremum by lanes. -/
theorem sup_lanes (g : Fin 512 → EReal) : (Finset.univ.sup fun l : Fin 128 => Finset.univ.sup fun u : Fin 4 => g (lane u l)) = Finset.univ.sup g := by
  refine le_antisymm (Finset.sup_le fun l _ => Finset.sup_le fun u _ => Finset.le_sup (Finset.mem_univ _)) (Finset.sup_le fun c _ => ?_)
  have hc : c = lane ⟨c.val / 128, by omega⟩ ⟨c.val % 128, by omega⟩ := Fin.ext (by simp only [lane]; omega)
  rw [hc]
  exact le_trans (Finset.le_sup (f := fun u : Fin 4 => g (lane u ⟨c.val % 128, by omega⟩)) (Finset.mem_univ _))
    (Finset.le_sup (f := fun l : Fin 128 => Finset.univ.sup fun u : Fin 4 => g (lane u l)) (Finset.mem_univ _))

/-- The key at place `c` of tile `j`. -/
def key (j : ℕ) (hj : j < 8) (c : Fin 512) : Fin 4096 := ⟨512 * j + c.val, by omega⟩

/-- A sum over the tiles up to `t` is the sum over all keys, where the later keys give nothing. -/
theorem sum_tiles (f : Fin 4096 → EReal) (g : ℕ → Fin 512 → EReal) (t : ℕ) (ht : t < 8) (hg : ∀ j (hj : j < 8), j ≤ t → ∀ c, g j c = f (key j hj c))
    (h0 : ∀ n : Fin 4096, 512 * (t + 1) ≤ n.val → f n = 0) : ∑ j ∈ Finset.range (t + 1), ∑ c, g j c = ∑ n, f n := by
  have e : ∑ n, f n = ∑ j : Fin 8, ∑ c : Fin 512, f (key j.val j.isLt c) := by
    rw [← (finProdFinEquiv (m := 8) (n := 512)).sum_comp, Fintype.sum_prod_type]
    exact Finset.sum_congr rfl fun j _ => Finset.sum_congr rfl fun c _ => congrArg f (Fin.ext (by simp [key, finProdFinEquiv, add_comm]))
  have e2 : ∑ j : Fin 8, ∑ c : Fin 512, f (key j.val j.isLt c) = ∑ j ∈ Finset.range 8, if j ≤ t then ∑ c, g j c else 0 := by
    rw [Finset.sum_range]
    refine Finset.sum_congr rfl fun j _ => ?_
    by_cases h : j.val ≤ t
    · rw [if_pos h]; exact Finset.sum_congr rfl fun c _ => (hg j.val j.isLt h c).symm
    · rw [if_neg h]; exact Finset.sum_eq_zero fun c _ => h0 _ (by simp only [key]; omega)
  rw [e, e2, ← Finset.sum_filter]
  exact Finset.sum_congr (Finset.ext fun j => by simp only [Finset.mem_range, Finset.mem_filter]; omega) fun _ _ => rfl

/-- A supremum over the tiles up to `t` is the supremum over all keys, where the later keys give minus infinity. -/
theorem sup_tiles (f : Fin 4096 → EReal) (g : ℕ → Fin 512 → EReal) (t : ℕ) (ht : t < 8) (hg : ∀ j (hj : j < 8), j ≤ t → ∀ c, g j c = f (key j hj c))
    (h0 : ∀ n : Fin 4096, 512 * (t + 1) ≤ n.val → f n = ⊥) : ((Finset.range (t + 1)).sup fun j => Finset.univ.sup (g j)) = Finset.univ.sup f := by
  refine le_antisymm (Finset.sup_le fun j hj => Finset.sup_le fun c _ => ?_) (Finset.sup_le fun n _ => ?_)
  · have hj' := Finset.mem_range.mp hj
    rw [hg j (by omega) (by omega) c]
    exact Finset.le_sup (Finset.mem_univ _)
  · by_cases hn : 512 * (t + 1) ≤ n.val
    · rw [h0 n hn]; exact bot_le
    · have hk : n = key (n.val / 512) (by omega) ⟨n.val % 512, by omega⟩ := Fin.ext (by simp only [key]; omega)
      rw [hk, ← hg _ (by omega) (by omega)]
      exact le_trans (Finset.le_sup (f := g (n.val / 512)) (Finset.mem_univ _))
        (Finset.le_sup (f := fun j => Finset.univ.sup (g j)) (Finset.mem_range.mpr (by omega)))

/-! ## The words of the causal mask -/

/-- The sign of 64. -/
abbrev sgn64 : BitVec 32 := Scalar.subi (Scalar.extui (Scalar.cmpi CmpIPredicate.sgt 64#32 0#32)) (Scalar.extui (Scalar.cmpi CmpIPredicate.slt 64#32 0#32))

/-- Division by 64 towards minus infinity, as the kernel writes it. -/
abbrev floor64 (x : BitVec 32) : BitVec 32 :=
  Scalar.select (IntOp.andi (IntOp.cmpi CmpIPredicate.ne (IntOp.subi (BitVec.setWidth 32 (IntOp.cmpi CmpIPredicate.sgt x 0#32)) (BitVec.setWidth 32 (IntOp.cmpi CmpIPredicate.slt x 0#32))) sgn64)
      (IntOp.cmpi CmpIPredicate.ne (IntOp.remsi ArithUnit.vector x 64#32) 0#32))
    (IntOp.subi (IntOp.divsi ArithUnit.vector x 64#32) 1#32) (IntOp.divsi ArithUnit.vector x 64#32)

theorem floor64_fin : ∀ n : Fin 4096, floor64 (BitVec.ofNat 32 n.val) = BitVec.ofNat 32 (n.val / 64) := by decide +kernel

theorem floor64_eq (n : ℕ) (hn : n < 4096) : floor64 (BitVec.ofNat 32 n) = BitVec.ofNat 32 (n / 64) := floor64_fin ⟨n, hn⟩

theorem row_word : ∀ (a : Fin 8) (r : Fin 512),
    IntOp.addi (Scalar.muli (BitVec.ofNat 32 a.val) 512#32) (IntOp.andi (BitVec.ofNat 32 r.val) 511#32) = BitVec.ofNat 32 (512 * a.val + r.val) := by decide +kernel

end Cert.Soft

end
-- ==== Proof.IPay.lean ====
/- The kernel's vector payloads read at an index, over the extended reals. -/
module

public import proofs.«01_k».proof.Proof.IStep
public import proofs.«01_k».proof.Proof.Soft

@[expose] public section

set_option maxRecDepth 16384

noncomputable section

namespace Cert.KernelIdeal.Hand

open Cert.KernelIdeal Cert.KernelIdeal.Gen
open Idealize.ShloMosaic Cert.Soft

/-- A score: the product of a query and a key. -/
theorem pay6_apply (a b : Vec Ideal S1x1x512x128 .bf16) (r c : Fin 512) :
    k0_pay6 a b (ix2 r c) = ∑ x : Fin 128, a (ix4 0 0 r x) * b (ix4 0 0 c x) := by
  pointwise [k0_pay6]

/-- A score under the mask. -/
theorem pay30_apply (w : IVec S512x512 1) (a b : Vec Ideal S1x1x512x128 .bf16) (r c : Fin 512) :
    k0_pay30 w a b (ix2 r c) = if w (ix2 r c) = 1#1 then ∑ x : Fin 128, a (ix4 0 0 r x) * b (ix4 0 0 c x) else ⊥ := by
  pointwise [k0_pay30]
  rw [ofBits_ninf]; rfl

theorem pay26_apply (s : FVec Ideal S512x512 .f32) (r c : Fin 512) : k0_pay26 s (ix4 0 0 r c) = s (ix2 r c) := by
  pointwise [k0_pay26]

/-- The running maximum takes in the four lane groups of a tile. -/
theorem pay27_apply (s : FVec Ideal S512x512 .f32) (x : Vec Ideal S1x512x128 .f32) (r : Fin 512) (l : Fin 128) :
    k0_pay27 s x (ix3 0 r l) = max (x (ix3 0 r l)) (max (max (max (s (ix2 r (lane 0 l))) (s (ix2 r (lane 1 l)))) (s (ix2 r (lane 2 l)))) (s (ix2 r (lane 3 l)))) := by
  pointwise [k0_pay27]
  simp only [lane_zero]
  rfl

theorem pay22_apply (h : Fin 2) (r : Fin 512) (l : Fin 128) : (k0_pay22 : FVec Ideal S2x512x128 .f32) (ix3 h r l) = ⊥ := by
  pointwise [k0_pay22]
  exact ofBits_ninf
theorem pay24_apply (h : Fin 2) (r : Fin 512) (l : Fin 128) : k0_pay24 (k0_pay23 : FVec Ideal S2x512x128 .f32) (ix3 h r l) = 0 := by
  pointwise [k0_pay24, k0_pay23]
theorem pay25_apply (h : Fin 2) (r : Fin 512) (l : Fin 128) : (k0_pay25 : FVec Ideal S2x512x128 .f32) (ix3 h r l) = 0 := by
  pointwise [k0_pay25]

/-- The row maximum, over the lanes. -/
theorem pay40_apply (x : Vec Ideal S1x512x128 .f32) (r : Fin 512) (l : Fin 128) :
    k0_pay40 x (ix3 0 r l) = Finset.univ.sup fun y : Fin 128 => x (ix3 0 r y) := by
  pointwise [k0_pay40]
  rw [ofBits_ninf]; rfl

/-- The row sum, over the lanes. -/
theorem pay57_apply (x : Vec Ideal S1x512x128 .f32) (r : Fin 512) (l : Fin 128) : k0_pay57 x (ix3 0 r l) = ∑ y : Fin 128, x (ix3 0 r y) := by
  pointwise [k0_pay57]

/-- A weight, where the row's maximum is the same in every lane. -/
theorem pay11_apply (s : Vec Ideal S1x1x512x512 .f32) (x : Vec Ideal S1x512x128 .f32) (r : Fin 512) (M : EReal) (hM : ∀ l, x (ix3 0 r l) = M) (c : Fin 512) :
    k0_pay11 s x (ix2 r c) = Ideal.exp2 (s (ix4 0 0 r c) - M) := by
  pointwise [k0_pay11]
  simp only [hM, dite_eq_ite, ite_self]
  rfl

theorem pay12_apply (s : Vec Ideal S1x1x512x512 .f32) (x y : Vec Ideal S1x512x128 .f32) (r : Fin 512) (l : Fin 128) :
    k0_pay12 s x y (ix3 0 r l) = y (ix3 0 r l) + (k0_pay11 s x (ix2 r (lane 0 l)) + k0_pay11 s x (ix2 r (lane 1 l)) + k0_pay11 s x (ix2 r (lane 2 l)) + k0_pay11 s x (ix2 r (lane 3 l))) := by
  pointwise [k0_pay12]
  simp only [lane_zero]
  rfl

theorem pay13_apply (s : Vec Ideal S1x1x512x512 .f32) (x y : Vec Ideal S1x512x128 .f32) (v : Vec Ideal S1x1x512x128 .bf16) (r : Fin 512) (l : Fin 128) :
    k0_pay13 s x y v (ix3 0 r l) = y (ix3 0 r l) + ∑ c : Fin 512, k0_pay11 s x (ix2 r c) * v (ix4 0 0 c l) := by
  pointwise [k0_pay13]

/-- The block written: the first head in the first 64 lanes, the second in the others. -/
theorem pay2_apply (a b c d : Vec Ideal S1x512x128 .f32) (r : Fin 512) (l : Fin 128) :
    k0_pay2 a b c d (ix3 0 r l) = if l.val < 64 then Ideal.div (a (ix3 0 r l)) (b (ix3 0 r l)) else Ideal.div (c (ix3 0 r l)) (d (ix3 0 r l)) := by
  pointwise [k0_pay2]
  rw [show (64#32 : BitVec 32) = BitVec.ofNat 32 64 from rfl, WordCmp.cmpi_slt_ofNat (by omega) (by norm_num)]
  by_cases h : l.val < 64 <;> simp [h, Scalar.select]

/-- The diagonal tile's mask: both chunks are counted from the tile's first row. -/
theorem mask_apply (i : grid0.Coords) (r c : Fin 512) : mask i (ix2 r c) = 1#1 ↔ c.val / 64 ≤ r.val / 64 := by
  have hv : k0_mult1 i = BitVec.ofNat 32 (512 * (i 2).val) := by
    have h : ∀ a : Fin 8, k0_mult1 (fun x => match x with | 0 => ⟨0, by decide⟩ | 1 => ⟨0, by decide⟩ | 2 => a) = BitVec.ofNat 32 (512 * a.val) := by
      decide +kernel
    exact h (i 2)
  have hi : (i 2).val < 8 := (i 2).isLt
  have hc : IntOp.addi (k0_mult1 i) (BitVec.ofNat 32 c.val) = BitVec.ofNat 32 (512 * (i 2).val + c.val) := by
    rw [hv]; exact (BitVec.ofNat_add ..).symm
  have hr := row_word (i 2) r
  unfold mask
  pointwise [k0_pay21, k0_pay17, k0_pay18, k0_pay19, k0_pay20]
  rw [hc, hr]
  change IntOp.cmpi .sle (floor64 (BitVec.ofNat 32 (512 * (i 2).val + c.val))) (floor64 (BitVec.ofNat 32 (512 * (i 2).val + r.val))) = 1#1 ↔ _
  rw [floor64_eq _ (by omega), floor64_eq _ (by omega), WordCmp.cmpi_sle_ofNat_eq_one_iff (by omega) (by omega)]
  omega

end Cert.KernelIdeal.Hand

end
-- ==== Proof.IVal.lean ====
/- One grid point's block over the extended reals: each row of each head is a softmax of its masked scores over all keys,
   applied to the values. -/
module

public import proofs.«01_k».proof.Proof.IPay

@[expose] public section

set_option maxRecDepth 16384

noncomputable section

namespace Cert.KernelIdeal.Hand

open Cert.KernelIdeal Cert.KernelIdeal.Gen
open Idealize.ShloMosaic Cert.Soft

variable (i : grid0.Coords) (q : Vec Ideal S1x2x512x128 .bf16) (kk : Vec Ideal S1x2x4096x128 .bf16) (v : Vec Ideal S1x1x4096x128 .bf16)

theorem qh_apply (h : Fin 2) (r : Fin 512) (x : Fin 128) : qh q h (ix4 0 0 r x) = q (ix4 0 h r x) :=
  congrArg q (funext fun a => Fin.ext (by fin_cases a <;> simp [qh, VecWindow.window, ix4]))

theorem ktile_apply (h : Fin 2) (j : ℕ) (hj : j < 8) (c : Fin 512) (x : Fin 128) : ktile kk h j (ix4 0 0 c x) = kk (ix4 0 h (key j hj c) x) :=
  congrArg kk (funext fun a => Fin.ext (by fin_cases a <;> simp [VecWindow.window, ix4, key, Nat.mod_eq_of_lt hj]))

theorem vtile_apply (j : ℕ) (hj : j < 8) (c : Fin 512) (x : Fin 128) : vtile v j (ix4 0 0 c x) = v (ix4 0 0 (key j hj c) x) :=
  congrArg v (funext fun a => Fin.ext (by fin_cases a <;> simp [VecWindow.window, ix4, key, Nat.mod_eq_of_lt hj]))

theorem hd_apply (x : Vec Ideal S2x512x128 .f32) (h : Fin 2) (r : Fin 512) (l : Fin 128) : hd x h (ix3 0 r l) = x (ix3 h r l) :=
  congrArg x (funext fun a => Fin.ext (by fin_cases a <;> simp [VecWindow.window, ix3]))

/-- The masked score of row `r` and key `n` of head `h`. -/
def S (h : Fin 2) (r : Fin 512) (n : Fin 4096) : EReal :=
  if n.val / 64 ≤ (512 * qt i + r.val) / 64 then ∑ x : Fin 128, q (ix4 0 h r x) * kk (ix4 0 h n x) else ⊥

theorem stile_apply (h : Fin 2) (j : ℕ) (hj : j < 8) (hq : j ≤ qt i) (r c : Fin 512) : stile i q kk h j (ix2 r c) = S i q kk h r (key j hj c) := by
  unfold stile S
  by_cases hlt : j < qt i
  · rw [if_pos hlt, pay6_apply, if_pos (by simp only [key]; omega)]
    simp only [qh_apply, ktile_apply kk h j hj]
  · have hjq : j = qt i := by omega
    rw [if_neg hlt, pay30_apply]
    simp only [qh_apply, ktile_apply kk h j hj, mask_apply]
    exact if_congr (by simp only [key]; omega) rfl rfl

theorem S_late (h : Fin 2) (r : Fin 512) (n : Fin 4096) (hn : 512 * (qt i + 1) ≤ n.val) : S i q kk h r n = ⊥ := if_neg (by omega)

theorem mrun_apply (h : Fin 2) (r : Fin 512) (l : Fin 128) (k : ℕ) :
    mrun i q kk h k (ix3 0 r l) = (Finset.range k).sup fun j => Finset.univ.sup fun u : Fin 4 => stile i q kk h j (ix2 r (lane u l)) := by
  induction k with
  | zero => exact (hd_apply _ h r l).trans (pay22_apply h r l)
  | succ k ih =>
    rw [Finset.range_add_one, Finset.sup_insert]
    refine (pay27_apply _ _ r l).trans ?_
    rw [ih, max_comm]
    refine congrArg₂ max ?_ rfl
    simp [Fin.univ_succ, max_assoc]

/-- The row's maximum. -/
theorem mfin_apply (h : Fin 2) (r : Fin 512) (l : Fin 128) : mfin i q kk h (ix3 0 r l) = Finset.univ.sup (S i q kk h r) := by
  refine (pay40_apply _ r l).trans ?_
  simp only [mrun_apply]
  rw [Finset.sup_comm]
  refine (Finset.sup_congr rfl fun j _ => sup_lanes fun c => stile i q kk h j (ix2 r c)).trans ?_
  exact sup_tiles _ (fun j c => stile i q kk h j (ix2 r c)) (qt i) (qt_lt i) (fun j hj hq c => stile_apply i q kk h j hj hq r c) (S_late i q kk h r)

/-- The weight of row `r` and key `n`, before it is divided by the row's sum. -/
def E (h : Fin 2) (r : Fin 512) (n : Fin 4096) : EReal := Ideal.exp2 (S i q kk h r n - Finset.univ.sup (S i q kk h r))

theorem E_late (h : Fin 2) (r : Fin 512) (n : Fin 4096) (hn : 512 * (qt i + 1) ≤ n.val) : E i q kk h r n = 0 := by
  rw [E, S_late i q kk h r n hn, EReal.bot_sub, exp2_bot]

theorem weight_apply (h : Fin 2) (j : ℕ) (hj : j < 8) (hq : j ≤ qt i) (r c : Fin 512) :
    k0_pay11 (k0_pay26 (stile i q kk h j)) (mfin i q kk h) (ix2 r c) = E i q kk h r (key j hj c) := by
  rw [pay11_apply _ _ r _ (mfin_apply i q kk h r), pay26_apply, stile_apply i q kk h j hj hq]; rfl

theorem lrun_apply (h : Fin 2) (r : Fin 512) (l : Fin 128) (k : ℕ) :
    lrun i q kk h k (ix3 0 r l) = ∑ j ∈ Finset.range k, ∑ u : Fin 4, k0_pay11 (k0_pay26 (stile i q kk h j)) (mfin i q kk h) (ix2 r (lane u l)) := by
  induction k with
  | zero => exact (hd_apply _ h r l).trans (pay24_apply h r l)
  | succ k ih =>
    rw [Finset.sum_range_succ, ← ih]
    refine (pay12_apply _ _ _ r l).trans ?_
    rw [Fin.sum_univ_four]

/-- The row's sum of weights. -/
theorem lfin_apply (h : Fin 2) (r : Fin 512) (l : Fin 128) : lfin i q kk h (ix3 0 r l) = ∑ n, E i q kk h r n := by
  refine (pay57_apply _ r l).trans ?_
  simp only [lrun_apply]
  rw [Finset.sum_comm]
  refine (Finset.sum_congr rfl fun j _ => sum_lanes fun c => k0_pay11 (k0_pay26 (stile i q kk h j)) (mfin i q kk h) (ix2 r c)).trans ?_
  exact sum_tiles _ (fun j c => k0_pay11 (k0_pay26 (stile i q kk h j)) (mfin i q kk h) (ix2 r c)) (qt i) (qt_lt i)
    (fun j hj hq c => weight_apply i q kk h j hj hq r c) (E_late i q kk h r)

theorem arun_apply (h : Fin 2) (r : Fin 512) (l : Fin 128) (k : ℕ) :
    arun i q kk v h k (ix3 0 r l)
      = ∑ j ∈ Finset.range k, ∑ c : Fin 512, k0_pay11 (k0_pay26 (stile i q kk h j)) (mfin i q kk h) (ix2 r c) * vtile v j (ix4 0 0 c l) := by
  induction k with
  | zero => exact (hd_apply _ h r l).trans (pay25_apply h r l)
  | succ k ih =>
    rw [Finset.sum_range_succ, ← ih]
    exact pay13_apply _ _ _ _ r l

/-- The row's product of weights and values. -/
theorem afin_apply (h : Fin 2) (r : Fin 512) (l : Fin 128) :
    arun i q kk v h (qt i + 1) (ix3 0 r l) = ∑ n, E i q kk h r n * v (ix4 0 0 n l) := by
  rw [arun_apply]
  exact sum_tiles (fun n => E i q kk h r n * v (ix4 0 0 n l))
    (fun j c => k0_pay11 (k0_pay26 (stile i q kk h j)) (mfin i q kk h) (ix2 r c) * vtile v j (ix4 0 0 c l)) (qt i) (qt_lt i)
    (fun j hj hq c => by rw [weight_apply i q kk h j hj hq r c, vtile_apply v j hj]) (fun n hn => by rw [E_late i q kk h r n hn, zero_mul])

/-- The head a lane of the output belongs to. -/
def hof (l : Fin 128) : Fin 2 := if l.val < 64 then 0 else 1

/-- The block written: in each lane the softmax of its head's scores, applied to the values of that lane. -/
theorem outB_apply (r : Fin 512) (l : Fin 128) :
    outB i q kk v (ix3 0 r l) = Ideal.div (∑ n, E i q kk (hof l) r n * v (ix4 0 0 n l)) (∑ n, E i q kk (hof l) r n) := by
  refine (pay2_apply _ _ _ _ r l).trans ?_
  simp only [afin_apply, lfin_apply]
  unfold hof
  split_ifs <;> rfl

end Cert.KernelIdeal.Hand

end
-- ==== Proof.RVal.lean ====
/- The reference's result over the extended reals, read at an index. -/
module

public import proofs.«01_k».proof.Proof.Soft
public import proofs.«01_k».proof.Proof.Gen.ReferenceIdeal.Run
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Cert.Soft

section

variable {F : FTy → Type} [FloatOps F]

/-- Each position's chunk. -/
def chunkR : IVec S4096 32 := select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))
/-- Which key is seen by which query: a key whose chunk is not later than the query's. -/
def maskR : IVec S4096x4096 1 := cmpi .sle (broadcastInDim S4096x4096 ![0, 1] bcast_S1x4096_S4096x4096_0_1 (broadcastInDim S1x4096 ![1] bcast_S4096_S1x4096_1 chunkR)) (broadcastInDim S4096x4096 ![0, 1] bcast_S4096x1_S4096x4096_0_1 (broadcastInDim S4096x1 ![0] bcast_S4096_S4096x1_0 chunkR))
/-- The masked scores. -/
def sR (q k : FVec F S8x8x4096x128 .bf16) : FVec F S8x8x4096x4096 .f32 := select (broadcastInDim S8x8x4096x4096 ![2, 3] bcast_S4096x4096_S8x8x4096x4096_2_3 maskR) (Host.dotGeneral dot_S8x8x4096x128_S8x8x4096x128_S8x8x4096x4096_3_3_2_2_01_01 none (extf .f32 q bitsLt_bf16_f32) (extf .f32 k bitsLt_bf16_f32)) (broadcastInDim S8x8x4096x4096 ![] bcast_S_S8x8x4096x4096 (id (constant S_ .f32 0xFF800000#32)))
/-- The row maxima, spread over the keys. -/
def mR (s : FVec F S8x8x4096x4096 .f32) : FVec F S8x8x4096x4096 .f32 := broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduce FloatOps.maximumf s (constant S_ .f32 0xFF800000#32) reducesTo_S8x8x4096x4096_S8x8x4096_d3 h_S_))
/-- The weights before the division. -/
def eR (s : FVec F S8x8x4096x4096 .f32) : FVec F S8x8x4096x4096 .f32 := Host.powf (broadcastInDim S8x8x4096x4096 ![] bcast_S_S8x8x4096x4096 (constant S_ .f32 0x40000000#32)) (subf s (mR s))
/-- The weights. -/
def pR (e : FVec F S8x8x4096x4096 .f32) : FVec F S8x8x4096x4096 .f32 := Host.divf e (broadcastInDim S8x8x4096x4096 ![0, 1, 2, 3] bcast_S8x8x4096x1_S8x8x4096x4096_0_1_2_3 (broadcastInDim S8x8x4096x1 ![0, 1, 2] bcast_S8x8x4096_S8x8x4096x1_0_1_2 (Host.reduceAdd e (constant S_ .f32 0x00000000#32) reducesTo_S8x8x4096x4096_S8x8x4096_d3 h_S_)))
/-- The weighted values, the heads side by side. -/
def oR (v : FVec F S8x4x4096x128 .bf16) (p : FVec F S8x8x4096x4096 .f32) : FVec F S8x4096x512 .bf16 := truncf .bf16 (shapeCast _ (transpose S8x4096x8x64 [0, 3, 1, 2] (Host.dotGeneral dot_S8x8x4096x64_S8x8x4096x4096_S8x8x64x4096_2_3_3_2_01_01 none (shapeCast _ (transpose S8x4x2x4096x64 [0, 1, 3, 2, 4] (shapeCast _ (extf .f32 v bitsLt_bf16_f32) shapeCasts_S8x4x4096x128_S8x4x4096x2x64) transposes_S8x4x4096x2x64_S8x4x2x4096x64_0_1_3_2_4) shapeCasts_S8x4x2x4096x64_S8x8x4096x64) p) transposes_S8x8x64x4096_S8x4096x8x64_0_3_1_2) shapeCasts_S8x4096x8x64_S8x4096x512) bitsLt_bf16_f32

theorem res_eq (m : (ℓ : Loc nD τ sig) → Buf (Elt F) ℓ) (c : Dev nD) :
    res_main_v28 m c = oR (m ((c.tc : Thread nD τ).loc main_arg2)) (pR (eR (sR (m ((c.tc : Thread nD τ).loc main_arg0)) (m ((c.tc : Thread nD τ).loc main_arg1))))) := rfl

end

theorem chunkR_apply (n : Fin 4096) : chunkR (ix1 n) = BitVec.ofNat 32 (n.val / 64) := by
  pointwise [chunkR]
  revert n
  decide +kernel

theorem maskR_apply (n k : Fin 4096) : maskR (ix2 n k) = 1#1 ↔ k.val / 64 ≤ n.val / 64 := by
  pointwise [maskR]
  rw [chunkR_apply, chunkR_apply, WordCmp.cmpi_sle_ofNat_eq_one_iff (by omega) (by omega)]

theorem sR_apply (q k : FVec Ideal S8x8x4096x128 .bf16) (b h : Fin 8) (n j : Fin 4096) :
    sR q k (ix4 b h n j) = if j.val / 64 ≤ n.val / 64 then ∑ x : Fin 128, q (ix4 b h n x) * k (ix4 b h j x) else ⊥ := by
  pointwise [sR]
  have hm := maskR_apply n j
  by_cases h : j.val / 64 ≤ n.val / 64
  · rw [if_pos h, hm.mpr h]; rfl
  · rw [if_neg h]; exact (if_neg fun e => h (hm.mp e)).trans ofBits_ninf

theorem mR_apply (s : FVec Ideal S8x8x4096x4096 .f32) (b h : Fin 8) (n j : Fin 4096) :
    mR s (ix4 b h n j) = Finset.univ.sup fun k : Fin 4096 => s (ix4 b h n k) := by
  pointwise [mR]
  rw [ofBits_ninf]; rfl

theorem eR_apply (s : FVec Ideal S8x8x4096x4096 .f32) (b h : Fin 8) (n j : Fin 4096) :
    eR s (ix4 b h n j) = Ideal.exp2 (s (ix4 b h n j) - Finset.univ.sup fun k : Fin 4096 => s (ix4 b h n k)) := by
  pointwise [eR]
  rw [mR_apply, ofBits_two, pow_two]

theorem pR_apply (e : FVec Ideal S8x8x4096x4096 .f32) (b h : Fin 8) (n j : Fin 4096) :
    pR e (ix4 b h n j) = Ideal.div (e (ix4 b h n j)) (∑ k : Fin 4096, e (ix4 b h n k)) := by
  pointwise [pR]

theorem oR_apply (v : FVec Ideal S8x4x4096x128 .bf16) (p : FVec Ideal S8x8x4096x4096 .f32) (b : Fin 8) (n : Fin 4096) (l : Fin 512) :
    oR v p (ix3 b n l) = ∑ k : Fin 4096, v (ix4 b ⟨l.val / 128, by omega⟩ k ⟨l.val % 128, by omega⟩) * p (ix4 b ⟨l.val / 64, by omega⟩ n k) := by
  pointwise [oR]
  refine Finset.sum_congr rfl fun k _ => congrArg₂ (· * ·) (congrArg v (congrArg₂ (fun a d => ix4 b a k d) (Fin.ext ?_) (Fin.ext ?_))) rfl <;> simp only <;> omega

end Cert.ReferenceIdeal.Hand

end
-- ==== Proof.IOut.lean ====
/- The result array of the kernel's call over the extended reals is the reference's function of the argument arrays, when
   every query and every key is a number. -/
module

public import proofs.«01_k».proof.Proof.IFrame
public import proofs.«01_k».proof.Proof.IVal
public import proofs.«01_k».proof.Proof.RVal
public import Idealize.ShloMosaic.Lib.Pipeline.Value
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL Idealize.SL.Sem Cert.Soft
open Idealize.ShloMosaic.Pipeline (Dat Cfg Window)

/-- The attention call's function of its three arrays: the reference's. -/
def G (q k : FVec Ideal S8x8x4096x128 .bf16) (v : FVec Ideal S8x4x4096x128 .bf16) : FVec Ideal S8x4096x512 .bf16 :=
  ReferenceIdeal.Hand.oR v (ReferenceIdeal.Hand.pR (ReferenceIdeal.Hand.eR (ReferenceIdeal.Hand.sR q k)))

theorem index_0 : ∀ t, win0_0.index t = ![(grid0.coords t 0).val, (grid0.coords t 1).val, (grid0.coords t 2).val, 0] := by decide +kernel
theorem index_1 : ∀ t, win0_1.index t = ![(grid0.coords t 0).val, (grid0.coords t 1).val, 0, 0] := by decide +kernel
theorem index_2 : ∀ t, win0_2.index t = ![(grid0.coords t 0).val, (grid0.coords t 1).val, 0, 0] := by decide +kernel
theorem index_3 : ∀ t, win0_3.index t = ![(grid0.coords t 0).val, (grid0.coords t 2).val, (grid0.coords t 1).val] := by decide +kernel

variable (m : (ℓ : Loc nD τ sig) → Buf (Elt Ideal) ℓ) (ρ : Dev nD → PrngReg)

/-- The queries. -/
abbrev A0 (c : Dev nD) : FVec Ideal S8x8x4096x128 .bf16 := m ((c : Thread nD τ).loc main_arg0)
/-- The keys. -/
abbrev A1 (c : Dev nD) : FVec Ideal S8x8x4096x128 .bf16 := m ((c : Thread nD τ).loc main_arg1)
/-- The values, two heads side by side. -/
abbrev A2 (c : Dev nD) : FVec Ideal S8x4x4096x128 .bf16 := m ((c : Thread nD τ).loc main_arg2)

/-- The batch, the pair of heads and the query tile of a point. -/
def pb (t : Fin cfg0.N) : Fin 8 := grid0.coords t 0
def pp (t : Fin cfg0.N) : Fin 4 := grid0.coords t 1
def pq (t : Fin cfg0.N) : Fin 8 := grid0.coords t 2

/-- The head `h` of a pair. -/
def head (p : Fin 4) (h : Fin 2) : Fin 8 := ⟨2 * p.val + h.val, by omega⟩

theorem iblk_0 (c : Dev nD) (t : Fin cfg0.N) (h : Fin 2) (r : Fin 512) (x : Fin 128) :
    iblk m c 0 t (ix4 0 h r x) = A0 m c (ix4 (pb t) (head (pp t) h) (key (pq t).val (pq t).isLt r) x) := by
  refine congrArg (A0 m c) (funext fun a => Fin.ext ?_)
  blk_simp
  rw [index_0]
  fin_cases a <;> simp [ix4, head, key, pb, pp, pq, win0_0]
  all_goals exact mul_comm _ _

theorem iblk_1 (c : Dev nD) (t : Fin cfg0.N) (h : Fin 2) (n : Fin 4096) (x : Fin 128) :
    iblk m c 1 t (ix4 0 h n x) = A1 m c (ix4 (pb t) (head (pp t) h) n x) := by
  refine congrArg (A1 m c) (funext fun a => Fin.ext ?_)
  blk_simp
  rw [index_1]
  fin_cases a <;> simp [ix4, head, key, pb, pp, pq, win0_1]
  all_goals exact mul_comm _ _

theorem iblk_2 (c : Dev nD) (t : Fin cfg0.N) (n : Fin 4096) (x : Fin 128) :
    iblk m c 2 t (ix4 0 0 n x) = A2 m c (ix4 (pb t) (pp t) n x) := by
  refine congrArg (A2 m c) (funext fun a => Fin.ext ?_)
  blk_simp
  rw [index_2]
  fin_cases a <;> simp [ix4, head, key, pb, pp, pq, win0_2]

/-- The reference at an index. -/
theorem G_apply (q k : FVec Ideal S8x8x4096x128 .bf16) (v : FVec Ideal S8x4x4096x128 .bf16) (b : Fin 8) (n : Fin 4096) (l : Fin 512)
    (e : Fin 8) (hh : e.val = l.val / 64) (p : Fin 4) (hp : p.val = l.val / 128) (d : Fin 128) (hx : d.val = l.val % 128)
    (s : Fin 4096 → EReal) (hs : s = fun j => if j.val / 64 ≤ n.val / 64 then ∑ x : Fin 128, q (ix4 b e n x) * k (ix4 b e j x) else ⊥) :
    G q k v (ix3 b n l) = ∑ j, v (ix4 b p j d) * Ideal.div (Ideal.exp2 (s j - Finset.univ.sup s)) (∑ j, Ideal.exp2 (s j - Finset.univ.sup s)) := by
  have e1 : (⟨l.val / 64, by omega⟩ : Fin 8) = e := Fin.ext hh.symm
  have e2 : (⟨l.val / 128, by omega⟩ : Fin 4) = p := Fin.ext hp.symm
  have e3 : (⟨l.val % 128, by omega⟩ : Fin 128) = d := Fin.ext hx.symm
  subst hs
  unfold G
  rw [ReferenceIdeal.Hand.oR_apply]
  simp only [e1, e2, e3, ReferenceIdeal.Hand.pR_apply, ReferenceIdeal.Hand.eR_apply, ReferenceIdeal.Hand.sR_apply]

/-- One element of a point's block. -/
theorem outAt_apply (c : Dev nD) (hq : ∀ i, A0 m c i ≠ ⊤ ∧ A0 m c i ≠ ⊥) (hk : ∀ i, A1 m c i ≠ ⊤ ∧ A1 m c i ≠ ⊥) (t : Fin cfg0.N) (r : Fin 512) (l : Fin 128) :
    outAt m c t (ix3 0 r l) = G (A0 m c) (A1 m c) (A2 m c)
      (ix3 (pb t) (key (pq t).val (pq t).isLt r) ⟨128 * (pp t).val + l.val, by omega⟩) := by
  have hl := l.isLt
  have hf : (hof l).val = l.val / 64 := by unfold hof; split_ifs with h <;> simp <;> omega
  have hS : S (grid0.coords t) (iblk m c 0 t) (iblk m c 1 t) (hof l) r = fun j : Fin 4096 =>
      if j.val / 64 ≤ (key (pq t).val (pq t).isLt r).val / 64 then
        ∑ x : Fin 128, A0 m c (ix4 (pb t) (head (pp t) (hof l)) (key (pq t).val (pq t).isLt r) x) * A1 m c (ix4 (pb t) (head (pp t) (hof l)) j x) else ⊥ := by
    funext j
    unfold S
    simp only [iblk_0, iblk_1]
    rfl
  refine (outB_apply (grid0.coords t) (iblk m c 0 t) (iblk m c 1 t) (iblk m c 2 t) r l).trans ?_
  rw [G_apply (A0 m c) (A1 m c) (A2 m c) (pb t) (key (pq t).val (pq t).isLt r) ⟨128 * (pp t).val + l.val, by omega⟩ (head (pp t) (hof l))
    (by simp only [head, hf]; omega) (pp t) (by simp only; omega) l (by simp only; omega) _ hS]
  have hs := soft (S (grid0.coords t) (iblk m c 0 t) (iblk m c 1 t) (hof l) r) (fun n => A2 m c (ix4 (pb t) (pp t) n l)) (fun j => by
      rw [hS]
      beta_reduce
      split_ifs
      · exact sum_ne_top _ _ fun x _ => mul_ne_top _ _ (hq _) (hk _)
      · exact bot_ne_top)
    (key (pq t).val (pq t).isLt r) (by
      rw [hS]
      beta_reduce
      rw [if_pos le_rfl]
      exact sum_ne_bot _ _ fun x _ => mul_ne_bot _ _ (hq _) (hk _))
  refine Eq.trans ?_ hs
  simp only [iblk_2]
  rfl

theorem final_3 (c : Dev nD) (hq : ∀ i, A0 m c i ≠ ⊤ ∧ A0 m c i ≠ ⊥) (hk : ∀ i, A1 m c i ≠ ⊤ ∧ A1 m c i ≠ ⊥) :
    (dats m 0 c).arrAt 3 cfg0.N = G (A0 m c) (A1 m c) (A2 m c) := by
  refine (dats m 0 c).arrAt_eq_of_covers 3 _ (by decide +kernel) fun t hf y => ?_
  blk_simp
  rw [after_3]
  have hy : y = ix3 0 (y 1) (y 2) := by
    funext a
    fin_cases a
    · exact Subsingleton.elim (α := Fin 1) _ _
    · rfl
    · rfl
  rw [hy]
  refine (outAt_apply m c hq hk t (y 1) (y 2)).trans (congrArg (G (A0 m c) (A1 m c) (A2 m c)) (funext fun a => Fin.ext ?_))
  blk_simp
  rw [index_3]
  fin_cases a <;> simp [ix3, head, key, pb, pp, pq, win0_3]
  all_goals exact mul_comm _ _

end Cert.KernelIdeal.Hand

end
-- ==== Proof.Pre.lean ====
/- The precondition read back: every query and every key is a number. -/
module

public import proofs.«01_k».proof.Pre_finite
public import proofs.«01_k».proof.Proof.Soft
public import Idealize.ShloMosaic.Lib.ReduceAll

@[expose] public section

noncomputable section

namespace Cert.Pre_finite.Hand

open Cert.Pre_finite
open Idealize.ShloMosaic Idealize.ShloMosaic.IntOp Cert.Soft

/-- A compare of a number's absolute value with infinity holds only off the two infinities. -/
theorem ne_of_abs_lt (x : EReal) (h : Ideal.cmp .olt (max x (-x)) ⊤ = 1#1) : x ≠ ⊤ ∧ x ≠ ⊥ := by
  constructor <;> rintro rfl <;> simp [Ideal.cmp] at h

variable [Facts]

/-- The precondition gives that every query and every key is neither infinity. -/
theorem ne_of_fn (q k : FVec Ideal S8x8x4096x128 .bf16) (v : FVec Ideal S8x4x4096x128 .bf16) (h : fn (F := Ideal) q k v = fun _ => 1#1) :
    (∀ i, q i ≠ ⊤ ∧ q i ≠ ⊥) ∧ (∀ i, k i ≠ ⊤ ∧ k i ≠ ⊥) := by
  have : Subsingleton S_.Idx := ⟨fun a b => funext fun i => i.elim0⟩
  have h0 := congrFun h (fun i => i.elim0)
  obtain ⟨h1, h2⟩ := andi_eq_one.mp h0
  constructor
  · intro i
    have e := Host.reduce_andi_all _ _ _ _ _ h1 i
    refine ne_of_abs_lt _ (Eq.trans ?_ e)
    rw [← ofBits_inf]
    rfl
  · intro i
    have e := Host.reduce_andi_all _ _ _ _ _ h2 i
    refine ne_of_abs_lt _ (Eq.trans ?_ e)
    rw [← ofBits_inf]
    rfl

end Cert.Pre_finite.Hand

end
-- ==== Proof.DOff.lean ====
/- Where the differential attention's body loads and stores: each offset the body computes from its query tile's number and from
   a loop's trip, in closed form, and the loops' trip counts. -/
module

public import proofs.«01_k».proof.Proof.Gen.Kernel2Ideal.Skeleton

@[expose] public section

set_option maxRecDepth 16384

noncomputable section

namespace Cert.Kernel2Ideal.Hand

open Cert.Kernel2Ideal Cert.Kernel2Ideal.Gen
open Idealize.ShloMosaic

/-- The grid point of query tile `n` in the first batch row and head: the body's offsets read no other coordinate. -/
def ctr (n : Fin 16) : grid0.Coords := fun a => match a with
  | ⟨0, _⟩ => (0 : Fin 8)
  | ⟨1, _⟩ => (0 : Fin 4)
  | ⟨2, _⟩ => n

/-- The query tile's number at a grid point. -/
abbrev qt (i : grid0.Coords) : ℕ := (i 2).val

theorem qt_lt (i : grid0.Coords) : qt i < 16 := (i 2).isLt

/-- The key tile the query tile lies in: two query tiles to one key tile. -/
abbrev tl (i : grid0.Coords) : ℕ := qt i / 2

theorem tl_lt (i : grid0.Coords) : tl i < 8 := Nat.div_lt_of_lt_mul (qt_lt i)

private theorem trips1_n : ∀ n : Fin 16, (k0_t1_loop (ctr n)).trips = n.val / 2 := by decide +kernel
private theorem trips3_n : ∀ n : Fin 16, (k0_t3_loop (ctr n)).trips = n.val / 2 := by decide +kernel

/-- The first loop walks the key tiles before the query tile's own. -/
theorem trips1 (i : grid0.Coords) : (k0_t1_loop i).trips = tl i := trips1_n (i 2)
/-- The second loop walks the same tiles. -/
theorem trips3 (i : grid0.Coords) : (k0_t3_loop i).trips = tl i := trips3_n (i 2)

private theorem off1_n : ∀ (n : Fin 16) (k : Fin (k0_t1_loop (ctr n)).trips), k0_off1 (ctr n) k = ![0, 0, 512 * (k.val % 8), 0] := by decide +kernel
private theorem off2_n : ∀ (n : Fin 16) (k : Fin (k0_t1_loop (ctr n)).trips), k0_off2 (ctr n) k = ![0, k.val % 8, 0, 0] := by decide +kernel
private theorem off5_n : ∀ n : Fin 16, k0_off5 (ctr n) = ![0, 0, 512 * (n.val / 2 % 8), 0] := by decide +kernel
private theorem off6_n : ∀ n : Fin 16, k0_off6 (ctr n) = ![0, n.val / 2 % 8, 0, 0] := by decide +kernel
private theorem off7_n : ∀ (n : Fin 16) (k : Fin (k0_t3_loop (ctr n)).trips), k0_off7 (ctr n) k = ![0, k.val % 8, 0, 0] := by decide +kernel
private theorem off8_n : ∀ (n : Fin 16) (k : Fin (k0_t3_loop (ctr n)).trips), k0_off8 (ctr n) k = ![0, 0, 512 * (k.val % 8), 0] := by decide +kernel

/-- Trip `k` of the first loop loads key tile `k` -/
theorem off1_eq (i : grid0.Coords) (k : Fin (k0_t1_loop i).trips) : k0_off1 i k = ![0, 0, 512 * (k.val % 8), 0] := off1_n (i 2) k
/-- and keeps its scores as tile `k`. -/
theorem off2_eq (i : grid0.Coords) (k : Fin (k0_t1_loop i).trips) : k0_off2 i k = ![0, k.val % 8, 0, 0] := off2_n (i 2) k
/-- After the loop the diagonal tile is the query tile's own. -/
theorem off5_eq (i : grid0.Coords) : k0_off5 i = ![0, 0, 512 * (tl i % 8), 0] := off5_n (i 2)
theorem off6_eq (i : grid0.Coords) : k0_off6 i = ![0, tl i % 8, 0, 0] := off6_n (i 2)
/-- Trip `k` of the second loop reads back the scores of tile `k` and loads value tile `k`. -/
theorem off7_eq (i : grid0.Coords) (k : Fin (k0_t3_loop i).trips) : k0_off7 i k = ![0, k.val % 8, 0, 0] := off7_n (i 2) k
theorem off8_eq (i : grid0.Coords) (k : Fin (k0_t3_loop i).trips) : k0_off8 i k = ![0, 0, 512 * (k.val % 8), 0] := off8_n (i 2) k

end Cert.Kernel2Ideal.Hand

end
-- ==== Proof.DStep.lean ====
/- What one grid point of the differential attention computes, as pure functions of its five input blocks: the four maps' query
   rows stacked, their score tiles against the key tiles up to the query tile's own, the running lane maxima, the row maxima, the
   running lane sums and products with the value tiles, and the block written out. Also: what the kernel's scratch buffers hold
   after each step. -/
module

public import proofs.«01_k».proof.Proof.DOff
public import Idealize.ShloMosaic.Lib.VecWindow

@[expose] public section

set_option maxRecDepth 16384

noncomputable section

namespace Cert.Kernel2Ideal.Hand

open Cert.Kernel2Ideal Cert.Kernel2Ideal.Gen
open Idealize.ShloMosaic

variable {F : FTy → Type} [FloatOps F]

theorem in_k (k : ℕ) : ∀ a, (![0, 0, 512 * (k % 8), 0] : Fin 4 → ℕ) a + S1x1x512x128.size a ≤ S1x1x4096x128.size a := by
  have : ∀ (k : Fin 8), ∀ a, (![0, 0, 512 * k.val, 0] : Fin 4 → ℕ) a + S1x1x512x128.size a ≤ S1x1x4096x128.size a := by decide
  exact this ⟨k % 8, Nat.mod_lt _ (by decide)⟩
theorem in_s (k : ℕ) : ∀ a, (![0, k % 8, 0, 0] : Fin 4 → ℕ) a + S1x1x1024x512.size a ≤ S1x8x1024x512.size a := by
  have : ∀ (k : Fin 8), ∀ a, (![0, k.val, 0, 0] : Fin 4 → ℕ) a + S1x1x1024x512.size a ≤ S1x8x1024x512.size a := by decide
  exact this ⟨k % 8, Nat.mod_lt _ (by decide)⟩
theorem in_r (c : Fin 4) : ∀ a, (![0, 256 * c.val, 0] : Fin 3 → ℕ) a + S1x256x128.size a ≤ S1x1024x128.size a := by
  revert c; decide
theorem in_qm (c : Fin 4) : ∀ a, (![256 * c.val, 0] : Fin 2 → ℕ) a + S256x128.size a ≤ S1024x128.size a := by
  revert c; decide

/-- Tile `k` of the keys' or the values' block. -/
def ktile (kk : Vec F S1x1x4096x128 .bf16) (k : ℕ) : Vec F S1x1x512x128 .bf16 :=
  VecWindow.window kk ![0, 0, 512 * (k % 8), 0] S1x1x512x128.size (in_k k)
/-- Tile `k` of the scores' scratch buffer. -/
def ts (x : Vec F S1x8x1024x512 .f32) (k : ℕ) : Vec F S1x1x1024x512 .f32 :=
  VecWindow.window x ![0, k % 8, 0, 0] S1x1x1024x512.size (in_s k)
/-- Map `c`'s rows of the stacked rows. -/
def rows (x : Vec F S1x1024x128 .f32) (c : Fin 4) : Vec F S1x256x128 .f32 :=
  VecWindow.window x ![0, 256 * c.val, 0] S1x256x128.size (in_r c)

/-- Map 3's query rows, as the body computes them. -/
def qm3 (q : Vec F S1x1x256x128 .bf16) : Vec F S256x128 .bf16 := k0_pay15 (k0_pay8 q) k0_pay9 k0_pay13 k0_pay14

/-- The four maps' query rows put one below the other into a buffer. -/
def qmS (b : Vec F S1024x128 .bf16) (q : Vec F S1x1x256x128 .bf16) : Vec F S1024x128 .bf16 :=
  VecWindow.put (s := S1024x128) (VecWindow.put (s := S1024x128) (VecWindow.put (s := S1024x128) (VecWindow.put (s := S1024x128) b
    ![0, 0] S256x128.size (k0_pay10 q)) ![256, 0] S256x128.size (k0_pay11 q)) ![512, 0] S256x128.size (k0_pay12 q)) ![768, 0] S256x128.size (qm3 q)

/-- The buffer is overwritten: what it held before does not matter. -/
theorem qmS_eq (b b' : Vec F S1024x128 .bf16) (q : Vec F S1x1x256x128 .bf16) : qmS b q = qmS b' q := by
  funext y
  unfold qmS VecWindow.put
  have h0 : (y 0).val < 1024 := (y 0).isLt
  have h1 : (y 1).val < 128 := (y 1).isLt
  have mem : ∀ o : ℕ, o ≤ (y 0).val → (y 0).val < o + 256 → ∀ a : Fin S1024x128.rank,
      (![o, 0] : Fin 2 → ℕ) a ≤ (y a).val ∧ (y a).val < (![o, 0] : Fin 2 → ℕ) a + S256x128.size a := fun o l u a => by
    match a with
    | ⟨0, _⟩ => exact ⟨l, u⟩
    | ⟨1, _⟩ => exact ⟨Nat.zero_le _, h1⟩
  split
  · rfl
  · rename_i n3
    split
    · rfl
    · rename_i n2
      split
      · rfl
      · rename_i n1
        split
        · rfl
        · rename_i n0
          exfalso
          have c0 : ¬ (y 0).val < 256 := fun h => n0 (mem 0 (by omega) (by omega))
          have c1 : ¬ ((y 0).val < 512) := fun h => n1 (mem 256 (by omega) (by omega))
          have c2 : ¬ ((y 0).val < 768) := fun h => n2 (mem 512 (by omega) (by omega))
          exact n3 (mem 768 (by omega) (by omega))

/-- The four maps' query rows stacked. -/
def qmB (q : Vec F S1x1x256x128 .bf16) : Vec F S1024x128 .bf16 := qmS (fun _ => Scalar.ofBits .bf16 0x0000#16) q

/-- The kept form of a score tile. -/
def keep (s : FVec F S1024x512 .f32) : Vec F S1x1x1024x512 .f32 := shapeCast S1x1x1024x512 s shapeCasts_S1024x512_S1x1x1024x512

/-- The running lane maxima with one more score tile. -/
def mup (s : FVec F S1024x512 .f32) (x : Vec F S1x1024x128 .f32) : Vec F S1x1024x128 .f32 :=
  k0_pay34 s (k0_pay32 x) (extractStridedSlice S1024x128 ![0, 0] s slices_S1024x512_o0_0_S1024x128)

/-- The diagonal tile's mask: a key is seen when its chunk is not later than the query's. -/
def mask (i : grid0.Coords) : IVec S1024x512 1 :=
  k0_pay19 (k0_mult1 i) (k0_pay16 (BitVec.ofNat 32 (i 2).val)) 64#32 (k0_pay17 (BitVec.ofNat 32 (i 2).val)) (k0_pay18 (BitVec.ofNat 32 (i 2).val))
    (Scalar.extui (Scalar.cmpi .sgt 64#32 0#32))

/-- The scores of key tile `k`: plain before the query tile's own, masked on it. -/
def stile (i : grid0.Coords) (q : Vec F S1x1x256x128 .bf16) (kk : Vec F S1x1x4096x128 .bf16) (k : ℕ) : FVec F S1024x512 .f32 :=
  if k < tl i then k0_pay24 (qmB q) (ktile kk k) else k0_pay30 (mask i) (qmB q) (ktile kk k)

/-- The running maximum of each lane after `k` tiles. -/
def mrun (i : grid0.Coords) (q : Vec F S1x1x256x128 .bf16) (kk : Vec F S1x1x4096x128 .bf16) : ℕ → Vec F S1x1024x128 .f32
  | 0 => k0_pay21 k0_pay20
  | k + 1 => mup (stile i q kk k) (mrun i q kk k)

/-- The row maxima, spread over the lanes. -/
def mfin (i : grid0.Coords) (q : Vec F S1x1x256x128 .bf16) (kk : Vec F S1x1x4096x128 .bf16) : Vec F S1x1024x128 .f32 :=
  k0_pay35 (mrun i q kk (tl i + 1))

/-- The running sum of each lane after `k` tiles. -/
def lrun (i : grid0.Coords) (q : Vec F S1x1x256x128 .bf16) (kk : Vec F S1x1x4096x128 .bf16) : ℕ → Vec F S1x1024x128 .f32
  | 0 => k0_pay22
  | k + 1 => k0_pay3 (keep (stile i q kk k)) (mfin i q kk) (lrun i q kk k)

/-- The running product of the weights with the values after `k` tiles. -/
def arun (i : grid0.Coords) (q : Vec F S1x1x256x128 .bf16) (kk v : Vec F S1x1x4096x128 .bf16) : ℕ → Vec F S1x1024x128 .f32
  | 0 => k0_pay23
  | k + 1 => k0_pay4 (keep (stile i q kk k)) (mfin i q kk) (arun i q kk v k) (ktile v k)

/-- The row sums, spread over the lanes. -/
def lfin (i : grid0.Coords) (q : Vec F S1x1x256x128 .bf16) (kk : Vec F S1x1x4096x128 .bf16) : Vec F S1x1024x128 .f32 :=
  k0_pay39 (lrun i q kk (tl i + 1))

/-- The block one grid point writes, from the parameters of λ, the norm's gain, the products and the row sums. -/
def outP (lp : Vec F S4x32 .f32) (hg : Vec F S1x128 .f32) (A L : Vec F S1x1024x128 .f32) : Vec F S1x256x128 .bf16 :=
  k0_pay1 (k0_pay45 (iota .tc S256x128 32 [1] iota_S256x128_d1_w32) (k0_pay41 lp (k0_pay40 lp))
    (k0_pay42 (rows A 0) (rows L 0)) (k0_pay43 (rows A 1) (rows L 1)) (k0_pay44 (rows A 2) (rows L 2)) (rows A 3) (rows L 3) hg)

/-- The block one grid point writes. -/
def outB (i : grid0.Coords) (lp : Vec F S4x32 .f32) (hg : Vec F S1x128 .f32) (q : Vec F S1x1x256x128 .bf16) (kk v : Vec F S1x1x4096x128 .bf16) :
    Vec F S1x256x128 .bf16 := outP lp hg (arun i q kk v (tl i + 1)) (lfin i q kk)

/-! ## The diagonal's payloads are the same functions -/

theorem pay25_eq (a : Vec F S1024x128 .bf16) (b : Vec F S1x1x512x128 .bf16) : k0_pay25 a b = keep (k0_pay24 a b) := rfl
theorem pay26_eq (a : Vec F S1024x128 .bf16) (b : Vec F S1x1x512x128 .bf16) (x : Vec F S1x1024x128 .f32) : k0_pay26 a b x = mup (k0_pay24 a b) x := rfl
theorem pay31_eq (w : IVec S1024x512 1) (a : Vec F S1024x128 .bf16) (b : Vec F S1x1x512x128 .bf16) : k0_pay31 w a b = keep (k0_pay30 w a b) := rfl
theorem pay34_eq (w : IVec S1024x512 1) (a : Vec F S1024x128 .bf16) (b : Vec F S1x1x512x128 .bf16) (x : Vec F S1x1024x128 .f32) :
    k0_pay34 (k0_pay30 w a b) (k0_pay32 x) (k0_pay33 w a b) = mup (k0_pay30 w a b) x := rfl
theorem pay37_eq (s : Vec F S1x1x1024x512 .f32) (x y : Vec F S1x1024x128 .f32) : k0_pay37 (k0_pay36 s x) y = k0_pay3 s x y := rfl
theorem pay38_eq (s : Vec F S1x1x1024x512 .f32) (x y : Vec F S1x1024x128 .f32) (w : Vec F S1x1x512x128 .bf16) :
    k0_pay38 (k0_pay36 s x) y w = k0_pay4 s x y w := rfl

/-! ## The scores' scratch buffer, tile by tile -/

/-- The scores' buffer with tile `k` replaced. -/
def putS (x : Vec F S1x8x1024x512 .f32) (k : ℕ) (a : Vec F S1x1x1024x512 .f32) : Vec F S1x8x1024x512 .f32 :=
  VecWindow.put (s := S1x8x1024x512) x ![0, k % 8, 0, 0] S1x1x1024x512.size a

theorem ts_putS (x : Vec F S1x8x1024x512 .f32) (k : ℕ) (a : Vec F S1x1x1024x512 .f32) : ts (putS x k a) k = a :=
  VecWindow.window_put_same (s := S1x8x1024x512) x ![0, k % 8, 0, 0] S1x1x1024x512.size (in_s k) a

theorem ts_putS_ne (x : Vec F S1x8x1024x512 .f32) (k j : ℕ) (hj : j % 8 ≠ k % 8) (a : Vec F S1x1x1024x512 .f32) : ts (putS x k a) j = ts x j := by
  have hd : j % 8 + 1 ≤ k % 8 ∨ k % 8 + 1 ≤ j % 8 := by omega
  exact VecWindow.window_put_of_disjoint (s := S1x8x1024x512) x ![0, k % 8, 0, 0] S1x1x1024x512.size ![0, j % 8, 0, 0] S1x1x1024x512.size (in_s j) a 1 hd

/-- After `k` tiles of the first pass: the tiles' scores kept. -/
def P1 (i : grid0.Coords) (q : Vec F S1x1x256x128 .bf16) (kk : Vec F S1x1x4096x128 .bf16) (k : ℕ) (x : Vec F S1x8x1024x512 .f32) : Prop :=
  ∀ j < k, ts x j = keep (stile i q kk j)

theorem P1_zero (i : grid0.Coords) (q : Vec F S1x1x256x128 .bf16) (kk : Vec F S1x1x4096x128 .bf16) (x : Vec F S1x8x1024x512 .f32) :
    P1 i q kk 0 x := fun j hj => absurd hj (Nat.not_lt_zero j)

/-- One more tile. -/
theorem P1_succ (i : grid0.Coords) (q : Vec F S1x1x256x128 .bf16) (kk : Vec F S1x1x4096x128 .bf16) (k : ℕ) (hk : k < 8)
    (x : Vec F S1x8x1024x512 .f32) (h : P1 i q kk k x) : P1 i q kk (k + 1) (putS x k (keep (stile i q kk k))) := by
  intro j hj
  rcases Nat.lt_succ_iff_lt_or_eq.mp hj with hj | rfl
  · rw [ts_putS_ne _ _ _ (by omega)]; exact h j hj
  · exact ts_putS _ _ _

theorem stile_lt (i : grid0.Coords) (q : Vec F S1x1x256x128 .bf16) (kk : Vec F S1x1x4096x128 .bf16) {k : ℕ} (hk : k < tl i) :
    stile i q kk k = k0_pay24 (qmB q) (ktile kk k) := if_pos hk
theorem stile_tl (i : grid0.Coords) (q : Vec F S1x1x256x128 .bf16) (kk : Vec F S1x1x4096x128 .bf16) :
    stile i q kk (tl i) = k0_pay30 (mask i) (qmB q) (ktile kk (tl i)) := if_neg (lt_irrefl _)

end Cert.Kernel2Ideal.Hand

end
-- ==== Proof.DRun.lean ====
/- The differential attention's body at one grid point, run: from the five input blocks it leaves `outB` in the output block,
   whatever the scratch buffers held. -/
module

public import proofs.«01_k».proof.Proof.DStep
public import proofs.«01_k».proof.Proof.Gen.Kernel2Ideal.Launch
public import proofs.«01_k».proof.Proof.Gen.Kernel2Ideal.Points
public import Idealize.ShloMosaic.Lib.Pipeline.FrameBody
public import Idealize.ShloMosaic.Lib.Pipeline.TableIdle
public import Idealize.ShloMosaic.Lib.Tactic
public import Idealize.ShloMosaic.Lib.LoopRemainder

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A memref of the body held whole at the values `x`. -/
abbrev at_ (c : Dev nD) {sp : Space} {s : Shape} {e : EltTy} (r : Memref sig .tc sp s e) (x : Vec F s e) : sProp 𝕄 :=
  r.view.loc (c : Thread nD τ) ↦[r.view.set]{fullShare} r.view.rep x

/-! ## Loads and stores at the body's rectangles -/

/-- A load of one tile of the keys or the values. -/
theorem ld_k (r : Memref sig .tc .vmem S1x1x4096x128 .bf16) (kk : Vec F S1x1x4096x128 .bf16) (k : ℕ) {off : Fin 4 → ℕ}
    (e : off = ![0, 0, 512 * (k % 8), 0]) (inb : ∀ a, off a + S1x1x512x128.size a ≤ S1x1x4096x128.size a) :
    r.view.readAt (Elt F) (Rect.unit (s := S1x1x4096x128) off S1x1x512x128.size inb).toLoadRect (r.view.rep kk) = ktile kk k :=
  View.readAt_rep_unit _ _ _ e _
/-- A load of one kept score tile. -/
theorem ld_s (r : Memref sig .tc .vmem S1x8x1024x512 .f32) (x : Vec F S1x8x1024x512 .f32) (k : ℕ) {off : Fin 4 → ℕ}
    (e : off = ![0, k % 8, 0, 0]) (inb : ∀ a, off a + S1x1x1024x512.size a ≤ S1x8x1024x512.size a) :
    r.view.readAt (Elt F) (Rect.unit (s := S1x8x1024x512) off S1x1x1024x512.size inb).toLoadRect (r.view.rep x) = ts x k :=
  View.readAt_rep_unit _ _ _ e _
/-- One score tile stored. -/
theorem st_s (r : Memref sig .tc .vmem S1x8x1024x512 .f32) (x : Vec F S1x8x1024x512 .f32) (k : ℕ) {o : Fin 4 → ℕ} (e : o = ![0, k % 8, 0, 0])
    (inb : ∀ a, o a + S1x1x1024x512.size a ≤ S1x8x1024x512.size a) (a : Vec F S1x1x1024x512 .f32) :
    r.view.read (Elt F) (r.view.writes (Elt F) (r.view.rep x) [⟨Rect.unit (s := S1x8x1024x512) o S1x1x1024x512.size inb, a⟩]) = putS x k a :=
  View.read_writes_rep_unit (off' := ![0, k % 8, 0, 0]) r.view x inb a e
/-- One map's rows loaded from a buffer just stored whole. -/
theorem cov_r (r : Memref sig .tc .vmem S1x1024x128 .f32) (c : Fin 4) {off o' : Fin 3 → ℕ} (e : off = ![0, 256 * c.val, 0])
    (inb : ∀ a, off a + S1x256x128.size a ≤ S1x1024x128.size a) (inb' : ∀ a, o' a + S1x1024x128.size a ≤ S1x1024x128.size a)
    (w : Vec F S1x1024x128 .f32) (L : List (View.Piece (Elt F) S1x1024x128 .f32)) :
    r.view.readCov (⟨Rect.unit (s := S1x1024x128) o' S1x1024x128.size inb', w⟩ :: L) (Rect.unit (s := S1x1024x128) off S1x256x128.size inb).toLoadRect = rows w c :=
  by
    refine (View.readAt_unit r.view (r.view.writes (Elt F) r.view.junk (⟨Rect.unit (s := S1x1024x128) o' S1x1024x128.size inb', w⟩ :: L)) inb e (in_r c)).trans ?_
    rw [View.read_writes_full]; rfl
/-- The four maps' rows stored. -/
theorem st_qm (r : Memref sig .tc .vmem S1024x128 .bf16) (f : r.view.ty.Contents (Elt F)) (q : Vec F S1x1x256x128 .bf16)
    (i0 : ∀ a, (![0, 0] : Fin 2 → ℕ) a + S256x128.size a ≤ S1024x128.size a) (i1 : ∀ a, (![256, 0] : Fin 2 → ℕ) a + S256x128.size a ≤ S1024x128.size a)
    (i2 : ∀ a, (![512, 0] : Fin 2 → ℕ) a + S256x128.size a ≤ S1024x128.size a) (i3 : ∀ a, (![768, 0] : Fin 2 → ℕ) a + S256x128.size a ≤ S1024x128.size a) :
    r.view.read (Elt F) (r.view.writes (Elt F) f
      [⟨Rect.unit (s := S1024x128) ![768, 0] S256x128.size i3, qm3 q⟩, ⟨Rect.unit (s := S1024x128) ![512, 0] S256x128.size i2, k0_pay12 q⟩,
        ⟨Rect.unit (s := S1024x128) ![256, 0] S256x128.size i1, k0_pay11 q⟩, ⟨Rect.unit (s := S1024x128) ![0, 0] S256x128.size i0, k0_pay10 q⟩]) = qmB q := by
  rw [View.read_writes_cons_put (off' := ![768, 0]) r.view _ i3 _ _ rfl, View.read_writes_cons_put (off' := ![512, 0]) r.view _ i2 _ _ rfl,
    View.read_writes_cons_put (off' := ![256, 0]) r.view _ i1 _ _ rfl, View.read_writes_cons_put (off' := ![0, 0]) r.view _ i0 _ _ rfl]
  exact qmS_eq _ _ q

/-! ## The run -/

/-- The first pass before tile `k`. -/
def inv1 (c : Dev nD) (i : grid0.Coords) (arg6 : Memref sig .tc .vmem S1x1x4096x128 .bf16)
    (arg9 : Memref sig .tc .vmem S1x1024x128 .f32) (arg12 : Memref sig .tc .vmem S1x8x1024x512 .f32) (arg13 : Memref sig .tc .vmem S1024x128 .bf16)
    (q : Vec F S1x1x256x128 .bf16) (kk : Vec F S1x1x4096x128 .bf16) (k : ℕ) (_ : Unit) : sProp 𝕄 :=
  iprop(∃ x12, ⌜P1 i q kk k x12⌝ ∗ at_ c arg6 kk ∗ at_ c arg9 (mrun i q kk k) ∗ at_ c arg12 x12 ∗ at_ c arg13 (qmB q))

/-- The second pass before tile `k`: the row maxima and the kept scores stand still. -/
def inv3 (c : Dev nD) (i : grid0.Coords) (arg7 : Memref sig .tc .vmem S1x1x4096x128 .bf16)
    (arg9 arg10 arg11 : Memref sig .tc .vmem S1x1024x128 .f32) (arg12 : Memref sig .tc .vmem S1x8x1024x512 .f32)
    (q : Vec F S1x1x256x128 .bf16) (kk v : Vec F S1x1x4096x128 .bf16) (x12 : Vec F S1x8x1024x512 .f32) (k : ℕ) (_ : Unit) : sProp 𝕄 :=
  iprop(at_ c arg7 v ∗ at_ c arg9 (mfin i q kk) ∗ at_ c arg12 x12 ∗ at_ c arg10 (lrun i q kk k) ∗ at_ c arg11 (arun i q kk v k))

set_option maxHeartbeats 4000000 in
/-- The body at a grid point: the inputs stand, the output block holds `outB`, the scratch buffers hold something. -/
theorem run (c : Dev nD) (i : grid0.Coords)
    (arg3 : Memref sig .tc .vmem S4x32 .f32) (harg3 : arg3.IsWhole) (arg4 : Memref sig .tc .vmem S1x128 .f32) (harg4 : arg4.IsWhole)
    (arg5 : Memref sig .tc .vmem S1x1x256x128 .bf16) (harg5 : arg5.IsWhole) (arg6 : Memref sig .tc .vmem S1x1x4096x128 .bf16) (harg6 : arg6.IsWhole)
    (arg7 : Memref sig .tc .vmem S1x1x4096x128 .bf16) (harg7 : arg7.IsWhole) (arg8 : Memref sig .tc .vmem S1x256x128 .bf16) (harg8 : arg8.IsWhole)
    (arg9 : Memref sig .tc .vmem S1x1024x128 .f32) (harg9 : arg9.IsWhole) (arg10 : Memref sig .tc .vmem S1x1024x128 .f32) (harg10 : arg10.IsWhole)
    (arg11 : Memref sig .tc .vmem S1x1024x128 .f32) (harg11 : arg11.IsWhole) (arg12 : Memref sig .tc .vmem S1x8x1024x512 .f32) (harg12 : arg12.IsWhole)
    (arg13 : Memref sig .tc .vmem S1024x128 .bf16) (harg13 : arg13.IsWhole)
    (lp : Vec F S4x32 .f32) (hg : Vec F S1x128 .f32) (q : Vec F S1x1x256x128 .bf16) (kk v : Vec F S1x1x4096x128 .bf16)
    (x8 : Vec F S1x256x128 .bf16) (x9 x10 x11 : Vec F S1x1024x128 .f32) (x12 : Vec F S1x8x1024x512 .f32) (x13 : Vec F S1024x128 .bf16) (K : PUnit → sProp 𝕄) :
    iprop(at_ c arg3 lp ∗ at_ c arg4 hg ∗ at_ c arg5 q ∗ at_ c arg6 kk ∗ at_ c arg7 v ∗ at_ c arg8 x8 ∗ at_ c arg9 x9 ∗ at_ c arg10 x10 ∗ at_ c arg11 x11
      ∗ at_ c arg12 x12 ∗ at_ c arg13 x13
      ∗ (iprop(at_ c arg3 lp ∗ at_ c arg4 hg ∗ at_ c arg5 q ∗ at_ c arg6 kk ∗ at_ c arg7 v ∗ at_ c arg8 (outB i lp hg q kk v)
          ∗ (∃ x, at_ (F := F) c arg9 x) ∗ (∃ x, at_ (F := F) c arg10 x) ∗ (∃ x, at_ (F := F) c arg11 x) ∗ (∃ x, at_ (F := F) c arg12 x)
          ∗ (∃ x, at_ (F := F) c arg13 x)) -∗ K ⟨⟩))
      ⊢ wp frame (wpE (defs₀ (F := F)) Variants.none c none) Set.univ
          (cc0_diff_attention i arg3 harg3 arg4 harg4 arg5 harg5 arg6 harg6 arg7 harg7 arg8 harg8 arg9 harg9 arg10 harg10 arg11 harg11 arg12 harg12 arg13 harg13) K := by
  simp only [cc0_diff_attention_eq_skeleton]; unfold cc0_diff_attention_skel
  iintro ⟨H3, H4, H5, H6, H7, H8, H9, H10, H11, H12, H13, Hk⟩
  sl_exec
  ihave G9 := (pointsTo_rep_of_read (Ix := Unit) (Name := ℕ) (U := UR sig nD τ) (Lvl := ℕ) (c : Thread nD τ) arg9 _ fullShare (mrun i q kk 0) (by unfold run.sl.H9_1; exact View.read_writes_full _ _ _ _ _)) $$ H9
  ihave G13 := (pointsTo_rep_of_read (Ix := Unit) (Name := ℕ) (U := UR sig nD τ) (Lvl := ℕ) (c : Thread nD τ) arg13 _ fullShare (qmB q) (by
    have e3 : run.sl.v39 arg5 q = qm3 q := by
      unfold run.sl.v39 run.sl.v36 run.sl.r
      rw [View.readAt_rep_full]; rfl
    unfold run.sl.H13_4
    rw [e3, View.readAt_rep_full]
    exact st_qm _ _ q _ _ _ _)) $$ H13
  sl_for (inv1 c i arg6 arg9 arg12 arg13 q kk) $$ [H6 G9 H12 G13]
  case region =>
    intro k a; unfold inv1
    iintro ⟨%y12, %hP, H6, H9, H12, H13⟩
    sl_exec
    sl_step
    have hk : k.val < tl i := lt_of_lt_of_eq k.isLt (trips1 i)
    iexists putS y12 k (keep (stile i q kk k))
    isplitr; · ipureintro; exact P1_succ i q kk k (hk.trans (tl_lt i)) y12 hP
    isplitl [H6]; · iexact H6
    isplitl [H9]
    · iapply (pointsTo_rep_of_read (Ix := Unit) (Name := ℕ) (U := UR sig nD τ) (Lvl := ℕ) (c : Thread nD τ) arg9 _ fullShare _ ?_) $$ H9
      rw [View.read_writes_full, pay26_eq, View.readAt_rep_full, View.readAt_rep_full, ld_k arg6 kk k (off1_eq i k), ← stile_lt i q kk hk]; rfl
    isplitl [H12]
    · iapply (pointsTo_rep_of_read (Ix := Unit) (Name := ℕ) (U := UR sig nD τ) (Lvl := ℕ) (c : Thread nD τ) arg12 _ fullShare _ ?_) $$ H12
      rw [st_s _ _ k (off2_eq i k), pay25_eq, View.readAt_rep_full, ld_k arg6 kk k (off1_eq i k), ← stile_lt i q kk hk]
    iexact H13
  · unfold inv1
    iexists x12
    isplitr; · ipureintro; exact P1_zero i q kk x12
    isplitl [H6]; · iexact H6
    isplitl [G9]; · iexact G9
    isplitl [H12]; · iexact H12
    iexact G13
  iintro %a HI
  unfold inv1; icases HI with ⟨%y12, %hP, H6, H9, H12, H13⟩
  have hP' : P1 i q kk (tl i) y12 := (trips1 i) ▸ hP
  rw [show mrun i q kk (Scf.trips (k0_t1_loop i).lb (k0_t1_loop i).ub (k0_t1_loop i).st) = mrun i q kk (tl i) from congrArg _ (trips1 i)]
  sl_exec
  have hm : run.sl.r_1 i = mask i := rfl
  ihave G9 := (pointsTo_rep_of_read (Ix := Unit) (Name := ℕ) (U := UR sig nD τ) (Lvl := ℕ) (c : Thread nD τ) arg9 _ fullShare (mfin i q kk) (by
    unfold run.sl.H9_2
    rw [View.read_writes_full]
    unfold run.sl.v161 run.sl.H9_1_1
    rw [View.readCov_full]
    unfold run.sl.r_2 run.sl.r_3 run.sl.r_4
    rw [View.readAt_rep_full, View.readAt_rep_full, ld_k arg6 kk (tl i) (off5_eq i), hm, pay34_eq, ← stile_tl]
    rfl)) $$ H9
  ihave G10 := (pointsTo_rep_of_read (Ix := Unit) (Name := ℕ) (U := UR sig nD τ) (Lvl := ℕ) (c : Thread nD τ) arg10 _ fullShare (lrun i q kk 0) (by unfold run.sl.H10_1; exact View.read_writes_full _ _ _ _ _)) $$ H10
  ihave G11 := (pointsTo_rep_of_read (Ix := Unit) (Name := ℕ) (U := UR sig nD τ) (Lvl := ℕ) (c : Thread nD τ) arg11 _ fullShare (arun i q kk v 0) (by unfold run.sl.H11_1; exact View.read_writes_full _ _ _ _ _)) $$ H11
  have P1s := P1_succ i q kk (tl i) (tl_lt i) y12 hP'
  ihave G12 := (pointsTo_rep_of_read (Ix := Unit) (Name := ℕ) (U := UR sig nD τ) (Lvl := ℕ) (c : Thread nD τ) arg12 _ fullShare
    (putS y12 (tl i) (keep (stile i q kk (tl i)))) (by
      rw [st_s _ _ (tl i) (off6_eq i), stile_tl, hm, View.readAt_rep_full, ld_k arg6 kk (tl i) (off5_eq i), pay31_eq])) $$ H12
  generalize putS y12 (tl i) (keep (stile i q kk (tl i))) = z12 at P1s
  sl_for (inv3 c i arg7 arg9 arg10 arg11 arg12 q kk v z12) $$ [H7 G9 G10 G11 G12]
  case region =>
    intro k b; unfold inv3
    iintro ⟨H7, H9, H12, H10, H11⟩
    sl_exec
    sl_step
    have hk : k.val < tl i := lt_of_lt_of_eq k.isLt (trips3 i)
    isplitl [H7]; · iexact H7
    isplitl [H9]; · iexact H9
    isplitl [H12]; · iexact H12
    isplitl [H10]
    · iapply (pointsTo_rep_of_read (Ix := Unit) (Name := ℕ) (U := UR sig nD τ) (Lvl := ℕ) (c : Thread nD τ) arg10 _ fullShare _ ?_) $$ H10
      rw [View.read_writes_full, ld_s arg12 z12 k (off7_eq i k), P1s k (hk.trans (Nat.lt_succ_self _)), View.readAt_rep_full, View.readAt_rep_full]; rfl
    · iapply (pointsTo_rep_of_read (Ix := Unit) (Name := ℕ) (U := UR sig nD τ) (Lvl := ℕ) (c : Thread nD τ) arg11 _ fullShare _ ?_) $$ H11
      rw [View.read_writes_full, ld_s arg12 z12 k (off7_eq i k), P1s k (hk.trans (Nat.lt_succ_self _)), View.readAt_rep_full, View.readAt_rep_full,
        ld_k arg7 v k (off8_eq i k)]; rfl
  · unfold inv3
    isplitl [H7]; · iexact H7
    isplitl [G9]; · iexact G9
    isplitl [G12]; · iexact G12
    isplitl [G10]; · iexact G10
    iexact G11
  iintro %b HI
  unfold inv3; icases HI with ⟨H7, H9, H12, H10, H11⟩
  rw [show lrun i q kk (Scf.trips (k0_t3_loop i).lb (k0_t3_loop i).ub (k0_t3_loop i).st) = lrun i q kk (tl i) from congrArg _ (trips3 i),
    show arun i q kk v (Scf.trips (k0_t3_loop i).lb (k0_t3_loop i).ub (k0_t3_loop i).st) = arun i q kk v (tl i) from congrArg _ (trips3 i)]
  sl_exec
  sl_step
  have s0 := P1s (tl i) (Nat.lt_succ_self _)
  iapply Hk
  isplitl [H3]; · iexact H3
  isplitl [H4]; · iexact H4
  isplitl [H5]; · iexact H5
  isplitl [H6]; · iexact H6
  isplitl [H7]; · iexact H7
  isplitl [H8]
  · iapply (pointsTo_rep_of_read (Ix := Unit) (Name := ℕ) (U := UR sig nD τ) (Lvl := ℕ) (c : Thread nD τ) arg8 _ fullShare _ ?_) $$ H8
    rw [View.read_writes_full]
    have hA : ∀ (c : Fin 4) {off : Fin 3 → ℕ} (e : off = ![0, 256 * c.val, 0]) (inb : ∀ a, off a + S1x256x128.size a ≤ S1x1024x128.size a),
        arg11.view.readCov (run.sl.H11_1_1 i arg7 arg9 arg11 arg12 q kk v z12) (Rect.unit (s := S1x1024x128) off S1x256x128.size inb).toLoadRect
          = rows (arun i q kk v (tl i + 1)) c := by
      intro c off e inb
      unfold run.sl.H11_1_1
      rw [cov_r arg11 c e]
      unfold run.sl.r_5
      rw [pay38_eq, ld_s arg12 z12 (tl i) (off6_eq i), s0, View.readAt_rep_full, View.readAt_rep_full, ld_k arg7 v (tl i) (off5_eq i)]
      rfl
    have hL : ∀ (c : Fin 4) {off : Fin 3 → ℕ} (e : off = ![0, 256 * c.val, 0]) (inb : ∀ a, off a + S1x256x128.size a ≤ S1x1024x128.size a),
        arg10.view.readCov (run.sl.H10_2 i arg9 arg10 arg12 q kk z12) (Rect.unit (s := S1x1024x128) off S1x256x128.size inb).toLoadRect
          = rows (lfin i q kk) c := by
      intro c off e inb
      unfold run.sl.H10_2
      rw [cov_r arg10 c e]
      unfold run.sl.v207 run.sl.H10_1_1
      rw [View.readCov_full]
      unfold run.sl.r_5
      rw [pay37_eq, ld_s arg12 z12 (tl i) (off6_eq i), s0, View.readAt_rep_full, View.readAt_rep_full]
      rfl
    unfold run.sl.r_12 run.sl.r_8 run.sl.r_9 run.sl.r_10 run.sl.r_11
    unfold run.sl.v238 run.sl.v240 run.sl.v243 run.sl.v245 run.sl.v248 run.sl.v250 run.sl.v253 run.sl.v255 run.sl.r_7 run.sl.r_6
    rw [hA 0 (off := ![0, 0, 0]) rfl, hA 1 (off := ![0, 256, 0]) rfl, hA 2 (off := ![0, 512, 0]) rfl, hA 3 (off := ![0, 768, 0]) rfl, hL 0 (off := ![0, 0, 0]) rfl, hL 1 (off := ![0, 256, 0]) rfl, hL 2 (off := ![0, 512, 0]) rfl, hL 3 (off := ![0, 768, 0]) rfl, View.readAt_rep_full, View.readAt_rep_full]
    rfl
  isplitl [H9]; · iexists _; iexact H9
  isplitl [H10]
  · ihave G10 := (pointsTo_rep_entails (Ix := Unit) (Name := ℕ) (U := UR sig nD τ) (Lvl := ℕ) (c : Thread nD τ) arg10 _ fullShare) $$ H10
    iexists _; iexact G10
  isplitl [H11]
  · ihave G11 := (pointsTo_rep_entails (Ix := Unit) (Name := ℕ) (U := UR sig nD τ) (Lvl := ℕ) (c : Thread nD τ) arg11 _ fullShare) $$ H11
    iexists _; iexact G11
  isplitl [H12]; · iexists _; iexact H12
  iexists _; iexact H13

end Cert.Kernel2Ideal.Hand

end
-- ==== Proof.DFrame.lean ====
/- The differential attention's launch: every grid point's body leaves `outB` of its five input blocks in the output window, so the whole
   call runs, leaves its arguments as they were and every semaphore counter at zero. -/
module

public import proofs.«01_k».proof.Proof.DRun
public import proofs.«01_k».proof.Proof.Gen.Kernel2Ideal.Frame

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block the body leaves at grid point `t`. -/
def outAt (c : Dev nD) (t : Fin cfg0.N) : Vec F S1x256x128 .bf16 :=
  outB (grid0.coords t) (iblk m c 0 t) (iblk m c 1 t) (iblk m c 2 t) (iblk m c 3 t) (iblk m c 4 t)

/-- The launch's data: the arrays as the call finds them, each input window's block kept, the output window's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m _ (A_eq m c 0) (after_0 m c) t d
theorem before_1 (c : Dev nD) (t : Fin cfg0.N) (d) : (dats m 0 c).before 1 t d = iblk m c 1 t :=
  before0_1_of m _ (A_eq m c 1) (after_1 m c) t d
theorem before_2 (c : Dev nD) (t : Fin cfg0.N) (d) : (dats m 0 c).before 2 t d = iblk m c 2 t :=
  before0_2_of m _ (A_eq m c 2) (after_2 m c) t d
theorem before_3 (c : Dev nD) (t : Fin cfg0.N) (d) : (dats m 0 c).before 3 t d = iblk m c 3 t :=
  before0_3_of m _ (A_eq m c 3) (after_3 m c) t d
theorem before_4 (c : Dev nD) (t : Fin cfg0.N) (d) : (dats m 0 c).before 4 t d = iblk m c 4 t :=
  before0_4_of m _ (A_eq m c 4) (after_4 m c) t d

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
/-- What the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- A scratch buffer at some contents is that buffer's memref at some values. -/
theorem scr_in (c : Dev nD) (b : Ref sig .tc) :
    iprop(∃ f : Buf (Elt F) ((c : Thread nD τ).loc b), ((c : Thread nD τ).loc b) ↦{fullShare} f)
      ⊢ (iprop(∃ x, owns (c : Thread nD τ) (Memref.whole b) fullShare x) : sProp 𝕄) := by
  iintro ⟨%f, H⟩
  iexists f
  rw [owns_whole]
  iexact H
theorem scr_out (c : Dev nD) (b : Ref sig .tc) :
    (iprop(∃ x, owns (c : Thread nD τ) (Memref.whole b) fullShare x) : sProp 𝕄)
      ⊢ iprop(∃ f : Buf (Elt F) ((c : Thread nD τ).loc b), ((c : Thread nD τ).loc b) ↦{fullShare} f) := by
  iintro ⟨%f, H⟩
  iexists f
  iapply (Entails.of_eq (owns_whole (c : Thread nD τ) b fullShare f)) $$ H

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl,
    after_0, after_1, after_2, after_3, after_4, after_5]
  simp only [before_0, before_1, before_2, before_3, before_4]
  unfold Dat.owesAt Pipeline.owesWithin Pipeline.ΦA
  rw [show (dats m 0 c).owed t.castSucc = 0 from rfl, show (dats m 0 c).owed t.succ = 0 from rfl, scopedRest0_eq]
  unfold outAt
  iintro ⟨⟨⟨HS0, HS1, HS2, HS3, HS4⟩, Hg⟩, HW, ⟨%d0, H0⟩, ⟨%d1, H1⟩, ⟨%d2, H2⟩, ⟨%d3, H3⟩, ⟨%d4, H4⟩, ⟨%d5, H5⟩⟩
  ihave G0 := (scr_in c cc0_scratch0) $$ HS0
  ihave G1 := (scr_in c cc0_scratch1) $$ HS1
  ihave G2 := (scr_in c cc0_scratch2) $$ HS2
  ihave G3 := (scr_in c cc0_scratch3) $$ HS3
  ihave G4 := (scr_in c cc0_scratch4) $$ HS4
  icases G0 with ⟨%f0, G0⟩
  icases G1 with ⟨%f1, G1⟩
  icases G2 with ⟨%f2, G2⟩
  icases G3 with ⟨%f3, G3⟩
  icases G4 with ⟨%f4, G4⟩
  iapply (run c (grid0.coords t) _ _ _ _ _ _ _ _ _ _ _ _ _ _ _ _ _ _ _ _ _ _ (iblk m c 0 t) (iblk m c 1 t) (iblk m c 2 t) (iblk m c 3 t) (iblk m c 4 t) _ f0 f1 f2 f3 f4 _)
  isplitl [H0]; · iapply (rep_of_owns (c : Thread nD τ) _ _ _) $$ H0
  isplitl [H1]; · iapply (rep_of_owns (c : Thread nD τ) _ _ _) $$ H1
  isplitl [H2]; · iapply (rep_of_owns (c : Thread nD τ) _ _ _) $$ H2
  isplitl [H3]; · iapply (rep_of_owns (c : Thread nD τ) _ _ _) $$ H3
  isplitl [H4]; · iapply (rep_of_owns (c : Thread nD τ) _ _ _) $$ H4
  isplitl [H5]; · iapply (rep_of_owns (c : Thread nD τ) _ _ _) $$ H5
  isplitl [G0]; · iapply (rep_of_owns (c : Thread nD τ) _ _ _) $$ G0
  isplitl [G1]; · iapply (rep_of_owns (c : Thread nD τ) _ _ _) $$ G1
  isplitl [G2]; · iapply (rep_of_owns (c : Thread nD τ) _ _ _) $$ G2
  isplitl [G3]; · iapply (rep_of_owns (c : Thread nD τ) _ _ _) $$ G3
  isplitl [G4]; · iapply (rep_of_owns (c : Thread nD τ) _ _ _) $$ G4
  iintro ⟨H0, H1, H2, H3, H4, H5, ⟨%x0, G0⟩, ⟨%x1, G1⟩, ⟨%x2, G2⟩, ⟨%x3, G3⟩, ⟨%x4, G4⟩⟩
  isplitl [G0 G1 G2 G3 G4 Hg]
  · isplitl [G0 G1 G2 G3 G4]
    · isplitl [G0]; · iapply (scr_out c cc0_scratch0); iexists x0; iapply (owns_of_rep (c : Thread nD τ) _ _ _) $$ G0
      isplitl [G1]; · iapply (scr_out c cc0_scratch1); iexists x1; iapply (owns_of_rep (c : Thread nD τ) _ _ _) $$ G1
      isplitl [G2]; · iapply (scr_out c cc0_scratch2); iexists x2; iapply (owns_of_rep (c : Thread nD τ) _ _ _) $$ G2
      isplitl [G3]; · iapply (scr_out c cc0_scratch3); iexists x3; iapply (owns_of_rep (c : Thread nD τ) _ _ _) $$ G3
      iapply (scr_out c cc0_scratch4); iexists x4; iapply (owns_of_rep (c : Thread nD τ) _ _ _) $$ G4
    iexact Hg
  isplitl [HW]; · iexact HW
  isplitl [H0]; · iapply (owns_of_rep (c : Thread nD τ) _ _ _) $$ H0
  isplitl [H1]; · iapply (owns_of_rep (c : Thread nD τ) _ _ _) $$ H1
  isplitl [H2]; · iapply (owns_of_rep (c : Thread nD τ) _ _ _) $$ H2
  isplitl [H3]; · iapply (owns_of_rep (c : Thread nD τ) _ _ _) $$ H3
  isplitl [H4]; · iapply (owns_of_rep (c : Thread nD τ) _ _ _) $$ H4
  iapply (owns_of_rep (c : Thread nD τ) _ _ _) $$ H5

theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The call runs: every window's array ends at its launch data's contents, every counter at zero. -/
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the call runs, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) (A_eq m)) (run_main m ρ)

end Cert.Kernel2Ideal.Hand

end
-- ==== Proof.Soft2.lean ====
/- The arithmetic of the difference of two softmaxes and of the mean square over the extended reals, and sums over a part of the lanes. -/
module

public import proofs.«01_k».proof.Proof.Soft

@[expose] public section

noncomputable section

namespace Cert.Soft

open Idealize.ShloMosaic

/-- Neither of the infinities. -/
abbrev IsNum (x : EReal) : Prop := x ≠ ⊤ ∧ x ≠ ⊥

theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The difference of two finite weighted sums is the sum weighted by the differences. -/
theorem diff_sum {ι : Type} [Fintype ι] (p0 p1 v : ι → EReal) (t : EReal) (h0 : ∀ k, IsNum (p0 k)) (h1 : ∀ k, IsNum (p1 k)) (hv : ∀ k, IsNum (v k)) (ht : IsNum t) :
    (∑ k, v k * p0 k) - t * ∑ k, v k * p1 k = ∑ k, v k * (p0 k - t * p1 k) := by
  lift p0 to ι → ℝ using h0
  lift p1 to ι → ℝ using h1
  lift v to ι → ℝ using hv
  lift t to ℝ using ht
  simp only [← EReal.coe_mul, ← EReal.coe_sub, coe_sum]
  refine congrArg _ ?_
  rw [Finset.mul_sum, ← Finset.sum_sub_distrib]
  exact Finset.sum_congr rfl fun k _ => by ring

/-- A softmax's weights are finite where its scores are below infinity and not all minus infinity. -/
theorem soft_fin {ι : Type} [Fintype ι] (s : ι → EReal) (hs : ∀ k, s k ≠ ⊤) (k0 : ι) (h0 : s k0 ≠ ⊥) (k : ι) :
    IsNum (Ideal.div (Ideal.exp2 (s k - Finset.univ.sup s)) (∑ k, Ideal.exp2 (s k - Finset.univ.sup s))) := by
  obtain ⟨k1, -, h1⟩ := Finset.exists_mem_eq_sup Finset.univ ⟨k0, Finset.mem_univ _⟩ s
  have hle : s k0 ≤ Finset.univ.sup s := Finset.le_sup (f := s) (Finset.mem_univ k0)
  generalize Finset.univ.sup s = M at h1 hle ⊢
  have hMt : M ≠ ⊤ := h1 ▸ hs k1
  have hMb : M ≠ ⊥ := fun h => h0 (le_bot_iff.mp (h ▸ hle))
  have hd : ∀ k, s k - M ≠ ⊤ := fun k => by
    rw [sub_eq_add_neg]
    exact EReal.add_ne_top (hs k) (fun h => hMb (EReal.neg_eq_top_iff.mp h))
  have he : Ideal.exp2 (s k1 - M) = 1 := by rw [← h1, EReal.sub_self hMt hMb, exp2_zero]
  have hL1 : 1 ≤ ∑ k, Ideal.exp2 (s k - M) := he ▸ Finset.single_le_sum (f := fun k => Ideal.exp2 (s k - M)) (fun k _ => exp2_nonneg _) (Finset.mem_univ k1)
  have hLt : ∑ k, Ideal.exp2 (s k - M) ≠ ⊤ := sum_ne_top _ _ fun k _ => exp2_ne_top _ (hd k)
  have hek : Ideal.exp2 (s k - M) ≠ ⊤ := exp2_ne_top _ (hd k)
  have hek' : Ideal.exp2 (s k - M) ≠ ⊥ := fun h => absurd (exp2_nonneg (s k - M)) (by rw [h]; exact not_le.mpr (EReal.bot_lt_coe 0))
  generalize ∑ k, Ideal.exp2 (s k - M) = L at hL1 hLt ⊢
  generalize Ideal.exp2 (s k - M) = e at hek hek' ⊢
  have hL0 : L ≠ 0 := fun h => by rw [h] at hL1; exact absurd hL1 (by norm_num)
  simp only [Ideal.div, if_neg hL0]
  lift L to ℝ using ⟨hLt, fun h => by rw [h] at hL1; exact absurd (le_bot_iff.mp hL1) (by exact EReal.coe_ne_bot 1)⟩
  rw [← EReal.coe_inv]
  exact ⟨mul_ne_top _ _ ⟨hek, hek'⟩ ⟨EReal.coe_ne_top _, EReal.coe_ne_bot _⟩, mul_ne_bot _ _ ⟨hek, hek'⟩ ⟨EReal.coe_ne_top _, EReal.coe_ne_bot _⟩⟩

theorem fin_exp (x : EReal) (hx : IsNum x) : IsNum (Ideal.exp x) := by
  lift x to ℝ using hx
  exact ⟨EReal.coe_ne_top _, EReal.coe_ne_bot _⟩

theorem fin_sum {ι : Type} [Fintype ι] (f : ι → EReal) (hf : ∀ i, IsNum (f i)) : IsNum (∑ i, f i) :=
  ⟨sum_ne_top _ _ fun i _ => (hf i).1, sum_ne_bot _ _ fun i _ => (hf i).2⟩

theorem fin_mul (x y : EReal) (hx : IsNum x) (hy : IsNum y) : IsNum (x * y) := ⟨mul_ne_top x y hx hy, mul_ne_bot x y hx hy⟩

theorem fin_sub_add (x y z : EReal) (hx : IsNum x) (hy : IsNum y) (hz : IsNum z) : IsNum (x - y + z) := by
  lift x to ℝ using hx
  lift y to ℝ using hy
  lift z to ℝ using hz
  rw [← EReal.coe_sub, ← EReal.coe_add]
  exact ⟨EReal.coe_ne_top _, EReal.coe_ne_bot _⟩

/-- The bit pattern of a fifth's nearest number is finite. -/
theorem fin_init : IsNum (Ideal.ofBits FTy.f32 0x3E4CCCCD#32) := by
  simp [Ideal.ofBits, Ideal.ieee, -EReal.coe_mul]
  exact ⟨EReal.coe_ne_top _, EReal.coe_ne_bot _⟩

/-- The bit pattern of 64. -/
theorem ofBits_64 : Ideal.ofBits FTy.f32 0x42800000#32 = ((64 : ℝ) : EReal) := by
  simp [Ideal.ofBits, Ideal.ieee, -EReal.coe_mul]; norm_num
/-- The bit pattern of one over 64. -/
theorem ofBits_inv64 : Ideal.ofBits FTy.f32 0x3C800000#32 = (((64 : ℝ)⁻¹ : ℝ) : EReal) := by
  simp [Ideal.ofBits, Ideal.ieee, -EReal.coe_mul]; norm_num

/-- A mean of 64 terms, by a product or by a quotient. -/
theorem mean64 (x : EReal) : x * Ideal.ofBits FTy.f32 0x3C800000#32 = Ideal.div x (Ideal.ofBits FTy.f32 0x42800000#32) := by
  rw [ofBits_64, ofBits_inv64, Ideal.div, if_neg (by norm_num), EReal.coe_inv]

/-- Lane `y` of the `c`-th group of 32. -/
def quarter (c : Fin 4) (y : Fin 32) : Fin 128 := ⟨32 * c.val + y.val, by omega⟩
/-- Lane `y` of the `e`-th half. -/
def half (e : Fin 2) (y : Fin 64) : Fin 128 := ⟨64 * e.val + y.val, by omega⟩

/-- A sum over one group of 32 lanes. -/
theorem sum_quarter (c : Fin 4) (f : Fin 128 → EReal) : (∑ x : Fin 128, if x.val / 32 = c.val then f x else 0) = ∑ y, f (quarter c y) := by
  rw [← (finProdFinEquiv (m := 4) (n := 32)).sum_comp, Fintype.sum_prod_type, Finset.sum_eq_single c]
  · refine Finset.sum_congr rfl fun y _ => ?_
    have e : (finProdFinEquiv (m := 4) (n := 32)) (c, y) = quarter c y := Fin.ext (by simp [quarter, finProdFinEquiv, add_comm])
    refine (if_pos ?_).trans (congrArg f e)
    rw [e]; simp only [quarter]; omega
  · intro d _ hd
    refine Finset.sum_eq_zero fun y _ => if_neg fun h => hd (Fin.ext ?_)
    have e : (finProdFinEquiv (m := 4) (n := 32)) (d, y) = quarter d y := Fin.ext (by simp [quarter, finProdFinEquiv, add_comm])
    rw [e] at h; simp only [quarter] at h; omega
  · exact fun h => absurd (Finset.mem_univ c) h

/-- A sum over one half of the lanes. -/
theorem sum_half (c : Fin 2) (f : Fin 128 → EReal) : (∑ x : Fin 128, if x.val / 64 = c.val then f x else 0) = ∑ y, f (half c y) := by
  rw [← (finProdFinEquiv (m := 2) (n := 64)).sum_comp, Fintype.sum_prod_type, Finset.sum_eq_single c]
  · refine Finset.sum_congr rfl fun y _ => ?_
    have e : (finProdFinEquiv (m := 2) (n := 64)) (c, y) = half c y := Fin.ext (by simp [half, finProdFinEquiv, add_comm])
    refine (if_pos ?_).trans (congrArg f e)
    rw [e]; simp only [half]; omega
  · intro d _ hd
    refine Finset.sum_eq_zero fun y _ => if_neg fun h => hd (Fin.ext ?_)
    have e : (finProdFinEquiv (m := 2) (n := 64)) (d, y) = half d y := Fin.ext (by simp [half, finProdFinEquiv, add_comm])
    rw [e] at h; simp only [half] at h; omega
  · exact fun h => absurd (Finset.mem_univ c) h

/-- A stacked row's position word: the tile's first position and the row within the tile. -/
theorem row_word2 : ∀ (a : Fin 16) (r : Fin 1024),
    IntOp.addi (Scalar.muli (BitVec.ofNat 32 a.val) 256#32) (IntOp.andi (BitVec.ofNat 32 r.val) 255#32) = BitVec.ofNat 32 (256 * a.val + r.val % 256) := by decide +kernel

end Cert.Soft

end
-- ==== Proof.DPay.lean ====
/- The second call's vector payloads read at an index, over the extended reals. -/
module

public import proofs.«01_k».proof.Proof.DStep
public import proofs.«01_k».proof.Proof.Soft2

@[expose] public section

set_option maxRecDepth 16384

noncomputable section

namespace Cert.Kernel2Ideal.Hand

open Cert.Kernel2Ideal Cert.Kernel2Ideal.Gen
open Idealize.ShloMosaic Cert.Soft

theorem lt_word (x n : ℕ) (hx : x < 128) (hn : n < 1024) : IntOp.cmpi CmpIPredicate.slt (BitVec.ofNat 32 x) (BitVec.ofNat 32 n) = if x < n then 1#1 else 0#1 := by
  rw [WordCmp.cmpi_slt_ofNat (by omega) (by omega)]
  by_cases h : x < n <;> simp [h]

/-- The lanes of one map, as words. -/
theorem map_word : ∀ (c : Fin 4) (x : Fin 128), IntOp.andi (IntOp.cmpi CmpIPredicate.sge (BitVec.ofNat 32 x.val) (BitVec.ofNat 32 (32 * c.val)))
    (IntOp.cmpi CmpIPredicate.slt (BitVec.ofNat 32 x.val) (BitVec.ofNat 32 (32 * c.val + 32))) = if x.val / 32 = c.val then 1#1 else 0#1 := by decide +kernel

theorem sel_ite {α : Type} (p : Prop) [Decidable p] (a b : α) : Scalar.select (if p then 1#1 else 0#1) a b = if p then a else b := by
  by_cases h : p <;> simp [h, Scalar.select]

theorem pay10_apply (q : Vec Ideal S1x1x256x128 .bf16) (r : Fin 256) (x : Fin 128) :
    k0_pay10 q (ix2 r x) = if x.val / 32 = 0 then q (ix4 0 0 r x) else 0 := by
  pointwise [k0_pay10, k0_pay8, k0_pay9]
  exact (congrArg (fun w => Scalar.select w _ _) (map_word 0 x)).trans (sel_ite _ _ _)
theorem pay11_apply (q : Vec Ideal S1x1x256x128 .bf16) (r : Fin 256) (x : Fin 128) :
    k0_pay11 q (ix2 r x) = if x.val / 32 = 1 then q (ix4 0 0 r x) else 0 := by
  pointwise [k0_pay11, k0_pay8, k0_pay9]
  exact (congrArg (fun w => Scalar.select w _ _) (map_word 1 x)).trans (sel_ite _ _ _)
theorem pay12_apply (q : Vec Ideal S1x1x256x128 .bf16) (r : Fin 256) (x : Fin 128) :
    k0_pay12 q (ix2 r x) = if x.val / 32 = 2 then q (ix4 0 0 r x) else 0 := by
  pointwise [k0_pay12, k0_pay8, k0_pay9]
  exact (congrArg (fun w => Scalar.select w _ _) (map_word 2 x)).trans (sel_ite _ _ _)
theorem qm3_apply (q : Vec Ideal S1x1x256x128 .bf16) (r : Fin 256) (x : Fin 128) :
    qm3 q (ix2 r x) = if x.val / 32 = 3 then q (ix4 0 0 r x) else 0 := by
  unfold qm3
  pointwise [k0_pay15, k0_pay14, k0_pay13, k0_pay8, k0_pay9]
  exact (congrArg (fun w => Scalar.select w _ _) (map_word 3 x)).trans (sel_ite _ _ _)

theorem pay24_apply (a : Vec Ideal S1024x128 .bf16) (b : Vec Ideal S1x1x512x128 .bf16) (r : Fin 1024) (c : Fin 512) :
    k0_pay24 a b (ix2 r c) = ∑ x : Fin 128, a (ix2 r x) * b (ix4 0 0 c x) := by
  pointwise [k0_pay24]

/-- A score under the mask. -/
theorem pay30_apply (w : IVec S1024x512 1) (a : Vec Ideal S1024x128 .bf16) (b : Vec Ideal S1x1x512x128 .bf16) (r : Fin 1024) (c : Fin 512) :
    k0_pay30 w a b (ix2 r c) = if w (ix2 r c) = 1#1 then ∑ x : Fin 128, a (ix2 r x) * b (ix4 0 0 c x) else ⊥ := by
  pointwise [k0_pay30]
  rw [ofBits_ninf]; rfl

theorem keep_apply (s : FVec Ideal S1024x512 .f32) (r : Fin 1024) (c : Fin 512) : keep s (ix4 0 0 r c) = s (ix2 r c) := by
  pointwise [keep]

/-- The running maximum takes in the four lane groups of a tile. -/
theorem mup_apply (s : FVec Ideal S1024x512 .f32) (x : Vec Ideal S1x1024x128 .f32) (r : Fin 1024) (l : Fin 128) :
    mup s x (ix3 0 r l) = max (x (ix3 0 r l)) (max (max (max (s (ix2 r (lane 0 l))) (s (ix2 r (lane 1 l)))) (s (ix2 r (lane 2 l)))) (s (ix2 r (lane 3 l)))) := by
  pointwise [mup, k0_pay34, k0_pay32]
  simp only [lane_zero]
  rfl

theorem pay21_apply (r : Fin 1024) (l : Fin 128) : k0_pay21 (k0_pay20 : FVec Ideal S1x1024x128 .f32) (ix3 0 r l) = ⊥ := by
  pointwise [k0_pay21, k0_pay20]
  exact ofBits_ninf
theorem pay22_apply (r : Fin 1024) (l : Fin 128) : (k0_pay22 : FVec Ideal S1x1024x128 .f32) (ix3 0 r l) = 0 := by
  pointwise [k0_pay22]
theorem pay23_apply (r : Fin 1024) (l : Fin 128) : (k0_pay23 : FVec Ideal S1x1024x128 .f32) (ix3 0 r l) = 0 := by
  pointwise [k0_pay23]

/-- The row maximum, over the lanes. -/
theorem pay35_apply (x : Vec Ideal S1x1024x128 .f32) (r : Fin 1024) (l : Fin 128) :
    k0_pay35 x (ix3 0 r l) = Finset.univ.sup fun y : Fin 128 => x (ix3 0 r y) := by
  pointwise [k0_pay35]
  rw [ofBits_ninf]; rfl

/-- The row sum, over the lanes. -/
theorem pay39_apply (x : Vec Ideal S1x1024x128 .f32) (r : Fin 1024) (l : Fin 128) : k0_pay39 x (ix3 0 r l) = ∑ y : Fin 128, x (ix3 0 r y) := by
  pointwise [k0_pay39]

/-- A weight, where the row's maximum is the same in every lane. -/
theorem pay2_apply (s : Vec Ideal S1x1x1024x512 .f32) (x : Vec Ideal S1x1024x128 .f32) (r : Fin 1024) (M : EReal) (hM : ∀ l, x (ix3 0 r l) = M) (c : Fin 512) :
    k0_pay2 s x (ix2 r c) = Ideal.exp2 (s (ix4 0 0 r c) - M) := by
  pointwise [k0_pay2]
  simp only [hM, dite_eq_ite, ite_self]
  rfl

theorem pay3_apply (s : Vec Ideal S1x1x1024x512 .f32) (x y : Vec Ideal S1x1024x128 .f32) (r : Fin 1024) (l : Fin 128) :
    k0_pay3 s x y (ix3 0 r l) = y (ix3 0 r l) + (k0_pay2 s x (ix2 r (lane 0 l)) + k0_pay2 s x (ix2 r (lane 1 l)) + k0_pay2 s x (ix2 r (lane 2 l)) + k0_pay2 s x (ix2 r (lane 3 l))) := by
  pointwise [k0_pay3]
  simp only [lane_zero]
  rfl

theorem pay4_apply (s : Vec Ideal S1x1x1024x512 .f32) (x y : Vec Ideal S1x1024x128 .f32) (v : Vec Ideal S1x1x512x128 .bf16) (r : Fin 1024) (l : Fin 128) :
    k0_pay4 s x y v (ix3 0 r l) = y (ix3 0 r l) + ∑ c : Fin 512, k0_pay2 s x (ix2 r c) * v (ix4 0 0 c l) := by
  pointwise [k0_pay4]

/-- The second map's factor. -/
def lam (lp : Vec Ideal S4x32 .f32) : EReal :=
  Ideal.exp (∑ x : Fin 32, lp (ix2 0 x) * lp (ix2 1 x)) - Ideal.exp (∑ x : Fin 32, lp (ix2 2 x) * lp (ix2 3 x)) + Ideal.ofBits .f32 0x3E4CCCCD#32

theorem pay41_apply (lp : Vec Ideal S4x32 .f32) : k0_pay41 lp (k0_pay40 lp) (ix2 0 0) = lam lp := by
  pointwise [k0_pay41, k0_pay40]
  simp only [Fin.sum_univ_one, Finset.univ_unique, Finset.sum_singleton]
  rfl

/-- The half a lane belongs to. -/
def hof (l : Fin 128) : Fin 2 := ⟨l.val / 64, by omega⟩

/-- A lane's difference of its head's two maps. -/
def diff (t : EReal) (a b c d : EReal) (l : Fin 128) : EReal := if l.val < 64 then a - t * b else c - t * d

/-- A head's values over the root of their mean square, times the gains. -/
theorem pay45_apply (t : FVec Ideal S1x1 .f32) (a b c : FVec Ideal S256x128 .f32) (A L : Vec Ideal S1x256x128 .f32) (g : Vec Ideal S1x128 .f32) (r : Fin 256) (o : Fin 128 → EReal)
    (ho : ∀ x, o x = diff (t (ix2 0 0)) (a (ix2 r x)) (b (ix2 r x)) (c (ix2 r x)) (Ideal.div (A (ix3 0 r x)) (L (ix3 0 r x))) x) (l : Fin 128) :
    k0_pay45 (iota .tc S256x128 32 [1] iota_S256x128_d1_w32) t a b c A L g (ix2 r l)
      = o l * Ideal.rsqrt (Ideal.div (∑ y : Fin 64, o (half (hof l) y) * o (half (hof l) y)) (Ideal.ofBits .f32 0x42800000#32) + Ideal.ofBits .f32 0x358637BD#32) * g (ix2 0 l) * Ideal.ofBits .f32 0x3F4CCCCD#32 := by
  pointwise [k0_pay45]
  simp only [show (64#32 : BitVec 32) = BitVec.ofNat 32 64 from rfl, lt_word _ 64 (Fin.isLt _) (by norm_num), sel_ite]
  have hs : ∀ x : Fin 128, (if x.val < 64 then a (ix2 r x) - t (ix2 0 0) * b (ix2 r x) else c (ix2 r x) - t (ix2 0 0) * Ideal.div (A (ix3 0 r x)) (L (ix3 0 r x))) = o x := fun x => (ho x).symm
  simp only [hs]
  refine congrArg₂ (· * ·) (congrArg₂ (· * ·) (congrArg (o l * Ideal.rsqrt ·) (congrArg₂ (· + ·) ?_ rfl)) rfl) rfl
  rw [← sum_half (hof l) (fun x => o x * o x), ← mean64]
  by_cases hl : l.val < 64
  · rw [if_pos hl]
    refine congrArg₂ (· * ·) (Finset.sum_congr rfl fun x _ => if_congr ?_ rfl rfl) rfl
    simp only [hof]; omega
  · rw [if_neg hl]
    refine congrArg₂ (· * ·) (Finset.sum_congr rfl fun x _ => ?_) rfl
    by_cases hx : x.val < 64
    · rw [if_pos hx, if_neg (by simp only [hof]; omega)]
    · rw [if_neg hx, if_pos (by simp only [hof]; omega)]

/-- The quotients of the products and the row sums. -/
theorem pay42_apply (a b : Vec Ideal S1x256x128 .f32) (r : Fin 256) (l : Fin 128) : k0_pay42 a b (ix2 r l) = Ideal.div (a (ix3 0 r l)) (b (ix3 0 r l)) := by
  pointwise [k0_pay42]
theorem pay43_apply (a b : Vec Ideal S1x256x128 .f32) (r : Fin 256) (l : Fin 128) : k0_pay43 a b (ix2 r l) = Ideal.div (a (ix3 0 r l)) (b (ix3 0 r l)) := by
  pointwise [k0_pay43]
theorem pay44_apply (a b : Vec Ideal S1x256x128 .f32) (r : Fin 256) (l : Fin 128) : k0_pay44 a b (ix2 r l) = Ideal.div (a (ix3 0 r l)) (b (ix3 0 r l)) := by
  pointwise [k0_pay44]
theorem pay1_apply (a : FVec Ideal S256x128 .bf16) (r : Fin 256) (l : Fin 128) : k0_pay1 a (ix3 0 r l) = a (ix2 r l) := by
  pointwise [k0_pay1]

/-- A key is seen by the stacked row `r` where its chunk is not later than the row's position's. -/
theorem mask_apply (i : grid0.Coords) (r : Fin 1024) (c : Fin 512) : mask i (ix2 r c) = 1#1 ↔ (512 * tl i + c.val) / 64 ≤ (256 * qt i + r.val % 256) / 64 := by
  have hv : k0_mult1 i = BitVec.ofNat 32 (512 * tl i) := by
    have h : ∀ a : Fin 16, k0_mult1 (fun x => match x with | 0 => ⟨0, by decide⟩ | 1 => ⟨0, by decide⟩ | 2 => a) = BitVec.ofNat 32 (512 * (a.val / 2)) := by
      decide +kernel
    exact h (i 2)
  have hi : (i 2).val < 16 := (i 2).isLt
  have ht := tl_lt i
  have hq : qt i = (i 2).val := rfl
  have hc : IntOp.addi (k0_mult1 i) (BitVec.ofNat 32 c.val) = BitVec.ofNat 32 (512 * tl i + c.val) := by
    rw [hv]; exact (BitVec.ofNat_add ..).symm
  have hr := row_word2 (i 2) r
  unfold mask
  pointwise [k0_pay19, k0_pay16, k0_pay17, k0_pay18]
  rw [hc, hr]
  change IntOp.cmpi .sle (floor64 (BitVec.ofNat 32 (512 * tl i + c.val))) (floor64 (BitVec.ofNat 32 (256 * (i 2).val + r.val % 256))) = 1#1 ↔ _
  rw [floor64_eq _ (by omega), floor64_eq _ (by omega), WordCmp.cmpi_sle_ofNat_eq_one_iff (by omega) (by omega)]

end Cert.Kernel2Ideal.Hand

end
-- ==== Proof.DVal.lean ====
/- One grid point's block of the second call over the extended reals: each row of each map is a softmax of its masked scores
   over all keys, applied to the values; a head's two maps are subtracted and the difference is divided by the root of its
   mean square. -/
module

public import proofs.«01_k».proof.Proof.DPay

@[expose] public section

set_option maxRecDepth 16384

noncomputable section

namespace Cert.Kernel2Ideal.Hand

open Cert.Kernel2Ideal Cert.Kernel2Ideal.Gen
open Idealize.ShloMosaic Cert.Soft

variable (i : grid0.Coords) (q : Vec Ideal S1x1x256x128 .bf16) (kk v : Vec Ideal S1x1x4096x128 .bf16)

/-- The map of a stacked row. -/
def mp (r : Fin 1024) : Fin 4 := ⟨r.val / 256, by omega⟩
/-- The query row of a stacked row. -/
def qr (r : Fin 1024) : Fin 256 := ⟨r.val % 256, by omega⟩
/-- The stacked row of map `c` and query row `r`. -/
def st (c : Fin 4) (r : Fin 256) : Fin 1024 := ⟨256 * c.val + r.val, by omega⟩

theorem ktile_apply (j : ℕ) (hj : j < 8) (c : Fin 512) (x : Fin 128) : ktile kk j (ix4 0 0 c x) = kk (ix4 0 0 (key j hj c) x) :=
  congrArg kk (funext fun a => Fin.ext (by fin_cases a <;> simp [VecWindow.window, ix4, key, Nat.mod_eq_of_lt hj]))

theorem rows_apply (x : Vec Ideal S1x1024x128 .f32) (c : Fin 4) (r : Fin 256) (l : Fin 128) : rows x c (ix3 0 r l) = x (ix3 0 (st c r) l) :=
  congrArg x (funext fun a => Fin.ext (by fin_cases a <;> simp [VecWindow.window, ix3, st]))

theorem put_in (x : Vec Ideal S1024x128 .bf16) (o : ℕ) (w : Vec Ideal S256x128 .bf16) (r : Fin 1024) (l : Fin 128) (e : Fin 256) (h : r.val = o + e.val) :
    VecWindow.put (s := S1024x128) x ![o, 0] S256x128.size w (ix2 r l) = w (ix2 e l) := by
  have hm : ∀ a : Fin S1024x128.rank, (![o, 0] : Fin 2 → ℕ) a ≤ ((ix2 r l : S1024x128.Idx) a).val ∧ ((ix2 r l : S1024x128.Idx) a).val < (![o, 0] : Fin 2 → ℕ) a + S256x128.size a := fun a => by
    match a with
    | ⟨0, _⟩ => exact ⟨(show o ≤ r.val by omega), (show r.val < o + 256 by omega)⟩
    | ⟨1, _⟩ => exact ⟨Nat.zero_le _, (show l.val < 0 + 128 by omega)⟩
  refine (dif_pos hm).trans (congrArg w (funext fun a => Fin.ext ?_))
  match a with
  | ⟨0, _⟩ => exact (show r.val - o = e.val by omega)
  | ⟨1, _⟩ => rfl

theorem put_out (x : Vec Ideal S1024x128 .bf16) (o : ℕ) (w : Vec Ideal S256x128 .bf16) (r : Fin 1024) (l : Fin 128) (h : ¬ (o ≤ r.val ∧ r.val < o + 256)) :
    VecWindow.put (s := S1024x128) x ![o, 0] S256x128.size w (ix2 r l) = x (ix2 r l) :=
  dif_neg fun hm => h (hm 0)

/-- A stacked query row holds its map's lanes, the others are zero. -/
theorem qmB_apply (r : Fin 1024) (x : Fin 128) : qmB q (ix2 r x) = if x.val / 32 = (mp r).val then q (ix4 0 0 (qr r) x) else 0 := by
  unfold qmB qmS
  have hr := r.isLt
  have hm : (mp r).val = r.val / 256 := rfl
  have he : (qr r).val = r.val % 256 := rfl
  rw [hm]
  by_cases h3 : 768 ≤ r.val
  · rw [put_in _ _ _ r x (qr r) (by omega), qm3_apply, show r.val / 256 = 3 by omega]
  rw [put_out _ _ _ _ _ (by omega)]
  by_cases h2 : 512 ≤ r.val
  · rw [put_in _ _ _ r x (qr r) (by omega), pay12_apply, show r.val / 256 = 2 by omega]
  rw [put_out _ _ _ _ _ (by omega)]
  by_cases h1 : 256 ≤ r.val
  · rw [put_in _ _ _ r x (qr r) (by omega), pay11_apply, show r.val / 256 = 1 by omega]
  rw [put_out _ _ _ _ _ (by omega), put_in _ _ _ r x (qr r) (by omega), pay10_apply, show r.val / 256 = 0 by omega]

/-- The product of a stacked query row and a key is over the map's lanes. -/
theorem qdot (r : Fin 1024) (g : Fin 128 → EReal) :
    ∑ x : Fin 128, qmB q (ix2 r x) * g x = ∑ y : Fin 32, q (ix4 0 0 (qr r) (quarter (mp r) y)) * g (quarter (mp r) y) := by
  rw [← sum_quarter (mp r) fun x => q (ix4 0 0 (qr r) x) * g x]
  refine Finset.sum_congr rfl fun x _ => ?_
  rw [qmB_apply]
  split_ifs
  · rfl
  · exact zero_mul _

/-- The masked score of the stacked row `r` and key `n`. -/
def S (r : Fin 1024) (n : Fin 4096) : EReal :=
  if n.val / 64 ≤ (256 * qt i + r.val % 256) / 64 then ∑ y : Fin 32, q (ix4 0 0 (qr r) (quarter (mp r) y)) * kk (ix4 0 0 n (quarter (mp r) y)) else ⊥

theorem stile_apply (j : ℕ) (hj : j < 8) (hq : j ≤ tl i) (r : Fin 1024) (c : Fin 512) : stile i q kk j (ix2 r c) = S i q kk r (key j hj c) := by
  have ht : tl i = qt i / 2 := rfl
  unfold stile S
  by_cases hlt : j < tl i
  · rw [if_pos hlt, pay24_apply, if_pos (by simp only [key]; omega)]
    simp only [ktile_apply kk j hj]
    exact qdot q r fun x => kk (ix4 0 0 (key j hj c) x)
  · have hjq : j = tl i := by omega
    rw [if_neg hlt, pay30_apply]
    simp only [ktile_apply kk j hj, mask_apply]
    exact if_congr (by simp only [key, hjq]) (qdot q r fun x => kk (ix4 0 0 (key j hj c) x)) rfl

theorem S_late (r : Fin 1024) (n : Fin 4096) (hn : 512 * (tl i + 1) ≤ n.val) : S i q kk r n = ⊥ := by
  have ht : tl i = qt i / 2 := rfl
  exact if_neg (by omega)

theorem mrun_apply (r : Fin 1024) (l : Fin 128) (k : ℕ) :
    mrun i q kk k (ix3 0 r l) = (Finset.range k).sup fun j => Finset.univ.sup fun u : Fin 4 => stile i q kk j (ix2 r (lane u l)) := by
  induction k with
  | zero => exact pay21_apply r l
  | succ k ih =>
    rw [Finset.range_add_one, Finset.sup_insert]
    refine (mup_apply _ _ r l).trans ?_
    rw [ih, max_comm]
    refine congrArg₂ max ?_ rfl
    simp [Fin.univ_succ, max_assoc]

/-- The row's maximum. -/
theorem mfin_apply (r : Fin 1024) (l : Fin 128) : mfin i q kk (ix3 0 r l) = Finset.univ.sup (S i q kk r) := by
  refine (pay35_apply _ r l).trans ?_
  simp only [mrun_apply]
  rw [Finset.sup_comm]
  refine (Finset.sup_congr rfl fun j _ => sup_lanes fun c => stile i q kk j (ix2 r c)).trans ?_
  exact sup_tiles _ (fun j c => stile i q kk j (ix2 r c)) (tl i) (tl_lt i) (fun j hj hq c => stile_apply i q kk j hj hq r c) (S_late i q kk r)

/-- The weight of the stacked row `r` and key `n`, before it is divided by the row's sum. -/
def E (r : Fin 1024) (n : Fin 4096) : EReal := Ideal.exp2 (S i q kk r n - Finset.univ.sup (S i q kk r))

theorem E_late (r : Fin 1024) (n : Fin 4096) (hn : 512 * (tl i + 1) ≤ n.val) : E i q kk r n = 0 := by
  rw [E, S_late i q kk r n hn, EReal.bot_sub, exp2_bot]

theorem weight_apply (j : ℕ) (hj : j < 8) (hq : j ≤ tl i) (r : Fin 1024) (c : Fin 512) :
    k0_pay2 (keep (stile i q kk j)) (mfin i q kk) (ix2 r c) = E i q kk r (key j hj c) := by
  rw [pay2_apply _ _ r _ (mfin_apply i q kk r), keep_apply, stile_apply i q kk j hj hq]; rfl

theorem lrun_apply (r : Fin 1024) (l : Fin 128) (k : ℕ) :
    lrun i q kk k (ix3 0 r l) = ∑ j ∈ Finset.range k, ∑ u : Fin 4, k0_pay2 (keep (stile i q kk j)) (mfin i q kk) (ix2 r (lane u l)) := by
  induction k with
  | zero => exact pay22_apply r l
  | succ k ih =>
    rw [Finset.sum_range_succ, ← ih]
    refine (pay3_apply _ _ _ r l).trans ?_
    rw [Fin.sum_univ_four]

/-- The row's sum of weights. -/
theorem lfin_apply (r : Fin 1024) (l : Fin 128) : lfin i q kk (ix3 0 r l) = ∑ n, E i q kk r n := by
  refine (pay39_apply _ r l).trans ?_
  simp only [lrun_apply]
  rw [Finset.sum_comm]
  refine (Finset.sum_congr rfl fun j _ => sum_lanes fun c => k0_pay2 (keep (stile i q kk j)) (mfin i q kk) (ix2 r c)).trans ?_
  exact sum_tiles _ (fun j c => k0_pay2 (keep (stile i q kk j)) (mfin i q kk) (ix2 r c)) (tl i) (tl_lt i)
    (fun j hj hq c => weight_apply i q kk j hj hq r c) (E_late i q kk r)

theorem arun_apply (r : Fin 1024) (l : Fin 128) (k : ℕ) :
    arun i q kk v k (ix3 0 r l)
      = ∑ j ∈ Finset.range k, ∑ c : Fin 512, k0_pay2 (keep (stile i q kk j)) (mfin i q kk) (ix2 r c) * ktile v j (ix4 0 0 c l) := by
  induction k with
  | zero => exact pay23_apply r l
  | succ k ih =>
    rw [Finset.sum_range_succ, ← ih]
    exact pay4_apply _ _ _ _ r l

/-- The row's product of weights and values. -/
theorem afin_apply (r : Fin 1024) (l : Fin 128) :
    arun i q kk v (tl i + 1) (ix3 0 r l) = ∑ n, E i q kk r n * v (ix4 0 0 n l) := by
  rw [arun_apply]
  exact sum_tiles (fun n => E i q kk r n * v (ix4 0 0 n l))
    (fun j c => k0_pay2 (keep (stile i q kk j)) (mfin i q kk) (ix2 r c) * ktile v j (ix4 0 0 c l)) (tl i) (tl_lt i)
    (fun j hj hq c => by rw [weight_apply i q kk j hj hq r c, ktile_apply v j hj]) (fun n hn => by rw [E_late i q kk r n hn, zero_mul])

/-- A row of map `c`: the softmax of its scores, applied to the values of lane `x`. -/
def att (c : Fin 4) (r : Fin 256) (x : Fin 128) : EReal := Ideal.div (∑ n, E i q kk (st c r) n * v (ix4 0 0 n x)) (∑ n, E i q kk (st c r) n)

/-- The block written: in each lane the difference of its head's two maps over the root of its head's mean square, times the gains. -/
theorem outB_apply (lp : Vec Ideal S4x32 .f32) (hg : Vec Ideal S1x128 .f32) (r : Fin 256) (o : Fin 128 → EReal)
    (ho : ∀ x, o x = diff (lam lp) (att i q kk v 0 r x) (att i q kk v 1 r x) (att i q kk v 2 r x) (att i q kk v 3 r x) x) (l : Fin 128) :
    outB i lp hg q kk v (ix3 0 r l)
      = o l * Ideal.rsqrt (Ideal.div (∑ y : Fin 64, o (half (hof l) y) * o (half (hof l) y)) (Ideal.ofBits .f32 0x42800000#32) + Ideal.ofBits .f32 0x358637BD#32) * hg (ix2 0 l) * Ideal.ofBits .f32 0x3F4CCCCD#32 := by
  refine (pay1_apply _ r l).trans (pay45_apply _ _ _ _ _ _ _ r o (fun x => ?_) l)
  rw [ho x, pay41_apply, pay42_apply, pay43_apply, pay44_apply]
  simp only [rows_apply, afin_apply, lfin_apply]
  rfl

end Cert.Kernel2Ideal.Hand

end
-- ==== Proof.R2Val.lean ====
/- The second reference's result over the extended reals, read at an index. -/
module

public import proofs.«01_k».proof.Proof.Soft
public import proofs.«01_k».proof.Proof.Gen.Reference2Ideal.Run
public import Idealize.ShloMosaic.Lib.Tactic.CleanTypes

@[expose] public section

set_option maxRecDepth 16384

noncomputable section

namespace Cert.Reference2Ideal.Hand

open Cert.Reference2Ideal Cert.Reference2Ideal.Gen Cert.Reference2Ideal.Value
open Idealize.ShloMosaic Idealize.ShloMosaic.TcCoe Cert.Soft

section

variable {F : FTy → Type} [FloatOps F]

/-- Each position's chunk. -/
def chunkR : IVec S4096 32 := select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))
/-- Which key is seen by which query: a key whose chunk is not later than the query's. -/
def maskR : IVec S4096x4096 1 := cmpi .sle (broadcastInDim S4096x4096 ![0, 1] bcast_S1x4096_S4096x4096_0_1 (broadcastInDim S1x4096 ![1] bcast_S4096_S1x4096_1 chunkR)) (broadcastInDim S4096x4096 ![0, 1] bcast_S4096x1_S4096x4096_0_1 (broadcastInDim S4096x1 ![0] bcast_S4096_S4096x1_0 chunkR))
/-- The queries or the keys, a head's two maps apart. -/
def mapsR (q : FVec F S8x4x4096x128 .bf16) : FVec F S8x8x2x4096x32 .f32 := shapeCast _ (transpose S8x4x2x2x4096x32 [0, 1, 3, 4, 2, 5] (shapeCast _ (extf .f32 q bitsLt_bf16_f32) shapeCasts_S8x4x4096x128_S8x4x4096x2x2x32) transposes_S8x4x4096x2x2x32_S8x4x2x2x4096x32_0_1_3_4_2_5) shapeCasts_S8x4x2x2x4096x32_S8x8x2x4096x32
/-- The values, the heads apart. -/
def headsR (v : FVec F S8x4x4096x128 .bf16) : FVec F S8x8x4096x64 .f32 := shapeCast _ (transpose S8x4x2x4096x64 [0, 1, 3, 2, 4] (shapeCast _ (extf .f32 v bitsLt_bf16_f32) shapeCasts_S8x4x4096x128_S8x4x4096x2x64) transposes_S8x4x4096x2x64_S8x4x2x4096x64_0_1_3_2_4) shapeCasts_S8x4x2x4096x64_S8x8x4096x64
/-- The masked scores of each map. -/
def sR (q k : FVec F S8x8x2x4096x32 .f32) : FVec F S8x8x2x4096x4096 .f32 := select (broadcastInDim S8x8x2x4096x4096 ![3, 4] bcast_S4096x4096_S8x8x2x4096x4096_3_4 maskR) (Host.dotGeneral dot_S8x8x2x4096x32_S8x8x2x4096x32_S8x8x2x4096x4096_4_4_3_3_012_012 none q k) (broadcastInDim S8x8x2x4096x4096 ![] bcast_S_S8x8x2x4096x4096 (id (constant S_ .f32 0xFF800000#32)))
/-- The row maxima, spread over the keys. -/
def mR (s : FVec F S8x8x2x4096x4096 .f32) : FVec F S8x8x2x4096x4096 .f32 := broadcastInDim S8x8x2x4096x4096 ![0, 1, 2, 3, 4] bcast_S8x8x2x4096x1_S8x8x2x4096x4096_0_1_2_3_4 (broadcastInDim S8x8x2x4096x1 ![0, 1, 2, 3] bcast_S8x8x2x4096_S8x8x2x4096x1_0_1_2_3 (Host.reduce FloatOps.maximumf s (constant S_ .f32 0xFF800000#32) reducesTo_S8x8x2x4096x4096_S8x8x2x4096_d4 h_S_))
/-- The weights before the division. -/
def eR (s : FVec F S8x8x2x4096x4096 .f32) : FVec F S8x8x2x4096x4096 .f32 := Host.powf (broadcastInDim S8x8x2x4096x4096 ![] bcast_S_S8x8x2x4096x4096 (constant S_ .f32 0x40000000#32)) (subf s (mR s))
/-- The weights. -/
def pR (e : FVec F S8x8x2x4096x4096 .f32) : FVec F S8x8x2x4096x4096 .f32 := Host.divf e (broadcastInDim S8x8x2x4096x4096 ![0, 1, 2, 3, 4] bcast_S8x8x2x4096x1_S8x8x2x4096x4096_0_1_2_3_4 (broadcastInDim S8x8x2x4096x1 ![0, 1, 2, 3] bcast_S8x8x2x4096_S8x8x2x4096x1_0_1_2_3 (Host.reduceAdd e (constant S_ .f32 0x00000000#32) reducesTo_S8x8x2x4096x4096_S8x8x2x4096_d4 h_S_)))
/-- The second map's factor. -/
def lamR (lp : FVec F S4x32 .f32) : FVec F S_ .f32 := addf (subf (Host.exp (Host.reduceAdd (mulf (shapeCast _ (extractStridedSlice S1x32 ![0, 0] lp slices_S4x32_S1x32_0_0) shapeCasts_S1x32_S32) (shapeCast _ (extractStridedSlice S1x32 ![1, 0] lp slices_S4x32_S1x32_1_0) shapeCasts_S1x32_S32)) (constant S_ .f32 0x00000000#32) reducesTo_S32_S_d0 h_S_)) (Host.exp (Host.reduceAdd (mulf (shapeCast _ (extractStridedSlice S1x32 ![2, 0] lp slices_S4x32_S1x32_2_0) shapeCasts_S1x32_S32) (shapeCast _ (extractStridedSlice S1x32 ![3, 0] lp slices_S4x32_S1x32_3_0) shapeCasts_S1x32_S32)) (constant S_ .f32 0x00000000#32) reducesTo_S32_S_d0 h_S_))) (constant S_ .f32 0x3E4CCCCD#32)
/-- The difference of a head's two maps. -/
def wR (p : FVec F S8x8x2x4096x4096 .f32) (lam : FVec F S_ .f32) : FVec F S8x8x4096x4096 .f32 := subf (shapeCast _ (extractStridedSlice S8x8x1x4096x4096 ![0, 0, 0, 0, 0] p slices_S8x8x2x4096x4096_S8x8x1x4096x4096_0_0_0_0_0) shapeCasts_S8x8x1x4096x4096_S8x8x4096x4096) (mulf (broadcastInDim S8x8x4096x4096 ![] bcast_S_S8x8x4096x4096 lam) (shapeCast _ (extractStridedSlice S8x8x1x4096x4096 ![0, 0, 1, 0, 0] p slices_S8x8x2x4096x4096_S8x8x1x4096x4096_0_0_1_0_0) shapeCasts_S8x8x1x4096x4096_S8x8x4096x4096))
/-- The weighted values. -/
def oR (v : FVec F S8x8x4096x64 .f32) (w : FVec F S8x8x4096x4096 .f32) : FVec F S8x4096x8x64 .f32 := transpose S8x4096x8x64 [0, 3, 1, 2] (Host.dotGeneral dot_S8x8x4096x64_S8x8x4096x4096_S8x8x64x4096_2_3_3_2_01_01 none v w) transposes_S8x8x64x4096_S8x4096x8x64_0_3_1_2
/-- A head's values over the root of their mean square, times the gains. -/
def nR (o : FVec F S8x4096x8x64 .f32) (g : FVec F S64 .f32) : FVec F S8x4096x8x64 .f32 := mulf (mulf (mulf o (broadcastInDim S8x4096x8x64 ![0, 1, 2, 3] bcast_S8x4096x8x1_S8x4096x8x64_0_1_2_3 (Host.rsqrt (addf (Host.divf (broadcastInDim S8x4096x8x1 ![0, 1, 2] bcast_S8x4096x8_S8x4096x8x1_0_1_2 (Host.reduceAdd (mulf o o) (constant S_ .f32 0x00000000#32) reducesTo_S8x4096x8x64_S8x4096x8_d3 h_S_)) (broadcastInDim S8x4096x8x1 ![] bcast_S_S8x4096x8x1 (constant S_ .f32 0x42800000#32))) (broadcastInDim S8x4096x8x1 ![] bcast_S_S8x4096x8x1 (constant S_ .f32 0x358637BD#32)))))) (broadcastInDim S8x4096x8x64 ![0, 1, 2, 3] bcast_S1x1x1x64_S8x4096x8x64_0_1_2_3 (broadcastInDim S1x1x1x64 ![3] bcast_S64_S1x1x1x64_3 g))) (broadcastInDim S8x4096x8x64 ![] bcast_S_S8x4096x8x64 (constant S_ .f32 0x3F4CCCCD#32))
/-- The heads side by side. -/
def joinR (n : FVec F S8x4096x8x64 .f32) : FVec F S8x4096x512 .bf16 := truncf .bf16 (shapeCast _ n shapeCasts_S8x4096x8x64_S8x4096x512) bitsLt_bf16_f32
/-- The whole result of the five arguments. -/
def outR (lp : FVec F S4x32 .f32) (g : FVec F S64 .f32) (q k v : FVec F S8x4x4096x128 .bf16) : FVec F S8x4096x512 .bf16 :=
  joinR (nR (oR (headsR v) (wR (pR (eR (sR (mapsR q) (mapsR k)))) (lamR lp))) g)

theorem res_eq (m : (ℓ : Loc nD τ sig) → Buf (Elt F) ℓ) (c : Dev nD) :
    res_main_v72 m c = outR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

end

theorem chunkR_apply (n : Fin 4096) : chunkR (ix1 n) = BitVec.ofNat 32 (n.val / 64) := by
  pointwise [chunkR]
  revert n
  decide +kernel

theorem maskR_apply (n k : Fin 4096) : maskR (ix2 n k) = 1#1 ↔ k.val / 64 ≤ n.val / 64 := by
  pointwise [maskR]
  rw [chunkR_apply, chunkR_apply, WordCmp.cmpi_sle_ofNat_eq_one_iff (by omega) (by omega)]

theorem mapsR_apply (q : FVec Ideal S8x4x4096x128 .bf16) (b h : Fin 8) (c : Fin 2) (n : Fin 4096) (x : Fin 32) :
    mapsR q (ix5 b h c n x) = q (ix4 b ⟨h.val / 2, by omega⟩ n ⟨h.val % 2 * 64 + c.val * 32 + x.val, by omega⟩) := by
  pointwise [mapsR]

theorem headsR_apply (v : FVec Ideal S8x4x4096x128 .bf16) (b h : Fin 8) (n : Fin 4096) (x : Fin 64) :
    headsR v (ix4 b h n x) = v (ix4 b ⟨h.val / 2, by omega⟩ n ⟨h.val % 2 * 64 + x.val, by omega⟩) := by
  pointwise [headsR]

theorem sR_apply (q k : FVec Ideal S8x8x2x4096x32 .f32) (b h : Fin 8) (c : Fin 2) (n j : Fin 4096) :
    sR q k (ix5 b h c n j) = if j.val / 64 ≤ n.val / 64 then ∑ x : Fin 32, q (ix5 b h c n x) * k (ix5 b h c j x) else ⊥ := by
  pointwise [sR]
  have hm := maskR_apply n j
  by_cases h : j.val / 64 ≤ n.val / 64
  · rw [if_pos h, hm.mpr h]; rfl
  · rw [if_neg h]; exact (if_neg fun e => h (hm.mp e)).trans ofBits_ninf

theorem mR_apply (s : FVec Ideal S8x8x2x4096x4096 .f32) (b h : Fin 8) (c : Fin 2) (n j : Fin 4096) :
    mR s (ix5 b h c n j) = Finset.univ.sup fun k : Fin 4096 => s (ix5 b h c n k) := by
  pointwise [mR]
  rw [ofBits_ninf]; rfl

theorem eR_apply (s : FVec Ideal S8x8x2x4096x4096 .f32) (b h : Fin 8) (c : Fin 2) (n j : Fin 4096) :
    eR s (ix5 b h c n j) = Ideal.exp2 (s (ix5 b h c n j) - Finset.univ.sup fun k : Fin 4096 => s (ix5 b h c n k)) := by
  pointwise [eR]
  rw [mR_apply, ofBits_two, pow_two]

theorem pR_apply (e : FVec Ideal S8x8x2x4096x4096 .f32) (b h : Fin 8) (c : Fin 2) (n j : Fin 4096) :
    pR e (ix5 b h c n j) = Ideal.div (e (ix5 b h c n j)) (∑ k : Fin 4096, e (ix5 b h c n k)) := by
  pointwise [pR]

theorem lamR_apply (lp : FVec Ideal S4x32 .f32) :
    lamR lp ix0 = Ideal.exp (∑ x : Fin 32, lp (ix2 0 x) * lp (ix2 1 x)) - Ideal.exp (∑ x : Fin 32, lp (ix2 2 x) * lp (ix2 3 x)) + Ideal.ofBits .f32 0x3E4CCCCD#32 := by
  pointwise [lamR]

theorem wR_apply (p : FVec Ideal S8x8x2x4096x4096 .f32) (lam : FVec Ideal S_ .f32) (b h : Fin 8) (n j : Fin 4096) :
    wR p lam (ix4 b h n j) = p (ix5 b h 0 n j) - lam ix0 * p (ix5 b h 1 n j) := by
  pointwise [wR]

theorem oR_apply (v : FVec Ideal S8x8x4096x64 .f32) (w : FVec Ideal S8x8x4096x4096 .f32) (b h : Fin 8) (n : Fin 4096) (x : Fin 64) :
    oR v w (ix4 b n h x) = ∑ k : Fin 4096, v (ix4 b h k x) * w (ix4 b h n k) := by
  pointwise [oR]

theorem nR_apply (o : FVec Ideal S8x4096x8x64 .f32) (g : FVec Ideal S64 .f32) (b h : Fin 8) (n : Fin 4096) (x : Fin 64) :
    nR o g (ix4 b n h x) = o (ix4 b n h x) * Ideal.rsqrt (Ideal.div (∑ y : Fin 64, o (ix4 b n h y) * o (ix4 b n h y)) (Ideal.ofBits .f32 0x42800000#32) + Ideal.ofBits .f32 0x358637BD#32) * g (ix1 x) * Ideal.ofBits .f32 0x3F4CCCCD#32 := by
  pointwise [nR]

theorem joinR_apply (n : FVec Ideal S8x4096x8x64 .f32) (b : Fin 8) (r : Fin 4096) (l : Fin 512) :
    joinR n (ix3 b r l) = n (ix4 b r ⟨l.val / 64, by omega⟩ ⟨l.val % 64, by omega⟩) := by
  pointwise [joinR]

end Cert.Reference2Ideal.Hand

end
-- ==== Proof.DOut.lean ====
/- The result array of the second call over the extended reals is the reference's function of the argument arrays, when
   λ's parameters, the queries, the keys and the values are numbers. -/
module

public import proofs.«01_k».proof.Proof.DFrame
public import proofs.«01_k».proof.Proof.DVal
public import proofs.«01_k».proof.Proof.R2Val
public import Idealize.ShloMosaic.Lib.Pipeline.Value
public import Idealize.ShloMosaic.Lib.Pipeline.ValueKit

@[expose] public section

set_option maxRecDepth 16384

noncomputable section

namespace Cert.Kernel2Ideal.Hand

open Cert.Kernel2Ideal Cert.Kernel2Ideal.Gen
open Idealize.ShloMosaic Idealize.ShloMosaic.TcCoe Idealize.SL Idealize.SL.Sem Cert.Soft
open Idealize.ShloMosaic.Pipeline (Dat Cfg Window)
open Cert.Reference2Ideal.Hand (mapsR headsR sR eR pR lamR wR oR nR joinR outR mapsR_apply headsR_apply sR_apply eR_apply pR_apply lamR_apply wR_apply oR_apply nR_apply joinR_apply)

theorem index_0 : ∀ t, win0_0.index t = ![0, 0] := by decide +kernel
theorem index_1 : ∀ t, win0_1.index t = ![0, 0] := by decide +kernel
theorem index_2 : ∀ t, win0_2.index t = ![(grid0.coords t 0).val, (grid0.coords t 1).val, (grid0.coords t 2).val, 0] := by decide +kernel
theorem index_3 : ∀ t, win0_3.index t = ![(grid0.coords t 0).val, (grid0.coords t 1).val, 0, 0] := by decide +kernel
theorem index_4 : ∀ t, win0_4.index t = ![(grid0.coords t 0).val, (grid0.coords t 1).val, 0, 0] := by decide +kernel
theorem index_5 : ∀ t, win0_5.index t = ![(grid0.coords t 0).val, (grid0.coords t 2).val, (grid0.coords t 1).val] := by decide +kernel

variable (m : (ℓ : Loc nD τ sig) → Buf (Elt Ideal) ℓ) (ρ : Dev nD → PrngReg)

/-- The parameters of λ. -/
abbrev A0 (c : Dev nD) : FVec Ideal S4x32 .f32 := m ((c : Thread nD τ).loc main_arg0)
/-- The norm's gains. -/
abbrev A1 (c : Dev nD) : FVec Ideal S64 .f32 := m ((c : Thread nD τ).loc main_arg1)
/-- The queries, two heads of two maps side by side. -/
abbrev A2 (c : Dev nD) : FVec Ideal S8x4x4096x128 .bf16 := m ((c : Thread nD τ).loc main_arg2)
/-- The keys, two heads of two maps side by side. -/
abbrev A3 (c : Dev nD) : FVec Ideal S8x4x4096x128 .bf16 := m ((c : Thread nD τ).loc main_arg3)
/-- The values, two heads side by side. -/
abbrev A4 (c : Dev nD) : FVec Ideal S8x4x4096x128 .bf16 := m ((c : Thread nD τ).loc main_arg4)

/-- The batch, the pair of heads and the query tile of a point. -/
def pb (t : Fin cfg0.N) : Fin 8 := grid0.coords t 0
def pp (t : Fin cfg0.N) : Fin 4 := grid0.coords t 1
def pq (t : Fin cfg0.N) : Fin 16 := grid0.coords t 2

/-- The position of row `r` of query tile `a`. -/
def pos (a : Fin 16) (r : Fin 256) : Fin 4096 := ⟨256 * a.val + r.val, by omega⟩
/-- The head of lane `l` of a pair. -/
def head (p : Fin 4) (l : Fin 128) : Fin 8 := ⟨2 * p.val + l.val / 64, by omega⟩

/-- The gains as the call finds them: once for each head of a pair. -/
theorem V_gain (c : Dev nD) : V m c main_v3 = shapeCast S1x128 (shapeCast S128 (broadcastInDim S2x64 ![0, 1] bcast_S1x64_S2x64_0_1 (shapeCast S1x64 (A1 m c) shapeCasts_S64_S1x64)) shapeCasts_S2x64_S128) shapeCasts_S128_S1x128 := by
  rfl

theorem gain_apply (g : FVec Ideal S64 .f32) (l : Fin 128) :
    shapeCast S1x128 (shapeCast S128 (broadcastInDim S2x64 ![0, 1] bcast_S1x64_S2x64_0_1 (shapeCast S1x64 g shapeCasts_S64_S1x64)) shapeCasts_S2x64_S128) shapeCasts_S128_S1x128 (ix2 0 l)
      = g (ix1 ⟨l.val % 64, by omega⟩) := by
  pointwise []

theorem iblk_0 (c : Dev nD) (t : Fin cfg0.N) : iblk m c 0 t = A0 m c := by
  funext y
  refine (congrFun (V_main_arg0 m c) _).trans (congrArg (A0 m c) (funext fun a => Fin.ext ?_))
  blk_simp
  rw [index_0]
  fin_cases a <;> simp

theorem iblk_1 (c : Dev nD) (t : Fin cfg0.N) (l : Fin 128) : iblk m c 1 t (ix2 0 l) = A1 m c (ix1 ⟨l.val % 64, by omega⟩) := by
  refine ((congrFun (V_gain m c) _).trans (congrArg _ (funext fun a => Fin.ext ?_))).trans (gain_apply (A1 m c) l)
  blk_simp
  rw [index_1]
  fin_cases a <;> simp [ix2]

theorem iblk_2 (c : Dev nD) (t : Fin cfg0.N) (r : Fin 256) (x : Fin 128) :
    iblk m c 2 t (ix4 0 0 r x) = A2 m c (ix4 (pb t) (pp t) (pos (pq t) r) x) := by
  refine (congrFun (V_main_arg2 m c) _).trans (congrArg (A2 m c) (funext fun a => Fin.ext ?_))
  blk_simp
  rw [index_2]
  fin_cases a <;> simp [ix4, pos, pb, pp, pq, win0_2]
  all_goals exact mul_comm _ _

theorem iblk_3 (c : Dev nD) (t : Fin cfg0.N) (n : Fin 4096) (x : Fin 128) :
    iblk m c 3 t (ix4 0 0 n x) = A3 m c (ix4 (pb t) (pp t) n x) := by
  refine (congrFun (V_main_arg3 m c) _).trans (congrArg (A3 m c) (funext fun a => Fin.ext ?_))
  blk_simp
  rw [index_3]
  fin_cases a <;> simp [ix4, pb, pp, win0_3]

theorem iblk_4 (c : Dev nD) (t : Fin cfg0.N) (n : Fin 4096) (x : Fin 128) :
    iblk m c 4 t (ix4 0 0 n x) = A4 m c (ix4 (pb t) (pp t) n x) := by
  refine (congrFun (V_main_arg4 m c) _).trans (congrArg (A4 m c) (funext fun a => Fin.ext ?_))
  blk_simp
  rw [index_4]
  fin_cases a <;> simp [ix4, pb, pp, win0_4]

/-- The reference's masked scores and weights of the argument arrays. -/
abbrev SR (c : Dev nD) : FVec Ideal Cert.Reference2Ideal.S8x8x2x4096x4096 .f32 := sR (mapsR (A2 m c)) (mapsR (A3 m c))
abbrev PR (c : Dev nD) : FVec Ideal Cert.Reference2Ideal.S8x8x2x4096x4096 .f32 := pR (eR (SR m c))

theorem SR_apply (c : Dev nD) (b h : Fin 8) (e : Fin 2) (n j : Fin 4096) : SR m c (ix5 b h e n j)
    = if j.val / 64 ≤ n.val / 64 then ∑ x : Fin 32, mapsR (A2 m c) (ix5 b h e n x) * mapsR (A3 m c) (ix5 b h e j x) else ⊥ := sR_apply _ _ _ _ _ _ _

/-- The scores of a stacked row are the reference's of its head and map. -/
theorem S_eq (c : Dev nD) (t : Fin cfg0.N) (u : Fin 4) (r : Fin 256) (h : Fin 8) (hh : h.val = 2 * (pp t).val + u.val / 2) (e : Fin 2) (he : e.val = u.val % 2) :
    S (grid0.coords t) (iblk m c 2 t) (iblk m c 3 t) (st u r) = fun j => SR m c (ix5 (pb t) h e (pos (pq t) r) j) := by
  funext j
  have hu := u.isLt
  have hr := r.isLt
  have h1 : qr (st u r) = r := Fin.ext (by simp only [qr, st]; omega)
  have h2 : mp (st u r) = u := Fin.ext (by simp only [mp, st]; omega)
  have h3 : (st u r).val % 256 = r.val := by simp only [st]; omega
  have h4 : (⟨h.val / 2, by omega⟩ : Fin 4) = pp t := Fin.ext (by simp only; omega)
  have h5 : ∀ x : Fin 32, (⟨h.val % 2 * 64 + e.val * 32 + x.val, by omega⟩ : Fin 128) = quarter u x := fun x => Fin.ext (by simp only [quarter]; omega)
  rw [SR_apply]
  unfold S
  simp only [mapsR_apply, iblk_2, iblk_3, h1, h2, h3, h4, h5]
  rfl

section

variable (c : Dev nD) (hl : ∀ i, IsNum (A0 m c i)) (hq : ∀ i, IsNum (A2 m c i)) (hk : ∀ i, IsNum (A3 m c i)) (hv : ∀ i, IsNum (A4 m c i))

include hq hk in
theorem SR_num (b h : Fin 8) (e : Fin 2) (n : Fin 4096) : (∀ j, SR m c (ix5 b h e n j) ≠ ⊤) ∧ SR m c (ix5 b h e n n) ≠ ⊥ := by
  constructor
  · intro j
    rw [SR_apply]
    split_ifs
    · exact sum_ne_top _ _ fun x _ => by rw [mapsR_apply, mapsR_apply]; exact mul_ne_top _ _ (hq _) (hk _)
    · exact bot_ne_top
  · rw [SR_apply, if_pos le_rfl]
    exact sum_ne_bot _ _ fun x _ => by rw [mapsR_apply, mapsR_apply]; exact mul_ne_bot _ _ (hq _) (hk _)

theorem PR_apply (b h : Fin 8) (e : Fin 2) (n j : Fin 4096) : PR m c (ix5 b h e n j)
    = Ideal.div (Ideal.exp2 (SR m c (ix5 b h e n j) - Finset.univ.sup fun k => SR m c (ix5 b h e n k)))
        (∑ j, Ideal.exp2 (SR m c (ix5 b h e n j) - Finset.univ.sup fun k => SR m c (ix5 b h e n k))) := by
  refine (pR_apply _ _ _ _ _ _).trans ?_
  simp only [eR_apply]

include hq hk in
theorem PR_num (b h : Fin 8) (e : Fin 2) (n j : Fin 4096) : IsNum (PR m c (ix5 b h e n j)) := by
  obtain ⟨h1, h2⟩ := SR_num m c hq hk b h e n
  rw [PR_apply]
  exact soft_fin (fun j => SR m c (ix5 b h e n j)) h1 n h2 j

include hq hk in
/-- A row of a map is the reference's weights of its head and map, applied to the values. -/
theorem att_eq (t : Fin cfg0.N) (u : Fin 4) (r : Fin 256) (x : Fin 128) (h : Fin 8) (hh : h.val = 2 * (pp t).val + u.val / 2) (e : Fin 2) (he : e.val = u.val % 2) :
    att (grid0.coords t) (iblk m c 2 t) (iblk m c 3 t) (iblk m c 4 t) u r x
      = ∑ j, A4 m c (ix4 (pb t) (pp t) j x) * PR m c (ix5 (pb t) h e (pos (pq t) r) j) := by
  obtain ⟨h1, h2⟩ := SR_num m c hq hk (pb t) h e (pos (pq t) r)
  have hs := soft (fun j => SR m c (ix5 (pb t) h e (pos (pq t) r) j)) (fun n => A4 m c (ix4 (pb t) (pp t) n x)) h1 (pos (pq t) r) h2
  unfold att E
  simp only [iblk_4, S_eq m c t u r h hh e he, PR_apply]
  exact hs

include hl in
theorem lam_num : IsNum (lam (A0 m c)) :=
  fin_sub_add _ _ _ (fin_exp _ (fin_sum _ fun x => fin_mul _ _ (hl _) (hl _))) (fin_exp _ (fin_sum _ fun x => fin_mul _ _ (hl _) (hl _))) fin_init

/-- The reference's weighted values before the norm. -/
abbrev OR : FVec Ideal Cert.Reference2Ideal.S8x4096x8x64 .f32 := oR (headsR (A4 m c)) (wR (PR m c) (lamR (A0 m c)))

theorem OR_apply (b : Fin 8) (p : Fin 4) (n : Fin 4096) (x : Fin 128) : OR m c (ix4 b n (head p x) ⟨x.val % 64, by omega⟩)
    = ∑ j, A4 m c (ix4 b p j x) * (PR m c (ix5 b (head p x) 0 n j) - lam (A0 m c) * PR m c (ix5 b (head p x) 1 n j)) := by
  have h1 : (⟨(head p x).val / 2, by omega⟩ : Fin 4) = p := Fin.ext (by simp only [head]; omega)
  have h2 : (⟨(head p x).val % 2 * 64 + x.val % 64, by omega⟩ : Fin 128) = x := Fin.ext (by simp only [head]; omega)
  refine (oR_apply _ _ _ _ _ _).trans ?_
  simp only [headsR_apply, wR_apply, lamR_apply, h1, h2]
  rfl

include hl hq hk hv in
/-- One element of a point's block. -/
theorem outAt_apply (t : Fin cfg0.N) (r : Fin 256) (l : Fin 128) :
    outAt m c t (ix3 0 r l) = outR (A0 m c) (A1 m c) (A2 m c) (A3 m c) (A4 m c) (ix3 (pb t) (pos (pq t) r) ⟨128 * (pp t).val + l.val, by omega⟩) := by
  have hll := l.isLt
  refine (outB_apply (grid0.coords t) (iblk m c 2 t) (iblk m c 3 t) (iblk m c 4 t) (iblk m c 0 t) (iblk m c 1 t) r
    (fun x => OR m c (ix4 (pb t) (pos (pq t) r) (head (pp t) x) ⟨x.val % 64, by omega⟩)) (fun x => ?_) l).trans ?_
  · rw [OR_apply, iblk_0, ← diff_sum _ _ _ _ (PR_num m c hq hk _ _ _ _) (PR_num m c hq hk _ _ _ _) (fun j => hv _) (lam_num m c hl)]
    unfold diff
    by_cases hx : x.val < 64
    · rw [if_pos hx, att_eq m c hq hk t 0 r x (head (pp t) x) (by simp only [head]; omega) 0 rfl,
        att_eq m c hq hk t 1 r x (head (pp t) x) (by simp only [head]; omega) 1 rfl]
    · rw [if_neg hx, att_eq m c hq hk t 2 r x (head (pp t) x) (by simp only [head]; omega) 0 rfl,
        att_eq m c hq hk t 3 r x (head (pp t) x) (by simp only [head]; omega) 1 rfl]
  · have h1 : (⟨(128 * (pp t).val + l.val) / 64, by omega⟩ : Fin 8) = head (pp t) l := Fin.ext (by simp only [head]; omega)
    have h2 : (⟨(128 * (pp t).val + l.val) % 64, by omega⟩ : Fin 64) = ⟨l.val % 64, by omega⟩ := Fin.ext (by simp only; omega)
    have h3 : ∀ y : Fin 64, head (pp t) (half (hof l) y) = head (pp t) l := fun y => Fin.ext (by simp only [head, half, hof]; omega)
    have h4 : ∀ y : Fin 64, (⟨(half (hof l) y).val % 64, by omega⟩ : Fin 64) = y := fun y => Fin.ext (by simp only [half, hof]; omega)
    unfold outR
    rw [joinR_apply, nR_apply]
    simp only [h1, h2, h3, h4, iblk_1]

include hl hq hk hv in
theorem final_5 : (dats m 0 c).arrAt 5 cfg0.N = outR (A0 m c) (A1 m c) (A2 m c) (A3 m c) (A4 m c) := by
  refine (dats m 0 c).arrAt_eq_of_covers 5 _ (by decide +kernel) fun t hf y => ?_
  blk_simp
  rw [after_5]
  have hy : y = ix3 0 (y 1) (y 2) := by
    funext a
    fin_cases a
    · exact Subsingleton.elim (α := Fin 1) _ _
    · rfl
    · rfl
  rw [hy]
  refine (outAt_apply m c hl hq hk hv t (y 1) (y 2)).trans (congrArg (outR (A0 m c) (A1 m c) (A2 m c) (A3 m c) (A4 m c)) (funext fun a => Fin.ext ?_))
  blk_simp
  rw [index_5]
  fin_cases a <;> simp [ix3, pos, pb, pp, pq, win0_5]
  all_goals exact mul_comm _ _

end

end Cert.Kernel2Ideal.Hand

end
-- ==== Proof.Pre2.lean ====
/- The second precondition read back: every number of λ's parameters, the queries, the keys and the values is finite. -/
module

public import proofs.«01_k».proof.Pre_finite2
public import proofs.«01_k».proof.Proof.Pre
public import proofs.«01_k».proof.Proof.Soft2

@[expose] public section

noncomputable section

namespace Cert.Pre_finite2.Hand

open Cert.Pre_finite2
open Idealize.ShloMosaic Idealize.ShloMosaic.IntOp Cert.Soft Cert.Pre_finite.Hand

variable [Facts]

/-- The precondition gives that no number of the four arrays is an infinity. -/
theorem num_of_fn (lp : FVec Ideal S4x32 .f32) (g : FVec Ideal S64 .f32) (q k v : FVec Ideal S8x4x4096x128 .bf16) (h : fn (F := Ideal) lp g q k v = fun _ => 1#1) :
    (∀ i, IsNum (lp i)) ∧ (∀ i, IsNum (q i)) ∧ (∀ i, IsNum (k i)) ∧ (∀ i, IsNum (v i)) := by
  have : Subsingleton S_.Idx := ⟨fun a b => funext fun i => i.elim0⟩
  have h0 := congrFun h (fun i => i.elim0)
  obtain ⟨h3, h4⟩ := andi_eq_one.mp h0
  obtain ⟨h2, h3⟩ := andi_eq_one.mp h3
  obtain ⟨h1, h2⟩ := andi_eq_one.mp h2
  refine ⟨fun i => ?_, fun i => ?_, fun i => ?_, fun i => ?_⟩
  · refine ne_of_abs_lt _ (Eq.trans ?_ (Host.reduce_andi_all _ _ _ _ _ h1 i))
    rw [← ofBits_inf]
    rfl
  · refine ne_of_abs_lt _ (Eq.trans ?_ (Host.reduce_andi_all _ _ _ _ _ h2 i))
    rw [← ofBits_inf]
    rfl
  · refine ne_of_abs_lt _ (Eq.trans ?_ (Host.reduce_andi_all _ _ _ _ _ h3 i))
    rw [← ofBits_inf]
    rfl
  · refine ne_of_abs_lt _ (Eq.trans ?_ (Host.reduce_andi_all _ _ _ _ _ h4 i))
    rw [← ofBits_inf]
    rfl

end Cert.Pre_finite2.Hand

end
-- ==== Proof.R3Val.lean ====
/- The third reference's results over the extended reals, read at an index. -/
module

public import proofs.«01_k».proof.Proof.Soft
public import proofs.«01_k».proof.Proof.Gen.Reference3Ideal.Run
public import Idealize.ShloMosaic.Lib.Tactic.CleanTypes

@[expose] public section

set_option maxRecDepth 16384

noncomputable section

namespace Cert.Reference3Ideal.Hand

open Cert.Reference3Ideal Cert.Reference3Ideal.Gen Cert.Reference3Ideal.Value
open Idealize.ShloMosaic Idealize.ShloMosaic.TcCoe Cert.Soft

/-- A row divided by its root mean square, times the gains, scaled and shifted, at one column. -/
def hat (x : Fin 1024 → EReal) (g sc sh : EReal) (k : Fin 1024) : EReal :=
  x k * Ideal.rsqrt (Ideal.div (∑ j : Fin 1024, x j * x j) (Ideal.ofBits .f32 0x44800000#32) + Ideal.ofBits .f32 0x358637BD#32) * g * (Ideal.ofBits .f32 0x3F800000#32 + sc) + sh

/-- One entry of a normalized row's product with the weights. -/
def projE (x g sc sh : Fin 1024 → EReal) (w : Fin 1024 → EReal) : EReal :=
  ∑ k : Fin 1024, hat x (g k) (sc k) (sh k) k * w k

/-- The normalized and modulated rows. -/
def hR {F : FTy → Type} [FloatOps F] (x : FVec F S8x4096x1024 .f32) (g : FVec F S1024 .f32) (sc sh : FVec F S8x1x1024 .f32) : FVec F S8x4096x1024 .f32 :=
  addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S8x1x1024_S8x4096x1024_0_1_2 (addf (broadcastInDim S8x1x1024 ![] bcast_S_S8x1x1024 (constant S_ .f32 0x3F800000#32)) sc))) (broadcastInDim S8x4096x1024 ![0, 1, 2] bcast_S8x1x1024_S8x4096x1024_0_1_2 sh)

/-- Their product with the weights. -/
def pR {F : FTy → Type} [FloatOps F] (h : FVec F S8x4096x1024 .f32) (w : FVec F S1024x3072 .f32) : FVec F S8x4096x3072 .f32 :=
  Host.dotGeneral dot_S8x4096x1024_S1024x3072_S8x4096x3072_2_0_01_1_n_n none h w

/-- The product by result, batch and head. -/
def tR {F : FTy → Type} [FloatOps F] (p : FVec F S8x4096x3072 .f32) : FVec F S3x8x8x4096x128 .f32 :=
  transpose S3x8x8x4096x128 [2, 0, 3, 1, 4] (shapeCast S8x4096x3x8x128 p shapeCasts_S8x4096x3072_S8x4096x3x8x128) transposes_S8x4096x3x8x128_S3x8x8x4096x128_2_0_3_1_4

/-- The queries, the keys and the values. -/
def qR {F : FTy → Type} [FloatOps F] (p : FVec F S8x4096x3072 .f32) : FVec F S8x8x4096x128 .bf16 :=
  truncf .bf16 (mulf (shapeCast S8x8x4096x128 (extractStridedSlice S1x8x8x4096x128 ![0, 0, 0, 0, 0] (tR p) slices_S3x8x8x4096x128_S1x8x8x4096x128_0_0_0_0_0) shapeCasts_S1x8x8x4096x128_S8x8x4096x128) (broadcastInDim S8x8x4096x128 ![] bcast_S_S8x8x4096x128 (constant S_ .f32 0x3E38AA3B#32))) bitsLt_bf16_f32
def kR {F : FTy → Type} [FloatOps F] (p : FVec F S8x4096x3072 .f32) : FVec F S8x8x4096x128 .bf16 :=
  truncf .bf16 (shapeCast S8x8x4096x128 (extractStridedSlice S1x8x8x4096x128 ![1, 0, 0, 0, 0] (tR p) slices_S3x8x8x4096x128_S1x8x8x4096x128_1_0_0_0_0) shapeCasts_S1x8x8x4096x128_S8x8x4096x128) bitsLt_bf16_f32
def vR {F : FTy → Type} [FloatOps F] (p : FVec F S8x4096x3072 .f32) : FVec F S8x8x4096x128 .bf16 :=
  truncf .bf16 (shapeCast S8x8x4096x128 (extractStridedSlice S1x8x8x4096x128 ![2, 0, 0, 0, 0] (tR p) slices_S3x8x8x4096x128_S1x8x8x4096x128_2_0_0_0_0) shapeCasts_S1x8x8x4096x128_S8x8x4096x128) bitsLt_bf16_f32

theorem hR_apply (x : FVec Ideal S8x4096x1024 .f32) (g : FVec Ideal S1024 .f32) (sc sh : FVec Ideal S8x1x1024 .f32) (b : Fin 8) (n : Fin 4096) (k : Fin 1024) :
    hR x g sc sh (ix3 b n k) = hat (fun j => x (ix3 b n j)) (g (ix1 k)) (sc (ix3 b 0 k)) (sh (ix3 b 0 k)) k := by
  pointwise [hR, hat]

theorem pR_apply (x : FVec Ideal S8x4096x1024 .f32) (g : FVec Ideal S1024 .f32) (sc sh : FVec Ideal S8x1x1024 .f32) (w : FVec Ideal S1024x3072 .f32) (b : Fin 8) (n : Fin 4096) (d : Fin 3072) :
    pR (hR x g sc sh) w (ix3 b n d) = projE (fun j => x (ix3 b n j)) (fun k => g (ix1 k)) (fun k => sc (ix3 b 0 k)) (fun k => sh (ix3 b 0 k)) (fun k => w (ix2 k d)) := by
  refine Eq.trans (b := ∑ k : Fin 1024, hR x g sc sh (ix3 b n k) * w (ix2 k d)) ?_ (Finset.sum_congr rfl fun k _ => by rw [hR_apply])
  pointwise [pR]

theorem qR_apply (p : FVec Ideal S8x4096x3072 .f32) (b j : Fin 8) (n : Fin 4096) (d : Fin 128) :
    qR p (ix4 b j n d) = p (ix3 b n ⟨j.val * 128 + d.val, by omega⟩) * Ideal.ofBits .f32 0x3E38AA3B#32 := by
  pointwise [qR, tR]

theorem kR_apply (p : FVec Ideal S8x4096x3072 .f32) (b j : Fin 8) (n : Fin 4096) (d : Fin 128) :
    kR p (ix4 b j n d) = p (ix3 b n ⟨1024 + j.val * 128 + d.val, by omega⟩) := by
  pointwise [kR, tR]

theorem vR_apply (p : FVec Ideal S8x4096x3072 .f32) (b j : Fin 8) (n : Fin 4096) (d : Fin 128) :
    vR p (ix4 b j n d) = p (ix3 b n ⟨2048 + j.val * 128 + d.val, by omega⟩) := by
  pointwise [vR, tR]

end Cert.Reference3Ideal.Hand

end
-- ==== Proof.C3Pay.lean ====
/- What the third call's body leaves over the extended reals, read at an index. -/
module

public import proofs.«01_k».proof.Proof.Gen.Kernel3Ideal.Frame
public import proofs.«01_k».proof.Proof.R3Val
public import Idealize.ShloMosaic.Lib.Pipeline.Value
public import Idealize.ShloMosaic.Lib.Pipeline.ValueKit

@[expose] public section

set_option maxRecDepth 16384

noncomputable section

namespace Cert.Kernel3Ideal.Hand

open Cert.Kernel3Ideal Cert.Kernel3Ideal.Gen
open Idealize.ShloMosaic Idealize.ShloMosaic.TcCoe Idealize.SL Idealize.SL.Sem Cert.Soft
open Idealize.ShloMosaic.Pipeline (Dat Cfg Window)
open Cert.Reference3Ideal.Hand (hat projE)

theorem pay3_apply (x : Vec Ideal S1x512x1024 .f32) (g : Vec Ideal S1x1024 .f32) (sc sh : Vec Ideal S1x1x1024 .f32) (w : Vec Ideal S1024x3072 .bf16) (r : Fin 512) (e : Fin 3072) :
    k0_pay3 x g sc sh w (ix2 r e) = projE (fun k => x (ix3 0 r k)) (fun k => g (ix2 0 k)) (fun k => sc (ix3 0 0 k)) (fun k => sh (ix3 0 0 k)) (fun k => w (ix2 k e)) := by
  pointwise [k0_pay3, projE, hat]

theorem pay31_eq (x : Vec Ideal S1x512x1024 .f32) (g : Vec Ideal S1x1024 .f32) (sc sh : Vec Ideal S1x1x1024 .f32) (w : Vec Ideal S1024x3072 .bf16) :
    k0_pay31 x g sc sh w = k0_pay3 x g sc sh w := by
  unfold k0_pay31
  rw [View.ld_unit_lit _ _ (by decide), View.ld_unit_lit _ _ (by decide), View.ld_unit_lit _ _ (by decide), View.ld_unit_lit _ _ (by decide), View.ld_unit_lit _ _ (by decide)]

/-- The first head's queries of the product. -/
def pay4' (P : FVec Ideal S512x3072 .f32) : FVec Ideal S1x1x512x128 .bf16 :=
  shapeCast S1x1x512x128 (truncf .bf16 (mulf (extractStridedSlice S512x128 ![0, 0] P slices_S512x3072_o0_0_S512x128) (broadcast S512x128 (Scalar.ofBits .f32 0x3E38AA3B#32))) bitsLt_bf16_f32) shapeCasts_S512x128_S1x1x512x128

theorem pay4_eq (x : Vec Ideal S1x512x1024 .f32) (g : Vec Ideal S1x1024 .f32) (sc sh : Vec Ideal S1x1x1024 .f32) (w : Vec Ideal S1024x3072 .bf16) :
    k0_pay5 (k0_pay4 (View.ld x r0_0) (View.ld g r0_1) (View.ld sc r0_2) (View.ld sh r0_2) (View.ld w r0_3)) = pay4' (k0_pay3 x g sc sh w) := by
  rw [View.ld_unit_lit _ _ (by decide), View.ld_unit_lit _ _ (by decide), View.ld_unit_lit _ _ (by decide), View.ld_unit_lit _ _ (by decide), View.ld_unit_lit _ _ (by decide)]
  rfl

/-- An index of a head's tile, by the index of the block it lies at. -/
theorem tile_idx (j : Fin 8) (r : Fin 512) (d : Fin 128) (o : ℕ) (x : S1x1x512x128.Idx) (h1 : j.val = o + (x 1).val) (h2 : r.val = (x 2).val) (h3 : d.val = (x 3).val) :
    x = ix4 0 0 r d ∧ j.val = o := by
  have e1 : x 1 = (0 : Fin 1) := Subsingleton.elim (α := Fin 1) _ _
  refine ⟨?_, h1.trans (by rw [e1]; rfl)⟩
  funext a
  fin_cases a
  · exact Subsingleton.elim (α := Fin 1) _ _
  · exact e1
  · exact Fin.ext h2.symm
  · exact Fin.ext h3.symm

/-- The queries a point leaves. -/
theorem out5_apply (x : Vec Ideal S1x512x1024 .f32) (g : Vec Ideal S1x1024 .f32) (sc sh : Vec Ideal S1x1x1024 .f32) (w : Vec Ideal S1024x3072 .bf16) (j : Fin 8) (r : Fin 512) (d : Fin 128) :
    out0_5 x g sc sh w (ix4 0 j r d) = k0_pay3 x g sc sh w (ix2 r ⟨j.val * 128 + d.val, by omega⟩) * Ideal.ofBits .f32 0x3E38AA3B#32 := by
  unfold out0_5
  rw [pay31_eq, pay4_eq]
  generalize k0_pay3 x g sc sh w = P
  canon_tiles y h
  case piece7 =>
    obtain ⟨rfl, hj⟩ := tile_idx j r d 0 y (h1.trans (Nat.zero_add _).symm) h2 h3
    simp only [hj]
    pointwise [k0_pay29, k0_pay26, k0_pay22, k0_pay19, k0_pay15, k0_pay12, k0_pay11, k0_pay8, pay4']
  all_goals
    obtain ⟨rfl, hj⟩ := tile_idx j r d _ y h1 h2 h3
    simp only [hj]
    pointwise [k0_pay29, k0_pay26, k0_pay22, k0_pay19, k0_pay15, k0_pay12, k0_pay11, k0_pay8, pay4']

/-- The keys a point leaves. -/
theorem out6_apply (x : Vec Ideal S1x512x1024 .f32) (g : Vec Ideal S1x1024 .f32) (sc sh : Vec Ideal S1x1x1024 .f32) (w : Vec Ideal S1024x3072 .bf16) (j : Fin 8) (r : Fin 512) (d : Fin 128) :
    out0_6 x g sc sh w (ix4 0 j r d) = k0_pay3 x g sc sh w (ix2 r ⟨1024 + j.val * 128 + d.val, by omega⟩) := by
  unfold out0_6
  rw [pay31_eq]
  generalize k0_pay3 x g sc sh w = P
  canon_tiles y h
  case piece7 =>
    obtain ⟨rfl, hj⟩ := tile_idx j r d 0 y (h1.trans (Nat.zero_add _).symm) h2 h3
    simp only [hj]
    pointwise [k0_pay1, k0_pay30, k0_pay27, k0_pay23, k0_pay20, k0_pay16, k0_pay13, k0_pay9, k0_pay6]
  all_goals
    obtain ⟨rfl, hj⟩ := tile_idx j r d _ y h1 h2 h3
    simp only [hj]
    pointwise [k0_pay1, k0_pay30, k0_pay27, k0_pay23, k0_pay20, k0_pay16, k0_pay13, k0_pay9, k0_pay6]

/-- The values a point leaves. -/
theorem out7_apply (x : Vec Ideal S1x512x1024 .f32) (g : Vec Ideal S1x1024 .f32) (sc sh : Vec Ideal S1x1x1024 .f32) (w : Vec Ideal S1024x3072 .bf16) (j : Fin 8) (r : Fin 512) (d : Fin 128) :
    out0_7 x g sc sh w (ix4 0 j r d) = k0_pay3 x g sc sh w (ix2 r ⟨2048 + j.val * 128 + d.val, by omega⟩) := by
  unfold out0_7
  rw [pay31_eq]
  generalize k0_pay3 x g sc sh w = P
  canon_tiles y h
  case piece7 =>
    obtain ⟨rfl, hj⟩ := tile_idx j r d 0 y (h1.trans (Nat.zero_add _).symm) h2 h3
    simp only [hj]
    pointwise [k0_pay2, k0_pay28, k0_pay25, k0_pay24, k0_pay21, k0_pay18, k0_pay17, k0_pay14, k0_pay10, k0_pay7]
  all_goals
    obtain ⟨rfl, hj⟩ := tile_idx j r d _ y h1 h2 h3
    simp only [hj]
    pointwise [k0_pay2, k0_pay28, k0_pay25, k0_pay24, k0_pay21, k0_pay18, k0_pay17, k0_pay14, k0_pay10, k0_pay7]

end Cert.Kernel3Ideal.Hand

end
-- ==== Proof.C3Out.lean ====
/- The result arrays of the third call over the extended reals are the reference's functions of the argument arrays. -/
module

public import proofs.«01_k».proof.Proof.C3Pay

@[expose] public section

set_option maxRecDepth 16384

noncomputable section

namespace Cert.Kernel3Ideal.Hand

open Cert.Kernel3Ideal Cert.Kernel3Ideal.Gen
open Idealize.ShloMosaic Idealize.ShloMosaic.TcCoe Idealize.SL Idealize.SL.Sem Cert.Soft
open Idealize.ShloMosaic.Pipeline (Dat Cfg Window)
open Cert.Reference3Ideal.Hand (hat projE hR pR qR kR vR pR_apply qR_apply kR_apply vR_apply)

theorem index_0 : ∀ t, win0_0.index t = ![(grid0.coords t 0).val, (grid0.coords t 1).val, 0] := by decide +kernel
theorem index_1 : ∀ t, win0_1.index t = ![0, 0] := by decide +kernel
theorem index_2 : ∀ t, win0_2.index t = ![(grid0.coords t 0).val, 0, 0] := by decide +kernel
theorem index_3 : ∀ t, win0_3.index t = ![(grid0.coords t 0).val, 0, 0] := by decide +kernel
theorem index_4 : ∀ t, win0_4.index t = ![0, 0] := by decide +kernel
theorem index_5 : ∀ t, win0_5.index t = ![(grid0.coords t 0).val, 0, (grid0.coords t 1).val, 0] := by decide +kernel
theorem index_6 : ∀ t, win0_6.index t = ![(grid0.coords t 0).val, 0, (grid0.coords t 1).val, 0] := by decide +kernel
theorem index_7 : ∀ t, win0_7.index t = ![(grid0.coords t 0).val, 0, (grid0.coords t 1).val, 0] := by decide +kernel

variable (m : (ℓ : Loc nD τ sig) → Buf (Elt Ideal) ℓ) (ρ : Dev nD → PrngReg)

/-- The tokens. -/
abbrev A0 (c : Dev nD) : FVec Ideal S8x4096x1024 .f32 := m ((c : Thread nD τ).loc main_arg0)
/-- The gains of the norm. -/
abbrev A1 (c : Dev nD) : FVec Ideal S1024 .f32 := m ((c : Thread nD τ).loc main_arg1)
/-- The scale of each batch. -/
abbrev A2 (c : Dev nD) : FVec Ideal S8x1x1024 .f32 := m ((c : Thread nD τ).loc main_arg2)
/-- The shift of each batch. -/
abbrev A3 (c : Dev nD) : FVec Ideal S8x1x1024 .f32 := m ((c : Thread nD τ).loc main_arg3)
/-- The weights. -/
abbrev A4 (c : Dev nD) : FVec Ideal S1024x3072 .f32 := m ((c : Thread nD τ).loc main_arg4)

/-- The batch and the tile of positions of a point. -/
def pb (t : Fin cfg0.N) : Fin 8 := grid0.coords t 0
def pq (t : Fin cfg0.N) : Fin 8 := grid0.coords t 1

/-- The position of row `r` of tile `a`. -/
def pos (a : Fin 8) (r : Fin 512) : Fin 4096 := ⟨512 * a.val + r.val, by omega⟩

/-- The gains and the weights as the call finds them. -/
theorem V_gains (c : Dev nD) : V m c main_v0 = shapeCast S1x1024 (A1 m c) shapeCasts_S1024_S1x1024 := by
  rfl

theorem V_weights (c : Dev nD) : V m c main_v1 = truncf .bf16 (A4 m c) bitsLt_bf16_f32 := by
  rfl

theorem gains_apply (g : FVec Ideal S1024 .f32) (k : Fin 1024) : shapeCast S1x1024 g shapeCasts_S1024_S1x1024 (ix2 0 k) = g (ix1 k) := by
  pointwise

theorem iblk_0 (c : Dev nD) (t : Fin cfg0.N) (r : Fin 512) (x : Fin 1024) :
    iblk m c 0 t (ix3 0 r x) = A0 m c (ix3 (pb t) (pos (pq t) r) x) := by
  refine (congrFun (V_main_arg0 m c) _).trans (congrArg (A0 m c) (funext fun a => Fin.ext ?_))
  blk_simp
  rw [index_0]
  fin_cases a <;> simp [ix3, pos, pb, pq, win0_0]
  all_goals exact mul_comm _ _

theorem iblk_1 (c : Dev nD) (t : Fin cfg0.N) (k : Fin 1024) : iblk m c 1 t (ix2 0 k) = A1 m c (ix1 k) := by
  refine Eq.trans ?_ (gains_apply (A1 m c) k)
  refine (congrFun (V_gains m c) _).trans (congrArg (shapeCast S1x1024 (A1 m c) shapeCasts_S1024_S1x1024) (funext fun a => Fin.ext ?_))
  blk_simp
  rw [index_1]
  fin_cases a <;> simp [ix2]

theorem iblk_2 (c : Dev nD) (t : Fin cfg0.N) (x : Fin 1024) :
    iblk m c 2 t (ix3 0 0 x) = A2 m c (ix3 (pb t) 0 x) := by
  refine (congrFun (V_main_arg2 m c) _).trans (congrArg (A2 m c) (funext fun a => Fin.ext ?_))
  blk_simp
  rw [index_2]
  fin_cases a <;> simp [ix3, pb, win0_2]

theorem iblk_3 (c : Dev nD) (t : Fin cfg0.N) (x : Fin 1024) :
    iblk m c 3 t (ix3 0 0 x) = A3 m c (ix3 (pb t) 0 x) := by
  refine (congrFun (V_main_arg3 m c) _).trans (congrArg (A3 m c) (funext fun a => Fin.ext ?_))
  blk_simp
  rw [index_3]
  fin_cases a <;> simp [ix3, pb, win0_3]

theorem iblk_4 (c : Dev nD) (t : Fin cfg0.N) (k : Fin 1024) (e : Fin 3072) : iblk m c 4 t (ix2 k e) = A4 m c (ix2 k e) := by
  refine (congrFun (V_weights m c) _).trans (congrArg (A4 m c) (funext fun a => Fin.ext ?_))
  blk_simp
  rw [index_4]
  fin_cases a <;> simp [ix2]

/-- The reference's product of the argument arrays. -/
abbrev PR (c : Dev nD) : FVec Ideal Cert.Reference3Ideal.S8x4096x3072 .f32 := pR (hR (A0 m c) (A1 m c) (A2 m c) (A3 m c)) (A4 m c)

/-- The body's product of a point's blocks, at a row and a column. -/
theorem prod_val (c : Dev nD) (t : Fin cfg0.N) (r : Fin 512) (e : Fin 3072) :
    k0_pay3 (iblk m c 0 t) (iblk m c 1 t) (iblk m c 2 t) (iblk m c 3 t) (iblk m c 4 t) (ix2 r e) = PR m c (ix3 (pb t) (pos (pq t) r) e) := by
  refine ((pay3_apply (iblk m c 0 t) (iblk m c 1 t) (iblk m c 2 t) (iblk m c 3 t) (iblk m c 4 t) r e).trans ?_).trans (pR_apply _ _ _ _ _ _ _ _).symm
  simp only [iblk_0, iblk_1, iblk_2, iblk_3, iblk_4]

theorem val_5 (c : Dev nD) (t : Fin cfg0.N) (j : Fin 8) (r : Fin 512) (d : Fin 128) :
    out0_5 (iblk m c 0 t) (iblk m c 1 t) (iblk m c 2 t) (iblk m c 3 t) (iblk m c 4 t) (ix4 0 j r d) = qR (PR m c) (ix4 (pb t) j (pos (pq t) r) d) := by
  refine ((out5_apply (iblk m c 0 t) (iblk m c 1 t) (iblk m c 2 t) (iblk m c 3 t) (iblk m c 4 t) j r d).trans ?_).trans (qR_apply (PR m c) _ _ _ _).symm
  rw [prod_val]

/-- The array of the queries is the reference's of the argument arrays. -/
theorem final_5 (c : Dev nD) : (dats m 0 c).arrAt 5 cfg0.N = qR (PR m c) := by
  refine (dats m 0 c).arrAt_eq_of_covers 5 _ (by decide +kernel) fun t hf y => ?_
  blk_simp
  rw [after0_5]
  have hy : y = ix4 0 (y 1) (y 2) (y 3) := by
    funext a
    fin_cases a
    · exact Subsingleton.elim (α := Fin 1) _ _
    · rfl
    · rfl
    · rfl
  rw [hy]
  refine (val_5 m c t (y 1) (y 2) (y 3)).trans (congrArg (qR (PR m c)) (funext fun a => Fin.ext ?_))
  blk_simp
  rw [index_5]
  fin_cases a <;> simp [ix4, pos, pb, pq, win0_5]
  all_goals exact mul_comm _ _

theorem val_6 (c : Dev nD) (t : Fin cfg0.N) (j : Fin 8) (r : Fin 512) (d : Fin 128) :
    out0_6 (iblk m c 0 t) (iblk m c 1 t) (iblk m c 2 t) (iblk m c 3 t) (iblk m c 4 t) (ix4 0 j r d) = kR (PR m c) (ix4 (pb t) j (pos (pq t) r) d) := by
  refine ((out6_apply (iblk m c 0 t) (iblk m c 1 t) (iblk m c 2 t) (iblk m c 3 t) (iblk m c 4 t) j r d).trans ?_).trans (kR_apply (PR m c) _ _ _ _).symm
  rw [prod_val]

/-- The array of the keys is the reference's of the argument arrays. -/
theorem final_6 (c : Dev nD) : (dats m 0 c).arrAt 6 cfg0.N = kR (PR m c) := by
  refine (dats m 0 c).arrAt_eq_of_covers 6 _ (by decide +kernel) fun t hf y => ?_
  blk_simp
  rw [after0_6]
  have hy : y = ix4 0 (y 1) (y 2) (y 3) := by
    funext a
    fin_cases a
    · exact Subsingleton.elim (α := Fin 1) _ _
    · rfl
    · rfl
    · rfl
  rw [hy]
  refine (val_6 m c t (y 1) (y 2) (y 3)).trans (congrArg (kR (PR m c)) (funext fun a => Fin.ext ?_))
  blk_simp
  rw [index_6]
  fin_cases a <;> simp [ix4, pos, pb, pq, win0_6]
  all_goals exact mul_comm _ _

theorem val_7 (c : Dev nD) (t : Fin cfg0.N) (j : Fin 8) (r : Fin 512) (d : Fin 128) :
    out0_7 (iblk m c 0 t) (iblk m c 1 t) (iblk m c 2 t) (iblk m c 3 t) (iblk m c 4 t) (ix4 0 j r d) = vR (PR m c) (ix4 (pb t) j (pos (pq t) r) d) := by
  refine ((out7_apply (iblk m c 0 t) (iblk m c 1 t) (iblk m c 2 t) (iblk m c 3 t) (iblk m c 4 t) j r d).trans ?_).trans (vR_apply (PR m c) _ _ _ _).symm
  rw [prod_val]

/-- The array of the values is the reference's of the argument arrays. -/
theorem final_7 (c : Dev nD) : (dats m 0 c).arrAt 7 cfg0.N = vR (PR m c) := by
  refine (dats m 0 c).arrAt_eq_of_covers 7 _ (by decide +kernel) fun t hf y => ?_
  blk_simp
  rw [after0_7]
  have hy : y = ix4 0 (y 1) (y 2) (y 3) := by
    funext a
    fin_cases a
    · exact Subsingleton.elim (α := Fin 1) _ _
    · rfl
    · rfl
    · rfl
  rw [hy]
  refine (val_7 m c t (y 1) (y 2) (y 3)).trans (congrArg (vR (PR m c)) (funext fun a => Fin.ext ?_))
  blk_simp
  rw [index_7]
  fin_cases a <;> simp [ix4, pos, pb, pq, win0_7]
  all_goals exact mul_comm _ _

end Cert.Kernel3Ideal.Hand

end
-- ==== Proof.R4Val.lean ====
/- The fourth reference's result over the extended reals, read at an index. -/
module

public import proofs.«01_k».proof.Proof.Soft
public import proofs.«01_k».proof.Proof.Gen.Reference4Ideal.Run
public import Idealize.ShloMosaic.Lib.Tactic.CleanTypes

@[expose] public section

set_option maxRecDepth 16384

noncomputable section

namespace Cert.Reference4Ideal.Hand

open Cert.Reference4Ideal Cert.Reference4Ideal.Gen Cert.Reference4Ideal.Value
open Idealize.ShloMosaic Idealize.ShloMosaic.TcCoe Cert.Soft

/-- The two halves of the heads beside one another. -/
def catR {F : FTy → Type} [FloatOps F] (a b : FVec F S8x4096x512 .bf16) : FVec F S8x4096x1024 .f32 :=
  concatenate S8x4096x1024 2 [⟨S8x4096x512, (extf .f32 a bitsLt_bf16_f32)⟩, ⟨S8x4096x512, (extf .f32 b bitsLt_bf16_f32)⟩] concatenates_S8x4096x512_S8x4096x512_S8x4096x1024_d2

/-- The result of the five arguments: the residual, and the gate times the product with the weights. -/
def outR {F : FTy → Type} [FloatOps F] (x : FVec F S8x4096x1024 .f32) (g : FVec F S8x1x1024 .f32) (a b : FVec F S8x4096x512 .bf16) (w : FVec F S1024x1024 .f32) : FVec F S8x4096x1024 .f32 :=
  addf x (mulf (broadcastInDim S8x4096x1024 ![0, 1, 2] bcast_S8x1x1024_S8x4096x1024_0_1_2 g) (Host.dotGeneral dot_S8x4096x1024_S1024x1024_S8x4096x1024_2_0_01_1_n_n none (catR a b) w))

theorem catR_apply (a b : FVec Ideal S8x4096x512 .bf16) (i : Fin 8) (n : Fin 4096) (k : Fin 1024) :
    catR a b (ix3 i n k) = if h : k.val < 512 then a (ix3 i n ⟨k.val, h⟩) else b (ix3 i n ⟨k.val - 512, by omega⟩) := by
  pointwise [catR]

theorem outR_cat (x : FVec Ideal S8x4096x1024 .f32) (g : FVec Ideal S8x1x1024 .f32) (a b : FVec Ideal S8x4096x512 .bf16) (w : FVec Ideal S1024x1024 .f32) (i : Fin 8) (n : Fin 4096) (d : Fin 1024) :
    outR x g a b w (ix3 i n d) = x (ix3 i n d) + g (ix3 i 0 d) * ∑ k : Fin 1024, catR a b (ix3 i n k) * w (ix2 k d) := by
  pointwise [outR]

/-- A sum over the columns is that over the first half and that over the second. -/
theorem sum_halves (f : Fin 1024 → EReal) :
    ∑ k, f k = ∑ k : Fin 512, f ⟨k.val, by omega⟩ + ∑ k : Fin 512, f ⟨512 + k.val, by omega⟩ :=
  Fin.sum_univ_add (a := 512) (b := 512) f

theorem outR_apply (x : FVec Ideal S8x4096x1024 .f32) (g : FVec Ideal S8x1x1024 .f32) (a b : FVec Ideal S8x4096x512 .bf16) (w : FVec Ideal S1024x1024 .f32) (i : Fin 8) (n : Fin 4096) (d : Fin 1024) :
    outR x g a b w (ix3 i n d) = x (ix3 i n d) + g (ix3 i 0 d) * (∑ k : Fin 512, a (ix3 i n k) * w (ix2 ⟨k.val, by omega⟩ d) + ∑ k : Fin 512, b (ix3 i n k) * w (ix2 ⟨512 + k.val, by omega⟩ d)) := by
  rw [outR_cat, sum_halves]
  refine congrArg (fun z => _ + _ * z) (congrArg₂ (· + ·) (Finset.sum_congr rfl fun k _ => ?_) (Finset.sum_congr rfl fun k _ => ?_))
  · rw [catR_apply, dif_pos k.isLt]
  · rw [catR_apply, dif_neg (by simp)]
    simp

end Cert.Reference4Ideal.Hand

end
-- ==== Proof.O4Out.lean ====
/- The result array of the fourth call over the extended reals is the reference's function of the argument arrays. -/
module

public import proofs.«01_k».proof.Proof.Gen.Kernel4Ideal.Frame
public import proofs.«01_k».proof.Proof.R4Val
public import Idealize.ShloMosaic.Lib.Pipeline.Value
public import Idealize.ShloMosaic.Lib.Pipeline.ValueKit

@[expose] public section

set_option maxRecDepth 16384

noncomputable section

namespace Cert.Kernel4Ideal.Hand

open Cert.Kernel4Ideal Cert.Kernel4Ideal.Gen
open Idealize.ShloMosaic Idealize.ShloMosaic.TcCoe Idealize.SL Idealize.SL.Sem Cert.Soft
open Idealize.ShloMosaic.Pipeline (Dat Cfg Window)
open Cert.Reference4Ideal.Hand (outR outR_apply)

theorem index_0 : ∀ t, win0_0.index t = ![(grid0.coords t 0).val, (grid0.coords t 1).val, 0] := by decide +kernel
theorem index_1 : ∀ t, win0_1.index t = ![(grid0.coords t 0).val, 0, 0] := by decide +kernel
theorem index_2 : ∀ t, win0_2.index t = ![(grid0.coords t 0).val, (grid0.coords t 1).val, 0] := by decide +kernel
theorem index_3 : ∀ t, win0_3.index t = ![0, 0] := by decide +kernel
theorem index_4 : ∀ t, win0_4.index t = ![(grid0.coords t 0).val, (grid0.coords t 1).val, 0] := by decide +kernel
theorem index_5 : ∀ t, win0_5.index t = ![0, 0] := by decide +kernel
theorem index_6 : ∀ t, win0_6.index t = ![(grid0.coords t 0).val, (grid0.coords t 1).val, 0] := by decide +kernel

variable (m : (ℓ : Loc nD τ sig) → Buf (Elt Ideal) ℓ) (ρ : Dev nD → PrngReg)

/-- The residual. -/
abbrev A0 (c : Dev nD) : FVec Ideal S8x4096x1024 .f32 := m ((c : Thread nD τ).loc main_arg0)
/-- The gate of each batch. -/
abbrev A1 (c : Dev nD) : FVec Ideal S8x1x1024 .f32 := m ((c : Thread nD τ).loc main_arg1)
/-- The output of the first half of the heads. -/
abbrev A2 (c : Dev nD) : FVec Ideal S8x4096x512 .bf16 := m ((c : Thread nD τ).loc main_arg2)
/-- The output of the second half of the heads. -/
abbrev A3 (c : Dev nD) : FVec Ideal S8x4096x512 .bf16 := m ((c : Thread nD τ).loc main_arg3)
/-- The weights. -/
abbrev A4 (c : Dev nD) : FVec Ideal S1024x1024 .f32 := m ((c : Thread nD τ).loc main_arg4)

/-- The batch and the tile of positions of a point. -/
def pb (t : Fin cfg0.N) : Fin 8 := grid0.coords t 0
def pq (t : Fin cfg0.N) : Fin 8 := grid0.coords t 1

/-- The position of row `r` of tile `a`. -/
def pos (a : Fin 8) (r : Fin 512) : Fin 4096 := ⟨512 * a.val + r.val, by omega⟩

/-- The two halves of the weights as the call finds them. -/
theorem V_weights1 (c : Dev nD) : V m c main_v1 = extractStridedSlice S512x1024 ![0, 0] (truncf .bf16 (A4 m c) bitsLt_bf16_f32) slices_S1024x1024_S512x1024_0_0 := by
  rfl

theorem V_weights2 (c : Dev nD) : V m c main_v2 = extractStridedSlice S512x1024 ![512, 0] (truncf .bf16 (A4 m c) bitsLt_bf16_f32) slices_S1024x1024_S512x1024_512_0 := by
  rfl

theorem half1_apply (w : FVec Ideal S1024x1024 .f32) (k : Fin 512) (d : Fin 1024) :
    extractStridedSlice S512x1024 ![0, 0] (truncf .bf16 w bitsLt_bf16_f32) slices_S1024x1024_S512x1024_0_0 (ix2 k d) = w (ix2 ⟨k.val, by omega⟩ d) := by
  pointwise

theorem half2_apply (w : FVec Ideal S1024x1024 .f32) (k : Fin 512) (d : Fin 1024) :
    extractStridedSlice S512x1024 ![512, 0] (truncf .bf16 w bitsLt_bf16_f32) slices_S1024x1024_S512x1024_512_0 (ix2 k d) = w (ix2 ⟨512 + k.val, by omega⟩ d) := by
  pointwise

theorem iblk_0 (c : Dev nD) (t : Fin cfg0.N) (r : Fin 512) (x : Fin 1024) :
    iblk m c 0 t (ix3 0 r x) = A0 m c (ix3 (pb t) (pos (pq t) r) x) := by
  refine (congrFun (V_main_arg0 m c) _).trans (congrArg (A0 m c) (funext fun a => Fin.ext ?_))
  blk_simp
  rw [index_0]
  fin_cases a <;> simp [ix3, pos, pb, pq, win0_0]
  all_goals exact mul_comm _ _

theorem iblk_1 (c : Dev nD) (t : Fin cfg0.N) (x : Fin 1024) :
    iblk m c 1 t (ix3 0 0 x) = A1 m c (ix3 (pb t) 0 x) := by
  refine (congrFun (V_main_arg1 m c) _).trans (congrArg (A1 m c) (funext fun a => Fin.ext ?_))
  blk_simp
  rw [index_1]
  fin_cases a <;> simp [ix3, pb, win0_1]

theorem iblk_2 (c : Dev nD) (t : Fin cfg0.N) (r k : Fin 512) :
    iblk m c 2 t (ix3 0 r k) = A2 m c (ix3 (pb t) (pos (pq t) r) k) := by
  refine (congrFun (V_main_arg2 m c) _).trans (congrArg (A2 m c) (funext fun a => Fin.ext ?_))
  blk_simp
  rw [index_2]
  fin_cases a <;> simp [ix3, pos, pb, pq, win0_2]
  all_goals exact mul_comm _ _

theorem iblk_3 (c : Dev nD) (t : Fin cfg0.N) (k : Fin 512) (d : Fin 1024) :
    iblk m c 3 t (ix2 k d) = A4 m c (ix2 ⟨k.val, by omega⟩ d) := by
  refine Eq.trans ?_ (half1_apply (A4 m c) k d)
  refine (congrFun (V_weights1 m c) _).trans (congrArg (extractStridedSlice S512x1024 ![0, 0] (truncf .bf16 (A4 m c) bitsLt_bf16_f32) slices_S1024x1024_S512x1024_0_0) (funext fun a => Fin.ext ?_))
  blk_simp
  rw [index_3]
  fin_cases a <;> simp [ix2]

theorem iblk_4 (c : Dev nD) (t : Fin cfg0.N) (r k : Fin 512) :
    iblk m c 4 t (ix3 0 r k) = A3 m c (ix3 (pb t) (pos (pq t) r) k) := by
  refine (congrFun (V_main_arg3 m c) _).trans (congrArg (A3 m c) (funext fun a => Fin.ext ?_))
  blk_simp
  rw [index_4]
  fin_cases a <;> simp [ix3, pos, pb, pq, win0_4]
  all_goals exact mul_comm _ _

theorem iblk_5 (c : Dev nD) (t : Fin cfg0.N) (k : Fin 512) (d : Fin 1024) :
    iblk m c 5 t (ix2 k d) = A4 m c (ix2 ⟨512 + k.val, by omega⟩ d) := by
  refine Eq.trans ?_ (half2_apply (A4 m c) k d)
  refine (congrFun (V_weights2 m c) _).trans (congrArg (extractStridedSlice S512x1024 ![512, 0] (truncf .bf16 (A4 m c) bitsLt_bf16_f32) slices_S1024x1024_S512x1024_512_0) (funext fun a => Fin.ext ?_))
  blk_simp
  rw [index_5]
  fin_cases a <;> simp [ix2]

theorem pay1_apply (a : Vec Ideal S1x512x512 .bf16) (u : Vec Ideal S512x1024 .bf16) (b : Vec Ideal S1x512x512 .bf16) (w : Vec Ideal S512x1024 .bf16) (x : Vec Ideal S1x512x1024 .f32) (g : Vec Ideal S1x1x1024 .f32) (r : Fin 512) (d : Fin 1024) :
    k0_pay1 a u b w x g (ix3 0 r d) = x (ix3 0 r d) + g (ix3 0 0 d) * (∑ k : Fin 512, a (ix3 0 r k) * u (ix2 k d) + ∑ k : Fin 512, b (ix3 0 r k) * w (ix2 k d)) := by
  pointwise [k0_pay1]

/-- The block a point leaves is the body's value of its blocks. -/
theorem out_eq (x0 : Vec Ideal S1x512x1024 .f32) (x1 : Vec Ideal S1x1x1024 .f32) (x2 : Vec Ideal S1x512x512 .bf16) (x3 : Vec Ideal S512x1024 .bf16) (x4 : Vec Ideal S1x512x512 .bf16) (x5 : Vec Ideal S512x1024 .bf16) :
    out0_6 x0 x1 x2 x3 x4 x5 = k0_pay1 x2 x3 x4 x5 x0 x1 := by
  unfold out0_6
  rw [View.canon_cons_unit_lit _ _ _ (by decide)]
  rw [View.ld_unit_lit _ _ (by decide), View.ld_unit_lit _ _ (by decide), View.ld_unit_lit _ _ (by decide), View.ld_unit_lit _ _ (by decide), View.ld_unit_lit _ _ (by decide), View.ld_unit_lit _ _ (by decide)]

/-- The body's value of a point's blocks, at a row and a column. -/
theorem val (c : Dev nD) (t : Fin cfg0.N) (r : Fin 512) (d : Fin 1024) :
    k0_pay1 (iblk m c 2 t) (iblk m c 3 t) (iblk m c 4 t) (iblk m c 5 t) (iblk m c 0 t) (iblk m c 1 t) (ix3 0 r d) = outR (A0 m c) (A1 m c) (A2 m c) (A3 m c) (A4 m c) (ix3 (pb t) (pos (pq t) r) d) := by
  refine ((pay1_apply (iblk m c 2 t) (iblk m c 3 t) (iblk m c 4 t) (iblk m c 5 t) (iblk m c 0 t) (iblk m c 1 t) r d).trans ?_).trans (outR_apply _ _ _ _ _ _ _ _).symm
  rw [iblk_0, iblk_1]
  exact congrArg (fun z => _ + _ * z) (congrArg₂ (· + ·) (Finset.sum_congr rfl fun k _ => by rw [iblk_2, iblk_3]) (Finset.sum_congr rfl fun k _ => by rw [iblk_4, iblk_5]))

/-- The result array is the reference's of the argument arrays. -/
theorem final_6 (c : Dev nD) : (dats m 0 c).arrAt 6 cfg0.N = outR (A0 m c) (A1 m c) (A2 m c) (A3 m c) (A4 m c) := by
  refine (dats m 0 c).arrAt_eq_of_covers 6 _ (by decide +kernel) fun t hf y => ?_
  blk_simp
  rw [after0_6, out_eq]
  have hy : y = ix3 0 (y 1) (y 2) := by
    funext a
    fin_cases a
    · exact Subsingleton.elim (α := Fin 1) _ _
    · rfl
    · rfl
  rw [hy]
  refine (val m c t (y 1) (y 2)).trans (congrArg (outR (A0 m c) (A1 m c) (A2 m c) (A3 m c) (A4 m c)) (funext fun a => Fin.ext ?_))
  blk_simp
  rw [index_6]
  fin_cases a <;> simp [ix3, pos, pb, pq, win0_6]
  all_goals exact mul_comm _ _

end Cert.Kernel4Ideal.Hand

end
-- ==== Proof.R5Val.lean ====
/- The fifth reference's result over the extended reals, read at an index. -/
module

public import proofs.«01_k».proof.Proof.Soft
public import proofs.«01_k».proof.Proof.Gen.Reference5Ideal.Run
public import Idealize.ShloMosaic.Lib.Tactic.CleanTypes

@[expose] public section

set_option maxRecDepth 16384

noncomputable section

namespace Cert.Reference5Ideal.Hand

open Cert.Reference5Ideal Cert.Reference5Ideal.Gen Cert.Reference5Ideal.Value
open Idealize.ShloMosaic Idealize.ShloMosaic.TcCoe Cert.Soft

/-- The result of the four arguments: the residual, and the gate times the product with the weights. -/
def outR {F : FTy → Type} [FloatOps F] (x : FVec F S8x4096x1024 .f32) (g : FVec F S8x1x1024 .f32) (a : FVec F S8x4096x1024 .bf16) (w : FVec F S1024x1024 .f32) : FVec F S8x4096x1024 .f32 :=
  addf x (mulf (broadcastInDim S8x4096x1024 ![0, 1, 2] bcast_S8x1x1024_S8x4096x1024_0_1_2 g) (Host.dotGeneral dot_S8x4096x1024_S1024x1024_S8x4096x1024_2_0_01_1_n_n none (extf .f32 a bitsLt_bf16_f32) w))

theorem outR_apply (x : FVec Ideal S8x4096x1024 .f32) (g : FVec Ideal S8x1x1024 .f32) (a : FVec Ideal S8x4096x1024 .bf16) (w : FVec Ideal S1024x1024 .f32) (b : Fin 8) (n : Fin 4096) (d : Fin 1024) :
    outR x g a w (ix3 b n d) = x (ix3 b n d) + g (ix3 b 0 d) * ∑ k : Fin 1024, a (ix3 b n k) * w (ix2 k d) := by
  pointwise [outR]

end Cert.Reference5Ideal.Hand

end
-- ==== Proof.O5Out.lean ====
/- The result array of the fifth call over the extended reals is the reference's function of the argument arrays. -/
module

public import proofs.«01_k».proof.Proof.Gen.Kernel5Ideal.Frame
public import proofs.«01_k».proof.Proof.R5Val
public import Idealize.ShloMosaic.Lib.Pipeline.Value
public import Idealize.ShloMosaic.Lib.Pipeline.ValueKit

@[expose] public section

set_option maxRecDepth 16384

noncomputable section

namespace Cert.Kernel5Ideal.Hand

open Cert.Kernel5Ideal Cert.Kernel5Ideal.Gen
open Idealize.ShloMosaic Idealize.ShloMosaic.TcCoe Idealize.SL Idealize.SL.Sem Cert.Soft
open Idealize.ShloMosaic.Pipeline (Dat Cfg Window)
open Cert.Reference5Ideal.Hand (outR outR_apply)

theorem index_0 : ∀ t, win0_0.index t = ![(grid0.coords t 0).val, (grid0.coords t 1).val, 0] := by decide +kernel
theorem index_1 : ∀ t, win0_1.index t = ![(grid0.coords t 0).val, 0, 0] := by decide +kernel
theorem index_2 : ∀ t, win0_2.index t = ![(grid0.coords t 0).val, (grid0.coords t 1).val, 0] := by decide +kernel
theorem index_3 : ∀ t, win0_3.index t = ![0, 0] := by decide +kernel
theorem index_4 : ∀ t, win0_4.index t = ![(grid0.coords t 0).val, (grid0.coords t 1).val, 0] := by decide +kernel

variable (m : (ℓ : Loc nD τ sig) → Buf (Elt Ideal) ℓ) (ρ : Dev nD → PrngReg)

/-- The residual. -/
abbrev A0 (c : Dev nD) : FVec Ideal S8x4096x1024 .f32 := m ((c : Thread nD τ).loc main_arg0)
/-- The gate of each batch. -/
abbrev A1 (c : Dev nD) : FVec Ideal S8x1x1024 .f32 := m ((c : Thread nD τ).loc main_arg1)
/-- The attention's output. -/
abbrev A2 (c : Dev nD) : FVec Ideal S8x4096x1024 .bf16 := m ((c : Thread nD τ).loc main_arg2)
/-- The weights. -/
abbrev A3 (c : Dev nD) : FVec Ideal S1024x1024 .f32 := m ((c : Thread nD τ).loc main_arg3)

/-- The batch and the tile of positions of a point. -/
def pb (t : Fin cfg0.N) : Fin 8 := grid0.coords t 0
def pq (t : Fin cfg0.N) : Fin 8 := grid0.coords t 1

/-- The position of row `r` of tile `a`. -/
def pos (a : Fin 8) (r : Fin 512) : Fin 4096 := ⟨512 * a.val + r.val, by omega⟩

/-- The weights as the call finds them. -/
theorem V_weights (c : Dev nD) : V m c main_v0 = truncf .bf16 (A3 m c) bitsLt_bf16_f32 := by
  rfl

theorem iblk_0 (c : Dev nD) (t : Fin cfg0.N) (r : Fin 512) (x : Fin 1024) :
    iblk m c 0 t (ix3 0 r x) = A0 m c (ix3 (pb t) (pos (pq t) r) x) := by
  refine (congrFun (V_main_arg0 m c) _).trans (congrArg (A0 m c) (funext fun a => Fin.ext ?_))
  blk_simp
  rw [index_0]
  fin_cases a <;> simp [ix3, pos, pb, pq, win0_0]
  all_goals exact mul_comm _ _

theorem iblk_1 (c : Dev nD) (t : Fin cfg0.N) (x : Fin 1024) :
    iblk m c 1 t (ix3 0 0 x) = A1 m c (ix3 (pb t) 0 x) := by
  refine (congrFun (V_main_arg1 m c) _).trans (congrArg (A1 m c) (funext fun a => Fin.ext ?_))
  blk_simp
  rw [index_1]
  fin_cases a <;> simp [ix3, pb, win0_1]

theorem iblk_2 (c : Dev nD) (t : Fin cfg0.N) (r : Fin 512) (x : Fin 1024) :
    iblk m c 2 t (ix3 0 r x) = A2 m c (ix3 (pb t) (pos (pq t) r) x) := by
  refine (congrFun (V_main_arg2 m c) _).trans (congrArg (A2 m c) (funext fun a => Fin.ext ?_))
  blk_simp
  rw [index_2]
  fin_cases a <;> simp [ix3, pos, pb, pq, win0_2]
  all_goals exact mul_comm _ _

theorem iblk_3 (c : Dev nD) (t : Fin cfg0.N) (k d : Fin 1024) : iblk m c 3 t (ix2 k d) = A3 m c (ix2 k d) := by
  refine (congrFun (V_weights m c) _).trans (congrArg (A3 m c) (funext fun a => Fin.ext ?_))
  blk_simp
  rw [index_3]
  fin_cases a <;> simp [ix2]

theorem pay1_apply (a : Vec Ideal S1x512x1024 .bf16) (w : Vec Ideal S1024x1024 .bf16) (x : Vec Ideal S1x512x1024 .f32) (g : Vec Ideal S1x1x1024 .f32) (r : Fin 512) (d : Fin 1024) :
    k0_pay1 a w x g (ix3 0 r d) = x (ix3 0 r d) + g (ix3 0 0 d) * ∑ k : Fin 1024, a (ix3 0 r k) * w (ix2 k d) := by
  pointwise [k0_pay1]

/-- The block a point leaves is the body's value of its blocks. -/
theorem out_eq (x0 : Vec Ideal S1x512x1024 .f32) (x1 : Vec Ideal S1x1x1024 .f32) (x2 : Vec Ideal S1x512x1024 .bf16) (x3 : Vec Ideal S1024x1024 .bf16) :
    out0_4 x0 x1 x2 x3 = k0_pay1 x2 x3 x0 x1 := by
  unfold out0_4
  rw [View.canon_cons_unit_lit _ _ _ (by decide), View.ld_unit_lit _ _ (by decide), View.ld_unit_lit _ _ (by decide), View.ld_unit_lit _ _ (by decide), View.ld_unit_lit _ _ (by decide)]

/-- The body's value of a point's blocks, at a row and a column. -/
theorem val (c : Dev nD) (t : Fin cfg0.N) (r : Fin 512) (d : Fin 1024) :
    k0_pay1 (iblk m c 2 t) (iblk m c 3 t) (iblk m c 0 t) (iblk m c 1 t) (ix3 0 r d) = outR (A0 m c) (A1 m c) (A2 m c) (A3 m c) (ix3 (pb t) (pos (pq t) r) d) := by
  refine ((pay1_apply (iblk m c 2 t) (iblk m c 3 t) (iblk m c 0 t) (iblk m c 1 t) r d).trans ?_).trans (outR_apply _ _ _ _ _ _ _).symm
  rw [iblk_0, iblk_1]
  exact congrArg (fun z => _ + _ * z) (Finset.sum_congr rfl fun k _ => by rw [iblk_2, iblk_3])

/-- The result array is the reference's of the argument arrays. -/
theorem final_4 (c : Dev nD) : (dats m 0 c).arrAt 4 cfg0.N = outR (A0 m c) (A1 m c) (A2 m c) (A3 m c) := by
  refine (dats m 0 c).arrAt_eq_of_covers 4 _ (by decide +kernel) fun t hf y => ?_
  blk_simp
  rw [after0_4, out_eq]
  have hy : y = ix3 0 (y 1) (y 2) := by
    funext a
    fin_cases a
    · exact Subsingleton.elim (α := Fin 1) _ _
    · rfl
    · rfl
  rw [hy]
  refine (val m c t (y 1) (y 2)).trans (congrArg (outR (A0 m c) (A1 m c) (A2 m c) (A3 m c)) (funext fun a => Fin.ext ?_))
  blk_simp
  rw [index_4]
  fin_cases a <;> simp [ix3, pos, pb, pq, win0_4]
  all_goals exact mul_comm _ _

end Cert.Kernel5Ideal.Hand

end
-- ==== Proof.R6Val.lean ====
/- The results of the reference of the first block's input projections over the extended reals, read at an index. -/
module

public import proofs.«01_k».proof.Proof.R3Val
public import proofs.«01_k».proof.Proof.Gen.Reference6Ideal.Run
public import Idealize.ShloMosaic.Lib.Pipeline.Value
public import Idealize.ShloMosaic.Lib.Pipeline.ValueKit
public import Idealize.ShloMosaic.Lib.Tactic.CleanTypes

@[expose] public section

set_option maxRecDepth 16384

noncomputable section

namespace Cert.Reference6Ideal.Hand

open Cert.Reference6Ideal Cert.Reference6Ideal.Gen Cert.Reference6Ideal.Value
open Idealize.ShloMosaic Idealize.ShloMosaic.TcCoe Cert.Soft
open Cert.Reference3Ideal.Hand (hat projE)

/-- One entry of the product of a row over its root mean square, times the gains, with the weights; `n` is the row's length. -/
def rmsE {d : ℕ} (n : EReal) (q g w : Fin d → EReal) : EReal :=
  ∑ k : Fin d, q k * Ideal.rsqrt (Ideal.div (∑ j : Fin d, q j * q j) n + Ideal.ofBits .f32 0x358637BD#32) * g k * w k

/-- A head of the first attention, of 96 lanes: the last 32 rotated in pairs sixteen lanes apart, followed by zeros. -/
def ropeA (x : Fin 96 → EReal) (c s : Fin 16 → EReal) (l : Fin 128) : EReal :=
  if h : l.val < 64 then x ⟨l.val, by omega⟩
  else if h : l.val < 80 then x ⟨l.val, by omega⟩ * c ⟨l.val - 64, by omega⟩ - x ⟨l.val + 16, by omega⟩ * s ⟨l.val - 64, by omega⟩
  else if h : l.val < 96 then x ⟨l.val, by omega⟩ * c ⟨l.val - 80, by omega⟩ + x ⟨l.val - 16, by omega⟩ * s ⟨l.val - 80, by omega⟩
  else 0

/-- A map of the second attention, of 32 lanes: the first eight rotated in pairs four lanes apart. -/
def ropeB (x : Fin 32 → EReal) (c s : Fin 4 → EReal) (i : Fin 32) : EReal :=
  if h : i.val < 4 then x i * c ⟨i.val, h⟩ - x ⟨i.val + 4, by omega⟩ * s ⟨i.val, h⟩
  else if h : i.val < 8 then x i * c ⟨i.val - 4, by omega⟩ + x ⟨i.val - 4, by omega⟩ * s ⟨i.val - 4, by omega⟩
  else x i

section

variable {F : FTy → Type} [FloatOps F]

/-- The angles of the first attention's rotation, by batch, position and pair. -/
def angA (pos : IVec S8x4096 32) : FVec F S8x4096x16 .f32 :=
  mulf (broadcastInDim S8x4096x16 ![0, 1, 2] bcast_S8x4096x1_S8x4096x16_0_1_2 (broadcastInDim S8x4096x1 ![0, 1] bcast_S8x4096_S8x4096x1_0_1 (sitofp .f32 pos))) (broadcastInDim S8x4096x16 ![0, 1, 2] bcast_S1x1x16_S8x4096x16_0_1_2 (broadcastInDim S1x1x16 ![2] bcast_S16_S1x1x16_2 (Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))

/-- The angles of the second attention's rotation. -/
def angB (pos : IVec S8x4096 32) : FVec F S8x4096x4 .f32 :=
  mulf (broadcastInDim S8x4096x4 ![0, 1, 2] bcast_S8x4096x1_S8x4096x4_0_1_2 (broadcastInDim S8x4096x1 ![0, 1] bcast_S8x4096_S8x4096x1_0_1 (sitofp .f32 pos))) (broadcastInDim S8x4096x4 ![0, 1, 2] bcast_S1x1x4_S8x4096x4_0_1_2 (broadcastInDim S1x1x4 ![2] bcast_S4_S1x1x4_2 (Host.powf (broadcastInDim S4 ![] bcast_S_S4 (constant S_ .f32 0x48F42400#32)) (Host.divf (Host.negf (addf (broadcastInDim S4 ![] bcast_S_S4 (constant S_ .f32 0x00000000#32)) (mulf (broadcastInDim S4 ![] bcast_S_S4 (constant S_ .f32 0x40000000#32)) (sitofp .f32 (iotaInDim S4 32 0))))) (broadcastInDim S4 ![] bcast_S_S4 (constant S_ .f32 0x41000000#32))))))

/-- The normalized and modulated rows. -/
def hR (x : FVec F S8x4096x1024 .f32) (g : FVec F S1024 .f32) (sc sh : FVec F S8x1x1024 .f32) : FVec F S8x4096x1024 .f32 :=
  addf (mulf (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) (broadcastInDim S8x4096x1024 ![0, 1, 2] bcast_S8x1x1024_S8x4096x1024_0_1_2 (addf (broadcastInDim S8x1x1024 ![] bcast_S_S8x1x1024 (constant S_ .f32 0x3F800000#32)) sc))) (broadcastInDim S8x4096x1024 ![0, 1, 2] bcast_S8x1x1024_S8x4096x1024_0_1_2 sh)

/-- Their product with the weights. -/
def pR (h : FVec F S8x4096x1024 .f32) (w : FVec F S1024x1952 .f32) : FVec F S8x4096x1952 .f32 :=
  Host.dotGeneral dot_S8x4096x1024_S1024x1952_S8x4096x1952_2_0_01_1_n_n none h w

/-- The queries' latent columns. -/
def qlatR (p : FVec F S8x4096x1952 .f32) : FVec F S8x4096x256 .f32 :=
  extractStridedSlice S8x4096x256 ![0, 0, 0] p slices_S8x4096x1952_S8x4096x256_0_0_0

/-- The first attention's queries before the rotation, by head. -/
def qR (q : FVec F S8x4096x256 .f32) (g : FVec F S256 .f32) (w : FVec F S256x768 .f32) : FVec F S8x4096x8x96 .f32 :=
  shapeCast _ (Host.dotGeneral dot_S8x4096x256_S256x768_S8x4096x768_2_0_01_1_n_n none (mulf (mulf q (broadcastInDim S8x4096x256 ![0, 1, 2] bcast_S8x4096x1_S8x4096x256_0_1_2 (Host.rsqrt (addf (Host.divf (broadcastInDim S8x4096x1 ![0, 1] bcast_S8x4096_S8x4096x1_0_1 (Host.reduceAdd (mulf q q) (constant S_ .f32 0x00000000#32) reducesTo_S8x4096x256_S8x4096_d2 h_S_)) (broadcastInDim S8x4096x1 ![] bcast_S_S8x4096x1 (constant S_ .f32 0x43800000#32))) (broadcastInDim S8x4096x1 ![] bcast_S_S8x4096x1 (constant S_ .f32 0x358637BD#32)))))) (broadcastInDim S8x4096x256 ![0, 1, 2] bcast_S1x1x256_S8x4096x256_0_1_2 (broadcastInDim S1x1x256 ![2] bcast_S256_S1x1x256_2 g))) w) shapeCasts_S8x4096x768_S8x4096x8x96

/-- The keys' and values' latent columns. -/
def kvlatR (p : FVec F S8x4096x1952 .f32) : FVec F S8x4096x128 .f32 :=
  extractStridedSlice S8x4096x128 ![0, 0, 256] p slices_S8x4096x1952_S8x4096x128_0_0_256

/-- The first attention's keys and values, by head. -/
def kvR (q : FVec F S8x4096x128 .f32) (g : FVec F S128 .f32) (w : FVec F S128x1024 .f32) : FVec F S8x4096x8x128 .f32 :=
  shapeCast _ (Host.dotGeneral dot_S8x4096x128_S128x1024_S8x4096x1024_2_0_01_1_n_n none (mulf (mulf q (broadcastInDim S8x4096x128 ![0, 1, 2] bcast_S8x4096x1_S8x4096x128_0_1_2 (Host.rsqrt (addf (Host.divf (broadcastInDim S8x4096x1 ![0, 1] bcast_S8x4096_S8x4096x1_0_1 (Host.reduceAdd (mulf q q) (constant S_ .f32 0x00000000#32) reducesTo_S8x4096x128_S8x4096_d2 h_S_)) (broadcastInDim S8x4096x1 ![] bcast_S_S8x4096x1 (constant S_ .f32 0x43000000#32))) (broadcastInDim S8x4096x1 ![] bcast_S_S8x4096x1 (constant S_ .f32 0x358637BD#32)))))) (broadcastInDim S8x4096x128 ![0, 1, 2] bcast_S1x1x128_S8x4096x128_0_1_2 (broadcastInDim S1x1x128 ![2] bcast_S128_S1x1x128_2 g))) w) shapeCasts_S8x4096x1024_S8x4096x8x128

/-- The first attention's queries. -/
def qaR (q : FVec F S8x4096x8x96 .f32) (cs sn : FVec F S8x4096x16 .f32) : FVec F S8x8x4096x128 .bf16 :=
  truncf .bf16 (transpose S8x8x4096x128 [0, 2, 1, 3] (mulf ((concatenate S8x4096x8x128 3 [⟨S8x4096x8x64, ((extractStridedSlice S8x4096x8x64 ![0, 0, 0, 0] q slices_S8x4096x8x96_S8x4096x8x64_0_0_0_0) : (⟨S8x4096x8x64, .f32⟩ : BufTy).Contents (Elt F))⟩, ⟨S8x4096x8x32, ((concatenate S8x4096x8x32 3 [⟨S8x4096x8x16, (subf (mulf (extractStridedSlice S8x4096x8x16 ![0, 0, 0, 0] (extractStridedSlice S8x4096x8x32 ![0, 0, 0, 64] q slices_S8x4096x8x96_S8x4096x8x32_0_0_0_64) slices_S8x4096x8x32_S8x4096x8x16_0_0_0_0) (broadcastInDim S8x4096x8x16 ![0, 1, 2, 3] bcast_S8x4096x1x16_S8x4096x8x16_0_1_2_3 (shapeCast _ cs shapeCasts_S8x4096x16_S8x4096x1x16))) (mulf (extractStridedSlice S8x4096x8x16 ![0, 0, 0, 16] (extractStridedSlice S8x4096x8x32 ![0, 0, 0, 64] q slices_S8x4096x8x96_S8x4096x8x32_0_0_0_64) slices_S8x4096x8x32_S8x4096x8x16_0_0_0_16) (broadcastInDim S8x4096x8x16 ![0, 1, 2, 3] bcast_S8x4096x1x16_S8x4096x8x16_0_1_2_3 (shapeCast _ sn shapeCasts_S8x4096x16_S8x4096x1x16))))⟩, ⟨S8x4096x8x16, (addf (mulf (extractStridedSlice S8x4096x8x16 ![0, 0, 0, 16] (extractStridedSlice S8x4096x8x32 ![0, 0, 0, 64] q slices_S8x4096x8x96_S8x4096x8x32_0_0_0_64) slices_S8x4096x8x32_S8x4096x8x16_0_0_0_16) (broadcastInDim S8x4096x8x16 ![0, 1, 2, 3] bcast_S8x4096x1x16_S8x4096x8x16_0_1_2_3 (shapeCast _ cs shapeCasts_S8x4096x16_S8x4096x1x16))) (mulf (extractStridedSlice S8x4096x8x16 ![0, 0, 0, 0] (extractStridedSlice S8x4096x8x32 ![0, 0, 0, 64] q slices_S8x4096x8x96_S8x4096x8x32_0_0_0_64) slices_S8x4096x8x32_S8x4096x8x16_0_0_0_0) (broadcastInDim S8x4096x8x16 ![0, 1, 2, 3] bcast_S8x4096x1x16_S8x4096x8x16_0_1_2_3 (shapeCast _ sn shapeCasts_S8x4096x16_S8x4096x1x16))))⟩] concatenates_S8x4096x8x16_S8x4096x8x16_S8x4096x8x32_d3) : (⟨S8x4096x8x32, .f32⟩ : BufTy).Contents (Elt F))⟩, ⟨S8x4096x8x32, ((broadcastInDim S8x4096x8x32 ![] bcast_S_S8x4096x8x32 (constant S_ .f32 0x00000000#32)) : (⟨S8x4096x8x32, .f32⟩ : BufTy).Contents (Elt F))⟩] concatenates_S8x4096x8x64_S8x4096x8x32_S8x4096x8x32_S8x4096x8x128_d3 : (⟨S8x4096x8x128, .f32⟩ : BufTy).Contents (Elt F))) (broadcastInDim S8x4096x8x128 ![] bcast_S_S8x4096x8x128 (constant S_ .f32 0x3E16C740#32))) transposes_S8x4096x8x128_S8x8x4096x128_0_2_1_3) bitsLt_bf16_f32

/-- The keys' columns that the heads share. -/
def kpeR (p : FVec F S8x4096x1952 .f32) : FVec F S8x4096x1x32 .f32 :=
  broadcastInDim S8x4096x1x32 ![0, 1, 3] bcast_S8x4096x32_S8x4096x1x32_0_1_3 (extractStridedSlice S8x4096x32 ![0, 0, 384] p slices_S8x4096x1952_S8x4096x32_0_0_384)

/-- The shared columns, rotated. -/
def rotR (t : FVec F S8x4096x1x32 .f32) (cs sn : FVec F S8x4096x16 .f32) : FVec F S8x4096x1x32 .f32 :=
  concatenate S8x4096x1x32 3 [⟨S8x4096x1x16, (subf (mulf (extractStridedSlice S8x4096x1x16 ![0, 0, 0, 0] t slices_S8x4096x1x32_S8x4096x1x16_0_0_0_0) (shapeCast _ cs shapeCasts_S8x4096x16_S8x4096x1x16)) (mulf (extractStridedSlice S8x4096x1x16 ![0, 0, 0, 16] t slices_S8x4096x1x32_S8x4096x1x16_0_0_0_16) (shapeCast _ sn shapeCasts_S8x4096x16_S8x4096x1x16)))⟩, ⟨S8x4096x1x16, (addf (mulf (extractStridedSlice S8x4096x1x16 ![0, 0, 0, 16] t slices_S8x4096x1x32_S8x4096x1x16_0_0_0_16) (shapeCast _ cs shapeCasts_S8x4096x16_S8x4096x1x16)) (mulf (extractStridedSlice S8x4096x1x16 ![0, 0, 0, 0] t slices_S8x4096x1x32_S8x4096x1x16_0_0_0_0) (shapeCast _ sn shapeCasts_S8x4096x16_S8x4096x1x16)))⟩] concatenates_S8x4096x1x16_S8x4096x1x16_S8x4096x1x32_d3

/-- Each head's own columns, the shared ones and zeros. -/
def joinR (kv : FVec F S8x4096x8x128 .f32) (t : FVec F S8x4096x1x32 .f32) : FVec F S8x8x4096x128 .bf16 :=
  truncf .bf16 (transpose S8x8x4096x128 [0, 2, 1, 3] ((concatenate S8x4096x8x128 3 [⟨S8x4096x8x64, ((extractStridedSlice S8x4096x8x64 ![0, 0, 0, 0] kv slices_S8x4096x8x128_S8x4096x8x64_0_0_0_0) : (⟨S8x4096x8x64, .f32⟩ : BufTy).Contents (Elt F))⟩, ⟨S8x4096x8x32, ((broadcastInDim S8x4096x8x32 ![0, 1, 2, 3] bcast_S8x4096x1x32_S8x4096x8x32_0_1_2_3 t) : (⟨S8x4096x8x32, .f32⟩ : BufTy).Contents (Elt F))⟩, ⟨S8x4096x8x32, (broadcastInDim S8x4096x8x32 ![] bcast_S_S8x4096x8x32 (constant S_ .f32 0x00000000#32) : (⟨S8x4096x8x32, .f32⟩ : BufTy).Contents (Elt F))⟩] concatenates_S8x4096x8x64_S8x4096x8x32_S8x4096x8x32_S8x4096x8x128_d3 : (⟨S8x4096x8x128, .f32⟩ : BufTy).Contents (Elt F))) transposes_S8x4096x8x128_S8x8x4096x128_0_2_1_3) bitsLt_bf16_f32

/-- The first attention's keys. -/
def kaR (kv : FVec F S8x4096x8x128 .f32) (p : FVec F S8x4096x1952 .f32) (cs sn : FVec F S8x4096x16 .f32) : FVec F S8x8x4096x128 .bf16 :=
  joinR kv (rotR (kpeR p) cs sn)

/-- The first attention's values. -/
def vaR (kv : FVec F S8x4096x8x128 .f32) : FVec F S8x4x4096x128 .bf16 :=
  truncf .bf16 (transpose S8x4x4096x128 [0, 2, 1, 3] (shapeCast _ (extractStridedSlice S8x4096x8x64 ![0, 0, 0, 64] kv slices_S8x4096x8x128_S8x4096x8x64_0_0_0_64) shapeCasts_S8x4096x8x64_S8x4096x4x128) transposes_S8x4096x4x128_S8x4x4096x128_0_2_1_3) bitsLt_bf16_f32

/-- The maps with their first eight lanes rotated. -/
def partB (t : FVec F S8x4096x8x2x32 .f32) (cs sn : FVec F S8x4096x4 .f32) : FVec F S8x4096x8x2x32 .f32 :=
  concatenate S8x4096x8x2x32 4 [⟨S8x4096x8x2x8, (concatenate S8x4096x8x2x8 4 [⟨S8x4096x8x2x4, (subf (mulf (extractStridedSlice S8x4096x8x2x4 ![0, 0, 0, 0, 0] (extractStridedSlice S8x4096x8x2x8 ![0, 0, 0, 0, 0] t slices_S8x4096x8x2x32_S8x4096x8x2x8_0_0_0_0_0) slices_S8x4096x8x2x8_S8x4096x8x2x4_0_0_0_0_0) (broadcastInDim S8x4096x8x2x4 ![0, 1, 2, 3, 4] bcast_S8x4096x1x1x4_S8x4096x8x2x4_0_1_2_3_4 (shapeCast _ cs shapeCasts_S8x4096x4_S8x4096x1x1x4))) (mulf (extractStridedSlice S8x4096x8x2x4 ![0, 0, 0, 0, 4] (extractStridedSlice S8x4096x8x2x8 ![0, 0, 0, 0, 0] t slices_S8x4096x8x2x32_S8x4096x8x2x8_0_0_0_0_0) slices_S8x4096x8x2x8_S8x4096x8x2x4_0_0_0_0_4) (broadcastInDim S8x4096x8x2x4 ![0, 1, 2, 3, 4] bcast_S8x4096x1x1x4_S8x4096x8x2x4_0_1_2_3_4 (shapeCast _ sn shapeCasts_S8x4096x4_S8x4096x1x1x4))))⟩, ⟨S8x4096x8x2x4, (addf (mulf (extractStridedSlice S8x4096x8x2x4 ![0, 0, 0, 0, 4] (extractStridedSlice S8x4096x8x2x8 ![0, 0, 0, 0, 0] t slices_S8x4096x8x2x32_S8x4096x8x2x8_0_0_0_0_0) slices_S8x4096x8x2x8_S8x4096x8x2x4_0_0_0_0_4) (broadcastInDim S8x4096x8x2x4 ![0, 1, 2, 3, 4] bcast_S8x4096x1x1x4_S8x4096x8x2x4_0_1_2_3_4 (shapeCast _ cs shapeCasts_S8x4096x4_S8x4096x1x1x4))) (mulf (extractStridedSlice S8x4096x8x2x4 ![0, 0, 0, 0, 0] (extractStridedSlice S8x4096x8x2x8 ![0, 0, 0, 0, 0] t slices_S8x4096x8x2x32_S8x4096x8x2x8_0_0_0_0_0) slices_S8x4096x8x2x8_S8x4096x8x2x4_0_0_0_0_0) (broadcastInDim S8x4096x8x2x4 ![0, 1, 2, 3, 4] bcast_S8x4096x1x1x4_S8x4096x8x2x4_0_1_2_3_4 (shapeCast _ sn shapeCasts_S8x4096x4_S8x4096x1x1x4))))⟩] concatenates_S8x4096x8x2x4_S8x4096x8x2x4_S8x4096x8x2x8_d4)⟩, ⟨S8x4096x8x2x24, (extractStridedSlice S8x4096x8x2x24 ![0, 0, 0, 0, 8] t slices_S8x4096x8x2x32_S8x4096x8x2x24_0_0_0_0_8)⟩] concatenates_S8x4096x8x2x8_S8x4096x8x2x24_S8x4096x8x2x32_d4

/-- Two heads side by side. -/
def pairB (t : FVec F S8x4096x8x2x32 .f32) : FVec F S8x4096x4x128 .f32 :=
  shapeCast _ t shapeCasts_S8x4096x8x2x32_S8x4096x4x128

/-- The second attention's queries, scaled. -/
def outqB (t : FVec F S8x4096x4x128 .f32) : FVec F S8x4x4096x128 .bf16 :=
  truncf .bf16 (transpose S8x4x4096x128 [0, 2, 1, 3] (mulf t (broadcastInDim S8x4096x4x128 ![] bcast_S_S8x4096x4x128 (constant S_ .f32 0x3E8293EE#32))) transposes_S8x4096x4x128_S8x4x4096x128_0_2_1_3) bitsLt_bf16_f32

/-- The second attention's keys. -/
def outkB (t : FVec F S8x4096x4x128 .f32) : FVec F S8x4x4096x128 .bf16 :=
  truncf .bf16 (transpose S8x4x4096x128 [0, 2, 1, 3] t transposes_S8x4096x4x128_S8x4x4096x128_0_2_1_3) bitsLt_bf16_f32

/-- The second attention's queries. -/
def qbR (p : FVec F S8x4096x1952 .f32) (cs sn : FVec F S8x4096x4 .f32) : FVec F S8x4x4096x128 .bf16 :=
  outqB (pairB (partB (shapeCast _ (extractStridedSlice S8x4096x512 ![0, 0, 416] p slices_S8x4096x1952_S8x4096x512_0_0_416) shapeCasts_S8x4096x512_S8x4096x8x2x32) cs sn))

/-- The second attention's keys. -/
def kbR (p : FVec F S8x4096x1952 .f32) (cs sn : FVec F S8x4096x4 .f32) : FVec F S8x4x4096x128 .bf16 :=
  outkB (pairB (partB (shapeCast _ (extractStridedSlice S8x4096x512 ![0, 0, 928] p slices_S8x4096x1952_S8x4096x512_0_0_928) shapeCasts_S8x4096x512_S8x4096x8x2x32) cs sn))

/-- The second attention's values. -/
def vbR (p : FVec F S8x4096x1952 .f32) : FVec F S8x4x4096x128 .bf16 :=
  truncf .bf16 (transpose S8x4x4096x128 [0, 2, 1, 3] (shapeCast _ (extractStridedSlice S8x4096x512 ![0, 0, 1440] p slices_S8x4096x1952_S8x4096x512_0_0_1440) shapeCasts_S8x4096x512_S8x4096x4x128) transposes_S8x4096x4x128_S8x4x4096x128_0_2_1_3) bitsLt_bf16_f32

end

theorem hR_apply (x : FVec Ideal S8x4096x1024 .f32) (g : FVec Ideal S1024 .f32) (sc sh : FVec Ideal S8x1x1024 .f32) (b : Fin 8) (n : Fin 4096) (k : Fin 1024) :
    hR x g sc sh (ix3 b n k) = hat (fun j => x (ix3 b n j)) (g (ix1 k)) (sc (ix3 b 0 k)) (sh (ix3 b 0 k)) k := by
  pointwise [hR, hat]

theorem pR_apply (x : FVec Ideal S8x4096x1024 .f32) (g : FVec Ideal S1024 .f32) (sc sh : FVec Ideal S8x1x1024 .f32) (w : FVec Ideal S1024x1952 .f32) (b : Fin 8) (n : Fin 4096) (d : Fin 1952) :
    pR (hR x g sc sh) w (ix3 b n d) = projE (fun j => x (ix3 b n j)) (fun k => g (ix1 k)) (fun k => sc (ix3 b 0 k)) (fun k => sh (ix3 b 0 k)) (fun k => w (ix2 k d)) := by
  refine Eq.trans (b := ∑ k : Fin 1024, hR x g sc sh (ix3 b n k) * w (ix2 k d)) ?_ (Finset.sum_congr rfl fun k _ => by rw [hR_apply])
  pointwise [pR]

theorem qlatR_apply (p : FVec Ideal S8x4096x1952 .f32) (b : Fin 8) (n : Fin 4096) (k : Fin 256) : qlatR p (ix3 b n k) = p (ix3 b n ⟨k.val, by omega⟩) := by
  pointwise [qlatR]

theorem kvlatR_apply (p : FVec Ideal S8x4096x1952 .f32) (b : Fin 8) (n : Fin 4096) (k : Fin 128) : kvlatR p (ix3 b n k) = p (ix3 b n ⟨256 + k.val, by omega⟩) := by
  pointwise [kvlatR]

theorem qR_apply (q : FVec Ideal S8x4096x256 .f32) (g : FVec Ideal S256 .f32) (w : FVec Ideal S256x768 .f32) (b h : Fin 8) (n : Fin 4096) (i : Fin 96) :
    qR q g w (ix4 b n h i) = rmsE (Ideal.ofBits .f32 0x43800000#32) (fun k => q (ix3 b n k)) (fun k => g (ix1 k)) (fun k => w (ix2 k ⟨h.val * 96 + i.val, by omega⟩)) := by
  pointwise [qR, rmsE]

theorem kvR_apply (q : FVec Ideal S8x4096x128 .f32) (g : FVec Ideal S128 .f32) (w : FVec Ideal S128x1024 .f32) (b h : Fin 8) (n : Fin 4096) (i : Fin 128) :
    kvR q g w (ix4 b n h i) = rmsE (Ideal.ofBits .f32 0x43000000#32) (fun k => q (ix3 b n k)) (fun k => g (ix1 k)) (fun k => w (ix2 k ⟨h.val * 128 + i.val, by omega⟩)) := by
  pointwise [kvR, rmsE]

theorem qaR_apply (q : FVec Ideal S8x4096x8x96 .f32) (cs sn : FVec Ideal S8x4096x16 .f32) (b h : Fin 8) (n : Fin 4096) (l : Fin 128) :
    qaR q cs sn (ix4 b h n l) = ropeA (fun i => q (ix4 b n h i)) (fun i => cs (ix3 b n i)) (fun i => sn (ix3 b n i)) l * Ideal.ofBits .f32 0x3E16C740#32 := by
  pointwise [qaR, ropeA]
  refine congrArg (· * Ideal.ofBits .f32 0x3E16C740#32) ?_
  by_cases h1 : l.val < 64
  · simp only [dif_pos h1]
  by_cases h2 : l.val < 80
  · have h3 : l.val - 64 < 32 := by omega
    have h4 : l.val - 64 < 16 := by omega
    simp only [dif_neg h1, dif_pos h2, dif_pos h3, dif_pos h4, show 64 + (l.val - 64) = l.val by omega, show 64 + (16 + (l.val - 64)) = l.val + 16 by omega]
  by_cases h3 : l.val < 96
  · have h4 : l.val - 64 < 32 := by omega
    have h5 : ¬ l.val - 64 < 16 := by omega
    simp only [dif_neg h1, dif_neg h2, dif_pos h3, dif_pos h4, dif_neg h5, show l.val - 64 - 16 = l.val - 80 by omega, show 64 + (16 + (l.val - 80)) = l.val by omega, show 64 + (l.val - 80) = l.val - 16 by omega]
  · have h4 : ¬ l.val - 64 < 32 := by omega
    simp only [dif_neg h1, dif_neg h2, dif_neg h3, dif_neg h4]

/-- The lanes the first attention's heads share, as a head's with zeros before them. -/
def kpeX (p : Fin 32 → EReal) (i : Fin 96) : EReal := if h : 64 ≤ i.val then p ⟨i.val - 64, by omega⟩ else 0

theorem kpeR_apply (p : FVec Ideal S8x4096x1952 .f32) (b : Fin 8) (n : Fin 4096) (i : Fin 32) :
    kpeR p (ix4 b n 0 i) = p (ix3 b n ⟨384 + i.val, by omega⟩) := by
  pointwise [kpeR]

theorem rotR_apply (t : FVec Ideal S8x4096x1x32 .f32) (cs sn : FVec Ideal S8x4096x16 .f32) (b : Fin 8) (n : Fin 4096) (i : Fin 32) :
    rotR t cs sn (ix4 b n 0 i) = if h : i.val < 16 then t (ix4 b n 0 i) * cs (ix3 b n ⟨i.val, h⟩) - t (ix4 b n 0 ⟨16 + i.val, by omega⟩) * sn (ix3 b n ⟨i.val, h⟩)
      else t (ix4 b n 0 i) * cs (ix3 b n ⟨i.val - 16, by omega⟩) + t (ix4 b n 0 ⟨i.val - 16, by omega⟩) * sn (ix3 b n ⟨i.val - 16, by omega⟩) := by
  pointwise [rotR]
  by_cases h1 : i.val < 16
  · simp only [dif_pos h1]
  · simp only [dif_neg h1, show 16 + (i.val - 16) = i.val by omega]

theorem joinR_apply (kv : FVec Ideal S8x4096x8x128 .f32) (t : FVec Ideal S8x4096x1x32 .f32) (b h : Fin 8) (n : Fin 4096) (l : Fin 128) :
    joinR kv t (ix4 b h n l) = if h1 : l.val < 64 then kv (ix4 b n h l) else if h2 : l.val - 64 < 32 then t (ix4 b n 0 ⟨l.val - 64, h2⟩) else 0 := by
  pointwise [joinR]

/-- A head's keys: its own lanes and the shared ones, rotated. -/
theorem kaR_apply (kv : FVec Ideal S8x4096x8x128 .f32) (p : FVec Ideal S8x4096x1952 .f32) (cs sn : FVec Ideal S8x4096x16 .f32) (b h : Fin 8) (n : Fin 4096) (l : Fin 128) :
    kaR kv p cs sn (ix4 b h n l) = (if l.val < 64 then kv (ix4 b n h l) else 0) + ropeA (kpeX fun i => p (ix3 b n ⟨384 + i.val, by omega⟩)) (fun i => cs (ix3 b n i)) (fun i => sn (ix3 b n i)) l := by
  have hp : ∀ i, p (ix3 b n ⟨384 + i.val, by omega⟩) = kpeR p (ix4 b n 0 i) := fun i => (kpeR_apply p b n i).symm
  simp only [hp]
  unfold kaR
  rw [joinR_apply]
  generalize kpeR p = t
  unfold ropeA kpeX
  by_cases h1 : l.val < 64
  · have h2 : ¬ 64 ≤ l.val := by omega
    rw [dif_pos h1, if_pos h1, dif_pos h1, dif_neg h2, add_zero]
  rw [if_neg h1, zero_add, dif_neg h1, dif_neg h1]
  by_cases h2 : l.val < 80
  · rw [dif_pos (show l.val - 64 < 32 by omega), dif_pos h2, rotR_apply, dif_pos (show l.val - 64 < 16 by omega), dif_pos (show 64 ≤ l.val by omega), dif_pos (show 64 ≤ l.val + 16 by omega)]
    simp only [show l.val + 16 - 64 = 16 + (l.val - 64) by omega]
  rw [dif_neg h2]
  by_cases h3 : l.val < 96
  · rw [dif_pos (show l.val - 64 < 32 by omega), dif_pos h3, rotR_apply, dif_neg (show ¬ l.val - 64 < 16 by omega), dif_pos (show 64 ≤ l.val by omega), dif_pos (show 64 ≤ l.val - 16 by omega)]
    simp only [show l.val - 64 - 16 = l.val - 80 by omega, show l.val - 16 - 64 = l.val - 80 by omega]
  · rw [dif_neg (show ¬ l.val - 64 < 32 by omega), dif_neg h3]

theorem vaR_apply (kv : FVec Ideal S8x4096x8x128 .f32) (b : Fin 8) (j : Fin 4) (n : Fin 4096) (l : Fin 128) :
    vaR kv (ix4 b j n l) = kv (ix4 b n ⟨j.val * 2 + l.val / 64, by omega⟩ ⟨64 + l.val % 64, by omega⟩) := by
  pointwise [vaR]

theorem split416_apply (p : FVec Ideal S8x4096x1952 .f32) (b : Fin 8) (n : Fin 4096) (h : Fin 8) (c : Fin 2) (i : Fin 32) :
    shapeCast S8x4096x8x2x32 (extractStridedSlice S8x4096x512 ![0, 0, 416] p slices_S8x4096x1952_S8x4096x512_0_0_416) shapeCasts_S8x4096x512_S8x4096x8x2x32 (ix5 b n h c i) = p (ix3 b n ⟨416 + (h.val * 64 + c.val * 32 + i.val), by omega⟩) := by
  pointwise

theorem split928_apply (p : FVec Ideal S8x4096x1952 .f32) (b : Fin 8) (n : Fin 4096) (h : Fin 8) (c : Fin 2) (i : Fin 32) :
    shapeCast S8x4096x8x2x32 (extractStridedSlice S8x4096x512 ![0, 0, 928] p slices_S8x4096x1952_S8x4096x512_0_0_928) shapeCasts_S8x4096x512_S8x4096x8x2x32 (ix5 b n h c i) = p (ix3 b n ⟨928 + (h.val * 64 + c.val * 32 + i.val), by omega⟩) := by
  pointwise

theorem partB_apply (t : FVec Ideal S8x4096x8x2x32 .f32) (cs sn : FVec Ideal S8x4096x4 .f32) (b : Fin 8) (n : Fin 4096) (h : Fin 8) (c : Fin 2) (i : Fin 32) :
    partB t cs sn (ix5 b n h c i) = ropeB (fun i => t (ix5 b n h c i)) (fun i => cs (ix3 b n i)) (fun i => sn (ix3 b n i)) i := by
  pointwise [partB, ropeB]
  by_cases h1 : i.val < 4
  · have h2 : i.val < 8 := by omega
    simp only [dif_pos h1, dif_pos h2, show 4 + i.val = i.val + 4 by omega]
  by_cases h2 : i.val < 8
  · simp only [dif_neg h1, dif_pos h2, show 4 + (i.val - 4) = i.val by omega]
  · simp only [dif_neg h1, dif_neg h2, show 8 + (i.val - 8) = i.val by omega]

theorem pairB_apply (t : FVec Ideal S8x4096x8x2x32 .f32) (b : Fin 8) (n : Fin 4096) (j : Fin 4) (l : Fin 128) :
    pairB t (ix4 b n j l) = t (ix5 b n ⟨j.val * 2 + l.val / 64, by omega⟩ ⟨l.val / 32 % 2, by omega⟩ ⟨l.val % 32, by omega⟩) := by
  pointwise [pairB]

theorem outqB_apply (t : FVec Ideal S8x4096x4x128 .f32) (b : Fin 8) (j : Fin 4) (n : Fin 4096) (l : Fin 128) :
    outqB t (ix4 b j n l) = t (ix4 b n j l) * Ideal.ofBits .f32 0x3E8293EE#32 := by
  pointwise [outqB]

theorem outkB_apply (t : FVec Ideal S8x4096x4x128 .f32) (b : Fin 8) (j : Fin 4) (n : Fin 4096) (l : Fin 128) :
    outkB t (ix4 b j n l) = t (ix4 b n j l) := by
  pointwise [outkB]

theorem qbR_apply (p : FVec Ideal S8x4096x1952 .f32) (cs sn : FVec Ideal S8x4096x4 .f32) (b : Fin 8) (j : Fin 4) (n : Fin 4096) (l : Fin 128) :
    qbR p cs sn (ix4 b j n l) = ropeB (fun i => p (ix3 b n ⟨416 + (j.val * 128 + l.val / 32 * 32) + i.val, by omega⟩)) (fun i => cs (ix3 b n i)) (fun i => sn (ix3 b n i)) ⟨l.val % 32, by omega⟩ * Ideal.ofBits .f32 0x3E8293EE#32 := by
  unfold qbR
  rw [outqB_apply, pairB_apply, partB_apply]
  simp only [split416_apply]
  refine congrArg (fun f => ropeB f _ _ _ * Ideal.ofBits .f32 0x3E8293EE#32) (funext fun i => congrArg p (congrArg (ix3 b n) (Fin.ext ?_)))
  show 416 + ((j.val * 2 + l.val / 64) * 64 + l.val / 32 % 2 * 32 + i.val) = 416 + (j.val * 128 + l.val / 32 * 32) + i.val
  omega

theorem kbR_apply (p : FVec Ideal S8x4096x1952 .f32) (cs sn : FVec Ideal S8x4096x4 .f32) (b : Fin 8) (j : Fin 4) (n : Fin 4096) (l : Fin 128) :
    kbR p cs sn (ix4 b j n l) = ropeB (fun i => p (ix3 b n ⟨928 + (j.val * 128 + l.val / 32 * 32) + i.val, by omega⟩)) (fun i => cs (ix3 b n i)) (fun i => sn (ix3 b n i)) ⟨l.val % 32, by omega⟩ := by
  unfold kbR
  rw [outkB_apply, pairB_apply, partB_apply]
  simp only [split928_apply]
  refine congrArg (fun f => ropeB f _ _ _) (funext fun i => congrArg p (congrArg (ix3 b n) (Fin.ext ?_)))
  show 928 + ((j.val * 2 + l.val / 64) * 64 + l.val / 32 % 2 * 32 + i.val) = 928 + (j.val * 128 + l.val / 32 * 32) + i.val
  omega

theorem vbR_apply (p : FVec Ideal S8x4096x1952 .f32) (b : Fin 8) (j : Fin 4) (n : Fin 4096) (l : Fin 128) :
    vbR p (ix4 b j n l) = p (ix3 b n ⟨1440 + (j.val * 128 + l.val), by omega⟩) := by
  pointwise [vbR]

end Cert.Reference6Ideal.Hand

end
-- ==== Proof.P6Pay.lean ====
/- What the body of the first block's input projections leaves over the extended reals, read at an index. -/
module

public import proofs.«01_k».proof.Proof.Gen.Kernel6Ideal.Frame
public import proofs.«01_k».proof.Proof.R6Val
public import Idealize.ShloMosaic.Lib.Pipeline.Value
public import Idealize.ShloMosaic.Lib.Pipeline.ValueKit

@[expose] public section

set_option maxRecDepth 16384

noncomputable section

namespace Cert.Kernel6Ideal.Hand

open Cert.Kernel6Ideal Cert.Kernel6Ideal.Gen
open Idealize.ShloMosaic Idealize.ShloMosaic.TcCoe Idealize.SL Idealize.SL.Sem Cert.Soft
open Idealize.ShloMosaic.Pipeline (Dat Cfg Window)
open Cert.Reference3Ideal.Hand (hat projE)
open Cert.Reference6Ideal.Hand (rmsE)

/-- The body's product of a point's blocks, at an index. -/
theorem pay3_apply (x : Vec Ideal S1x512x1024 .f32) (g : Vec Ideal S1x1024 .f32) (sc sh : Vec Ideal S1x1x1024 .f32) (w : Vec Ideal S1024x3200 .bf16) (r : Fin 512) (e : Fin 3200) :
    k0_pay3 x g sc sh w (ix2 r e) = projE (fun k => x (ix3 0 r k)) (fun k => g (ix2 0 k)) (fun k => sc (ix3 0 0 k)) (fun k => sh (ix3 0 0 k)) (fun k => w (ix2 k e)) := by
  pointwise [k0_pay3, projE, hat]

/-- The queries' latent columns of the product, and the keys' and values'. -/
def qlat (P : FVec Ideal S512x3200 .f32) : FVec Ideal S512x256 .f32 := extractStridedSlice S512x256 ![0, 0] P slices_S512x3200_o0_0_S512x256
def kvlat (P : FVec Ideal S512x3200 .f32) : FVec Ideal S512x128 .f32 := extractStridedSlice S512x128 ![0, 256] P slices_S512x3200_o0_256_S512x128

theorem qlat_apply (P : FVec Ideal S512x3200 .f32) (r : Fin 512) (k : Fin 256) : qlat P (ix2 r k) = P (ix2 r ⟨k.val, by omega⟩) := by
  pointwise [qlat]

theorem kvlat_apply (P : FVec Ideal S512x3200 .f32) (r : Fin 512) (k : Fin 128) : kvlat P (ix2 r k) = P (ix2 r ⟨256 + k.val, by omega⟩) := by
  pointwise [kvlat]

theorem pay17_apply (q : FVec Ideal S512x256 .f32) (g : Vec Ideal S1x256 .f32) (w : Vec Ideal S256x2048 .bf16) (r : Fin 512) (e : Fin 2048) :
    k0_pay17 q g w (ix2 r e) = rmsE (Ideal.ofBits .f32 0x43800000#32) (fun k => q (ix2 r k)) (fun k => g (ix2 0 k)) (fun k => w (ix2 k e)) := by
  pointwise [k0_pay17, rmsE]

theorem pay29_apply (q : FVec Ideal S512x128 .f32) (g : Vec Ideal S1x128 .f32) (w : Vec Ideal S128x1536 .bf16) (r : Fin 512) (e : Fin 1536) :
    k0_pay29 q g w (ix2 r e) = rmsE (Ideal.ofBits .f32 0x43000000#32) (fun k => q (ix2 r k)) (fun k => g (ix2 0 k)) (fun k => w (ix2 k e)) := by
  pointwise [k0_pay29, rmsE]

/-- An index of a head's tile, by the index of the block it lies at. -/
theorem tile_idx {n : ℕ} (j : Fin n) (r : Fin 512) (d : Fin 128) (o : ℕ) (x : S1x1x512x128.Idx) (h1 : j.val = o + (x 1).val) (h2 : r.val = (x 2).val) (h3 : d.val = (x 3).val) :
    x = ix4 0 0 r d ∧ j.val = o := by
  have e1 : x 1 = (0 : Fin 1) := Subsingleton.elim (α := Fin 1) _ _
  refine ⟨?_, h1.trans (by rw [e1]; rfl)⟩
  funext a
  fin_cases a
  · exact Subsingleton.elim (α := Fin 1) _ _
  · exact e1
  · exact Fin.ext h2.symm
  · exact Fin.ext h3.symm

section

variable (x0 : Vec Ideal S1x512x1024 .f32) (x1 : Vec Ideal S1x1024 .f32) (x2 x3 : Vec Ideal S1x1x1024 .f32) (x4 : Vec Ideal S1024x3200 .bf16) (x5 : Vec Ideal S1x256 .f32) (x6 : Vec Ideal S256x2048 .bf16) (x7 : Vec Ideal S1x128 .f32) (x8 : Vec Ideal S128x1536 .bf16) (x9 x10 x11 x12 : Vec Ideal S1x512x128 .f32)

theorem pay57_eq : k0_pay57 x0 x1 x2 x3 x4 x5 x6 x7 x8 x9 x10 x11 x12 = k0_pay4 x0 x1 x2 x3 x4 := by
  unfold k0_pay57
  rw [View.ld_unit_lit _ _ (by decide), View.ld_unit_lit _ _ (by decide), View.ld_unit_lit _ _ (by decide), View.ld_unit_lit _ _ (by decide), View.ld_unit_lit _ _ (by decide)]

theorem pay58_eq : k0_pay58 x0 x1 x2 x3 x4 x5 x6 x7 x8 x9 x10 x11 x12 = k0_pay5 x0 x1 x2 x3 x4 := by
  unfold k0_pay58
  rw [View.ld_unit_lit _ _ (by decide), View.ld_unit_lit _ _ (by decide), View.ld_unit_lit _ _ (by decide), View.ld_unit_lit _ _ (by decide), View.ld_unit_lit _ _ (by decide)]

theorem pay59_eq : k0_pay59 x0 x1 x2 x3 x4 x5 x6 x7 x8 x9 x10 x11 x12 = k0_pay6 x0 x1 x2 x3 x4 := by
  unfold k0_pay59
  rw [View.ld_unit_lit _ _ (by decide), View.ld_unit_lit _ _ (by decide), View.ld_unit_lit _ _ (by decide), View.ld_unit_lit _ _ (by decide), View.ld_unit_lit _ _ (by decide)]

theorem pay60_eq : k0_pay60 x0 x1 x2 x3 x4 x5 x6 x7 x8 x9 x10 x11 x12 = k0_pay7 x0 x1 x2 x3 x4 := by
  unfold k0_pay60
  rw [View.ld_unit_lit _ _ (by decide), View.ld_unit_lit _ _ (by decide), View.ld_unit_lit _ _ (by decide), View.ld_unit_lit _ _ (by decide), View.ld_unit_lit _ _ (by decide)]

theorem pay61_eq : k0_pay61 x0 x1 x2 x3 x4 x5 x6 x7 x8 x9 x10 x11 x12 = k0_pay8 x0 x1 x2 x3 x4 := by
  unfold k0_pay61
  rw [View.ld_unit_lit _ _ (by decide), View.ld_unit_lit _ _ (by decide), View.ld_unit_lit _ _ (by decide), View.ld_unit_lit _ _ (by decide), View.ld_unit_lit _ _ (by decide)]

theorem pay62_eq : k0_pay62 x0 x1 x2 x3 x4 x5 x6 x7 x8 x9 x10 x11 x12 = k0_pay9 x0 x1 x2 x3 x4 := by
  unfold k0_pay62
  rw [View.ld_unit_lit _ _ (by decide), View.ld_unit_lit _ _ (by decide), View.ld_unit_lit _ _ (by decide), View.ld_unit_lit _ _ (by decide), View.ld_unit_lit _ _ (by decide)]

theorem pay63_eq : k0_pay63 x0 x1 x2 x3 x4 x5 x6 x7 x8 x9 x10 x11 x12 = k0_pay10 x0 x1 x2 x3 x4 := by
  unfold k0_pay63
  rw [View.ld_unit_lit _ _ (by decide), View.ld_unit_lit _ _ (by decide), View.ld_unit_lit _ _ (by decide), View.ld_unit_lit _ _ (by decide), View.ld_unit_lit _ _ (by decide)]

theorem pay64_eq : k0_pay64 x0 x1 x2 x3 x4 x5 x6 x7 x8 x9 x10 x11 x12 = k0_pay11 x0 x1 x2 x3 x4 := by
  unfold k0_pay64
  rw [View.ld_unit_lit _ _ (by decide), View.ld_unit_lit _ _ (by decide), View.ld_unit_lit _ _ (by decide), View.ld_unit_lit _ _ (by decide), View.ld_unit_lit _ _ (by decide)]

theorem pay65_eq : k0_pay65 x0 x1 x2 x3 x4 x5 x6 x7 x8 x9 x10 x11 x12 = k0_pay12 x0 x1 x2 x3 x4 := by
  unfold k0_pay65
  rw [View.ld_unit_lit _ _ (by decide), View.ld_unit_lit _ _ (by decide), View.ld_unit_lit _ _ (by decide), View.ld_unit_lit _ _ (by decide), View.ld_unit_lit _ _ (by decide)]

theorem pay66_eq : k0_pay66 x0 x1 x2 x3 x4 x5 x6 x7 x8 x9 x10 x11 x12 = k0_pay13 x9 := by
  unfold k0_pay66
  rw [View.ld_unit_lit _ _ (by decide)]

theorem pay67_eq : k0_pay67 x0 x1 x2 x3 x4 x5 x6 x7 x8 x9 x10 x11 x12 = k0_pay14 x10 := by
  unfold k0_pay67
  rw [View.ld_unit_lit _ _ (by decide)]

theorem pay68_eq : k0_pay68 x0 x1 x2 x3 x4 x5 x6 x7 x8 x9 x10 x11 x12 = k0_pay15 x11 := by
  unfold k0_pay68
  rw [View.ld_unit_lit _ _ (by decide)]

theorem pay69_eq : k0_pay69 x0 x1 x2 x3 x4 x5 x6 x7 x8 x9 x10 x11 x12 = k0_pay16 x12 := by
  unfold k0_pay69
  rw [View.ld_unit_lit _ _ (by decide)]

theorem pay70_eq : k0_pay70 x0 x1 x2 x3 x4 x5 x6 x7 x8 x9 x10 x11 x12 = k0_pay17 (k0_pay4 x0 x1 x2 x3 x4) x5 x6 := by
  unfold k0_pay70
  rw [pay57_eq, View.ld_unit_lit _ _ (by decide), View.ld_unit_lit _ _ (by decide)]

theorem pay71_eq : k0_pay71 x0 x1 x2 x3 x4 x5 x6 x7 x8 x9 x10 x11 x12 = k0_pay29 (k0_pay5 x0 x1 x2 x3 x4) x7 x8 := by
  unfold k0_pay71
  rw [pay58_eq, View.ld_unit_lit _ _ (by decide), View.ld_unit_lit _ _ (by decide)]

theorem pay72_eq : k0_pay72 x0 x1 x2 x3 x4 x5 x6 x7 x8 x9 x10 x11 x12 = k0_pay30 (k0_pay6 x0 x1 x2 x3 x4) (k0_pay7 x0 x1 x2 x3 x4) (k0_pay13 x9) (k0_pay14 x10) := by
  unfold k0_pay72
  rw [pay59_eq, pay60_eq, pay66_eq, pay67_eq]

/-- The first attention's queries a point leaves. -/
theorem out13_apply (j : Fin 8) (r : Fin 512) (l : Fin 128) :
    out0_13 x0 x1 x2 x3 x4 x5 x6 x7 x8 x9 x10 x11 x12 (ix4 0 j r l) = (k0_pay17 (k0_pay4 x0 x1 x2 x3 x4) x5 x6 (ix2 r ⟨j.val * 128 + l.val, by omega⟩) * x9 (ix3 0 r l) + k0_pay17 (k0_pay4 x0 x1 x2 x3 x4) x5 x6 (ix2 r ⟨1024 + j.val * 128 + l.val, by omega⟩) * x10 (ix3 0 r l)) * Ideal.ofBits .f32 0x3E16C740#32 := by
  unfold out0_13
  rw [pay70_eq, pay66_eq, pay67_eq, pay57_eq, k0_pay18, View.ld_unit_lit _ _ (by decide), View.ld_unit_lit _ _ (by decide), View.ld_unit_lit _ _ (by decide), View.ld_unit_lit _ _ (by decide)]
  generalize k0_pay17 (k0_pay4 x0 x1 x2 x3 x4) x5 x6 = M
  canon_tiles y h
  case piece7 =>
    obtain ⟨rfl, hj⟩ := tile_idx j r l 0 y (h1.trans (Nat.zero_add _).symm) h2 h3
    simp only [hj]
    pointwise [k0_pay19, k0_pay20, k0_pay21, k0_pay22, k0_pay23, k0_pay24, k0_pay25, k0_pay26, k0_pay27, k0_pay28, k0_pay13, k0_pay14]
    all_goals simp only [← Nat.add_assoc, Nat.reduceAdd]
  all_goals
    obtain ⟨rfl, hj⟩ := tile_idx j r l _ y h1 h2 h3
    simp only [hj]
    pointwise [k0_pay19, k0_pay20, k0_pay21, k0_pay22, k0_pay23, k0_pay24, k0_pay25, k0_pay26, k0_pay27, k0_pay28, k0_pay13, k0_pay14]
    all_goals simp only [← Nat.add_assoc, Nat.reduceAdd]

/-- The first attention's keys a point leaves. -/
theorem out14_apply (j : Fin 8) (r : Fin 512) (l : Fin 128) :
    out0_14 x0 x1 x2 x3 x4 x5 x6 x7 x8 x9 x10 x11 x12 (ix4 0 j r l) = k0_pay29 (k0_pay5 x0 x1 x2 x3 x4) x7 x8 (ix2 r ⟨j.val * 128 + l.val, by omega⟩) + (k0_pay3 x0 x1 x2 x3 x4 (ix2 r ⟨384 + l.val, by omega⟩) * x9 (ix3 0 r l) + k0_pay3 x0 x1 x2 x3 x4 (ix2 r ⟨512 + l.val, by omega⟩) * x10 (ix3 0 r l)) := by
  unfold out0_14
  rw [pay71_eq, pay72_eq, pay58_eq, pay59_eq, pay60_eq, pay66_eq, pay67_eq, k0_pay31, k0_pay32, k0_pay33, View.ld_unit_lit _ _ (by decide), View.ld_unit_lit _ _ (by decide)]
  generalize k0_pay29 (k0_pay5 x0 x1 x2 x3 x4) x7 x8 = M
  unfold k0_pay6 k0_pay7
  generalize k0_pay3 x0 x1 x2 x3 x4 = P
  canon_tiles y h
  case piece7 =>
    obtain ⟨rfl, hj⟩ := tile_idx j r l 0 y (h1.trans (Nat.zero_add _).symm) h2 h3
    simp only [hj]
    pointwise [k0_pay34, k0_pay35, k0_pay36, k0_pay37, k0_pay38, k0_pay39, k0_pay30, k0_pay6, k0_pay7, k0_pay13, k0_pay14]
    all_goals simp only [← Nat.add_assoc, Nat.reduceAdd]
  all_goals
    obtain ⟨rfl, hj⟩ := tile_idx j r l _ y h1 h2 h3
    simp only [hj]
    pointwise [k0_pay34, k0_pay35, k0_pay36, k0_pay37, k0_pay38, k0_pay39, k0_pay30, k0_pay6, k0_pay7, k0_pay13, k0_pay14]
    all_goals simp only [← Nat.add_assoc, Nat.reduceAdd]

/-- The first attention's values a point leaves. -/
theorem out15_apply (j : Fin 4) (r : Fin 512) (l : Fin 128) :
    out0_15 x0 x1 x2 x3 x4 x5 x6 x7 x8 x9 x10 x11 x12 (ix4 0 j r l) = k0_pay29 (k0_pay5 x0 x1 x2 x3 x4) x7 x8 (ix2 r ⟨1024 + j.val * 128 + l.val, by omega⟩) := by
  unfold out0_15
  rw [pay71_eq]
  generalize k0_pay29 (k0_pay5 x0 x1 x2 x3 x4) x7 x8 = M
  canon_tiles y h
  case piece3 =>
    obtain ⟨rfl, hj⟩ := tile_idx j r l 0 y (h1.trans (Nat.zero_add _).symm) h2 h3
    simp only [hj]
    pointwise [k0_pay40, k0_pay41, k0_pay42, k0_pay43, k0_pay44]
    all_goals simp only [← Nat.add_assoc, Nat.reduceAdd]
  all_goals
    obtain ⟨rfl, hj⟩ := tile_idx j r l _ y h1 h2 h3
    simp only [hj]
    pointwise [k0_pay40, k0_pay41, k0_pay42, k0_pay43, k0_pay44]
    all_goals simp only [← Nat.add_assoc, Nat.reduceAdd]

/-- The second attention's queries a point leaves. -/
theorem out16_apply (j : Fin 4) (r : Fin 512) (l : Fin 128) :
    out0_16 x0 x1 x2 x3 x4 x5 x6 x7 x8 x9 x10 x11 x12 (ix4 0 j r l) = (k0_pay3 x0 x1 x2 x3 x4 (ix2 r ⟨640 + j.val * 128 + l.val, by omega⟩) * x11 (ix3 0 r l) + k0_pay3 x0 x1 x2 x3 x4 (ix2 r ⟨1152 + j.val * 128 + l.val, by omega⟩) * x12 (ix3 0 r l)) * Ideal.ofBits .f32 0x3E8293EE#32 := by
  unfold out0_16
  rw [pay61_eq, pay62_eq, pay68_eq, pay69_eq]
  unfold k0_pay8 k0_pay9
  generalize k0_pay3 x0 x1 x2 x3 x4 = P
  canon_tiles y h
  case piece3 =>
    obtain ⟨rfl, hj⟩ := tile_idx j r l 0 y (h1.trans (Nat.zero_add _).symm) h2 h3
    simp only [hj]
    pointwise [k0_pay45, k0_pay49, k0_pay52, k0_pay55, k0_pay15, k0_pay16]
    all_goals simp only [← Nat.add_assoc, Nat.reduceAdd]
  all_goals
    obtain ⟨rfl, hj⟩ := tile_idx j r l _ y h1 h2 h3
    simp only [hj]
    pointwise [k0_pay45, k0_pay49, k0_pay52, k0_pay55, k0_pay15, k0_pay16]
    all_goals simp only [← Nat.add_assoc, Nat.reduceAdd]

/-- The second attention's keys a point leaves. -/
theorem out17_apply (j : Fin 4) (r : Fin 512) (l : Fin 128) :
    out0_17 x0 x1 x2 x3 x4 x5 x6 x7 x8 x9 x10 x11 x12 (ix4 0 j r l) = k0_pay3 x0 x1 x2 x3 x4 (ix2 r ⟨1664 + j.val * 128 + l.val, by omega⟩) * x11 (ix3 0 r l) + k0_pay3 x0 x1 x2 x3 x4 (ix2 r ⟨2176 + j.val * 128 + l.val, by omega⟩) * x12 (ix3 0 r l) := by
  unfold out0_17
  rw [pay63_eq, pay64_eq, pay68_eq, pay69_eq]
  unfold k0_pay10 k0_pay11
  generalize k0_pay3 x0 x1 x2 x3 x4 = P
  canon_tiles y h
  case piece3 =>
    obtain ⟨rfl, hj⟩ := tile_idx j r l 0 y (h1.trans (Nat.zero_add _).symm) h2 h3
    simp only [hj]
    pointwise [k0_pay46, k0_pay47, k0_pay50, k0_pay53, k0_pay1, k0_pay56, k0_pay15, k0_pay16]
    all_goals simp only [← Nat.add_assoc, Nat.reduceAdd]
  all_goals
    obtain ⟨rfl, hj⟩ := tile_idx j r l _ y h1 h2 h3
    simp only [hj]
    pointwise [k0_pay46, k0_pay47, k0_pay50, k0_pay53, k0_pay1, k0_pay56, k0_pay15, k0_pay16]
    all_goals simp only [← Nat.add_assoc, Nat.reduceAdd]

/-- The second attention's values a point leaves. -/
theorem out18_apply (j : Fin 4) (r : Fin 512) (l : Fin 128) :
    out0_18 x0 x1 x2 x3 x4 x5 x6 x7 x8 x9 x10 x11 x12 (ix4 0 j r l) = k0_pay3 x0 x1 x2 x3 x4 (ix2 r ⟨2688 + j.val * 128 + l.val, by omega⟩) := by
  unfold out0_18
  rw [pay65_eq]
  unfold k0_pay12
  generalize k0_pay3 x0 x1 x2 x3 x4 = P
  canon_tiles y h
  case piece3 =>
    obtain ⟨rfl, hj⟩ := tile_idx j r l 0 y (h1.trans (Nat.zero_add _).symm) h2 h3
    simp only [hj]
    pointwise [k0_pay2, k0_pay48, k0_pay51, k0_pay54]
    all_goals simp only [← Nat.add_assoc, Nat.reduceAdd]
  all_goals
    obtain ⟨rfl, hj⟩ := tile_idx j r l _ y h1 h2 h3
    simp only [hj]
    pointwise [k0_pay2, k0_pay48, k0_pay51, k0_pay54]
    all_goals simp only [← Nat.add_assoc, Nat.reduceAdd]

end

end Cert.Kernel6Ideal.Hand

end
-- ==== Proof.P6Host.lean ====
/- The arrays that the call of the first block's input projections is given, read at an index. -/
module

public import proofs.«01_k».proof.Proof.Gen.Kernel6Ideal.Frame
public import proofs.«01_k».proof.Proof.R6Val
public import Idealize.ShloMosaic.Lib.Pipeline.Value
public import Idealize.ShloMosaic.Lib.Pipeline.ValueKit

@[expose] public section

set_option maxRecDepth 16384

noncomputable section

namespace Cert.Kernel6Ideal.Hand

open Cert.Kernel6Ideal Cert.Kernel6Ideal.Gen
open Idealize.ShloMosaic Idealize.ShloMosaic.TcCoe Idealize.SL Idealize.SL.Sem Cert.Soft
open Cert.Reference6Ideal.Hand (kpeX ropeA ropeB)

/-- The angles of the first attention's rotation. -/
def angA (pos : IVec S8x4096 32) : FVec Ideal S8x4096x16 .f32 :=
  (mulf (broadcastInDim S8x4096x16 ![0, 1, 2] bcast_S8x4096x1_S8x4096x16_0_1_2 (broadcastInDim S8x4096x1 ![0, 1] bcast_S8x4096_S8x4096x1_0_1 (sitofp .f32 pos))) (broadcastInDim S8x4096x16 ![0, 1, 2] bcast_S1x1x16_S8x4096x16_0_1_2 (broadcastInDim S1x1x16 ![2] bcast_S16_S1x1x16_2 (Host.powf (broadcastInDim S16 ![] bcast_S_S16 (constant S_ .f32 0x48F42400#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))))))

/-- The angles of the second attention's rotation. -/
def angB (pos : IVec S8x4096 32) : FVec Ideal S8x4096x4 .f32 :=
  (mulf (broadcastInDim S8x4096x4 ![0, 1, 2] bcast_S8x4096x1_S8x4096x4_0_1_2 (broadcastInDim S8x4096x1 ![0, 1] bcast_S8x4096_S8x4096x1_0_1 (sitofp .f32 pos))) (broadcastInDim S8x4096x4 ![0, 1, 2] bcast_S1x1x4_S8x4096x4_0_1_2 (broadcastInDim S1x1x4 ![2] bcast_S4_S1x1x4_2 (Host.powf (broadcastInDim S4 ![] bcast_S_S4 (constant S_ .f32 0x48F42400#32)) (Host.divf (Host.negf (addf (broadcastInDim S4 ![] bcast_S_S4 (constant S_ .f32 0x00000000#32)) (mulf (broadcastInDim S4 ![] bcast_S_S4 (constant S_ .f32 0x40000000#32)) (sitofp .f32 (iotaInDim S4 32 0))))) (broadcastInDim S4 ![] bcast_S_S4 (constant S_ .f32 0x41000000#32)))))))

/-- The first attention's cosines at the 128 lanes of a head. -/
def catCA (cs : FVec Ideal S8x4096x16 .f32) : FVec Ideal S8x4096x128 .f32 :=
  (concatenate S8x4096x128 2 [⟨S8x4096x64, (broadcastInDim S8x4096x64 ![] bcast_S_S8x4096x64 (constant S_ .f32 0x3F800000#32))⟩, ⟨S8x4096x16, cs⟩, ⟨S8x4096x16, cs⟩, ⟨S8x4096x32, (broadcastInDim S8x4096x32 ![] bcast_S_S8x4096x32 (constant S_ .f32 0x3F800000#32))⟩] concatenates_S8x4096x64_S8x4096x16_S8x4096x16_S8x4096x32_S8x4096x128_d2)

/-- Its sines, with their signs. -/
def catSA (cs : FVec Ideal S8x4096x16 .f32) : FVec Ideal S8x4096x128 .f32 :=
  (concatenate S8x4096x128 2 [⟨S8x4096x64, (broadcastInDim S8x4096x64 ![] bcast_S_S8x4096x64 (constant S_ .f32 0x00000000#32))⟩, ⟨S8x4096x16, (Host.negf cs)⟩, ⟨S8x4096x16, cs⟩, ⟨S8x4096x32, (broadcastInDim S8x4096x32 ![] bcast_S_S8x4096x32 (constant S_ .f32 0x00000000#32))⟩] concatenates_S8x4096x64_S8x4096x16_S8x4096x16_S8x4096x32_S8x4096x128_d2)

/-- A table as it is. -/
def tileA (t : FVec Ideal S8x4096x128 .f32) : FVec Ideal S8x4096x128 .f32 :=
  (shapeCast S8x4096x128 (broadcastInDim S1x8x1x4096x1x128 ![0, 1, 2, 3, 4, 5] bcast_S1x8x1x4096x1x128_S1x8x1x4096x1x128_0_1_2_3_4_5 (shapeCast S1x8x1x4096x1x128 t shapeCasts_S8x4096x128_S1x8x1x4096x1x128)) shapeCasts_S1x8x1x4096x1x128_S8x4096x128)

/-- The second attention's cosines at the 32 lanes of a map. -/
def catCB (cs : FVec Ideal S8x4096x4 .f32) : FVec Ideal S8x4096x32 .f32 :=
  (concatenate S8x4096x32 2 [⟨S8x4096x0, (broadcastInDim S8x4096x0 ![] bcast_S_S8x4096x0 (constant S_ .f32 0x3F800000#32))⟩, ⟨S8x4096x4, cs⟩, ⟨S8x4096x4, cs⟩, ⟨S8x4096x24, (broadcastInDim S8x4096x24 ![] bcast_S_S8x4096x24 (constant S_ .f32 0x3F800000#32))⟩] concatenates_S8x4096x0_S8x4096x4_S8x4096x4_S8x4096x24_S8x4096x32_d2)

/-- Its sines, with their signs. -/
def catSB (cs : FVec Ideal S8x4096x4 .f32) : FVec Ideal S8x4096x32 .f32 :=
  (concatenate S8x4096x32 2 [⟨S8x4096x0, (broadcastInDim S8x4096x0 ![] bcast_S_S8x4096x0 (constant S_ .f32 0x00000000#32))⟩, ⟨S8x4096x4, (Host.negf cs)⟩, ⟨S8x4096x4, cs⟩, ⟨S8x4096x24, (broadcastInDim S8x4096x24 ![] bcast_S_S8x4096x24 (constant S_ .f32 0x00000000#32))⟩] concatenates_S8x4096x0_S8x4096x4_S8x4096x4_S8x4096x24_S8x4096x32_d2)

/-- A table four times side by side. -/
def tileB (t : FVec Ideal S8x4096x32 .f32) : FVec Ideal S8x4096x128 .f32 :=
  (shapeCast S8x4096x128 (broadcastInDim S1x8x1x4096x4x32 ![0, 1, 2, 3, 4, 5] bcast_S1x8x1x4096x1x32_S1x8x1x4096x4x32_0_1_2_3_4_5 (shapeCast S1x8x1x4096x1x32 t shapeCasts_S8x4096x32_S1x8x1x4096x1x32)) shapeCasts_S1x8x1x4096x4x32_S8x4096x128)

/-- The queries' latent columns of the weights. -/
def wQ (w : FVec Ideal S1024x1952 .f32) : FVec Ideal S1024x256 .f32 :=
  (extractStridedSlice S1024x256 ![0, 0] w slices_S1024x1952_S1024x256_0_0)

/-- The keys' and values' latent columns. -/
def wKV (w : FVec Ideal S1024x1952 .f32) : FVec Ideal S1024x128 .f32 :=
  (extractStridedSlice S1024x128 ![0, 256] w slices_S1024x1952_S1024x128_0_256)

/-- The keys' columns that the heads share. -/
def wK (w : FVec Ideal S1024x1952 .f32) : FVec Ideal S1024x32 .f32 :=
  (extractStridedSlice S1024x32 ![0, 384] w slices_S1024x1952_S1024x32_0_384)

/-- The second attention's queries' columns. -/
def wQB (w : FVec Ideal S1024x1952 .f32) : FVec Ideal S1024x512 .f32 :=
  (extractStridedSlice S1024x512 ![0, 416] w slices_S1024x1952_S1024x512_0_416)

/-- Its keys' columns. -/
def wKB (w : FVec Ideal S1024x1952 .f32) : FVec Ideal S1024x512 .f32 :=
  (extractStridedSlice S1024x512 ![0, 928] w slices_S1024x1952_S1024x512_0_928)

/-- Its values' columns. -/
def wVB (w : FVec Ideal S1024x1952 .f32) : FVec Ideal S1024x512 .f32 :=
  (extractStridedSlice S1024x512 ![0, 1440] w slices_S1024x1952_S1024x512_0_1440)

/-- The shared columns between zeros. -/
def padK (p : FVec Ideal S1024x32 .f32) : FVec Ideal S1024x128 .f32 :=
  (concatenate S1024x128 1 [⟨S1024x64, (broadcastInDim S1024x64 ![] bcast_S_S1024x64 (constant S_ .f32 0x00000000#32))⟩, ⟨S1024x32, p⟩, ⟨S1024x32, (broadcastInDim S1024x32 ![] bcast_S_S1024x32 (constant S_ .f32 0x00000000#32))⟩] concatenates_S1024x64_S1024x32_S1024x32_S1024x128_d1)

/-- The shared columns with their halves exchanged. -/
def swapK (p : FVec Ideal S1024x32 .f32) : FVec Ideal S1024x32 .f32 :=
  (concatenate S1024x32 1 [⟨S1024x16, (extractStridedSlice S1024x16 ![0, 16] p slices_S1024x32_S1024x16_0_16)⟩, ⟨S1024x16, (extractStridedSlice S1024x16 ![0, 0] p slices_S1024x32_S1024x16_0_0)⟩, ⟨S1024x0, (broadcastInDim S1024x0 ![] bcast_S_S1024x0 (constant S_ .f32 0x00000000#32))⟩] concatenates_S1024x16_S1024x16_S1024x0_S1024x32_d1)

/-- The second attention's columns by map. -/
def groupB (p : FVec Ideal S1024x512 .f32) : FVec Ideal S1024x16x32 .f32 :=
  (shapeCast S1024x16x32 p shapeCasts_S1024x512_S1024x16x32)

/-- Each map's columns with the rotated ones exchanged and zeros after them. -/
def swapB (t : FVec Ideal S1024x16x32 .f32) : FVec Ideal S1024x16x32 .f32 :=
  (concatenate S1024x16x32 2 [⟨S1024x16x4, (extractStridedSlice S1024x16x4 ![0, 0, 4] t slices_S1024x16x32_S1024x16x4_0_0_4)⟩, ⟨S1024x16x4, (extractStridedSlice S1024x16x4 ![0, 0, 0] t slices_S1024x16x32_S1024x16x4_0_0_0)⟩, ⟨S1024x16x24, (broadcastInDim S1024x16x24 ![] bcast_S_S1024x16x24 (constant S_ .f32 0x00000000#32))⟩] concatenates_S1024x16x4_S1024x16x4_S1024x16x24_S1024x16x32_d2)

/-- The maps side by side. -/
def flatB (t : FVec Ideal S1024x16x32 .f32) : FVec Ideal S1024x512 .f32 :=
  (shapeCast S1024x512 t shapeCasts_S1024x16x32_S1024x512)

/-- All columns side by side. -/
def joinW (v1 : FVec Ideal S1024x256 .f32) (v2 v3 v4 : FVec Ideal S1024x128 .f32) (v5 v6 v7 v8 v9 : FVec Ideal S1024x512 .f32) : FVec Ideal S1024x3200 .bf16 :=
  (truncf .bf16 (concatenate S1024x3200 1 [⟨S1024x256, v1⟩, ⟨S1024x128, v2⟩, ⟨S1024x128, v3⟩, ⟨S1024x128, v4⟩, ⟨S1024x512, v5⟩, ⟨S1024x512, v6⟩, ⟨S1024x512, v7⟩, ⟨S1024x512, v8⟩, ⟨S1024x512, v9⟩] concatenates_S1024x256_S1024x128_S1024x128_S1024x128_S1024x512_S1024x512_S1024x512_S1024x512_S1024x512_S1024x3200_d1) bitsLt_bf16_f32)

/-- The weights the call is given. -/
def allW (w : FVec Ideal S1024x1952 .f32) : FVec Ideal S1024x3200 .bf16 :=
  joinW (wQ w) (wKV w) (padK (wK w)) (padK (swapK (wK w))) (wQB w) (flatB (swapB (groupB (wQB w)))) (wKB w) (flatB (swapB (groupB (wKB w)))) (wVB w)

/-- The queries' weights by head. -/
def headsQ (w : FVec Ideal S256x768 .f32) : FVec Ideal S256x8x96 .f32 :=
  (shapeCast S256x8x96 w shapeCasts_S256x768_S256x8x96)

/-- A head's columns followed by zeros. -/
def padQ (t : FVec Ideal S256x8x96 .f32) : FVec Ideal S256x8x128 .f32 :=
  ((fun a b => concatenate S256x8x128 2 [⟨S256x8x96, a⟩, ⟨S256x8x32, b⟩] concatenates_S256x8x96_S256x8x32_S256x8x128_d2) t (broadcastInDim S256x8x32 ![] bcast_S_S256x8x32 (constant S_ .f32 0x00000000#32)))

/-- A head's rotated columns, exchanged, between zeros. -/
def swapQ (t : FVec Ideal S256x8x96 .f32) : FVec Ideal S256x8x128 .f32 :=
  (concatenate S256x8x128 2 [⟨S256x8x64, (broadcastInDim S256x8x64 ![] bcast_S_S256x8x64 (constant S_ .f32 0x00000000#32))⟩, ⟨S256x8x32, (concatenate S256x8x32 2 [⟨S256x8x16, (extractStridedSlice S256x8x16 ![0, 0, 16] (extractStridedSlice S256x8x32 ![0, 0, 64] t slices_S256x8x96_S256x8x32_0_0_64) slices_S256x8x32_S256x8x16_0_0_16)⟩, ⟨S256x8x16, (extractStridedSlice S256x8x16 ![0, 0, 0] (extractStridedSlice S256x8x32 ![0, 0, 64] t slices_S256x8x96_S256x8x32_0_0_64) slices_S256x8x32_S256x8x16_0_0_0)⟩, ⟨S256x8x0, (broadcastInDim S256x8x0 ![] bcast_S_S256x8x0 (constant S_ .f32 0x00000000#32))⟩] concatenates_S256x8x16_S256x8x16_S256x8x0_S256x8x32_d2)⟩, ⟨S256x8x32, (broadcastInDim S256x8x32 ![] bcast_S_S256x8x32 (constant S_ .f32 0x00000000#32))⟩] concatenates_S256x8x64_S256x8x32_S256x8x32_S256x8x128_d2)

/-- The heads side by side. -/
def flatQ (t : FVec Ideal S256x8x128 .f32) : FVec Ideal S256x1024 .f32 :=
  (shapeCast S256x1024 t shapeCasts_S256x8x128_S256x1024)

/-- Both side by side. -/
def joinQ (a b : FVec Ideal S256x1024 .f32) : FVec Ideal S256x2048 .bf16 :=
  (truncf .bf16 ((fun a b => concatenate S256x2048 1 [⟨S256x1024, a⟩, ⟨S256x1024, b⟩] concatenates_S256x1024_S256x1024_S256x2048_d1) a b) bitsLt_bf16_f32)

/-- The queries' weights the call is given. -/
def allQ (w : FVec Ideal S256x768 .f32) : FVec Ideal S256x2048 .bf16 :=
  joinQ (flatQ (padQ (headsQ w))) (flatQ (swapQ (headsQ w)))

/-- The keys' and values' weights by head. -/
def headsKV (w : FVec Ideal S128x1024 .f32) : FVec Ideal S128x8x128 .f32 :=
  (shapeCast S128x8x128 w shapeCasts_S128x1024_S128x8x128)

/-- A head's keys' columns followed by zeros, the heads side by side. -/
def padKV (t : FVec Ideal S128x8x128 .f32) : FVec Ideal S128x1024 .f32 :=
  (shapeCast S128x1024 ((fun a b => concatenate S128x8x128 2 [⟨S128x8x64, a⟩, ⟨S128x8x64, b⟩] concatenates_S128x8x64_S128x8x64_S128x8x128_d2) (extractStridedSlice S128x8x64 ![0, 0, 0] t slices_S128x8x128_S128x8x64_0_0_0) (broadcastInDim S128x8x64 ![] bcast_S_S128x8x64 (constant S_ .f32 0x00000000#32))) shapeCasts_S128x8x128_S128x1024)

/-- The values' columns, the heads side by side. -/
def valKV (t : FVec Ideal S128x8x128 .f32) : FVec Ideal S128x512 .f32 :=
  (shapeCast S128x512 (extractStridedSlice S128x8x64 ![0, 0, 64] t slices_S128x8x128_S128x8x64_0_0_64) shapeCasts_S128x8x64_S128x512)

/-- Both side by side. -/
def joinKV (a : FVec Ideal S128x1024 .f32) (b : FVec Ideal S128x512 .f32) : FVec Ideal S128x1536 .bf16 :=
  (truncf .bf16 ((fun a b => concatenate S128x1536 1 [⟨S128x1024, a⟩, ⟨S128x512, b⟩] concatenates_S128x1024_S128x512_S128x1536_d1) a b) bitsLt_bf16_f32)

/-- The keys' and values' weights the call is given. -/
def allKV (w : FVec Ideal S128x1024 .f32) : FVec Ideal S128x1536 .bf16 :=
  joinKV (padKV (headsKV w)) (valKV (headsKV w))

/-- A head's 96 columns followed by zeros. -/
def colM (x : Fin 96 → EReal) (l : Fin 128) : EReal :=
  if h : l.val < 96 then x ⟨l.val, h⟩ else 0

/-- A head's rotated columns with their halves exchanged, zeros around them. -/
def colS (x : Fin 96 → EReal) (l : Fin 128) : EReal :=
  if l.val < 64 then 0 else if h : l.val < 80 then x ⟨l.val + 16, by omega⟩
    else if h : l.val < 96 then x ⟨l.val - 16, by omega⟩ else 0

/-- The cosines at a head's lanes, ones around them. -/
def tabC (c : Fin 16 → EReal) (l : Fin 128) : EReal :=
  if h : l.val < 64 then 1 else if h' : l.val < 80 then c ⟨l.val - 64, by omega⟩
    else if h : l.val < 96 then c ⟨l.val - 80, by omega⟩ else 1

/-- The signed sines at a head's lanes, zeros around them. -/
def tabS (s : Fin 16 → EReal) (l : Fin 128) : EReal :=
  if h : l.val < 64 then 0 else if h' : l.val < 80 then -s ⟨l.val - 64, by omega⟩
    else if h : l.val < 96 then s ⟨l.val - 80, by omega⟩ else 0

/-- A map's rotated columns exchanged, zeros after them. -/
def colSB (x : Fin 32 → EReal) (i : Fin 32) : EReal :=
  if h : i.val < 4 then x ⟨i.val + 4, by omega⟩ else if h : i.val < 8 then x ⟨i.val - 4, by omega⟩ else 0

/-- The cosines at a map's lanes, ones after them. -/
def tabCB (c : Fin 4 → EReal) (i : Fin 32) : EReal :=
  if h : i.val < 4 then c ⟨i.val, h⟩ else if h : i.val < 8 then c ⟨i.val - 4, by omega⟩ else 1

/-- The signed sines at a map's lanes, zeros after them. -/
def tabSB (s : Fin 4 → EReal) (i : Fin 32) : EReal :=
  if h : i.val < 4 then -s ⟨i.val, h⟩ else if h : i.val < 8 then s ⟨i.val - 4, by omega⟩ else 0

/-- Columns times cosines plus exchanged columns times signed sines is the rotation. -/
theorem law (x : Fin 96 → EReal) (c s : Fin 16 → EReal) (l : Fin 128) :
    colM x l * tabC c l + colS x l * tabS s l = ropeA x c s l := by
  unfold colM colS tabC tabS ropeA
  split_ifs <;> first | (exfalso; omega) | simp [sub_eq_add_neg]

/-- The same for a map of the second attention. -/
theorem lawB (x : Fin 32 → EReal) (c s : Fin 4 → EReal) (i : Fin 32) :
    x i * tabCB c i + colSB x i * tabSB s i = ropeB x c s i := by
  unfold colSB tabCB tabSB ropeB
  split_ifs <;> first | (exfalso; omega) | simp [sub_eq_add_neg]

section Linear

variable {K : ℕ} (f : (Fin K → EReal) → EReal) (hf : f (fun _ => 0) = 0)

include hf

/-- What sends the zero column to zero passes through the padding. -/
theorem colM_lin (y : Fin K → Fin 96 → EReal) (l : Fin 128) :
    f (fun k => colM (y k) l) = colM (fun i => f fun k => y k i) l := by
  unfold colM; split_ifs <;> first | rfl | exact hf

/-- And through the exchange. -/
theorem colS_lin (y : Fin K → Fin 96 → EReal) (l : Fin 128) :
    f (fun k => colS (y k) l) = colS (fun i => f fun k => y k i) l := by
  unfold colS; split_ifs <;> first | rfl | exact hf

/-- And through the exchange within a map. -/
theorem colSB_lin (y : Fin K → Fin 32 → EReal) (l : Fin 32) :
    f (fun k => colSB (y k) l) = colSB (fun i => f fun k => y k i) l := by
  unfold colSB; split_ifs <;> first | rfl | exact hf

/-- And through the placing of the shared columns. -/
theorem kpeX_lin (y : Fin K → Fin 32 → EReal) (l : Fin 96) :
    f (fun k => kpeX (y k) l) = kpeX (fun i => f fun k => y k i) l := by
  unfold kpeX; split_ifs <;> first | rfl | exact hf

/-- And through a choice between a column and zero. -/
theorem ite_lin (p : Prop) [Decidable p] (y : Fin K → EReal) :
    f (fun k => if p then y k else 0) = if p then f y else 0 := by
  split_ifs <;> first | rfl | exact hf

end Linear

/-- The angles are the reference's. -/
theorem angA_eq (pos : IVec S8x4096 32) : angA pos = Cert.Reference6Ideal.Hand.angA (F := Ideal) pos := rfl

/-- Those of the second attention too. -/
theorem angB_eq (pos : IVec S8x4096 32) : angB pos = Cert.Reference6Ideal.Hand.angB (F := Ideal) pos := rfl

/-- The first cosines at an index. -/
theorem catCA_apply (cs : FVec Ideal S8x4096x16 .f32) (b : Fin 8) (n : Fin 4096) (l : Fin 128) :
    catCA cs (ix3 b n l) = tabC (fun i => cs (ix3 b n i)) l := by
  pointwise [catCA]
  unfold tabC
  all_goals (repeat' split) <;> first | (exfalso; omega) | (exfalso; dsimp only at *; omega) | rfl | exact congrArg (fun i => cs (ix3 b n i)) (Fin.ext (by first | (dsimp only; omega) | rfl))

/-- The first sines at an index. -/
theorem catSA_apply (cs : FVec Ideal S8x4096x16 .f32) (b : Fin 8) (n : Fin 4096) (l : Fin 128) :
    catSA cs (ix3 b n l) = tabS (fun i => cs (ix3 b n i)) l := by
  pointwise [catSA]
  unfold tabS
  all_goals (repeat' split) <;> first | (exfalso; omega) | (exfalso; dsimp only at *; omega) | rfl | exact congrArg (fun i => cs (ix3 b n i)) (Fin.ext (by first | (dsimp only; omega) | rfl)) | exact congrArg (fun i => -cs (ix3 b n i)) (Fin.ext (by first | (dsimp only; omega) | rfl))

/-- A table as it is, at an index. -/
theorem tileA_apply (t : FVec Ideal S8x4096x128 .f32) (b : Fin 8) (n : Fin 4096) (l : Fin 128) :
    tileA t (ix3 b n l) = t (ix3 b n l) := by
  pointwise [tileA]

/-- The second cosines at an index. -/
theorem catCB_apply (cs : FVec Ideal S8x4096x4 .f32) (b : Fin 8) (n : Fin 4096) (l : Fin 32) :
    catCB cs (ix3 b n l) = tabCB (fun i => cs (ix3 b n i)) l := by
  pointwise [catCB]
  unfold tabCB
  all_goals (repeat' split) <;> first | (exfalso; omega) | (exfalso; dsimp only at *; omega) | rfl | exact congrArg (fun i => cs (ix3 b n i)) (Fin.ext (by first | (dsimp only; omega) | rfl))

/-- The second sines at an index. -/
theorem catSB_apply (cs : FVec Ideal S8x4096x4 .f32) (b : Fin 8) (n : Fin 4096) (l : Fin 32) :
    catSB cs (ix3 b n l) = tabSB (fun i => cs (ix3 b n i)) l := by
  pointwise [catSB]
  unfold tabSB
  all_goals (repeat' split) <;> first | (exfalso; omega) | (exfalso; dsimp only at *; omega) | rfl | exact congrArg (fun i => cs (ix3 b n i)) (Fin.ext (by first | (dsimp only; omega) | rfl)) | exact congrArg (fun i => -cs (ix3 b n i)) (Fin.ext (by first | (dsimp only; omega) | rfl))

/-- A repeated table at an index. -/
theorem tileB_apply (t : FVec Ideal S8x4096x32 .f32) (b : Fin 8) (n : Fin 4096) (l : Fin 128) :
    tileB t (ix3 b n l) = t (ix3 b n ⟨l.val % 32, Nat.mod_lt _ (by decide)⟩) := by
  pointwise [tileB]

/-- The slice at an index. -/
theorem wQ_apply (w : FVec Ideal S1024x1952 .f32) (k : Fin 1024) (e : Fin 256) :
    wQ w (ix2 k e) = w (ix2 k ⟨e.val, by omega⟩) := by
  pointwise [wQ]

/-- The slice at an index. -/
theorem wKV_apply (w : FVec Ideal S1024x1952 .f32) (k : Fin 1024) (e : Fin 128) :
    wKV w (ix2 k e) = w (ix2 k ⟨256 + e.val, by omega⟩) := by
  pointwise [wKV]

/-- The slice at an index. -/
theorem wK_apply (w : FVec Ideal S1024x1952 .f32) (k : Fin 1024) (e : Fin 32) :
    wK w (ix2 k e) = w (ix2 k ⟨384 + e.val, by omega⟩) := by
  pointwise [wK]

/-- The slice at an index. -/
theorem wQB_apply (w : FVec Ideal S1024x1952 .f32) (k : Fin 1024) (e : Fin 512) :
    wQB w (ix2 k e) = w (ix2 k ⟨416 + e.val, by omega⟩) := by
  pointwise [wQB]

/-- The slice at an index. -/
theorem wKB_apply (w : FVec Ideal S1024x1952 .f32) (k : Fin 1024) (e : Fin 512) :
    wKB w (ix2 k e) = w (ix2 k ⟨928 + e.val, by omega⟩) := by
  pointwise [wKB]

/-- The slice at an index. -/
theorem wVB_apply (w : FVec Ideal S1024x1952 .f32) (k : Fin 1024) (e : Fin 512) :
    wVB w (ix2 k e) = w (ix2 k ⟨1440 + e.val, by omega⟩) := by
  pointwise [wVB]

/-- The padded shared columns at an index. -/
theorem padK_apply (p : FVec Ideal S1024x32 .f32) (k : Fin 1024) (l : Fin 128) :
    padK p (ix2 k l) = colM (kpeX fun i => p (ix2 k i)) l := by
  pointwise [padK]
  unfold colM kpeX
  all_goals (repeat' split) <;> first | (exfalso; omega) | (exfalso; dsimp only at *; omega) | rfl | exact congrArg (fun i => p (ix2 k i)) (Fin.ext (by first | (dsimp only; omega) | rfl))

/-- The exchanged shared columns at an index. -/
theorem swapK_apply (p : FVec Ideal S1024x32 .f32) (k : Fin 1024) (l : Fin 32) :
    swapK p (ix2 k l) = if h : l.val < 16 then p (ix2 k ⟨l.val + 16, by omega⟩) else p (ix2 k ⟨l.val - 16, by omega⟩) := by
  pointwise [swapK]
  all_goals (repeat' split) <;> first | (exfalso; omega) | (exfalso; dsimp only at *; omega) | rfl | exact congrArg (fun i => p (ix2 k i)) (Fin.ext (by first | (dsimp only; omega) | rfl))

/-- The padded and exchanged shared columns at an index. -/
theorem padSwapK_apply (p : FVec Ideal S1024x32 .f32) (k : Fin 1024) (l : Fin 128) :
    padK (swapK p) (ix2 k l) = colS (kpeX fun i => p (ix2 k i)) l := by
  rw [padK_apply]
  unfold colM colS kpeX
  simp only [swapK_apply]
  all_goals (repeat' split) <;> first | (exfalso; omega) | (exfalso; dsimp only at *; omega) | rfl | exact congrArg (fun i => p (ix2 k i)) (Fin.ext (by first | (dsimp only; omega) | rfl))

/-- The columns by map, at an index. -/
theorem groupB_apply (p : FVec Ideal S1024x512 .f32) (k : Fin 1024) (g : Fin 16) (i : Fin 32) :
    groupB p (ix3 k g i) = p (ix2 k ⟨g.val * 32 + i.val, by omega⟩) := by
  pointwise [groupB]

/-- The exchanged columns of a map, at an index. -/
theorem swapB_apply (t : FVec Ideal S1024x16x32 .f32) (k : Fin 1024) (g : Fin 16) (l : Fin 32) :
    swapB t (ix3 k g l) = colSB (fun i => t (ix3 k g i)) l := by
  pointwise [swapB]
  unfold colSB
  all_goals (repeat' split) <;> first | (exfalso; omega) | (exfalso; dsimp only at *; omega) | rfl | exact congrArg (fun i => t (ix3 k g i)) (Fin.ext (by first | (dsimp only; omega) | rfl))

/-- The maps side by side, at an index. -/
theorem flatB_apply (t : FVec Ideal S1024x16x32 .f32) (k : Fin 1024) (e : Fin 512) :
    flatB t (ix2 k e) = t (ix3 k ⟨e.val / 32, by omega⟩ ⟨e.val % 32, by omega⟩) := by
  pointwise [flatB]

/-- The exchanged columns of all maps, at an index. -/
theorem swapAllB_apply (p : FVec Ideal S1024x512 .f32) (k : Fin 1024) (e : Fin 512) :
    flatB (swapB (groupB p)) (ix2 k e) = colSB (fun i => p (ix2 k ⟨e.val / 32 * 32 + i.val, by omega⟩)) ⟨e.val % 32, by omega⟩ := by
  rw [flatB_apply, swapB_apply]
  exact congrArg (fun f => colSB f _) (funext fun i => groupB_apply p k _ i)

/-- Part 1 of the weights. -/
theorem joinW1 (v1 : FVec Ideal S1024x256 .f32) (v2 v3 v4 : FVec Ideal S1024x128 .f32) (v5 v6 v7 v8 v9 : FVec Ideal S1024x512 .f32) (k : Fin 1024) (e : Fin 256) :
    joinW v1 v2 v3 v4 v5 v6 v7 v8 v9 (ix2 k ⟨e.val, by omega⟩) = v1 (ix2 k e) := by
  pointwise [joinW]
  all_goals (repeat' split) <;> first | (exfalso; omega) | (exfalso; dsimp only at *; omega) | rfl | exact congrArg (fun i => v1 (ix2 k i)) (Fin.ext (by first | (dsimp only; omega) | rfl))

/-- Part 1 of the weights the call is given. -/
theorem allW1 (w : FVec Ideal S1024x1952 .f32) (k : Fin 1024) (e : Fin 256) :
    allW w (ix2 k ⟨e.val, by omega⟩) = (wQ w) (ix2 k e) :=
  joinW1 _ _ _ _ _ _ _ _ _ k e

/-- Part 2 of the weights. -/
theorem joinW2 (v1 : FVec Ideal S1024x256 .f32) (v2 v3 v4 : FVec Ideal S1024x128 .f32) (v5 v6 v7 v8 v9 : FVec Ideal S1024x512 .f32) (k : Fin 1024) (e : Fin 128) :
    joinW v1 v2 v3 v4 v5 v6 v7 v8 v9 (ix2 k ⟨256 + e.val, by omega⟩) = v2 (ix2 k e) := by
  pointwise [joinW]
  all_goals (repeat' split) <;> first | (exfalso; omega) | (exfalso; dsimp only at *; omega) | rfl | exact congrArg (fun i => v2 (ix2 k i)) (Fin.ext (by first | (dsimp only; omega) | rfl))

/-- Part 2 of the weights the call is given. -/
theorem allW2 (w : FVec Ideal S1024x1952 .f32) (k : Fin 1024) (e : Fin 128) :
    allW w (ix2 k ⟨256 + e.val, by omega⟩) = (wKV w) (ix2 k e) :=
  joinW2 _ _ _ _ _ _ _ _ _ k e

/-- Part 3 of the weights. -/
theorem joinW3 (v1 : FVec Ideal S1024x256 .f32) (v2 v3 v4 : FVec Ideal S1024x128 .f32) (v5 v6 v7 v8 v9 : FVec Ideal S1024x512 .f32) (k : Fin 1024) (e : Fin 128) :
    joinW v1 v2 v3 v4 v5 v6 v7 v8 v9 (ix2 k ⟨384 + e.val, by omega⟩) = v3 (ix2 k e) := by
  pointwise [joinW]
  all_goals (repeat' split) <;> first | (exfalso; omega) | (exfalso; dsimp only at *; omega) | rfl | exact congrArg (fun i => v3 (ix2 k i)) (Fin.ext (by first | (dsimp only; omega) | rfl))

/-- Part 3 of the weights the call is given. -/
theorem allW3 (w : FVec Ideal S1024x1952 .f32) (k : Fin 1024) (e : Fin 128) :
    allW w (ix2 k ⟨384 + e.val, by omega⟩) = (padK (wK w)) (ix2 k e) :=
  joinW3 _ _ _ _ _ _ _ _ _ k e

/-- Part 4 of the weights. -/
theorem joinW4 (v1 : FVec Ideal S1024x256 .f32) (v2 v3 v4 : FVec Ideal S1024x128 .f32) (v5 v6 v7 v8 v9 : FVec Ideal S1024x512 .f32) (k : Fin 1024) (e : Fin 128) :
    joinW v1 v2 v3 v4 v5 v6 v7 v8 v9 (ix2 k ⟨512 + e.val, by omega⟩) = v4 (ix2 k e) := by
  pointwise [joinW]
  all_goals (repeat' split) <;> first | (exfalso; omega) | (exfalso; dsimp only at *; omega) | rfl | exact congrArg (fun i => v4 (ix2 k i)) (Fin.ext (by first | (dsimp only; omega) | rfl))

/-- Part 4 of the weights the call is given. -/
theorem allW4 (w : FVec Ideal S1024x1952 .f32) (k : Fin 1024) (e : Fin 128) :
    allW w (ix2 k ⟨512 + e.val, by omega⟩) = (padK (swapK (wK w))) (ix2 k e) :=
  joinW4 _ _ _ _ _ _ _ _ _ k e

/-- Part 5 of the weights. -/
theorem joinW5 (v1 : FVec Ideal S1024x256 .f32) (v2 v3 v4 : FVec Ideal S1024x128 .f32) (v5 v6 v7 v8 v9 : FVec Ideal S1024x512 .f32) (k : Fin 1024) (e : Fin 512) :
    joinW v1 v2 v3 v4 v5 v6 v7 v8 v9 (ix2 k ⟨640 + e.val, by omega⟩) = v5 (ix2 k e) := by
  pointwise [joinW]
  all_goals (repeat' split) <;> first | (exfalso; omega) | (exfalso; dsimp only at *; omega) | rfl | exact congrArg (fun i => v5 (ix2 k i)) (Fin.ext (by first | (dsimp only; omega) | rfl))

/-- Part 5 of the weights the call is given. -/
theorem allW5 (w : FVec Ideal S1024x1952 .f32) (k : Fin 1024) (e : Fin 512) :
    allW w (ix2 k ⟨640 + e.val, by omega⟩) = (wQB w) (ix2 k e) :=
  joinW5 _ _ _ _ _ _ _ _ _ k e

/-- Part 6 of the weights. -/
theorem joinW6 (v1 : FVec Ideal S1024x256 .f32) (v2 v3 v4 : FVec Ideal S1024x128 .f32) (v5 v6 v7 v8 v9 : FVec Ideal S1024x512 .f32) (k : Fin 1024) (e : Fin 512) :
    joinW v1 v2 v3 v4 v5 v6 v7 v8 v9 (ix2 k ⟨1152 + e.val, by omega⟩) = v6 (ix2 k e) := by
  pointwise [joinW]
  all_goals (repeat' split) <;> first | (exfalso; omega) | (exfalso; dsimp only at *; omega) | rfl | exact congrArg (fun i => v6 (ix2 k i)) (Fin.ext (by first | (dsimp only; omega) | rfl))

/-- Part 6 of the weights the call is given. -/
theorem allW6 (w : FVec Ideal S1024x1952 .f32) (k : Fin 1024) (e : Fin 512) :
    allW w (ix2 k ⟨1152 + e.val, by omega⟩) = (flatB (swapB (groupB (wQB w)))) (ix2 k e) :=
  joinW6 _ _ _ _ _ _ _ _ _ k e

/-- Part 7 of the weights. -/
theorem joinW7 (v1 : FVec Ideal S1024x256 .f32) (v2 v3 v4 : FVec Ideal S1024x128 .f32) (v5 v6 v7 v8 v9 : FVec Ideal S1024x512 .f32) (k : Fin 1024) (e : Fin 512) :
    joinW v1 v2 v3 v4 v5 v6 v7 v8 v9 (ix2 k ⟨1664 + e.val, by omega⟩) = v7 (ix2 k e) := by
  pointwise [joinW]
  all_goals (repeat' split) <;> first | (exfalso; omega) | (exfalso; dsimp only at *; omega) | rfl | exact congrArg (fun i => v7 (ix2 k i)) (Fin.ext (by first | (dsimp only; omega) | rfl))

/-- Part 7 of the weights the call is given. -/
theorem allW7 (w : FVec Ideal S1024x1952 .f32) (k : Fin 1024) (e : Fin 512) :
    allW w (ix2 k ⟨1664 + e.val, by omega⟩) = (wKB w) (ix2 k e) :=
  joinW7 _ _ _ _ _ _ _ _ _ k e

/-- Part 8 of the weights. -/
theorem joinW8 (v1 : FVec Ideal S1024x256 .f32) (v2 v3 v4 : FVec Ideal S1024x128 .f32) (v5 v6 v7 v8 v9 : FVec Ideal S1024x512 .f32) (k : Fin 1024) (e : Fin 512) :
    joinW v1 v2 v3 v4 v5 v6 v7 v8 v9 (ix2 k ⟨2176 + e.val, by omega⟩) = v8 (ix2 k e) := by
  pointwise [joinW]
  all_goals (repeat' split) <;> first | (exfalso; omega) | (exfalso; dsimp only at *; omega) | rfl | exact congrArg (fun i => v8 (ix2 k i)) (Fin.ext (by first | (dsimp only; omega) | rfl))

/-- Part 8 of the weights the call is given. -/
theorem allW8 (w : FVec Ideal S1024x1952 .f32) (k : Fin 1024) (e : Fin 512) :
    allW w (ix2 k ⟨2176 + e.val, by omega⟩) = (flatB (swapB (groupB (wKB w)))) (ix2 k e) :=
  joinW8 _ _ _ _ _ _ _ _ _ k e

/-- Part 9 of the weights. -/
theorem joinW9 (v1 : FVec Ideal S1024x256 .f32) (v2 v3 v4 : FVec Ideal S1024x128 .f32) (v5 v6 v7 v8 v9 : FVec Ideal S1024x512 .f32) (k : Fin 1024) (e : Fin 512) :
    joinW v1 v2 v3 v4 v5 v6 v7 v8 v9 (ix2 k ⟨2688 + e.val, by omega⟩) = v9 (ix2 k e) := by
  pointwise [joinW]
  all_goals (repeat' split) <;> first | (exfalso; omega) | (exfalso; dsimp only at *; omega) | rfl | exact congrArg (fun i => v9 (ix2 k i)) (Fin.ext (by first | (dsimp only; omega) | rfl))

/-- Part 9 of the weights the call is given. -/
theorem allW9 (w : FVec Ideal S1024x1952 .f32) (k : Fin 1024) (e : Fin 512) :
    allW w (ix2 k ⟨2688 + e.val, by omega⟩) = (wVB w) (ix2 k e) :=
  joinW9 _ _ _ _ _ _ _ _ _ k e

/-- The queries' latent columns. -/
theorem allW_q (w : FVec Ideal S1024x1952 .f32) (k : Fin 1024) (e : Fin 256) :
    allW w (ix2 k ⟨e.val, by omega⟩) = w (ix2 k ⟨e.val, by omega⟩) :=
  (allW1 w k e).trans (wQ_apply w k e)

/-- The latent columns of the keys and values. -/
theorem allW_kv (w : FVec Ideal S1024x1952 .f32) (k : Fin 1024) (e : Fin 128) :
    allW w (ix2 k ⟨256 + e.val, by omega⟩) = w (ix2 k ⟨256 + e.val, by omega⟩) :=
  (allW2 w k e).trans (wKV_apply w k e)

/-- The shared columns. -/
theorem allW_k (w : FVec Ideal S1024x1952 .f32) (k : Fin 1024) (l : Fin 128) :
    allW w (ix2 k ⟨384 + l.val, by omega⟩) = colM (kpeX fun i => w (ix2 k ⟨384 + i.val, by omega⟩)) l :=
  ((allW3 w k l).trans (padK_apply _ k l)).trans (congrArg (fun f => colM (kpeX f) l) (funext fun i => wK_apply w k i))

/-- The shared columns exchanged. -/
theorem allW_ks (w : FVec Ideal S1024x1952 .f32) (k : Fin 1024) (l : Fin 128) :
    allW w (ix2 k ⟨512 + l.val, by omega⟩) = colS (kpeX fun i => w (ix2 k ⟨384 + i.val, by omega⟩)) l :=
  ((allW4 w k l).trans (padSwapK_apply _ k l)).trans (congrArg (fun f => colS (kpeX f) l) (funext fun i => wK_apply w k i))

/-- Columns of the second attention. -/
theorem allW_qb (w : FVec Ideal S1024x1952 .f32) (k : Fin 1024) (j : Fin 4) (l : Fin 128) :
    allW w (ix2 k ⟨640 + j.val * 128 + l.val, by omega⟩) = w (ix2 k ⟨416 + (j.val * 128 + l.val), by omega⟩) :=
  (congrArg (fun i => allW w (ix2 k i)) (Fin.ext (Nat.add_assoc _ _ _))).trans
    ((allW5 w k ⟨j.val * 128 + l.val, by omega⟩).trans (wQB_apply w k _))

/-- Columns of the second attention, exchanged. -/
theorem allW_qbs (w : FVec Ideal S1024x1952 .f32) (k : Fin 1024) (j : Fin 4) (l : Fin 128) :
    allW w (ix2 k ⟨1152 + j.val * 128 + l.val, by omega⟩) = colSB (fun i => w (ix2 k ⟨416 + (j.val * 128 + l.val / 32 * 32) + i.val, by omega⟩)) ⟨l.val % 32, by omega⟩ :=
  by
  refine (congrArg (fun i => allW w (ix2 k i)) (Fin.ext (Nat.add_assoc _ _ _))).trans
    ((allW6 w k ⟨j.val * 128 + l.val, by omega⟩).trans ((swapAllB_apply _ k _).trans ?_))
  have hl : (⟨(j.val * 128 + l.val) % 32, by omega⟩ : Fin 32) = ⟨l.val % 32, by omega⟩ := Fin.ext (by dsimp only; omega)
  refine (congrArg (colSB _) hl).trans (congrArg (fun f => colSB f _) (funext fun i => ?_))
  refine (wQB_apply w k _).trans (congrArg (fun i => w (ix2 k i)) (Fin.ext ?_))
  dsimp only; omega

/-- Columns of the second attention. -/
theorem allW_kb (w : FVec Ideal S1024x1952 .f32) (k : Fin 1024) (j : Fin 4) (l : Fin 128) :
    allW w (ix2 k ⟨1664 + j.val * 128 + l.val, by omega⟩) = w (ix2 k ⟨928 + (j.val * 128 + l.val), by omega⟩) :=
  (congrArg (fun i => allW w (ix2 k i)) (Fin.ext (Nat.add_assoc _ _ _))).trans
    ((allW7 w k ⟨j.val * 128 + l.val, by omega⟩).trans (wKB_apply w k _))

/-- Columns of the second attention, exchanged. -/
theorem allW_kbs (w : FVec Ideal S1024x1952 .f32) (k : Fin 1024) (j : Fin 4) (l : Fin 128) :
    allW w (ix2 k ⟨2176 + j.val * 128 + l.val, by omega⟩) = colSB (fun i => w (ix2 k ⟨928 + (j.val * 128 + l.val / 32 * 32) + i.val, by omega⟩)) ⟨l.val % 32, by omega⟩ :=
  by
  refine (congrArg (fun i => allW w (ix2 k i)) (Fin.ext (Nat.add_assoc _ _ _))).trans
    ((allW8 w k ⟨j.val * 128 + l.val, by omega⟩).trans ((swapAllB_apply _ k _).trans ?_))
  have hl : (⟨(j.val * 128 + l.val) % 32, by omega⟩ : Fin 32) = ⟨l.val % 32, by omega⟩ := Fin.ext (by dsimp only; omega)
  refine (congrArg (colSB _) hl).trans (congrArg (fun f => colSB f _) (funext fun i => ?_))
  refine (wKB_apply w k _).trans (congrArg (fun i => w (ix2 k i)) (Fin.ext ?_))
  dsimp only; omega

/-- Columns of the second attention. -/
theorem allW_vb (w : FVec Ideal S1024x1952 .f32) (k : Fin 1024) (j : Fin 4) (l : Fin 128) :
    allW w (ix2 k ⟨2688 + j.val * 128 + l.val, by omega⟩) = w (ix2 k ⟨1440 + (j.val * 128 + l.val), by omega⟩) :=
  (congrArg (fun i => allW w (ix2 k i)) (Fin.ext (Nat.add_assoc _ _ _))).trans
    ((allW9 w k ⟨j.val * 128 + l.val, by omega⟩).trans (wVB_apply w k _))

/-- The queries' weights by head, at an index. -/
theorem headsQ_apply (w : FVec Ideal S256x768 .f32) (k : Fin 256) (h : Fin 8) (i : Fin 96) :
    headsQ w (ix3 k h i) = w (ix2 k ⟨h.val * 96 + i.val, by omega⟩) := by
  pointwise [headsQ]

/-- The padded columns of a head, at an index. -/
theorem padQ_apply (t : FVec Ideal S256x8x96 .f32) (k : Fin 256) (h : Fin 8) (l : Fin 128) :
    padQ t (ix3 k h l) = colM (fun i => t (ix3 k h i)) l := by
  pointwise [padQ]
  unfold colM
  all_goals (repeat' split) <;> first | (exfalso; omega) | (exfalso; dsimp only at *; omega) | rfl | exact congrArg (fun i => t (ix3 k h i)) (Fin.ext (by first | (dsimp only; omega) | rfl))

/-- The exchanged columns of a head, at an index. -/
theorem swapQ_apply (t : FVec Ideal S256x8x96 .f32) (k : Fin 256) (h : Fin 8) (l : Fin 128) :
    swapQ t (ix3 k h l) = colS (fun i => t (ix3 k h i)) l := by
  pointwise [swapQ]
  unfold colS
  all_goals (repeat' split) <;> first | (exfalso; omega) | (exfalso; dsimp only at *; omega) | rfl | exact congrArg (fun i => t (ix3 k h i)) (Fin.ext (by first | (dsimp only; omega) | rfl))

/-- The heads side by side, at an index. -/
theorem flatQ_apply (t : FVec Ideal S256x8x128 .f32) (k : Fin 256) (h : Fin 8) (l : Fin 128) :
    flatQ t (ix2 k ⟨h.val * 128 + l.val, by omega⟩) = t (ix3 k h l) := by
  pointwise [flatQ]

/-- The first half. -/
theorem joinQ_lo (a b : FVec Ideal S256x1024 .f32) (k : Fin 256) (e : Fin 1024) :
    joinQ a b (ix2 k ⟨e.val, by omega⟩) = a (ix2 k e) := by
  pointwise [joinQ]
  all_goals (repeat' split) <;> first | (exfalso; omega) | (exfalso; dsimp only at *; omega) | rfl | exact congrArg (fun i => a (ix2 k i)) (Fin.ext (by first | (dsimp only; omega) | rfl))

/-- The second half. -/
theorem joinQ_hi (a b : FVec Ideal S256x1024 .f32) (k : Fin 256) (e : Fin 1024) :
    joinQ a b (ix2 k ⟨1024 + e.val, by omega⟩) = b (ix2 k e) := by
  pointwise [joinQ]
  all_goals (repeat' split) <;> first | (exfalso; omega) | (exfalso; dsimp only at *; omega) | rfl | exact congrArg (fun i => b (ix2 k i)) (Fin.ext (by first | (dsimp only; omega) | rfl))

/-- The queries' weights at an index. -/
theorem allQ_main (w : FVec Ideal S256x768 .f32) (k : Fin 256) (j : Fin 8) (l : Fin 128) :
    allQ w (ix2 k ⟨j.val * 128 + l.val, by omega⟩) = colM (fun i => w (ix2 k ⟨j.val * 96 + i.val, by omega⟩)) l :=
  (joinQ_lo _ _ k ⟨j.val * 128 + l.val, by omega⟩).trans ((flatQ_apply _ k j l).trans ((padQ_apply _ k j l).trans
    (congrArg (fun f => colM f l) (funext fun i => headsQ_apply w k j i))))

/-- The queries' weights at an index. -/
theorem allQ_swap (w : FVec Ideal S256x768 .f32) (k : Fin 256) (j : Fin 8) (l : Fin 128) :
    allQ w (ix2 k ⟨1024 + j.val * 128 + l.val, by omega⟩) = colS (fun i => w (ix2 k ⟨j.val * 96 + i.val, by omega⟩)) l :=
  (congrArg (fun i => allQ w (ix2 k i)) (Fin.ext (Nat.add_assoc _ _ _))).trans
    ((joinQ_hi _ _ k ⟨j.val * 128 + l.val, by omega⟩).trans ((flatQ_apply _ k j l).trans ((swapQ_apply _ k j l).trans
    (congrArg (fun f => colS f l) (funext fun i => headsQ_apply w k j i)))))

/-- The keys' and values' weights by head, at an index. -/
theorem headsKV_apply (w : FVec Ideal S128x1024 .f32) (k : Fin 128) (h : Fin 8) (i : Fin 128) :
    headsKV w (ix3 k h i) = w (ix2 k ⟨h.val * 128 + i.val, by omega⟩) := by
  pointwise [headsKV]

/-- The padded keys' columns at an index. -/
theorem padKV_apply (t : FVec Ideal S128x8x128 .f32) (k : Fin 128) (e : Fin 1024) :
    padKV t (ix2 k e) = if e.val % 128 < 64 then t (ix3 k ⟨e.val / 128, by omega⟩ ⟨e.val % 128, by omega⟩) else 0 := by
  pointwise [padKV]
  all_goals (repeat' split) <;> first | (exfalso; omega) | (exfalso; dsimp only at *; omega) | rfl

/-- The values' columns at an index. -/
theorem valKV_apply (t : FVec Ideal S128x8x128 .f32) (k : Fin 128) (e : Fin 512) :
    valKV t (ix2 k e) = t (ix3 k ⟨e.val / 64, by omega⟩ ⟨64 + e.val % 64, by omega⟩) := by
  pointwise [valKV]

/-- The first part. -/
theorem joinKV_lo (a : FVec Ideal S128x1024 .f32) (b : FVec Ideal S128x512 .f32) (k : Fin 128) (e : Fin 1024) :
    joinKV a b (ix2 k ⟨e.val, by omega⟩) = a (ix2 k e) := by
  pointwise [joinKV]
  all_goals (repeat' split) <;> first | (exfalso; omega) | (exfalso; dsimp only at *; omega) | rfl | exact congrArg (fun i => a (ix2 k i)) (Fin.ext (by first | (dsimp only; omega) | rfl))

/-- The second part. -/
theorem joinKV_hi (a : FVec Ideal S128x1024 .f32) (b : FVec Ideal S128x512 .f32) (k : Fin 128) (e : Fin 512) :
    joinKV a b (ix2 k ⟨1024 + e.val, by omega⟩) = b (ix2 k e) := by
  pointwise [joinKV]
  all_goals (repeat' split) <;> first | (exfalso; omega) | (exfalso; dsimp only at *; omega) | rfl | exact congrArg (fun i => b (ix2 k i)) (Fin.ext (by first | (dsimp only; omega) | rfl))

/-- The keys' weights at an index. -/
theorem allKV_key (w : FVec Ideal S128x1024 .f32) (k : Fin 128) (j : Fin 8) (l : Fin 128) :
    allKV w (ix2 k ⟨j.val * 128 + l.val, by omega⟩) = if l.val < 64 then w (ix2 k ⟨j.val * 128 + l.val, by omega⟩) else 0 := by
  refine ((joinKV_lo _ _ k ⟨j.val * 128 + l.val, by omega⟩).trans (padKV_apply _ k _)).trans ?_
  simp only [headsKV_apply, show (j.val * 128 + l.val) % 128 = l.val by omega, show (j.val * 128 + l.val) / 128 = j.val by omega]

/-- The values' weights at an index. -/
theorem allKV_val (w : FVec Ideal S128x1024 .f32) (k : Fin 128) (j : Fin 4) (l : Fin 128) :
    allKV w (ix2 k ⟨1024 + j.val * 128 + l.val, by omega⟩) = w (ix2 k ⟨(j.val * 2 + l.val / 64) * 128 + (64 + l.val % 64), by omega⟩) := by
  refine (congrArg (fun i => allKV w (ix2 k i)) (Fin.ext (Nat.add_assoc _ _ _))).trans
    (((joinKV_hi _ _ k ⟨j.val * 128 + l.val, by omega⟩).trans (valKV_apply _ k _)).trans ((headsKV_apply w k _ _).trans ?_))
  refine congrArg (fun i => w (ix2 k i)) (Fin.ext ?_)
  dsimp only; omega

/-- The first attention's table at an index. -/
theorem tabCA_apply (cs : FVec Ideal S8x4096x16 .f32) (b : Fin 8) (n : Fin 4096) (l : Fin 128) :
    tileA (catCA cs) (ix3 b n l) = tabC (fun i => cs (ix3 b n i)) l :=
  (tileA_apply _ b n l).trans (catCA_apply cs b n l)

/-- The second attention's table at an index. -/
theorem tabCB_apply (cs : FVec Ideal S8x4096x4 .f32) (b : Fin 8) (n : Fin 4096) (l : Fin 128) :
    tileB (catCB cs) (ix3 b n l) = tabCB (fun i => cs (ix3 b n i)) ⟨l.val % 32, Nat.mod_lt _ (by decide)⟩ :=
  (tileB_apply _ b n l).trans (catCB_apply cs b n _)

/-- The first attention's table at an index. -/
theorem tabSA_apply (cs : FVec Ideal S8x4096x16 .f32) (b : Fin 8) (n : Fin 4096) (l : Fin 128) :
    tileA (catSA cs) (ix3 b n l) = tabS (fun i => cs (ix3 b n i)) l :=
  (tileA_apply _ b n l).trans (catSA_apply cs b n l)

/-- The second attention's table at an index. -/
theorem tabSB_apply (cs : FVec Ideal S8x4096x4 .f32) (b : Fin 8) (n : Fin 4096) (l : Fin 128) :
    tileB (catSB cs) (ix3 b n l) = tabSB (fun i => cs (ix3 b n i)) ⟨l.val % 32, Nat.mod_lt _ (by decide)⟩ :=
  (tileB_apply _ b n l).trans (catSB_apply cs b n _)

end Cert.Kernel6Ideal.Hand

end
-- ==== Proof.P6V.lean ====
/- The arrays that the call of the first block's input projections is given, as functions of the argument arrays. -/
module

public import proofs.«01_k».proof.Proof.P6Host
public import Idealize.ShloMosaic.Lib.StableHlo.Run

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.StableHlo Idealize.SL Idealize.SL.Sem Cert.Soft

variable (m : (ℓ : Loc nD τ sig) → Buf (Elt Ideal) ℓ) (ρ : Dev nD → PrngReg)

/-- The tokens. -/
abbrev A0 (c : Dev nD) : FVec Ideal S8x4096x1024 .f32 := m ((c : Thread nD τ).loc main_arg0)
/-- The gains of the norm. -/
abbrev A1 (c : Dev nD) : FVec Ideal S1024 .f32 := m ((c : Thread nD τ).loc main_arg1)
/-- The scale of each batch. -/
abbrev A2 (c : Dev nD) : FVec Ideal S8x1x1024 .f32 := m ((c : Thread nD τ).loc main_arg2)
/-- The shift of each batch. -/
abbrev A3 (c : Dev nD) : FVec Ideal S8x1x1024 .f32 := m ((c : Thread nD τ).loc main_arg3)
/-- The weights. -/
abbrev A4 (c : Dev nD) : FVec Ideal S1024x1952 .f32 := m ((c : Thread nD τ).loc main_arg4)
/-- The gains of the queries' norm. -/
abbrev A5 (c : Dev nD) : FVec Ideal S256 .f32 := m ((c : Thread nD τ).loc main_arg5)
/-- The queries' weights. -/
abbrev A6 (c : Dev nD) : FVec Ideal S256x768 .f32 := m ((c : Thread nD τ).loc main_arg6)
/-- The gains of the keys' and values' norm. -/
abbrev A7 (c : Dev nD) : FVec Ideal S128 .f32 := m ((c : Thread nD τ).loc main_arg7)
/-- The keys' and values' weights. -/
abbrev A8 (c : Dev nD) : FVec Ideal S128x1024 .f32 := m ((c : Thread nD τ).loc main_arg8)
/-- The positions. -/
abbrev A9 (c : Dev nD) : IVec S8x4096 32 := m ((c : Thread nD τ).loc main_arg9)

set_option maxHeartbeats 4000000 in
/-- The gains of the norm as the call finds them. -/
theorem V_v120 (c : Dev nD) : V m c main_v120 = shapeCast S1x1024 (A1 m c) shapeCasts_S1024_S1x1024 := by
  show StableHlo.after hostOps0 (fun b => m (c, b)) (Proc.devRef .tc main_v120) = _
  simp only [hostOps0]
  after_results_simp
  rfl

set_option maxHeartbeats 4000000 in
/-- The gains of the queries' norm as the call finds them. -/
theorem V_v121 (c : Dev nD) : V m c main_v121 = shapeCast S1x256 (A5 m c) shapeCasts_S256_S1x256 := by
  show StableHlo.after hostOps0 (fun b => m (c, b)) (Proc.devRef .tc main_v121) = _
  simp only [hostOps0]
  after_results_simp
  rfl

set_option maxHeartbeats 4000000 in
/-- The gains of the keys' and values' norm as the call finds them. -/
theorem V_v122 (c : Dev nD) : V m c main_v122 = shapeCast S1x128 (A7 m c) shapeCasts_S128_S1x128 := by
  show StableHlo.after hostOps0 (fun b => m (c, b)) (Proc.devRef .tc main_v122) = _
  simp only [hostOps0]
  after_results_simp
  rfl

set_option maxHeartbeats 4000000 in
/-- The first attention's cosines as the call finds them. -/
theorem V_v27 (c : Dev nD) : V m c main_v27 = tileA (catCA (Host.cos (angA (A9 m c)))) := by
  show StableHlo.after hostOps0 (fun b => m (c, b)) (Proc.devRef .tc main_v27) = _
  simp only [hostOps0]
  after_results_simp
  rfl

set_option maxHeartbeats 4000000 in
/-- The first attention's sines as the call finds them. -/
theorem V_v30 (c : Dev nD) : V m c main_v30 = tileA (catSA (Host.sin (angA (A9 m c)))) := by
  show StableHlo.after hostOps0 (fun b => m (c, b)) (Proc.devRef .tc main_v30) = _
  simp only [hostOps0]
  after_results_simp
  rfl

set_option maxHeartbeats 4000000 in
/-- The second attention's cosines as the call finds them. -/
theorem V_v58 (c : Dev nD) : V m c main_v58 = tileB (catCB (Host.cos (angB (A9 m c)))) := by
  show StableHlo.after hostOps0 (fun b => m (c, b)) (Proc.devRef .tc main_v58) = _
  simp only [hostOps0]
  after_results_simp
  rfl

set_option maxHeartbeats 4000000 in
/-- The second attention's sines as the call finds them. -/
theorem V_v61 (c : Dev nD) : V m c main_v61 = tileB (catSB (Host.sin (angB (A9 m c)))) := by
  show StableHlo.after hostOps0 (fun b => m (c, b)) (Proc.devRef .tc main_v61) = _
  simp only [hostOps0]
  after_results_simp
  rfl

set_option maxHeartbeats 4000000 in
/-- The weights as the call finds them. -/
theorem V_v94 (c : Dev nD) : V m c main_v94 = allW (A4 m c) := by
  show StableHlo.after hostOps0 (fun b => m (c, b)) (Proc.devRef .tc main_v94) = _
  simp only [hostOps0]
  after_results_simp
  rfl

set_option maxHeartbeats 4000000 in
/-- The queries' weights as the call finds them. -/
theorem V_v110 (c : Dev nD) : V m c main_v110 = allQ (A6 m c) := by
  show StableHlo.after hostOps0 (fun b => m (c, b)) (Proc.devRef .tc main_v110) = _
  simp only [hostOps0]
  after_results_simp
  rfl

set_option maxHeartbeats 4000000 in
/-- The keys' and values' weights as the call finds them. -/
theorem V_v119 (c : Dev nD) : V m c main_v119 = allKV (A8 m c) := by
  show StableHlo.after hostOps0 (fun b => m (c, b)) (Proc.devRef .tc main_v119) = _
  simp only [hostOps0]
  after_results_simp
  rfl

end Cert.Kernel6Ideal.Hand

end
-- ==== Proof.P6Out.lean ====
/- The result arrays of the call of the first block's input projections over the extended reals are the reference's functions of the argument arrays. -/
module

public import proofs.«01_k».proof.Proof.P6Pay
public import proofs.«01_k».proof.Proof.P6V

@[expose] public section

set_option maxRecDepth 16384

noncomputable section

namespace Cert.Kernel6Ideal.Hand

open Cert.Kernel6Ideal Cert.Kernel6Ideal.Gen
open Idealize.ShloMosaic Idealize.ShloMosaic.TcCoe Idealize.SL Idealize.SL.Sem Cert.Soft
open Idealize.ShloMosaic.Pipeline (Dat Cfg Window)
open Cert.Reference3Ideal.Hand (hat projE)
open Cert.Reference6Ideal.Hand (rmsE ropeA ropeB kpeX hR pR qlatR qR kvlatR kvR qaR kaR vaR qbR kbR vbR pR_apply qlatR_apply qR_apply kvlatR_apply kvR_apply qaR_apply kaR_apply vaR_apply qbR_apply kbR_apply vbR_apply)

theorem index_0 : ∀ t, win0_0.index t = ![(grid0.coords t 0).val, (grid0.coords t 1).val, 0] := by decide +kernel
theorem index_1 : ∀ t, win0_1.index t = ![0, 0] := by decide +kernel
theorem index_2 : ∀ t, win0_2.index t = ![(grid0.coords t 0).val, 0, 0] := by decide +kernel
theorem index_3 : ∀ t, win0_3.index t = ![(grid0.coords t 0).val, 0, 0] := by decide +kernel
theorem index_4 : ∀ t, win0_4.index t = ![0, 0] := by decide +kernel
theorem index_5 : ∀ t, win0_5.index t = ![0, 0] := by decide +kernel
theorem index_6 : ∀ t, win0_6.index t = ![0, 0] := by decide +kernel
theorem index_7 : ∀ t, win0_7.index t = ![0, 0] := by decide +kernel
theorem index_8 : ∀ t, win0_8.index t = ![0, 0] := by decide +kernel
theorem index_9 : ∀ t, win0_9.index t = ![(grid0.coords t 0).val, (grid0.coords t 1).val, 0] := by decide +kernel
theorem index_10 : ∀ t, win0_10.index t = ![(grid0.coords t 0).val, (grid0.coords t 1).val, 0] := by decide +kernel
theorem index_11 : ∀ t, win0_11.index t = ![(grid0.coords t 0).val, (grid0.coords t 1).val, 0] := by decide +kernel
theorem index_12 : ∀ t, win0_12.index t = ![(grid0.coords t 0).val, (grid0.coords t 1).val, 0] := by decide +kernel
theorem index_13 : ∀ t, win0_13.index t = ![(grid0.coords t 0).val, 0, (grid0.coords t 1).val, 0] := by decide +kernel
theorem index_14 : ∀ t, win0_14.index t = ![(grid0.coords t 0).val, 0, (grid0.coords t 1).val, 0] := by decide +kernel
theorem index_15 : ∀ t, win0_15.index t = ![(grid0.coords t 0).val, 0, (grid0.coords t 1).val, 0] := by decide +kernel
theorem index_16 : ∀ t, win0_16.index t = ![(grid0.coords t 0).val, 0, (grid0.coords t 1).val, 0] := by decide +kernel
theorem index_17 : ∀ t, win0_17.index t = ![(grid0.coords t 0).val, 0, (grid0.coords t 1).val, 0] := by decide +kernel
theorem index_18 : ∀ t, win0_18.index t = ![(grid0.coords t 0).val, 0, (grid0.coords t 1).val, 0] := by decide +kernel

variable (m : (ℓ : Loc nD τ sig) → Buf (Elt Ideal) ℓ) (ρ : Dev nD → PrngReg)

/-- The batch of a point. -/
def pb (t : Fin cfg0.N) : Fin 8 := grid0.coords t 0
/-- The tile of positions of a point. -/
def pq (t : Fin cfg0.N) : Fin 8 := grid0.coords t 1

/-- The position of row `r` of tile `a`. -/
def pos (a : Fin 8) (r : Fin 512) : Fin 4096 := ⟨512 * a.val + r.val, by omega⟩

/-- A row as a matrix of one row, at an index. -/
theorem gains_apply (g : FVec Ideal S1024 .f32) (k : Fin 1024) : shapeCast S1x1024 g shapeCasts_S1024_S1x1024 (ix2 0 k) = g (ix1 k) := by
  pointwise

/-- The same at the queries' length. -/
theorem gainsQ_apply (g : FVec Ideal S256 .f32) (k : Fin 256) : shapeCast S1x256 g shapeCasts_S256_S1x256 (ix2 0 k) = g (ix1 k) := by
  pointwise

/-- The same at the keys' and values' length. -/
theorem gainsK_apply (g : FVec Ideal S128 .f32) (k : Fin 128) : shapeCast S1x128 g shapeCasts_S128_S1x128 (ix2 0 k) = g (ix1 k) := by
  pointwise

/-- A block of the tokens. -/
theorem iblk_0 (c : Dev nD) (t : Fin cfg0.N) (r : Fin 512) (x : Fin 1024) : iblk m c 0 t (ix3 0 r x) = A0 m c (ix3 (pb t) (pos (pq t) r) x) := by
  refine (congrFun (V_main_arg0 m c) _).trans (congrArg (A0 m c) (funext fun a => Fin.ext ?_))
  blk_simp
  rw [index_0]
  fin_cases a <;> simp [ix3, pos, pb, pq, win0_0]
  all_goals exact mul_comm _ _

/-- A block of the gains. -/
theorem iblk_1 (c : Dev nD) (t : Fin cfg0.N) (k : Fin 1024) : iblk m c 1 t (ix2 0 k) = A1 m c (ix1 k) := by
  refine Eq.trans ?_ (gains_apply (A1 m c) k)
  refine (congrFun (V_v120 m c) _).trans (congrArg (shapeCast S1x1024 (A1 m c) shapeCasts_S1024_S1x1024) (funext fun a => Fin.ext ?_))
  blk_simp
  rw [index_1]
  fin_cases a <;> simp [ix2]

/-- A block of the scale. -/
theorem iblk_2 (c : Dev nD) (t : Fin cfg0.N) (x : Fin 1024) : iblk m c 2 t (ix3 0 0 x) = A2 m c (ix3 (pb t) 0 x) := by
  refine (congrFun (V_main_arg2 m c) _).trans (congrArg (A2 m c) (funext fun a => Fin.ext ?_))
  blk_simp
  rw [index_2]
  fin_cases a <;> simp [ix3, pb, win0_2]

/-- A block of the shift. -/
theorem iblk_3 (c : Dev nD) (t : Fin cfg0.N) (x : Fin 1024) : iblk m c 3 t (ix3 0 0 x) = A3 m c (ix3 (pb t) 0 x) := by
  refine (congrFun (V_main_arg3 m c) _).trans (congrArg (A3 m c) (funext fun a => Fin.ext ?_))
  blk_simp
  rw [index_3]
  fin_cases a <;> simp [ix3, pb, win0_3]

/-- The block of the weights. -/
theorem iblk_4 (c : Dev nD) (t : Fin cfg0.N) (k : Fin 1024) (e : Fin 3200) : iblk m c 4 t (ix2 k e) = allW (A4 m c) (ix2 k e) := by
  refine (congrFun (V_v94 m c) _).trans (congrArg (allW (A4 m c)) (funext fun a => Fin.ext ?_))
  blk_simp
  rw [index_4]
  fin_cases a <;> simp [ix2]

/-- A block of the queries' gains. -/
theorem iblk_5 (c : Dev nD) (t : Fin cfg0.N) (k : Fin 256) : iblk m c 5 t (ix2 0 k) = A5 m c (ix1 k) := by
  refine Eq.trans ?_ (gainsQ_apply (A5 m c) k)
  refine (congrFun (V_v121 m c) _).trans (congrArg (shapeCast S1x256 (A5 m c) shapeCasts_S256_S1x256) (funext fun a => Fin.ext ?_))
  blk_simp
  rw [index_5]
  fin_cases a <;> simp [ix2]

/-- The block of the queries' weights. -/
theorem iblk_6 (c : Dev nD) (t : Fin cfg0.N) (k : Fin 256) (e : Fin 2048) : iblk m c 6 t (ix2 k e) = allQ (A6 m c) (ix2 k e) := by
  refine (congrFun (V_v110 m c) _).trans (congrArg (allQ (A6 m c)) (funext fun a => Fin.ext ?_))
  blk_simp
  rw [index_6]
  fin_cases a <;> simp [ix2]

/-- A block of the keys' and values' gains. -/
theorem iblk_7 (c : Dev nD) (t : Fin cfg0.N) (k : Fin 128) : iblk m c 7 t (ix2 0 k) = A7 m c (ix1 k) := by
  refine Eq.trans ?_ (gainsK_apply (A7 m c) k)
  refine (congrFun (V_v122 m c) _).trans (congrArg (shapeCast S1x128 (A7 m c) shapeCasts_S128_S1x128) (funext fun a => Fin.ext ?_))
  blk_simp
  rw [index_7]
  fin_cases a <;> simp [ix2]

/-- The block of the keys' and values' weights. -/
theorem iblk_8 (c : Dev nD) (t : Fin cfg0.N) (k : Fin 128) (e : Fin 1536) : iblk m c 8 t (ix2 k e) = allKV (A8 m c) (ix2 k e) := by
  refine (congrFun (V_v119 m c) _).trans (congrArg (allKV (A8 m c)) (funext fun a => Fin.ext ?_))
  blk_simp
  rw [index_8]
  fin_cases a <;> simp [ix2]

/-- The cosines of the first attention's rotation. -/
abbrev cosA (c : Dev nD) : FVec Ideal Cert.Reference6Ideal.S8x4096x16 .f32 := Host.cos (Cert.Reference6Ideal.Hand.angA (A9 m c))

/-- The sines of the first attention's rotation. -/
abbrev sinA (c : Dev nD) : FVec Ideal Cert.Reference6Ideal.S8x4096x16 .f32 := Host.sin (Cert.Reference6Ideal.Hand.angA (A9 m c))

/-- The cosines of the second attention's rotation. -/
abbrev cosB (c : Dev nD) : FVec Ideal Cert.Reference6Ideal.S8x4096x4 .f32 := Host.cos (Cert.Reference6Ideal.Hand.angB (A9 m c))

/-- The sines of the second attention's rotation. -/
abbrev sinB (c : Dev nD) : FVec Ideal Cert.Reference6Ideal.S8x4096x4 .f32 := Host.sin (Cert.Reference6Ideal.Hand.angB (A9 m c))

/-- A block of a table. -/
theorem iblk_9 (c : Dev nD) (t : Fin cfg0.N) (r : Fin 512) (l : Fin 128) : iblk m c 9 t (ix3 0 r l) = tabC (fun i => cosA m c (ix3 (pb t) (pos (pq t) r) i)) l := by
  refine Eq.trans ?_ (tabCA_apply (Host.cos (angA (A9 m c))) (pb t) (pos (pq t) r) l)
  refine (congrFun (V_v27 m c) _).trans (congrArg (tileA (catCA (Host.cos (angA (A9 m c))))) (funext fun a => Fin.ext ?_))
  blk_simp
  rw [index_9]
  fin_cases a <;> simp [ix3, pos, pb, pq, win0_9]
  all_goals exact mul_comm _ _

/-- A block of a table. -/
theorem iblk_10 (c : Dev nD) (t : Fin cfg0.N) (r : Fin 512) (l : Fin 128) : iblk m c 10 t (ix3 0 r l) = tabS (fun i => sinA m c (ix3 (pb t) (pos (pq t) r) i)) l := by
  refine Eq.trans ?_ (tabSA_apply (Host.sin (angA (A9 m c))) (pb t) (pos (pq t) r) l)
  refine (congrFun (V_v30 m c) _).trans (congrArg (tileA (catSA (Host.sin (angA (A9 m c))))) (funext fun a => Fin.ext ?_))
  blk_simp
  rw [index_10]
  fin_cases a <;> simp [ix3, pos, pb, pq, win0_10]
  all_goals exact mul_comm _ _

/-- A block of a table. -/
theorem iblk_11 (c : Dev nD) (t : Fin cfg0.N) (r : Fin 512) (l : Fin 128) : iblk m c 11 t (ix3 0 r l) = tabCB (fun i => cosB m c (ix3 (pb t) (pos (pq t) r) i)) ⟨l.val % 32, Nat.mod_lt _ (by decide)⟩ := by
  refine Eq.trans ?_ (tabCB_apply (Host.cos (angB (A9 m c))) (pb t) (pos (pq t) r) l)
  refine (congrFun (V_v58 m c) _).trans (congrArg (tileB (catCB (Host.cos (angB (A9 m c))))) (funext fun a => Fin.ext ?_))
  blk_simp
  rw [index_11]
  fin_cases a <;> simp [ix3, pos, pb, pq, win0_11]
  all_goals exact mul_comm _ _

/-- A block of a table. -/
theorem iblk_12 (c : Dev nD) (t : Fin cfg0.N) (r : Fin 512) (l : Fin 128) : iblk m c 12 t (ix3 0 r l) = tabSB (fun i => sinB m c (ix3 (pb t) (pos (pq t) r) i)) ⟨l.val % 32, Nat.mod_lt _ (by decide)⟩ := by
  refine Eq.trans ?_ (tabSB_apply (Host.sin (angB (A9 m c))) (pb t) (pos (pq t) r) l)
  refine (congrFun (V_v61 m c) _).trans (congrArg (tileB (catSB (Host.sin (angB (A9 m c))))) (funext fun a => Fin.ext ?_))
  blk_simp
  rw [index_12]
  fin_cases a <;> simp [ix3, pos, pb, pq, win0_12]
  all_goals exact mul_comm _ _

/-- The reference's product of the argument arrays. -/
abbrev PR (c : Dev nD) : FVec Ideal Cert.Reference6Ideal.S8x4096x1952 .f32 := pR (hR (A0 m c) (A1 m c) (A2 m c) (A3 m c)) (A4 m c)

/-- The reference's queries before the rotation. -/
abbrev QR (c : Dev nD) : FVec Ideal Cert.Reference6Ideal.S8x4096x8x96 .f32 := qR (qlatR (PR m c)) (A5 m c) (A6 m c)

/-- The reference's keys and values. -/
abbrev KVR (c : Dev nD) : FVec Ideal Cert.Reference6Ideal.S8x4096x8x128 .f32 := kvR (kvlatR (PR m c)) (A7 m c) (A8 m c)

/-- A position's row against a column of weights. -/
def fP (c : Dev nD) (b : Fin 8) (n : Fin 4096) (w : Fin 1024 → EReal) : EReal :=
  projE (fun j => A0 m c (ix3 b n j)) (fun k => A1 m c (ix1 k)) (fun k => A2 m c (ix3 b 0 k)) (fun k => A3 m c (ix3 b 0 k)) w

theorem fP_zero (c : Dev nD) (b : Fin 8) (n : Fin 4096) : fP m c b n (fun _ => 0) = 0 := by
  simp [fP, projE]

theorem rmsE_zero {d : ℕ} (n : EReal) (q g : Fin d → EReal) : rmsE n q g (fun _ => 0) = 0 := by
  simp [rmsE]

theorem PR_val (c : Dev nD) (b : Fin 8) (n : Fin 4096) (d : Fin 1952) : PR m c (ix3 b n d) = fP m c b n (fun k => A4 m c (ix2 k d)) :=
  pR_apply _ _ _ _ _ _ _ _

/-- A position's latent row of the queries against a column of weights. -/
def fQ (c : Dev nD) (b : Fin 8) (n : Fin 4096) (w : Fin 256 → EReal) : EReal :=
  rmsE (Ideal.ofBits .f32 0x43800000#32) (fun k => PR m c (ix3 b n ⟨k.val, by omega⟩)) (fun k => A5 m c (ix1 k)) w

theorem fQ_zero (c : Dev nD) (b : Fin 8) (n : Fin 4096) : fQ m c b n (fun _ => 0) = 0 := rmsE_zero _ _ _

theorem QR_val (c : Dev nD) (b : Fin 8) (n : Fin 4096) (h : Fin 8) (i : Fin 96) : QR m c (ix4 b n h i) = fQ m c b n (fun k => A6 m c (ix2 k ⟨h.val * 96 + i.val, by omega⟩)) := by
  refine (qR_apply _ _ _ _ _ _ _).trans ?_
  simp only [qlatR_apply, fQ]

/-- A position's latent row of the keys and values against a column of weights. -/
def fK (c : Dev nD) (b : Fin 8) (n : Fin 4096) (w : Fin 128 → EReal) : EReal :=
  rmsE (Ideal.ofBits .f32 0x43000000#32) (fun k => PR m c (ix3 b n ⟨256 + k.val, by omega⟩)) (fun k => A7 m c (ix1 k)) w

theorem fK_zero (c : Dev nD) (b : Fin 8) (n : Fin 4096) : fK m c b n (fun _ => 0) = 0 := rmsE_zero _ _ _

theorem KVR_val (c : Dev nD) (b : Fin 8) (n : Fin 4096) (h : Fin 8) (i : Fin 128) : KVR m c (ix4 b n h i) = fK m c b n (fun k => A8 m c (ix2 k ⟨h.val * 128 + i.val, by omega⟩)) := by
  refine (kvR_apply _ _ _ _ _ _ _).trans ?_
  simp only [kvlatR_apply, fK]

/-- The body's product of a point's blocks. -/
abbrev PB (c : Dev nD) (t : Fin cfg0.N) : FVec Ideal S512x3200 .f32 := k0_pay3 (iblk m c 0 t) (iblk m c 1 t) (iblk m c 2 t) (iblk m c 3 t) (iblk m c 4 t)

/-- The body's product, at a row and a column. -/
theorem prod_val (c : Dev nD) (t : Fin cfg0.N) (r : Fin 512) (e : Fin 3200) :
    PB m c t (ix2 r e) = fP m c (pb t) (pos (pq t) r) (fun k => allW (A4 m c) (ix2 k e)) := by
  refine (pay3_apply (iblk m c 0 t) (iblk m c 1 t) (iblk m c 2 t) (iblk m c 3 t) (iblk m c 4 t) r e).trans ?_
  simp only [iblk_0, iblk_1, iblk_2, iblk_3, iblk_4, fP]

/-- The 32 columns of the map of the second attention that holds lane `l` of tile `j`. -/
def mapB (P : FVec Ideal Cert.Reference6Ideal.S8x4096x1952 .f32) (o : ℕ) (ho : o ≤ 1440) (b : Fin 8) (n : Fin 4096) (j : Fin 4) (l : Fin 128) (i : Fin 32) : EReal :=
  P (ix3 b n ⟨o + (j.val * 128 + l.val / 32 * 32) + i.val, by omega⟩)

theorem prod_q (c : Dev nD) (t : Fin cfg0.N) (r : Fin 512) (e : Fin 256) : PB m c t (ix2 r ⟨e.val, by omega⟩) = PR m c (ix3 (pb t) (pos (pq t) r) ⟨e.val, by omega⟩) :=
  ((prod_val m c t r _).trans (congrArg (fP m c (pb t) (pos (pq t) r)) (funext fun k => allW_q (A4 m c) k e))).trans (PR_val m c _ _ _).symm

theorem prod_kv (c : Dev nD) (t : Fin cfg0.N) (r : Fin 512) (e : Fin 128) : PB m c t (ix2 r ⟨256 + e.val, by omega⟩) = PR m c (ix3 (pb t) (pos (pq t) r) ⟨256 + e.val, by omega⟩) :=
  ((prod_val m c t r _).trans (congrArg (fP m c (pb t) (pos (pq t) r)) (funext fun k => allW_kv (A4 m c) k e))).trans (PR_val m c _ _ _).symm

theorem prod_qb (c : Dev nD) (t : Fin cfg0.N) (r : Fin 512) (j : Fin 4) (l : Fin 128) : PB m c t (ix2 r ⟨640 + j.val * 128 + l.val, by omega⟩) = mapB (PR m c) 416 (by decide) (pb t) (pos (pq t) r) j l ⟨l.val % 32, Nat.mod_lt _ (by decide)⟩ :=
  (((prod_val m c t r _).trans (congrArg (fP m c (pb t) (pos (pq t) r)) (funext fun k => allW_qb (A4 m c) k j l))).trans (PR_val m c _ _ _).symm).trans
    (congrArg (fun i => PR m c (ix3 (pb t) (pos (pq t) r) i)) (Fin.ext (by dsimp only; omega)))

theorem prod_kb (c : Dev nD) (t : Fin cfg0.N) (r : Fin 512) (j : Fin 4) (l : Fin 128) : PB m c t (ix2 r ⟨1664 + j.val * 128 + l.val, by omega⟩) = mapB (PR m c) 928 (by decide) (pb t) (pos (pq t) r) j l ⟨l.val % 32, Nat.mod_lt _ (by decide)⟩ :=
  (((prod_val m c t r _).trans (congrArg (fP m c (pb t) (pos (pq t) r)) (funext fun k => allW_kb (A4 m c) k j l))).trans (PR_val m c _ _ _).symm).trans
    (congrArg (fun i => PR m c (ix3 (pb t) (pos (pq t) r) i)) (Fin.ext (by dsimp only; omega)))

theorem prod_vb (c : Dev nD) (t : Fin cfg0.N) (r : Fin 512) (j : Fin 4) (l : Fin 128) : PB m c t (ix2 r ⟨2688 + j.val * 128 + l.val, by omega⟩) = PR m c (ix3 (pb t) (pos (pq t) r) ⟨1440 + (j.val * 128 + l.val), by omega⟩) :=
  ((prod_val m c t r _).trans (congrArg (fP m c (pb t) (pos (pq t) r)) (funext fun k => allW_vb (A4 m c) k j l))).trans (PR_val m c _ _ _).symm

theorem prod_k (c : Dev nD) (t : Fin cfg0.N) (r : Fin 512) (l : Fin 128) : PB m c t (ix2 r ⟨384 + l.val, by omega⟩) = colM (kpeX fun i => PR m c (ix3 (pb t) (pos (pq t) r) ⟨384 + i.val, by omega⟩)) l :=
  ((prod_val m c t r _).trans (congrArg (fP m c (pb t) (pos (pq t) r)) (funext fun k => allW_k (A4 m c) k l))).trans
    ((colM_lin (fP m c (pb t) (pos (pq t) r)) (fP_zero m c _ _) _ l).trans (congrArg (fun f => colM f l) (funext fun i =>
      (kpeX_lin (fP m c (pb t) (pos (pq t) r)) (fP_zero m c _ _) _ i).trans (congrArg (fun f => kpeX f i) (funext fun j => (PR_val m c _ _ _).symm)))))

theorem prod_ks (c : Dev nD) (t : Fin cfg0.N) (r : Fin 512) (l : Fin 128) : PB m c t (ix2 r ⟨512 + l.val, by omega⟩) = colS (kpeX fun i => PR m c (ix3 (pb t) (pos (pq t) r) ⟨384 + i.val, by omega⟩)) l :=
  ((prod_val m c t r _).trans (congrArg (fP m c (pb t) (pos (pq t) r)) (funext fun k => allW_ks (A4 m c) k l))).trans
    ((colS_lin (fP m c (pb t) (pos (pq t) r)) (fP_zero m c _ _) _ l).trans (congrArg (fun f => colS f l) (funext fun i =>
      (kpeX_lin (fP m c (pb t) (pos (pq t) r)) (fP_zero m c _ _) _ i).trans (congrArg (fun f => kpeX f i) (funext fun j => (PR_val m c _ _ _).symm)))))

theorem prod_qbs (c : Dev nD) (t : Fin cfg0.N) (r : Fin 512) (j : Fin 4) (l : Fin 128) : PB m c t (ix2 r ⟨1152 + j.val * 128 + l.val, by omega⟩) = colSB (mapB (PR m c) 416 (by decide) (pb t) (pos (pq t) r) j l) ⟨l.val % 32, Nat.mod_lt _ (by decide)⟩ :=
  ((prod_val m c t r _).trans (congrArg (fP m c (pb t) (pos (pq t) r)) (funext fun k => allW_qbs (A4 m c) k j l))).trans
    ((colSB_lin (fP m c (pb t) (pos (pq t) r)) (fP_zero m c _ _) _ _).trans (congrArg (fun f => colSB f _) (funext fun i => (PR_val m c _ _ _).symm)))

theorem prod_kbs (c : Dev nD) (t : Fin cfg0.N) (r : Fin 512) (j : Fin 4) (l : Fin 128) : PB m c t (ix2 r ⟨2176 + j.val * 128 + l.val, by omega⟩) = colSB (mapB (PR m c) 928 (by decide) (pb t) (pos (pq t) r) j l) ⟨l.val % 32, Nat.mod_lt _ (by decide)⟩ :=
  ((prod_val m c t r _).trans (congrArg (fP m c (pb t) (pos (pq t) r)) (funext fun k => allW_kbs (A4 m c) k j l))).trans
    ((colSB_lin (fP m c (pb t) (pos (pq t) r)) (fP_zero m c _ _) _ _).trans (congrArg (fun f => colSB f _) (funext fun i => (PR_val m c _ _ _).symm)))

/-- The body's queries before the rotation. -/
abbrev MB (c : Dev nD) (t : Fin cfg0.N) : FVec Ideal S512x2048 .f32 := k0_pay17 (k0_pay4 (iblk m c 0 t) (iblk m c 1 t) (iblk m c 2 t) (iblk m c 3 t) (iblk m c 4 t)) (iblk m c 5 t) (iblk m c 6 t)

theorem q_val (c : Dev nD) (t : Fin cfg0.N) (r : Fin 512) (e : Fin 2048) : MB m c t (ix2 r e) = fQ m c (pb t) (pos (pq t) r) (fun k => allQ (A6 m c) (ix2 k e)) := by
  refine (pay17_apply (qlat (PB m c t)) (iblk m c 5 t) (iblk m c 6 t) r e).trans ?_
  simp only [qlat_apply, prod_q, iblk_5, iblk_6, fQ]

theorem q_main (c : Dev nD) (t : Fin cfg0.N) (r : Fin 512) (j : Fin 8) (l : Fin 128) : MB m c t (ix2 r ⟨j.val * 128 + l.val, by omega⟩) = colM (fun i => QR m c (ix4 (pb t) (pos (pq t) r) j i)) l :=
  ((q_val m c t r _).trans (congrArg (fQ m c (pb t) (pos (pq t) r)) (funext fun k => allQ_main (A6 m c) k j l))).trans
    ((colM_lin (fQ m c (pb t) (pos (pq t) r)) (fQ_zero m c _ _) _ l).trans (congrArg (fun f => colM f l) (funext fun i => (QR_val m c _ _ _ _).symm)))

theorem q_swap (c : Dev nD) (t : Fin cfg0.N) (r : Fin 512) (j : Fin 8) (l : Fin 128) : MB m c t (ix2 r ⟨1024 + j.val * 128 + l.val, by omega⟩) = colS (fun i => QR m c (ix4 (pb t) (pos (pq t) r) j i)) l :=
  ((q_val m c t r _).trans (congrArg (fQ m c (pb t) (pos (pq t) r)) (funext fun k => allQ_swap (A6 m c) k j l))).trans
    ((colS_lin (fQ m c (pb t) (pos (pq t) r)) (fQ_zero m c _ _) _ l).trans (congrArg (fun f => colS f l) (funext fun i => (QR_val m c _ _ _ _).symm)))

/-- The body's keys and values. -/
abbrev KB (c : Dev nD) (t : Fin cfg0.N) : FVec Ideal S512x1536 .f32 := k0_pay29 (k0_pay5 (iblk m c 0 t) (iblk m c 1 t) (iblk m c 2 t) (iblk m c 3 t) (iblk m c 4 t)) (iblk m c 7 t) (iblk m c 8 t)

theorem kv_val (c : Dev nD) (t : Fin cfg0.N) (r : Fin 512) (e : Fin 1536) : KB m c t (ix2 r e) = fK m c (pb t) (pos (pq t) r) (fun k => allKV (A8 m c) (ix2 k e)) := by
  refine (pay29_apply (kvlat (PB m c t)) (iblk m c 7 t) (iblk m c 8 t) r e).trans ?_
  simp only [kvlat_apply, prod_kv, iblk_7, iblk_8, fK]

theorem kv_key (c : Dev nD) (t : Fin cfg0.N) (r : Fin 512) (j : Fin 8) (l : Fin 128) : KB m c t (ix2 r ⟨j.val * 128 + l.val, by omega⟩) = if l.val < 64 then KVR m c (ix4 (pb t) (pos (pq t) r) j l) else 0 :=
  ((kv_val m c t r _).trans (congrArg (fK m c (pb t) (pos (pq t) r)) (funext fun k => allKV_key (A8 m c) k j l))).trans
    ((ite_lin (fK m c (pb t) (pos (pq t) r)) (fK_zero m c _ _) _ _).trans (congrArg (fun x => if l.val < 64 then x else 0) (KVR_val m c _ _ _ _).symm))

theorem kv_value (c : Dev nD) (t : Fin cfg0.N) (r : Fin 512) (j : Fin 4) (l : Fin 128) : KB m c t (ix2 r ⟨1024 + j.val * 128 + l.val, by omega⟩) = KVR m c (ix4 (pb t) (pos (pq t) r) ⟨j.val * 2 + l.val / 64, by omega⟩ ⟨64 + l.val % 64, by omega⟩) :=
  ((kv_val m c t r _).trans (congrArg (fK m c (pb t) (pos (pq t) r)) (funext fun k => allKV_val (A8 m c) k j l))).trans (KVR_val m c (pb t) (pos (pq t) r) ⟨j.val * 2 + l.val / 64, by omega⟩ ⟨64 + l.val % 64, by omega⟩).symm

theorem val_13 (c : Dev nD) (t : Fin cfg0.N) (j : Fin 8) (r : Fin 512) (d : Fin 128) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 0 j r d) = qaR (QR m c) (cosA m c) (sinA m c) (ix4 (pb t) j (pos (pq t) r) d) := by
  refine ((out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j r d).trans ?_).trans (qaR_apply _ _ _ _ _ _ _).symm
  show (MB m c t _ * _ + MB m c t _ * _) * _ = _
  rw [q_main, q_swap, iblk_9, iblk_10, law]

/-- The array of the first attention's queries is the reference's of the argument arrays. -/
theorem final_13 (c : Dev nD) : (dats m 0 c).arrAt 13 cfg0.N = qaR (QR m c) (cosA m c) (sinA m c) := by
  refine (dats m 0 c).arrAt_eq_of_covers 13 _ (by decide +kernel) fun t hf y => ?_
  blk_simp
  rw [after0_13]
  have hy : y = ix4 0 (y 1) (y 2) (y 3) := by
    funext a
    fin_cases a
    · exact Subsingleton.elim (α := Fin 1) _ _
    · rfl
    · rfl
    · rfl
  rw [hy]
  refine (val_13 m c t (y 1) (y 2) (y 3)).trans (congrArg (qaR (QR m c) (cosA m c) (sinA m c)) (funext fun a => Fin.ext ?_))
  blk_simp
  rw [index_13]
  fin_cases a <;> simp [ix4, pos, pb, pq, win0_13]
  all_goals exact mul_comm _ _

theorem val_14 (c : Dev nD) (t : Fin cfg0.N) (j : Fin 8) (r : Fin 512) (d : Fin 128) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 0 j r d) = kaR (KVR m c) (PR m c) (cosA m c) (sinA m c) (ix4 (pb t) j (pos (pq t) r) d) := by
  refine ((out14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j r d).trans ?_).trans (kaR_apply _ _ _ _ _ _ _ _).symm
  show KB m c t _ + (PB m c t _ * _ + PB m c t _ * _) = _
  rw [kv_key, prod_k, prod_ks, iblk_9, iblk_10, law]

/-- The array of the first attention's keys is the reference's of the argument arrays. -/
theorem final_14 (c : Dev nD) : (dats m 0 c).arrAt 14 cfg0.N = kaR (KVR m c) (PR m c) (cosA m c) (sinA m c) := by
  refine (dats m 0 c).arrAt_eq_of_covers 14 _ (by decide +kernel) fun t hf y => ?_
  blk_simp
  rw [after0_14]
  have hy : y = ix4 0 (y 1) (y 2) (y 3) := by
    funext a
    fin_cases a
    · exact Subsingleton.elim (α := Fin 1) _ _
    · rfl
    · rfl
    · rfl
  rw [hy]
  refine (val_14 m c t (y 1) (y 2) (y 3)).trans (congrArg (kaR (KVR m c) (PR m c) (cosA m c) (sinA m c)) (funext fun a => Fin.ext ?_))
  blk_simp
  rw [index_14]
  fin_cases a <;> simp [ix4, pos, pb, pq, win0_14]
  all_goals exact mul_comm _ _

theorem val_15 (c : Dev nD) (t : Fin cfg0.N) (j : Fin 4) (r : Fin 512) (d : Fin 128) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 0 j r d) = vaR (KVR m c) (ix4 (pb t) j (pos (pq t) r) d) := by
  refine ((out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j r d).trans ?_).trans (vaR_apply _ _ _ _ _).symm
  show KB m c t _ = _
  rw [kv_value]

/-- The array of the first attention's values is the reference's of the argument arrays. -/
theorem final_15 (c : Dev nD) : (dats m 0 c).arrAt 15 cfg0.N = vaR (KVR m c) := by
  refine (dats m 0 c).arrAt_eq_of_covers 15 _ (by decide +kernel) fun t hf y => ?_
  blk_simp
  rw [after0_15]
  have hy : y = ix4 0 (y 1) (y 2) (y 3) := by
    funext a
    fin_cases a
    · exact Subsingleton.elim (α := Fin 1) _ _
    · rfl
    · rfl
    · rfl
  rw [hy]
  refine (val_15 m c t (y 1) (y 2) (y 3)).trans (congrArg (vaR (KVR m c)) (funext fun a => Fin.ext ?_))
  blk_simp
  rw [index_15]
  fin_cases a <;> simp [ix4, pos, pb, pq, win0_15]
  all_goals exact mul_comm _ _

theorem val_16 (c : Dev nD) (t : Fin cfg0.N) (j : Fin 4) (r : Fin 512) (d : Fin 128) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 0 j r d) = qbR (PR m c) (cosB m c) (sinB m c) (ix4 (pb t) j (pos (pq t) r) d) := by
  refine ((out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j r d).trans ?_).trans (qbR_apply _ _ _ _ _ _ _).symm
  show (PB m c t _ * _ + PB m c t _ * _) * _ = _
  rw [prod_qb, prod_qbs, iblk_11, iblk_12, lawB]
  rfl

/-- The array of the second attention's queries is the reference's of the argument arrays. -/
theorem final_16 (c : Dev nD) : (dats m 0 c).arrAt 16 cfg0.N = qbR (PR m c) (cosB m c) (sinB m c) := by
  refine (dats m 0 c).arrAt_eq_of_covers 16 _ (by decide +kernel) fun t hf y => ?_
  blk_simp
  rw [after0_16]
  have hy : y = ix4 0 (y 1) (y 2) (y 3) := by
    funext a
    fin_cases a
    · exact Subsingleton.elim (α := Fin 1) _ _
    · rfl
    · rfl
    · rfl
  rw [hy]
  refine (val_16 m c t (y 1) (y 2) (y 3)).trans (congrArg (qbR (PR m c) (cosB m c) (sinB m c)) (funext fun a => Fin.ext ?_))
  blk_simp
  rw [index_16]
  fin_cases a <;> simp [ix4, pos, pb, pq, win0_16]
  all_goals exact mul_comm _ _

theorem val_17 (c : Dev nD) (t : Fin cfg0.N) (j : Fin 4) (r : Fin 512) (d : Fin 128) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 0 j r d) = kbR (PR m c) (cosB m c) (sinB m c) (ix4 (pb t) j (pos (pq t) r) d) := by
  refine ((out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j r d).trans ?_).trans (kbR_apply _ _ _ _ _ _ _).symm
  show PB m c t _ * _ + PB m c t _ * _ = _
  rw [prod_kb, prod_kbs, iblk_11, iblk_12, lawB]
  rfl

/-- The array of the second attention's keys is the reference's of the argument arrays. -/
theorem final_17 (c : Dev nD) : (dats m 0 c).arrAt 17 cfg0.N = kbR (PR m c) (cosB m c) (sinB m c) := by
  refine (dats m 0 c).arrAt_eq_of_covers 17 _ (by decide +kernel) fun t hf y => ?_
  blk_simp
  rw [after0_17]
  have hy : y = ix4 0 (y 1) (y 2) (y 3) := by
    funext a
    fin_cases a
    · exact Subsingleton.elim (α := Fin 1) _ _
    · rfl
    · rfl
    · rfl
  rw [hy]
  refine (val_17 m c t (y 1) (y 2) (y 3)).trans (congrArg (kbR (PR m c) (cosB m c) (sinB m c)) (funext fun a => Fin.ext ?_))
  blk_simp
  rw [index_17]
  fin_cases a <;> simp [ix4, pos, pb, pq, win0_17]
  all_goals exact mul_comm _ _

theorem val_18 (c : Dev nD) (t : Fin cfg0.N) (j : Fin 4) (r : Fin 512) (d : Fin 128) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix4 0 j r d) = vbR (PR m c) (ix4 (pb t) j (pos (pq t) r) d) := by
  refine ((out18_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) j r d).trans ?_).trans (vbR_apply _ _ _ _ _).symm
  show PB m c t _ = _
  rw [prod_vb]

/-- The array of the second attention's values is the reference's of the argument arrays. -/
theorem final_18 (c : Dev nD) : (dats m 0 c).arrAt 18 cfg0.N = vbR (PR m c) := by
  refine (dats m 0 c).arrAt_eq_of_covers 18 _ (by decide +kernel) fun t hf y => ?_
  blk_simp
  rw [after0_18]
  have hy : y = ix4 0 (y 1) (y 2) (y 3) := by
    funext a
    fin_cases a
    · exact Subsingleton.elim (α := Fin 1) _ _
    · rfl
    · rfl
    · rfl
  rw [hy]
  refine (val_18 m c t (y 1) (y 2) (y 3)).trans (congrArg (vbR (PR m c)) (funext fun a => Fin.ext ?_))
  blk_simp
  rw [index_18]
  fin_cases a <;> simp [ix4, pos, pb, pq, win0_18]
  all_goals exact mul_comm _ _

end Cert.Kernel6Ideal.Hand

end
-- ==== Proof.Soft7.lean ====
/- Sums and suprema over a band of keys: what a query does not see gives nothing to its row. -/
module

public import proofs.«01_k».proof.Proof.Soft2

@[expose] public section

noncomputable section

namespace Cert.Soft

open Idealize.ShloMosaic

/-- A sum over a window is the sum over everything, where everything else is zero. -/
theorem win_sum {w N : ℕ} (a : ℕ) (h : a + w ≤ N) (g : Fin N → EReal) (h0 : ∀ p : Fin N, ¬(a ≤ p.val ∧ p.val < a + w) → g p = 0) :
    ∑ k : Fin w, g ⟨a + k.val, by omega⟩ = ∑ p, g p := by
  refine Fintype.sum_of_injective (fun k : Fin w => (⟨a + k.val, by omega⟩ : Fin N)) ?_ _ _ ?_ fun _ => rfl
  · intro x y e
    have := congrArg Fin.val e
    exact Fin.ext (by dsimp only at this; omega)
  · intro p hp
    refine h0 p fun ⟨h1, h2⟩ => hp ⟨⟨p.val - a, by omega⟩, Fin.ext ?_⟩
    show a + (p.val - a) = p.val
    omega

/-- A supremum over a window is the supremum over everything, where everything else is least. -/
theorem win_sup {w N : ℕ} (a : ℕ) (h : a + w ≤ N) (g : Fin N → EReal) (h0 : ∀ p : Fin N, ¬(a ≤ p.val ∧ p.val < a + w) → g p = ⊥) :
    (Finset.univ.sup fun k : Fin w => g ⟨a + k.val, by omega⟩) = Finset.univ.sup g := by
  refine le_antisymm (Finset.sup_le fun k _ => Finset.le_sup (f := g) (Finset.mem_univ _)) (Finset.sup_le fun p _ => ?_)
  by_cases hp : a ≤ p.val ∧ p.val < a + w
  · have e : p = ⟨a + (⟨p.val - a, by omega⟩ : Fin w).val, by omega⟩ := Fin.ext (by show p.val = a + (p.val - a); omega)
    refine le_trans (le_of_eq (congrArg g e)) (Finset.le_sup (f := fun k : Fin w => g ⟨a + k.val, by omega⟩) (Finset.mem_univ _))
  · rw [h0 p hp]; exact bot_le

/-- A row over every key, over the keys behind 512 keys of padding. -/
def behind (z : EReal) (f : Fin 4096 → EReal) (p : Fin 4608) : EReal := if h : 512 ≤ p.val then f ⟨p.val - 512, by omega⟩ else z

theorem behind_lo (z : EReal) (f : Fin 4096 → EReal) (p : Fin 4608) (h : ¬ 512 ≤ p.val) : behind z f p = z := dif_neg h
theorem behind_hi (z : EReal) (f : Fin 4096 → EReal) (j : Fin 4096) : behind z f ⟨512 + j.val, by omega⟩ = f j := by
  unfold behind
  rw [dif_pos (show 512 ≤ 512 + j.val by omega)]
  exact congrArg f (Fin.ext (by show 512 + j.val - 512 = j.val; omega))

/-- A sum over a tile's band of keys is the sum over every key. -/
theorem band_sum (t : ℕ) (ht : t < 16) (f : Fin 4096 → EReal) (h0 : ∀ j : Fin 4096, ¬(256 * t ≤ j.val + 512 ∧ j.val < 256 * t + 256) → f j = 0) :
    ∑ k : Fin 768, behind 0 f ⟨256 * t + k.val, by omega⟩ = ∑ j, f j := by
  rw [win_sum (256 * t) (by omega) (behind 0 f) fun p hp => ?_, ← win_sum (w := 4096) 512 (by omega) (behind 0 f) fun p hp => behind_lo _ _ _ (by omega)]
  · exact Finset.sum_congr rfl fun j _ => behind_hi 0 f j
  · by_cases h : 512 ≤ p.val
    · unfold behind
      rw [dif_pos h]
      exact h0 _ (by dsimp only; omega)
    · exact behind_lo _ _ _ h

/-- The same for the supremum. -/
theorem band_sup (t : ℕ) (ht : t < 16) (f : Fin 4096 → EReal) (h0 : ∀ j : Fin 4096, ¬(256 * t ≤ j.val + 512 ∧ j.val < 256 * t + 256) → f j = ⊥) :
    (Finset.univ.sup fun k : Fin 768 => behind ⊥ f ⟨256 * t + k.val, by omega⟩) = Finset.univ.sup f := by
  rw [win_sup (256 * t) (by omega) (behind ⊥ f) fun p hp => ?_, ← win_sup (w := 4096) 512 (by omega) (behind ⊥ f) fun p hp => behind_lo _ _ _ (by omega)]
  · exact Finset.sup_congr rfl fun j _ => behind_hi ⊥ f j
  · by_cases h : 512 ≤ p.val
    · unfold behind
      rw [dif_pos h]
      exact h0 _ (by dsimp only; omega)
    · exact behind_lo _ _ _ h

/-- A softmax row over a tile's band of keys is the one over every key. -/
theorem band (t : ℕ) (ht : t < 16) (s v : Fin 4096 → EReal) (h0 : ∀ j : Fin 4096, ¬(256 * t ≤ j.val + 512 ∧ j.val < 256 * t + 256) → s j = ⊥)
    (sK vK : Fin 768 → EReal) (hs : ∀ k, sK k = behind ⊥ s ⟨256 * t + k.val, by omega⟩)
    (hv : ∀ k : Fin 768, (h : 512 ≤ 256 * t + k.val) → vK k = v ⟨256 * t + k.val - 512, by omega⟩) :
    Ideal.div (∑ k, Ideal.exp2 (sK k - Finset.univ.sup sK) * vK k) (∑ k, Ideal.exp2 (sK k - Finset.univ.sup sK))
      = Ideal.div (∑ j, Ideal.exp2 (s j - Finset.univ.sup s) * v j) (∑ j, Ideal.exp2 (s j - Finset.univ.sup s)) := by
  have hM : Finset.univ.sup sK = Finset.univ.sup s := (Finset.sup_congr rfl fun k _ => hs k).trans (band_sup t ht s h0)
  have hb : ∀ M : EReal, Ideal.exp2 (⊥ - M) = 0 := fun M => by rw [sub_eq_add_neg, EReal.bot_add, exp2_bot]
  rw [hM]
  congr 1
  · rw [← band_sum t ht (fun j => Ideal.exp2 (s j - Finset.univ.sup s) * v j) fun j hj => by rw [h0 j hj, hb, zero_mul]]
    refine Finset.sum_congr rfl fun k _ => ?_
    rw [hs k]
    unfold behind
    by_cases h : 512 ≤ 256 * t + k.val
    · rw [dif_pos h, dif_pos h, hv k h]
    · rw [dif_neg h, dif_neg h, hb, zero_mul]
  · rw [← band_sum t ht (fun j => Ideal.exp2 (s j - Finset.univ.sup s)) fun j hj => by rw [h0 j hj, hb]]
    refine Finset.sum_congr rfl fun k _ => ?_
    rw [hs k]
    unfold behind
    by_cases h : 512 ≤ 256 * t + k.val
    · rw [dif_pos h, dif_pos h]
    · rw [dif_neg h, dif_neg h, hb]

/-- A distance, clipped to 128 each way and counted from zero. -/
abbrev clipW (x : BitVec 32) : BitVec 32 := IntOp.addi (IntOp.minsi 128#32 (IntOp.maxsi 4294967168#32 x)) 128#32

theorem clipW_fin : ∀ d : Fin 8192, clipW (BitVec.ofNat 32 d.val - 4096#32) = BitVec.ofNat 32 (min (d.val - 3968) 256) := by decide +kernel

theorem clipW_eq (a b : ℕ) (ha : a < 4096) (hb : b < 4096) : clipW (IntOp.subi (BitVec.ofNat 32 a) (BitVec.ofNat 32 b)) = BitVec.ofNat 32 (min (a + 128 - b) 256) := by
  have e : IntOp.subi (BitVec.ofNat 32 a) (BitVec.ofNat 32 b) = BitVec.ofNat 32 (a + 4096 - b) - 4096#32 := by
    show BitVec.ofNat 32 a - BitVec.ofNat 32 b = _
    apply BitVec.eq_of_toNat_eq
    simp only [BitVec.toNat_sub, BitVec.toNat_ofNat]
    omega
  rw [e]
  refine (clipW_fin ⟨a + 4096 - b, by omega⟩).trans (congrArg (BitVec.ofNat 32) ?_)
  show min (a + 4096 - b - 3968) 256 = _
  omega

end Cert.Soft

end
-- ==== Proof.C7Tile.lean ====
/- One tile of queries of the chunked attention, over the extended reals. -/
module

public import proofs.«01_k».proof.Proof.Soft7
public import proofs.«01_k».proof.Proof.Gen.Kernel7Ideal.Frame
public import Idealize.ShloMosaic.Lib.Tactic.CleanTypes

@[expose] public section

set_option maxRecDepth 16384

noncomputable section

namespace Cert.Kernel7Ideal.Hand

open Cert.Kernel7Ideal Cert.Kernel7Ideal.Gen
open Idealize.ShloMosaic Idealize.ShloMosaic.TcCoe Idealize.SL Idealize.SL.Sem Cert.Soft

/-- Which of the tile's keys lie in the sequence. -/
def okT (w : BitVec 32) : IVec S1x768 1 := cmpi .sge (addi (iota .tc S1x768 32 [1] iota_S1x768_d1_w32) (broadcast S1x768 w)) (broadcast S1x768 512#32)
/-- The first head's queries, the other lanes zero. -/
def loT (q : FVec Ideal S256x128 .bf16) : FVec Ideal S256x128 .bf16 := select (andi (cmpi .sge (iota .tc S256x128 32 [1] iota_S256x128_d1_w32) (broadcast S256x128 0#32)) (cmpi .slt (iota .tc S256x128 32 [1] iota_S256x128_d1_w32) (broadcast S256x128 64#32))) q (broadcast S256x128 (Scalar.ofBits .bf16 0x0000#16))
/-- The second head's queries, the other lanes zero. -/
def hiT (q : FVec Ideal S256x128 .bf16) : FVec Ideal S256x128 .bf16 := select (andi (cmpi .sge (iota .tc S256x128 32 [1] iota_S256x128_d1_w32) (broadcast S256x128 64#32)) (cmpi .slt (iota .tc S256x128 32 [1] iota_S256x128_d1_w32) (broadcast S256x128 128#32))) q (broadcast S256x128 (Scalar.ofBits .bf16 0x0000#16))
/-- The masked scores of a tile. -/
def scoreT (qm : FVec Ideal S256x128 .bf16) (k : FVec Ideal S768x128 .bf16) (b : FVec Ideal S1x256x768 .f32) (ok : IVec S1x768 1) : FVec Ideal S256x768 .f32 :=
  select (broadcastTo S256x768 (shapeCast S1x768 ok shapeCasts_S1x768_S1x768) broadcasts_S1x768_S256x768) (addf (matmul dot_S256x128_S768x128_S256x768_1_1_0_0_n_n none qm k (constant S256x768 .f32 0x00000000#32)) (shapeCast S256x768 b shapeCasts_S1x256x768_S256x768)) (broadcast S256x768 (Scalar.ofBits .f32 0xFF800000#32))
/-- The weights before the division. -/
def expT (s : FVec Ideal S256x768 .f32) : FVec Ideal S256x768 .f32 :=
  exp2 (subf s (broadcastTo S256x768 (shapeCast S256x1 (multiReduction .maximumf [1] S256 s 0xFF800000#32 reduces_S256x768_S256 (.inl rfl) rfl) shapeCasts_S256_S256x1) broadcasts_S256x1_S256x768))
/-- The weighted values over the weights' sum. -/
def headT (e : FVec Ideal S256x768 .f32) (v : FVec Ideal S768x128 .bf16) : FVec Ideal S256x128 .f32 :=
  divf (matmul dot_S256x768_S768x128_S256x128_1_0_0_1_n_n none (truncf .bf16 e bitsLt_bf16_f32) v (constant S256x128 .f32 0x00000000#32)) (broadcastTo S256x128 (shapeCast S256x1 (multiReduction .add [1] S256 e 0x00000000#32 reduces_S256x768_S256 (.inl rfl) rfl) shapeCasts_S256_S256x1) broadcasts_S256x1_S256x128)
/-- The two heads side by side. -/
def joinT (a b : FVec Ideal S256x128 .f32) : FVec Ideal S1x256x128 .bf16 :=
  shapeCast S1x256x128 (truncf .bf16 (select (cmpi .slt (iota .tc S256x128 32 [1] iota_S256x128_d1_w32) (broadcast S256x128 64#32)) a b) bitsLt_bf16_f32) shapeCasts_S256x128_S1x256x128
/-- The whole tile. -/
def tileT (w : BitVec 32) (q : FVec Ideal S1x1x256x128 .bf16) (k v : FVec Ideal S1x1x768x128 .bf16) (b0 b1 : FVec Ideal S1x256x768 .f32) : FVec Ideal S1x256x128 .bf16 :=
  joinT (headT (expT (scoreT (loT (shapeCast S256x128 q shapeCasts_S1x1x256x128_S256x128)) (shapeCast S768x128 k shapeCasts_S1x1x768x128_S768x128) b0 (okT w))) (shapeCast S768x128 v shapeCasts_S1x1x768x128_S768x128))
    (headT (expT (scoreT (hiT (shapeCast S256x128 q shapeCasts_S1x1x256x128_S256x128)) (shapeCast S768x128 k shapeCasts_S1x1x768x128_S768x128) b1 (okT w))) (shapeCast S768x128 v shapeCasts_S1x1x768x128_S768x128))

/-- The first position of sub-tile `r` of tile `i`. -/
abbrev tw (i : grid1.Coords) (r : BitVec 32) : BitVec 32 := Scalar.muli (Scalar.addi (Scalar.muli (BitVec.ofNat 32 (i 2).val) 4#32) r) 256#32

theorem ge_fin : ∀ (t : Fin 16) (k : Fin 768), IntOp.cmpi .sge (IntOp.addi (BitVec.ofNat 32 k.val) (BitVec.ofNat 32 (256 * t.val))) 512#32 = if 512 ≤ 256 * t.val + k.val then 1#1 else 0#1 := by decide +kernel

theorem okT_apply (t : Fin 16) (k : Fin 768) : okT (BitVec.ofNat 32 (256 * t.val)) (ix2 0 k) = if 512 ≤ 256 * t.val + k.val then 1#1 else 0#1 := by
  pointwise [okT]
  exact ge_fin t k

theorem lo_fin : ∀ x : Fin 128, IntOp.andi (IntOp.cmpi .sge (BitVec.ofNat 32 x.val) 0#32) (IntOp.cmpi .slt (BitVec.ofNat 32 x.val) 64#32) = if x.val / 64 = (0 : Fin 2).val then 1#1 else 0#1 := by decide +kernel
theorem hi_fin : ∀ x : Fin 128, IntOp.andi (IntOp.cmpi .sge (BitVec.ofNat 32 x.val) 64#32) (IntOp.cmpi .slt (BitVec.ofNat 32 x.val) 128#32) = if x.val / 64 = (1 : Fin 2).val then 1#1 else 0#1 := by decide +kernel
theorem lt_fin : ∀ x : Fin 128, IntOp.cmpi .slt (BitVec.ofNat 32 x.val) 64#32 = if x.val < 64 then 1#1 else 0#1 := by decide +kernel

theorem loT_apply (q : FVec Ideal S256x128 .bf16) (r : Fin 256) (x : Fin 128) : loT q (ix2 r x) = if x.val / 64 = (0 : Fin 2).val then q (ix2 r x) else 0 := by
  pointwise [loT]
  rw [lo_fin]
  by_cases h : x.val / 64 = (0 : Fin 2).val
  · rw [if_pos h]; exact (if_pos h).symm
  · rw [if_neg h]; exact (if_neg h).symm

theorem hiT_apply (q : FVec Ideal S256x128 .bf16) (r : Fin 256) (x : Fin 128) : hiT q (ix2 r x) = if x.val / 64 = (1 : Fin 2).val then q (ix2 r x) else 0 := by
  pointwise [hiT]
  rw [hi_fin]
  by_cases h : x.val / 64 = (1 : Fin 2).val
  · rw [if_pos h]; exact (if_pos h).symm
  · rw [if_neg h]; exact (if_neg h).symm

theorem scoreT_apply (qm : FVec Ideal S256x128 .bf16) (k : FVec Ideal S768x128 .bf16) (b : FVec Ideal S1x256x768 .f32) (ok : IVec S1x768 1) (r : Fin 256) (j : Fin 768) :
    scoreT qm k b ok (ix2 r j) = Scalar.select (ok (ix2 0 j)) (∑ x : Fin 128, qm (ix2 r x) * k (ix2 j x) + b (ix3 0 r j)) ⊥ := by
  pointwise [scoreT]
  rw [ofBits_ninf]

theorem expT_apply (s : FVec Ideal S256x768 .f32) (r : Fin 256) (j : Fin 768) :
    expT s (ix2 r j) = Ideal.exp2 (s (ix2 r j) - Finset.univ.sup fun k : Fin 768 => s (ix2 r k)) := by
  pointwise [expT]
  rw [ofBits_ninf]; rfl

theorem headT_apply (e : FVec Ideal S256x768 .f32) (v : FVec Ideal S768x128 .bf16) (r : Fin 256) (x : Fin 128) :
    headT e v (ix2 r x) = Ideal.div (∑ k : Fin 768, e (ix2 r k) * v (ix2 k x)) (∑ k : Fin 768, e (ix2 r k)) := by
  pointwise [headT]

theorem joinT_apply (a b : FVec Ideal S256x128 .f32) (r : Fin 256) (x : Fin 128) :
    joinT a b (ix3 0 r x) = if x.val < 64 then a (ix2 r x) else b (ix2 r x) := by
  pointwise [joinT]
  rw [lt_fin]
  split <;> rfl

/-- A tile's score, of its blocks. -/
def sT (t : Fin 16) (q : FVec Ideal S1x1x256x128 .bf16) (k : FVec Ideal S1x1x768x128 .bf16) (b : FVec Ideal S1x256x768 .f32) (c : Fin 2) (r : Fin 256) (j : Fin 768) : EReal :=
  if 512 ≤ 256 * t.val + j.val then ∑ x : Fin 64, q (ix4 0 0 r (half c x)) * k (ix4 0 0 j (half c x)) + b (ix3 0 r j) else ⊥

theorem tileT_apply (t : Fin 16) (q : FVec Ideal S1x1x256x128 .bf16) (k v : FVec Ideal S1x1x768x128 .bf16) (b0 b1 : FVec Ideal S1x256x768 .f32) (r : Fin 256) (x : Fin 128) (c : Fin 2) (hc : c.val = x.val / 64) (b : FVec Ideal S1x256x768 .f32) (hb : b = if c.val = 0 then b0 else b1) :
    tileT (BitVec.ofNat 32 (256 * t.val)) q k v b0 b1 (ix3 0 r x)
      = Ideal.div (∑ j : Fin 768, Ideal.exp2 (sT t q k b c r j - Finset.univ.sup (sT t q k b c r)) * v (ix4 0 0 j x)) (∑ j : Fin 768, Ideal.exp2 (sT t q k b c r j - Finset.univ.sup (sT t q k b c r))) := by
  have hq : ∀ (r : Fin 256) (x : Fin 128), shapeCast S256x128 q shapeCasts_S1x1x256x128_S256x128 (ix2 r x) = q (ix4 0 0 r x) := fun r x => by pointwise
  have hk : ∀ (k : FVec Ideal S1x1x768x128 .bf16) (r : Fin 768) (x : Fin 128), shapeCast S768x128 k shapeCasts_S1x1x768x128_S768x128 (ix2 r x) = k (ix4 0 0 r x) := fun k r x => by pointwise
  have h0 : ∀ (d : Fin 2) (f g : Fin 128 → EReal), (∑ x : Fin 128, (if x.val / 64 = d.val then f x else 0) * g x) = ∑ y : Fin 64, f (half d y) * g (half d y) := fun d f g => by
    rw [← sum_half d fun x => f x * g x]
    refine Finset.sum_congr rfl fun x _ => ?_
    split
    · rfl
    · exact zero_mul _
  have hlo : ∀ j, scoreT (loT (shapeCast S256x128 q shapeCasts_S1x1x256x128_S256x128)) (shapeCast S768x128 k shapeCasts_S1x1x768x128_S768x128) b0 (okT (BitVec.ofNat 32 (256 * t.val))) (ix2 r j) = sT t q k b0 0 r j := fun j => by
    rw [scoreT_apply, okT_apply]
    simp only [loT_apply, hq, hk, h0]
    unfold sT
    split <;> rfl
  have hhi : ∀ j, scoreT (hiT (shapeCast S256x128 q shapeCasts_S1x1x256x128_S256x128)) (shapeCast S768x128 k shapeCasts_S1x1x768x128_S768x128) b1 (okT (BitVec.ofNat 32 (256 * t.val))) (ix2 r j) = sT t q k b1 1 r j := fun j => by
    rw [scoreT_apply, okT_apply]
    simp only [hiT_apply, hq, hk, h0]
    unfold sT
    split <;> rfl
  unfold tileT
  rw [joinT_apply, headT_apply, headT_apply]
  simp only [expT_apply, hlo, hhi, hk]
  by_cases hx : x.val < 64
  · obtain rfl : c = 0 := Fin.ext (by rw [hc]; show x.val / 64 = 0; omega)
    obtain rfl : b = b0 := hb
    rw [if_pos hx]
  · obtain rfl : c = 1 := Fin.ext (by rw [hc]; show x.val / 64 = 1; omega)
    obtain rfl : b = b1 := hb
    rw [if_neg hx]

end Cert.Kernel7Ideal.Hand

end
-- ==== Proof.C7Bias.lean ====
/- The table of biases that the first region of the chunked attention's call leaves, over the extended reals. -/
module

public import proofs.«01_k».proof.Proof.Soft7
public import proofs.«01_k».proof.Proof.Gen.Kernel7Ideal.Frame
public import Idealize.ShloMosaic.Lib.Tactic.CleanTypes

@[expose] public section

set_option maxRecDepth 16384

noncomputable section

namespace Cert.Kernel7Ideal.Hand

open Cert.Kernel7Ideal Cert.Kernel7Ideal.Gen
open Idealize.ShloMosaic Idealize.ShloMosaic.TcCoe Idealize.SL Idealize.SL.Sem Cert.Soft
open Idealize.ShloMosaic.Pipeline (Dat Cfg Window)

/-- The scalar chunk of a query. -/
abbrev qcW (q : BitVec 32) : BitVec 32 := Scalar.select (Scalar.andi (Scalar.cmpi .ne (Scalar.subi (Scalar.extui (Scalar.cmpi .sgt q 0#32)) (Scalar.extui (Scalar.cmpi .slt q 0#32))) (Scalar.subi (Scalar.extui (Scalar.cmpi .sgt 64#32 0#32)) (Scalar.extui (Scalar.cmpi .slt 64#32 0#32)))) (Scalar.cmpi .ne (Scalar.remsi q 64#32) 0#32)) (Scalar.subi (Scalar.divsi q 64#32) 1#32) (Scalar.divsi q 64#32)

/-- The biases of one query row: the table's columns taken by a product with zeros and ones, then scaled and masked. -/
def tileB (x0 : FVec Ideal S16x384 .f32) (q : BitVec 32) : FVec Ideal S1x16x768 .f32 :=
  k0_pay6 (iota .tc S1x768 32 [1] iota_S1x768_d1_w32)
    (matmul dot_S16x384_S384x768_S16x768_1_0_0_1_n_n (some .fp32) x0
      (sitofp .f32 (extui 32 (cmpi .eq (iota .tc S384x768 32 [0] iota_S384x768_d0_w32)
        (addi (minsi (broadcast S384x768 128#32) (maxsi (broadcast S384x768 4294967168#32) (subi (broadcast S384x768 (Scalar.addi q 512#32)) (iota .tc S384x768 32 [1] iota_S384x768_d1_w32)))) (broadcast S384x768 128#32))) natLt_1_32))
      (constant S16x768 .f32 0x00000000#32))
    (qcW q) 64#32 k0_pay4 k0_pay5

theorem qcW_fin : ∀ n : Fin 256, qcW (BitVec.ofNat 32 n.val) = BitVec.ofNat 32 (n.val / 64) := by decide +kernel

/-- The one-hot entry of a row and a column. -/
theorem hot (r : Fin 384) (d : ℕ) (hd : d < 384) :
    (FloatOps.sitofp FTy.f32 (BitVec.setWidth 32 (IntOp.cmpi .eq (BitVec.ofNat 32 r.val) (BitVec.ofNat 32 d))) : Ideal .f32) = if r.val = d then 1 else 0 := by
  rw [WordCmp.cmpi_eq_ofNat (by omega) (by omega)]
  by_cases h : r.val = d
  · rw [if_pos h, decide_eq_true h]
    show (((BitVec.setWidth 32 (BitVec.ofBool true)).toInt : ℝ) : EReal) = 1
    have e : (BitVec.setWidth 32 (BitVec.ofBool true)).toInt = 1 := by decide
    rw [e]; simp
  · rw [if_neg h, decide_eq_false h]
    show (((BitVec.setWidth 32 (BitVec.ofBool false)).toInt : ℝ) : EReal) = 0
    have e : (BitVec.setWidth 32 (BitVec.ofBool false)).toInt = 0 := by decide
    rw [e]; simp

theorem tileB_apply (x0 : FVec Ideal S16x384 .f32) (n : ℕ) (hn : n < 256) (h : Fin 16) (k : Fin 768) :
    tileB x0 (BitVec.ofNat 32 n) (ix3 0 h k) = if n / 64 ≤ k.val / 64 ∧ k.val / 64 ≤ n / 64 + 8 then x0 (ix2 h ⟨min (n + 640 - k.val) 256, by omega⟩) * Ideal.ofBits .f32 0x3FB8AA3B#32 else ⊥ := by
  have hq := qcW_fin ⟨n, hn⟩
  dsimp only at hq
  unfold tileB
  rw [hq]
  pointwise [k0_pay6, k0_pay4, k0_pay5]
  have hk : Scalar.select
            (IntOp.andi
              (IntOp.cmpi CmpIPredicate.ne
                (IntOp.subi (BitVec.setWidth 32 (IntOp.cmpi CmpIPredicate.sgt (BitVec.ofNat 32 k.val) 0#32))
                  (BitVec.setWidth 32 (IntOp.cmpi CmpIPredicate.slt (BitVec.ofNat 32 k.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 k.val) 64#32) 0#32))
            (IntOp.subi (IntOp.divsi ArithUnit.vector (BitVec.ofNat 32 k.val) 64#32) 1#32)
            (IntOp.divsi ArithUnit.vector (BitVec.ofNat 32 k.val) 64#32) = BitVec.ofNat 32 (k.val / 64) := floor64_eq k.val (by omega)
  have hd : IntOp.addi (IntOp.minsi 128#32 (IntOp.maxsi 4294967168#32 (IntOp.subi (Scalar.addi (BitVec.ofNat 32 n) 512#32) (BitVec.ofNat 32 k.val)))) 128#32 = BitVec.ofNat 32 (min (n + 640 - k.val) 256) := by
    have e : Scalar.addi (BitVec.ofNat 32 n) 512#32 = BitVec.ofNat 32 (n + 512) := (BitVec.ofNat_add _ _).symm
    rw [e]
    exact clipW_eq (n + 512) k.val (by omega) (by omega)
  have hs : ∀ x : Fin 384, x0 (ix2 h x) * (FloatOps.sitofp FTy.f32 (BitVec.setWidth 32 (IntOp.cmpi .eq (BitVec.ofNat 32 x.val) (BitVec.ofNat 32 (min (n + 640 - k.val) 256)))) : Ideal .f32)
      = if x = ⟨min (n + 640 - k.val) 256, by omega⟩ then x0 (ix2 h x) else 0 := fun x => by
    rw [hot x _ (by omega)]
    by_cases e : x.val = min (n + 640 - k.val) 256
    · rw [if_pos e, if_pos (Fin.ext e)]; exact mul_one _
    · rw [if_neg e, if_neg fun f => e (congrArg Fin.val f)]; exact mul_zero _
  have e8 : Scalar.addi (BitVec.ofNat 32 (n / 64)) 8#32 = BitVec.ofNat 32 (n / 64 + 8) := (BitVec.ofNat_add _ _).symm
  rw [hk, hd, e8, Finset.sum_congr rfl fun x _ => hs x, Finset.sum_ite_eq' Finset.univ, if_pos (Finset.mem_univ _), ofBits_ninf]
  have hm : IntOp.andi (IntOp.cmpi .sge (BitVec.ofNat 32 (k.val / 64)) (BitVec.ofNat 32 (n / 64))) (IntOp.cmpi .sle (BitVec.ofNat 32 (k.val / 64)) (BitVec.ofNat 32 (n / 64 + 8))) = 1#1
      ↔ n / 64 ≤ k.val / 64 ∧ k.val / 64 ≤ n / 64 + 8 := by
    rw [IntOp.andi_eq_one]
    exact and_congr (WordCmp.cmpi_sle_ofNat_eq_one_iff (by omega) (by omega)) (WordCmp.cmpi_sle_ofNat_eq_one_iff (by omega) (by omega))
  by_cases g : n / 64 ≤ k.val / 64 ∧ k.val / 64 ≤ n / 64 + 8
  · rw [if_pos g, hm.mpr g]; rfl
  · rw [if_neg g]; exact if_neg fun e => g (hm.mp e)

end Cert.Kernel7Ideal.Hand

end
-- ==== Proof.C7Pc.lean ====
/- The pieces of the chunked attention's tiles. -/
module

public import proofs.«01_k».proof.Proof.C7Tile
public import proofs.«01_k».proof.Proof.C7Bias

@[expose] public section

set_option maxRecDepth 16384

noncomputable section

namespace Cert.Kernel7Ideal.Hand

open Cert.Kernel7Ideal Cert.Kernel7Ideal.Gen
open Idealize.ShloMosaic Idealize.ShloMosaic.TcCoe Idealize.SL Idealize.SL.Sem Cert.Soft
open Idealize.ShloMosaic.Pipeline (Dat Cfg Window)

/-- The query word of row `j` of a tile of biases. -/
abbrev bw (i : grid0.Coords) (j : BitVec 32) : BitVec 32 := Scalar.addi (Scalar.muli (BitVec.ofNat 32 (i 0).val) 8#32) j

theorem out0_eq (i : grid0.Coords) (x0 : Vec Ideal S16x384 .f32) :
    out0_1 i x0 = View.canon [⟨r0_8, tileB (k0_pay2 (View.ld x0 r0_0)) (bw i 7#32)⟩, ⟨r0_7, tileB (k0_pay2 (View.ld x0 r0_0)) (bw i 6#32)⟩, ⟨r0_6, tileB (k0_pay2 (View.ld x0 r0_0)) (bw i 5#32)⟩, ⟨r0_5, tileB (k0_pay2 (View.ld x0 r0_0)) (bw i 4#32)⟩, ⟨r0_4, tileB (k0_pay2 (View.ld x0 r0_0)) (bw i 3#32)⟩, ⟨r0_3, tileB (k0_pay2 (View.ld x0 r0_0)) (bw i 2#32)⟩, ⟨r0_2, tileB (k0_pay2 (View.ld x0 r0_0)) (bw i 1#32)⟩, ⟨r0_1, tileB (k0_pay2 (View.ld x0 r0_0)) (bw i 0#32)⟩] := by
  rfl

theorem pieces (c : Dev nD) (i : grid1.Coords) (arg3 : Memref sig .tc .vmem S1x1x1024x128 .bf16) (harg3 : arg3.IsWhole) (arg4 : Memref sig .tc .vmem S1x1x4608x128 .bf16) (harg4 : arg4.IsWhole) (arg5 : Memref sig .tc .vmem S1x1x4608x128 .bf16) (harg5 : arg5.IsWhole) (arg6 : Memref sig .tc .vmem S2x256x768 .f32) (harg6 : arg6.IsWhole) (arg7 : Memref sig .tc .vmem S1x1024x128 .bf16) (harg7 : arg7.IsWhole)
    (x0 : Vec Ideal S1x1x1024x128 .bf16) (x1 : Vec Ideal S1x1x4608x128 .bf16) (x2 : Vec Ideal S1x1x4608x128 .bf16) (x3 : Vec Ideal S2x256x768 .f32) :
    (kernelRun1_A (F := Ideal) c i arg3 harg3 arg4 harg4 arg5 harg5 arg6 harg6 arg7 harg7 x0 x1 x2 x3).1 = [
      ⟨Rect.unit ![0, 768, 0] ![1, 256, 128] inb_S1x1024x128_S1x256x128_0_768_0, tileT (tw i 3#32) (View.readAt (Elt Ideal) arg3.view (Rect.unit (s := S1x1x1024x128) ![0, 0, 768, 0] S1x1x256x128.size inb_S1x1x1024x128_S1x1x256x128_0_0_768_0).toLoadRect (harg3.unread x0))
        (View.readAt (Elt Ideal) arg4.view (Rect.unit (s := S1x1x4608x128) (k1_off1 i 3#32) S1x1x768x128.size (k1_off1_inb i 3)).toLoadRect (harg4.unread x1)) (View.readAt (Elt Ideal) arg5.view (Rect.unit (s := S1x1x4608x128) (k1_off1 i 3#32) S1x1x768x128.size (k1_off1_inb i 3)).toLoadRect (harg5.unread x2))
        (View.readAt (Elt Ideal) arg6.view (Rect.unit (s := S2x256x768) ![0, 0, 0] S1x256x768.size inb_S2x256x768_S1x256x768_0_0_0).toLoadRect (harg6.unread x3)) (View.readAt (Elt Ideal) arg6.view (Rect.unit (s := S2x256x768) ![1, 0, 0] S1x256x768.size inb_S2x256x768_S1x256x768_1_0_0).toLoadRect (harg6.unread x3))⟩,
      ⟨Rect.unit ![0, 512, 0] ![1, 256, 128] inb_S1x1024x128_S1x256x128_0_512_0, tileT (tw i 2#32) (View.readAt (Elt Ideal) arg3.view (Rect.unit (s := S1x1x1024x128) ![0, 0, 512, 0] S1x1x256x128.size inb_S1x1x1024x128_S1x1x256x128_0_0_512_0).toLoadRect (harg3.unread x0))
        (View.readAt (Elt Ideal) arg4.view (Rect.unit (s := S1x1x4608x128) (k1_off1 i 2#32) S1x1x768x128.size (k1_off1_inb i 2)).toLoadRect (harg4.unread x1)) (View.readAt (Elt Ideal) arg5.view (Rect.unit (s := S1x1x4608x128) (k1_off1 i 2#32) S1x1x768x128.size (k1_off1_inb i 2)).toLoadRect (harg5.unread x2))
        (View.readAt (Elt Ideal) arg6.view (Rect.unit (s := S2x256x768) ![0, 0, 0] S1x256x768.size inb_S2x256x768_S1x256x768_0_0_0).toLoadRect (harg6.unread x3)) (View.readAt (Elt Ideal) arg6.view (Rect.unit (s := S2x256x768) ![1, 0, 0] S1x256x768.size inb_S2x256x768_S1x256x768_1_0_0).toLoadRect (harg6.unread x3))⟩,
      ⟨Rect.unit ![0, 256, 0] ![1, 256, 128] inb_S1x1024x128_S1x256x128_0_256_0, tileT (tw i 1#32) (View.readAt (Elt Ideal) arg3.view (Rect.unit (s := S1x1x1024x128) ![0, 0, 256, 0] S1x1x256x128.size inb_S1x1x1024x128_S1x1x256x128_0_0_256_0).toLoadRect (harg3.unread x0))
        (View.readAt (Elt Ideal) arg4.view (Rect.unit (s := S1x1x4608x128) (k1_off1 i 1#32) S1x1x768x128.size (k1_off1_inb i 1)).toLoadRect (harg4.unread x1)) (View.readAt (Elt Ideal) arg5.view (Rect.unit (s := S1x1x4608x128) (k1_off1 i 1#32) S1x1x768x128.size (k1_off1_inb i 1)).toLoadRect (harg5.unread x2))
        (View.readAt (Elt Ideal) arg6.view (Rect.unit (s := S2x256x768) ![0, 0, 0] S1x256x768.size inb_S2x256x768_S1x256x768_0_0_0).toLoadRect (harg6.unread x3)) (View.readAt (Elt Ideal) arg6.view (Rect.unit (s := S2x256x768) ![1, 0, 0] S1x256x768.size inb_S2x256x768_S1x256x768_1_0_0).toLoadRect (harg6.unread x3))⟩,
      ⟨Rect.unit ![0, 0, 0] ![1, 256, 128] inb_S1x1024x128_S1x256x128_0_0_0, tileT (tw i 0#32) (View.readAt (Elt Ideal) arg3.view (Rect.unit (s := S1x1x1024x128) ![0, 0, 0, 0] S1x1x256x128.size inb_S1x1x1024x128_S1x1x256x128_0_0_0_0).toLoadRect (harg3.unread x0))
        (View.readAt (Elt Ideal) arg4.view (Rect.unit (s := S1x1x4608x128) (k1_off1 i 0#32) S1x1x768x128.size (k1_off1_inb i 0)).toLoadRect (harg4.unread x1)) (View.readAt (Elt Ideal) arg5.view (Rect.unit (s := S1x1x4608x128) (k1_off1 i 0#32) S1x1x768x128.size (k1_off1_inb i 0)).toLoadRect (harg5.unread x2))
        (View.readAt (Elt Ideal) arg6.view (Rect.unit (s := S2x256x768) ![0, 0, 0] S1x256x768.size inb_S2x256x768_S1x256x768_0_0_0).toLoadRect (harg6.unread x3)) (View.readAt (Elt Ideal) arg6.view (Rect.unit (s := S2x256x768) ![1, 0, 0] S1x256x768.size inb_S2x256x768_S1x256x768_1_0_0).toLoadRect (harg6.unread x3))⟩] := by
  rfl

end Cert.Kernel7Ideal.Hand

end
-- ==== Proof.C7At.lean ====
/- The block that a point of the chunked attention leaves, of its blocks. -/
module

public import proofs.«01_k».proof.Proof.C7Pc
public import Idealize.ShloMosaic.Lib.WholeRead

@[expose] public section

set_option maxRecDepth 16384

noncomputable section

namespace Cert.Kernel7Ideal.Hand

open Cert.Kernel7Ideal Cert.Kernel7Ideal.Gen
open Idealize.ShloMosaic Idealize.ShloMosaic.TcCoe Idealize.SL Idealize.SL.Sem Cert.Soft
open Idealize.ShloMosaic.Pipeline (Dat Cfg Window)

/-- The head of a lane, of the two beside one another. -/
def lh (x : Fin 128) : Fin 2 := ⟨x.val / 64, by omega⟩

/-- A row's score against a key of its tile, of the point's blocks. -/
def sB (x0 : FVec Ideal S1x1x1024x128 .bf16) (x1 : FVec Ideal S1x1x4608x128 .bf16) (x3 : FVec Ideal S2x256x768 .f32) (T : Fin 16) (n : Fin 1024) (c : Fin 2) (j : Fin 768) : EReal :=
  if 512 ≤ 256 * T.val + j.val then ∑ y : Fin 64, x0 (ix4 0 0 n (half c y)) * x1 (ix4 0 0 ⟨256 * T.val + j.val, by omega⟩ (half c y)) + x3 (ix3 c ⟨n.val % 256, by omega⟩ j) else ⊥

/-- A row's result at a lane, of the point's blocks. -/
def attB (x0 : FVec Ideal S1x1x1024x128 .bf16) (x1 x2 : FVec Ideal S1x1x4608x128 .bf16) (x3 : FVec Ideal S2x256x768 .f32) (T : Fin 16) (n : Fin 1024) (x : Fin 128) : EReal :=
  Ideal.div (∑ j : Fin 768, Ideal.exp2 (sB x0 x1 x3 T n (lh x) j - Finset.univ.sup (sB x0 x1 x3 T n (lh x))) * x2 (ix4 0 0 ⟨256 * T.val + j.val, by omega⟩ x))
    (∑ j : Fin 768, Ideal.exp2 (sB x0 x1 x3 T n (lh x) j - Finset.univ.sup (sB x0 x1 x3 T n (lh x))))

theorem tw_fin : ∀ n r : Fin 4, Scalar.muli (Scalar.addi (Scalar.muli (BitVec.ofNat 32 n.val) 4#32) (BitVec.ofNat 32 r.val)) 256#32 = BitVec.ofNat 32 (256 * (4 * n.val + r.val)) := by decide +kernel

/-- The point whose third coordinate is `n`. -/
private def ctr (n : Fin 4) : grid1.Coords := fun a => match a with
  | ⟨0, _⟩ => (0 : Fin 8)
  | ⟨1, _⟩ => (0 : Fin 8)
  | ⟨2, _⟩ => n

private theorem off_n : ∀ n r : Fin 4, k1_off1 (ctr n) (BitVec.ofNat 32 r.val) = ![0, 0, 256 * (4 * n.val + r.val), 0] := by decide +kernel

theorem off_eq (i : grid1.Coords) (r : Fin 4) : k1_off1 i (BitVec.ofNat 32 r.val) = ![0, 0, 256 * (4 * (i 2 : Fin 4).val + r.val), 0] := off_n (i 2) r

/-- Tile `r` of quarter `n`. -/
def tileN (n r : Fin 4) : Fin 16 := ⟨4 * n.val + r.val, by omega⟩

/-- The tile of sub-tile `r` of a point. -/
abbrev tileOf (i : grid1.Coords) (r : Fin 4) : Fin 16 := tileN (i 2) r

/-- The sub-tile of a row of a block. -/
def sub (n : Fin 1024) : Fin 4 := ⟨n.val / 256, by omega⟩

/-- A row of a sub-tile, as a row of the block. -/
def rowOf (r : Fin 4) (a : Fin 256) : Fin 1024 := ⟨256 * r.val + a.val, by omega⟩

theorem sub_row (r : Fin 4) (a : Fin 256) : sub (rowOf r a) = r := Fin.ext (show (256 * r.val + a.val) / 256 = r.val by omega)

theorem tile_at (i : grid1.Coords) (r : Fin 4) (q : FVec Ideal S1x1x256x128 .bf16) (k v : FVec Ideal S1x1x768x128 .bf16) (b0 b1 : FVec Ideal S1x256x768 .f32)
    (x0 : FVec Ideal S1x1x1024x128 .bf16) (x1 x2 : FVec Ideal S1x1x4608x128 .bf16) (x3 : FVec Ideal S2x256x768 .f32)
    (hq : ∀ (a : Fin 256) (x : Fin 128), q (ix4 0 0 a x) = x0 (ix4 0 0 (rowOf r a) x))
    (hk : ∀ (j : Fin 768) (x : Fin 128), k (ix4 0 0 j x) = x1 (ix4 0 0 ⟨256 * (tileOf i r).val + j.val, by omega⟩ x))
    (hv : ∀ (j : Fin 768) (x : Fin 128), v (ix4 0 0 j x) = x2 (ix4 0 0 ⟨256 * (tileOf i r).val + j.val, by omega⟩ x))
    (h0 : ∀ (a : Fin 256) (j : Fin 768), b0 (ix3 0 a j) = x3 (ix3 0 a j))
    (h1 : ∀ (a : Fin 256) (j : Fin 768), b1 (ix3 0 a j) = x3 (ix3 1 a j))
    (a : Fin 256) (x : Fin 128) :
    tileT (tw i (BitVec.ofNat 32 r.val)) q k v b0 b1 (ix3 0 a x) = attB x0 x1 x2 x3 (tileOf i r) (rowOf r a) x := by
  have hw : tw i (BitVec.ofNat 32 r.val) = BitVec.ofNat 32 (256 * (tileOf i r).val) := tw_fin (i 2) r
  have hm : ∀ z, (⟨(rowOf r a).val % 256, z⟩ : Fin 256) = a := fun z => Fin.ext (show (256 * r.val + a.val) % 256 = a.val by omega)
  have hs : sT (tileOf i r) q k (if (lh x).val = 0 then b0 else b1) (lh x) a = sB x0 x1 x3 (tileOf i r) (rowOf r a) (lh x) := by
    funext j
    unfold sT sB
    rw [hm]
    have hqk : ∑ y : Fin 64, q (ix4 0 0 a (half (lh x) y)) * k (ix4 0 0 j (half (lh x) y)) = ∑ y : Fin 64, x0 (ix4 0 0 (rowOf r a) (half (lh x) y)) * x1 (ix4 0 0 ⟨256 * (tileOf i r).val + j.val, by omega⟩ (half (lh x) y)) :=
      Finset.sum_congr rfl fun y _ => congrArg₂ (· * ·) (hq a _) (hk j _)
    rw [hqk]
    rcases (by decide : ∀ c : Fin 2, c = 0 ∨ c = 1) (lh x) with e | e
    · rw [e]; exact congrArg (fun z => if 512 ≤ 256 * (tileOf i r).val + j.val then _ + z else ⊥) (h0 a j)
    · rw [e]; exact congrArg (fun z => if 512 ≤ 256 * (tileOf i r).val + j.val then _ + z else ⊥) (h1 a j)
  rw [hw, tileT_apply (tileOf i r) q k v b0 b1 a x (lh x) rfl _ rfl, hs]
  exact congrArg (fun z => Ideal.div z _) (Finset.sum_congr rfl fun j _ => congrArg (_ * ·) (hv j x))

theorem rd_q (arg : Memref sig .tc .vmem S1x1x1024x128 .bf16) (h : arg.IsWhole) (X : Vec Ideal S1x1x1024x128 .bf16) (r : Fin 4) (inb) (a : Fin 256) (x : Fin 128) :
    View.readAt (Elt Ideal) arg.view (Rect.unit (s := S1x1x1024x128) ![0, 0, 256 * r.val, 0] S1x1x256x128.size inb).toLoadRect (h.unread X) (ix4 0 0 a x) = X (ix4 0 0 (rowOf r a) x) := by
  refine (h.readAt_unread X _ _).trans (congrArg X (funext fun d => Fin.ext ?_))
  match d with
  | ⟨0, _⟩ => rfl
  | ⟨1, _⟩ => rfl
  | ⟨2, _⟩ => show 256 * r.val + 1 * a.val = 256 * r.val + a.val; omega
  | ⟨3, _⟩ => show 0 + 1 * x.val = x.val; omega

theorem rd_k (arg : Memref sig .tc .vmem S1x1x4608x128 .bf16) (h : arg.IsWhole) (X : Vec Ideal S1x1x4608x128 .bf16) (i : grid1.Coords) (r : Fin 4) (inb) (j : Fin 768) (x : Fin 128) :
    View.readAt (Elt Ideal) arg.view (Rect.unit (s := S1x1x4608x128) (k1_off1 i (BitVec.ofNat 32 r.val)) S1x1x768x128.size inb).toLoadRect (h.unread X) (ix4 0 0 j x) = X (ix4 0 0 ⟨256 * (tileOf i r).val + j.val, by omega⟩ x) := by
  refine (h.readAt_unread X _ _).trans (congrArg X (funext fun d => Fin.ext ?_))
  show k1_off1 i (BitVec.ofNat 32 r.val) d + 1 * (ix4 0 0 j x d).val = _
  rw [off_eq]
  match d with
  | ⟨0, _⟩ => rfl
  | ⟨1, _⟩ => rfl
  | ⟨2, _⟩ => show 256 * (4 * (i 2 : Fin 4).val + r.val) + 1 * j.val = 256 * (4 * (i 2 : Fin 4).val + r.val) + j.val; omega
  | ⟨3, _⟩ => show 0 + 1 * x.val = x.val; omega

theorem rd_b (arg : Memref sig .tc .vmem S2x256x768 .f32) (h : arg.IsWhole) (X : Vec Ideal S2x256x768 .f32) (e : Fin 2) (inb) (a : Fin 256) (j : Fin 768) :
    View.readAt (Elt Ideal) arg.view (Rect.unit (s := S2x256x768) ![e.val, 0, 0] S1x256x768.size inb).toLoadRect (h.unread X) (ix3 0 a j) = X (ix3 e a j) := by
  refine (h.readAt_unread X _ _).trans (congrArg X (funext fun d => Fin.ext ?_))
  match d with
  | ⟨0, _⟩ => rfl
  | ⟨1, _⟩ => show 0 + 1 * a.val = a.val; omega
  | ⟨2, _⟩ => show 0 + 1 * j.val = j.val; omega

/-- The block, row by row. -/
def blkB (i : grid1.Coords) (x0 : Vec Ideal S1x1x1024x128 .bf16) (x1 x2 : Vec Ideal S1x1x4608x128 .bf16) (x3 : Vec Ideal S2x256x768 .f32) (y : S1x1024x128.Idx) : EReal :=
  attB x0 x1 x2 x3 (tileOf i (sub (y 1))) (y 1) (y 2)

theorem piece_at (i : grid1.Coords) (r : Fin 4) (x0 : Vec Ideal S1x1x1024x128 .bf16) (x1 x2 : Vec Ideal S1x1x4608x128 .bf16) (x3 : Vec Ideal S2x256x768 .f32) (w : Vec Ideal S1x256x128 .bf16) (inb)
    (hw : ∀ (a : Fin 256) (x : Fin 128), w (ix3 0 a x) = attB x0 x1 x2 x3 (tileOf i r) (rowOf r a) x) (x : S1x256x128.Idx) :
    w x = blkB i x0 x1 x2 x3 ((Rect.unit (s := S1x1024x128) ![0, 256 * r.val, 0] S1x256x128.size inb).idx x) := by
  have ex : x = ix3 0 (x 1) (x 2) := by
    funext d
    fin_cases d
    · exact Subsingleton.elim (α := Fin 1) _ _
    · rfl
    · rfl
  have ey : (Rect.unit (s := S1x1024x128) ![0, 256 * r.val, 0] S1x256x128.size inb).idx x = ix3 0 (rowOf r (x 1)) (x 2) := by
    funext d
    match d with
    | ⟨0, _⟩ => exact Subsingleton.elim (α := Fin 1) _ _
    | ⟨1, _⟩ => exact Fin.ext (show 256 * r.val + 1 * (x 1).val = 256 * r.val + (x 1).val by rw [Nat.one_mul])
    | ⟨2, _⟩ => exact Fin.ext (show 0 + 1 * (x 2).val = (x 2).val by rw [Nat.one_mul, Nat.zero_add])
  rw [ey]
  refine (congrArg w ex).trans ((hw (x 1) (x 2)).trans ?_)
  exact congrArg (fun z => attB x0 x1 x2 x3 (tileOf i z) (rowOf r (x 1)) (x 2)) (sub_row r (x 1)).symm

theorem out1_apply (c : Dev nD) (i : grid1.Coords) (arg3 : Memref sig .tc .vmem S1x1x1024x128 .bf16) (harg3 : arg3.IsWhole) (arg4 : Memref sig .tc .vmem S1x1x4608x128 .bf16) (harg4 : arg4.IsWhole) (arg5 : Memref sig .tc .vmem S1x1x4608x128 .bf16) (harg5 : arg5.IsWhole) (arg6 : Memref sig .tc .vmem S2x256x768 .f32) (harg6 : arg6.IsWhole) (arg7 : Memref sig .tc .vmem S1x1024x128 .bf16) (harg7 : arg7.IsWhole)
    (x0 : Vec Ideal S1x1x1024x128 .bf16) (x1 : Vec Ideal S1x1x4608x128 .bf16) (x2 : Vec Ideal S1x1x4608x128 .bf16) (x3 : Vec Ideal S2x256x768 .f32) (n : Fin 1024) (x : Fin 128) :
    out1_A_4 (F := Ideal) c i arg3 harg3 arg4 harg4 arg5 harg5 arg6 harg6 arg7 harg7 x0 x1 x2 x3 (ix3 0 n x) = attB x0 x1 x2 x3 (tileOf i (sub n)) n x := by
  unfold out1_A_4
  rw [View.read_writes_eq_canon _ _ _ (cover1_A_4 c i arg3 harg3 arg4 harg4 arg5 harg5 arg6 harg6 arg7 harg7 x0 x1 x2 x3)]
  refine View.canon_apply_of_pieces (blkB i x0 x1 x2 x3) _ ?_ _ (cover1_A_4 c i arg3 harg3 arg4 harg4 arg5 harg5 arg6 harg6 arg7 harg7 x0 x1 x2 x3 _)
  rw [pieces]
  intro pc hpc z
  rcases List.mem_cons.mp hpc with rfl | hpc
  · exact piece_at i 3 x0 x1 x2 x3 _ inb_S1x1024x128_S1x256x128_0_768_0 (tile_at i 3 _ _ _ _ _ x0 x1 x2 x3 (rd_q arg3 harg3 x0 3 inb_S1x1x1024x128_S1x1x256x128_0_0_768_0) (rd_k arg4 harg4 x1 i 3 (k1_off1_inb i 3)) (rd_k arg5 harg5 x2 i 3 (k1_off1_inb i 3)) (rd_b arg6 harg6 x3 0 inb_S2x256x768_S1x256x768_0_0_0) (rd_b arg6 harg6 x3 1 inb_S2x256x768_S1x256x768_1_0_0)) z
  rcases List.mem_cons.mp hpc with rfl | hpc
  · exact piece_at i 2 x0 x1 x2 x3 _ inb_S1x1024x128_S1x256x128_0_512_0 (tile_at i 2 _ _ _ _ _ x0 x1 x2 x3 (rd_q arg3 harg3 x0 2 inb_S1x1x1024x128_S1x1x256x128_0_0_512_0) (rd_k arg4 harg4 x1 i 2 (k1_off1_inb i 2)) (rd_k arg5 harg5 x2 i 2 (k1_off1_inb i 2)) (rd_b arg6 harg6 x3 0 inb_S2x256x768_S1x256x768_0_0_0) (rd_b arg6 harg6 x3 1 inb_S2x256x768_S1x256x768_1_0_0)) z
  rcases List.mem_cons.mp hpc with rfl | hpc
  · exact piece_at i 1 x0 x1 x2 x3 _ inb_S1x1024x128_S1x256x128_0_256_0 (tile_at i 1 _ _ _ _ _ x0 x1 x2 x3 (rd_q arg3 harg3 x0 1 inb_S1x1x1024x128_S1x1x256x128_0_0_256_0) (rd_k arg4 harg4 x1 i 1 (k1_off1_inb i 1)) (rd_k arg5 harg5 x2 i 1 (k1_off1_inb i 1)) (rd_b arg6 harg6 x3 0 inb_S2x256x768_S1x256x768_0_0_0) (rd_b arg6 harg6 x3 1 inb_S2x256x768_S1x256x768_1_0_0)) z
  rcases List.mem_cons.mp hpc with rfl | hpc
  · exact piece_at i 0 x0 x1 x2 x3 _ inb_S1x1024x128_S1x256x128_0_0_0 (tile_at i 0 _ _ _ _ _ x0 x1 x2 x3 (rd_q arg3 harg3 x0 0 inb_S1x1x1024x128_S1x1x256x128_0_0_0_0) (rd_k arg4 harg4 x1 i 0 (k1_off1_inb i 0)) (rd_k arg5 harg5 x2 i 0 (k1_off1_inb i 0)) (rd_b arg6 harg6 x3 0 inb_S2x256x768_S1x256x768_0_0_0) (rd_b arg6 harg6 x3 1 inb_S2x256x768_S1x256x768_1_0_0)) z
  nomatch hpc

end Cert.Kernel7Ideal.Hand

end
-- ==== Proof.R7Pos.lean ====
/- The seventh reference's result over the extended reals, and the position words it takes. -/
module

public import proofs.«01_k».proof.Proof.Soft7
public import proofs.«01_k».proof.Proof.Gen.Reference7Ideal.Run
public import Idealize.ShloMosaic.Lib.Tactic.CleanTypes

@[expose] public section

set_option maxRecDepth 16384

noncomputable section

namespace Cert.Reference7Ideal.Hand

open Cert.Reference7Ideal Cert.Reference7Ideal.Gen Cert.Reference7Ideal.Value
open Idealize.ShloMosaic Idealize.ShloMosaic.TcCoe Cert.Soft

section

variable {F : FTy → Type} [FloatOps F]

/-- Each position's chunk. -/
def chunkR : IVec S4096 32 := select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32))))
/-- Which key is seen by which query: a key of the query's chunk or of the eight before it. -/
def maskR : IVec S4096x4096 1 := andi (cmpi .sle (broadcastInDim S4096x4096 ![0, 1] bcast_S1x4096_S4096x4096_0_1 (broadcastInDim S1x4096 ![1] bcast_S4096_S1x4096_1 chunkR)) (broadcastInDim S4096x4096 ![0, 1] bcast_S4096x1_S4096x4096_0_1 (broadcastInDim S4096x1 ![0] bcast_S4096_S4096x1_0 chunkR))) (cmpi .sle (broadcastInDim S4096x4096 ![0, 1] bcast_S4096x1_S4096x4096_0_1 (broadcastInDim S4096x1 ![0] bcast_S4096_S4096x1_0 chunkR)) (broadcastInDim S4096x4096 ![0, 1] bcast_S1x4096_S4096x4096_0_1 (addi (broadcastInDim S1x4096 ![1] bcast_S4096_S1x4096_1 chunkR) (broadcastInDim S1x4096 ![] bcast_S_S1x4096 (constantI S_ 32 8#32)))))
/-- The clipped distance of query and key, from zero. -/
def distR : IVec S4096x4096 32 := addi (minsi (broadcastInDim S4096x4096 ![] bcast_S_S4096x4096 (id (constantI S_ 32 128#32))) (maxsi (broadcastInDim S4096x4096 ![] bcast_S_S4096x4096 (id (constantI S_ 32 4294967168#32))) (subi (broadcastInDim S4096x4096 ![0, 1] bcast_S4096x1_S4096x4096_0_1 (broadcastInDim S4096x1 ![0] bcast_S4096_S4096x1_0 (iotaInDim S4096 32 0))) (broadcastInDim S4096x4096 ![0, 1] bcast_S1x4096_S4096x4096_0_1 (broadcastInDim S1x4096 ![1] bcast_S4096_S1x4096_1 (iotaInDim S4096 32 0)))))) (broadcastInDim S4096x4096 ![] bcast_S_S4096x4096 (constantI S_ 32 128#32))
/-- The table's column of query and key. -/
def idxR : IVec S4096x4096x1 32 := broadcastInDim S4096x4096x1 ![0, 1] bcast_S4096x4096_S4096x4096x1_0_1 (select (cmpi .slt distR (broadcastInDim S4096x4096 ![] bcast_S_S4096x4096 (constantI S_ 32 0#32))) (addi distR (broadcastInDim S4096x4096 ![] bcast_S_S4096x4096 (constantI S_ 32 257#32))) distR)
/-- The table, read at each query and key. -/
def tabR (t : FVec F S16x257 .f32) : FVec F S16x4096x4096 .f32 := Host.gather gather_S16x257_S4096x4096x1_S16x4096x4096_0_1_n_n_1_2_161 t idxR
/-- The heads apart. -/
def headsR (v : FVec F S8x8x4096x128 .bf16) : FVec F S8x16x4096x64 .f32 := shapeCast _ (transpose S8x8x2x4096x64 [0, 1, 3, 2, 4] (shapeCast _ (extf .f32 v bitsLt_bf16_f32) shapeCasts_S8x8x4096x128_S8x8x4096x2x64) transposes_S8x8x4096x2x64_S8x8x2x4096x64_0_1_3_2_4) shapeCasts_S8x8x2x4096x64_S8x16x4096x64
/-- The masked scores. -/
def sR (q k : FVec F S8x16x4096x64 .f32) (t : FVec F S16x4096x4096 .f32) : FVec F S8x16x4096x4096 .f32 := select (broadcastInDim S8x16x4096x4096 ![2, 3] bcast_S4096x4096_S8x16x4096x4096_2_3 maskR) (addf (Host.dotGeneral dot_S8x16x4096x64_S8x16x4096x64_S8x16x4096x4096_3_3_2_2_01_01 none q k) (broadcastInDim S8x16x4096x4096 ![0, 1, 2, 3] bcast_S1x16x4096x4096_S8x16x4096x4096_0_1_2_3 (broadcastInDim S1x16x4096x4096 ![1, 2, 3] bcast_S16x4096x4096_S1x16x4096x4096_1_2_3 (mulf t (broadcastInDim S16x4096x4096 ![] bcast_S_S16x4096x4096 (constant S_ .f32 0x3FB8AA3B#32)))))) (broadcastInDim S8x16x4096x4096 ![] bcast_S_S8x16x4096x4096 (id (constant S_ .f32 0xFF800000#32)))
/-- The row maxima, spread over the keys. -/
def mR (s : FVec F S8x16x4096x4096 .f32) : FVec F S8x16x4096x4096 .f32 := broadcastInDim S8x16x4096x4096 ![0, 1, 2, 3] bcast_S8x16x4096x1_S8x16x4096x4096_0_1_2_3 (broadcastInDim S8x16x4096x1 ![0, 1, 2] bcast_S8x16x4096_S8x16x4096x1_0_1_2 (Host.reduce FloatOps.maximumf s (constant S_ .f32 0xFF800000#32) reducesTo_S8x16x4096x4096_S8x16x4096_d3 h_S_))
/-- The weights before the division. -/
def eR (s : FVec F S8x16x4096x4096 .f32) : FVec F S8x16x4096x4096 .f32 := Host.powf (broadcastInDim S8x16x4096x4096 ![] bcast_S_S8x16x4096x4096 (constant S_ .f32 0x40000000#32)) (subf s (mR s))
/-- The weights. -/
def pR (e : FVec F S8x16x4096x4096 .f32) : FVec F S8x16x4096x4096 .f32 := Host.divf e (broadcastInDim S8x16x4096x4096 ![0, 1, 2, 3] bcast_S8x16x4096x1_S8x16x4096x4096_0_1_2_3 (broadcastInDim S8x16x4096x1 ![0, 1, 2] bcast_S8x16x4096_S8x16x4096x1_0_1_2 (Host.reduceAdd e (constant S_ .f32 0x00000000#32) reducesTo_S8x16x4096x4096_S8x16x4096_d3 h_S_)))
/-- The weighted values, the heads side by side. -/
def oR (v : FVec F S8x16x4096x64 .f32) (w : FVec F S8x16x4096x4096 .f32) : FVec F S8x4096x1024 .bf16 := truncf .bf16 (shapeCast _ (transpose S8x4096x16x64 [0, 3, 1, 2] (Host.dotGeneral dot_S8x16x4096x64_S8x16x4096x4096_S8x16x64x4096_2_3_3_2_01_01 none v w) transposes_S8x16x64x4096_S8x4096x16x64_0_3_1_2) shapeCasts_S8x4096x16x64_S8x4096x1024) bitsLt_bf16_f32
/-- The whole result of the four arguments. -/
def outR (q k v : FVec F S8x8x4096x128 .bf16) (t : FVec F S16x257 .f32) : FVec F S8x4096x1024 .bf16 :=
  oR (headsR v) (pR (eR (sR (headsR q) (headsR k) (tabR t))))

theorem res_eq (m : (ℓ : Loc nD τ sig) → Buf (Elt F) ℓ) (c : Dev nD) :
    res_main_v62 m c = outR (m ((c.tc : Thread nD τ).loc main_arg0)) (m ((c.tc : Thread nD τ).loc main_arg1)) (m ((c.tc : Thread nD τ).loc main_arg2)) (m ((c.tc : Thread nD τ).loc main_arg3)) := rfl

end

theorem chunkR_apply (n : Fin 4096) : chunkR (ix1 n) = BitVec.ofNat 32 (n.val / 64) := by
  pointwise [chunkR]
  revert n
  decide +kernel

theorem maskR_apply (n k : Fin 4096) : maskR (ix2 n k) = 1#1 ↔ k.val / 64 ≤ n.val / 64 ∧ n.val / 64 ≤ k.val / 64 + 8 := by
  pointwise [maskR]
  rw [chunkR_apply, chunkR_apply]
  have e : IntOp.addi (BitVec.ofNat 32 (k.val / 64)) 8#32 = BitVec.ofNat 32 (k.val / 64 + 8) := (BitVec.ofNat_add _ _).symm
  rw [e, Idealize.ShloMosaic.IntOp.andi_eq_one, WordCmp.cmpi_sle_ofNat_eq_one_iff (by omega) (by omega), WordCmp.cmpi_sle_ofNat_eq_one_iff (by omega) (by omega)]

theorem neg_fin : ∀ d : Fin 257, Scalar.select (IntOp.cmpi .slt (BitVec.ofNat 32 d.val) 0#32) (IntOp.addi (BitVec.ofNat 32 d.val) 257#32) (BitVec.ofNat 32 d.val) = BitVec.ofNat 32 d.val := by decide +kernel

theorem toNat_fin : ∀ d : Fin 257, min (BitVec.ofNat 32 d.val).toInt.toNat 256 = d.val := by decide +kernel

theorem distR_apply (n k : Fin 4096) : distR (ix2 n k) = BitVec.ofNat 32 (min (n.val + 128 - k.val) 256) := by
  pointwise [distR]
  exact clipW_eq n.val k.val n.isLt k.isLt

theorem idxR_apply (n k : Fin 4096) (z : Fin 1) : idxR (ix3 n k z) = BitVec.ofNat 32 (min (n.val + 128 - k.val) 256) := by
  pointwise [idxR]
  rw [distR_apply]
  exact neg_fin ⟨min (n.val + 128 - k.val) 256, by omega⟩

theorem tabR_apply (t : FVec Ideal S16x257 .f32) (h : Fin 16) (n k : Fin 4096) :
    tabR t (ix3 h n k) = t (ix2 h ⟨min (n.val + 128 - k.val) 256, by omega⟩) := by
  unfold tabR Host.gather
  congr 1
  funext a
  refine Fin.ext ?_
  show GatherDims.start gather_S16x257_S4096x4096x1_S16x4096x4096_0_1_n_n_1_2_161 (ix3 h n k) idxR a + GatherDims.batchCoord gather_S16x257_S4096x4096x1_S16x4096x4096_0_1_n_n_1_2_161 (ix3 h n k) a + GatherDims.offCoord gather_S16x257_S4096x4096x1_S16x4096x4096_0_1_n_n_1_2_161 (ix3 h n k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (show ¬ (0 : Fin 2) ∈ (gather_S16x257_S4096x4096x1_S16x4096x4096_0_1_n_n_1_2_161).startIndexMap by decide)]
    unfold GatherDims.offCoord
    rw [dif_pos (by decide +kernel)]
    simp only [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ (gather_S16x257_S4096x4096x1_S16x4096x4096_0_1_n_n_1_2_161).startIndexMap from List.mem_singleton.mpr rfl)]
    have hsi : (gather_S16x257_S4096x4096x1_S16x4096x4096_0_1_n_n_1_2_161).siIdx (ix3 h n k) ⟨List.idxOf (1 : Fin 2) (gather_S16x257_S4096x4096x1_S16x4096x4096_0_1_n_n_1_2_161).startIndexMap,
        List.idxOf_lt_length_iff.2 (List.mem_singleton.mpr rfl)⟩ = ix3 n k 0 := by
      funext b; refine Fin.ext ?_
      match b with
      | ⟨0, _⟩ => rfl
      | ⟨1, _⟩ => rfl
      | ⟨2, _⟩ => rfl
    rw [hsi, idxR_apply]
    exact toNat_fin ⟨min (n.val + 128 - k.val) 256, by omega⟩

end Cert.Reference7Ideal.Hand

end
-- ==== Proof.R7Val.lean ====
/- The seventh reference's result over the extended reals, read at an index. -/
module

public import proofs.«01_k».proof.Proof.R7Pos
public import Idealize.ShloMosaic.Lib.Tactic.CleanTypes

@[expose] public section

set_option maxRecDepth 16384

noncomputable section

namespace Cert.Reference7Ideal.Hand

open Cert.Reference7Ideal Cert.Reference7Ideal.Gen Cert.Reference7Ideal.Value
open Idealize.ShloMosaic Idealize.ShloMosaic.TcCoe Cert.Soft

theorem headsR_apply (v : FVec Ideal S8x8x4096x128 .bf16) (b : Fin 8) (h : Fin 16) (n : Fin 4096) (x : Fin 64) :
    headsR v (ix4 b h n x) = v (ix4 b ⟨h.val / 2, by omega⟩ n ⟨h.val % 2 * 64 + x.val, by omega⟩) := by
  pointwise [headsR]

theorem sR_apply (q k : FVec Ideal S8x16x4096x64 .f32) (t : FVec Ideal S16x4096x4096 .f32) (b : Fin 8) (h : Fin 16) (n j : Fin 4096) :
    sR q k t (ix4 b h n j) = if j.val / 64 ≤ n.val / 64 ∧ n.val / 64 ≤ j.val / 64 + 8 then ∑ x : Fin 64, q (ix4 b h n x) * k (ix4 b h j x) + t (ix3 h n j) * Ideal.ofBits .f32 0x3FB8AA3B#32 else ⊥ := by
  pointwise [sR]
  have hm := maskR_apply n j
  by_cases h : j.val / 64 ≤ n.val / 64 ∧ n.val / 64 ≤ j.val / 64 + 8
  · rw [if_pos h, hm.mpr h]; rfl
  · rw [if_neg h]; exact (if_neg fun e => h (hm.mp e)).trans ofBits_ninf

theorem mR_apply (s : FVec Ideal S8x16x4096x4096 .f32) (b : Fin 8) (h : Fin 16) (n j : Fin 4096) :
    mR s (ix4 b h n j) = Finset.univ.sup fun k : Fin 4096 => s (ix4 b h n k) := by
  pointwise [mR]
  rw [ofBits_ninf]; rfl

theorem eR_apply (s : FVec Ideal S8x16x4096x4096 .f32) (b : Fin 8) (h : Fin 16) (n j : Fin 4096) :
    eR s (ix4 b h n j) = Ideal.exp2 (s (ix4 b h n j) - Finset.univ.sup fun k : Fin 4096 => s (ix4 b h n k)) := by
  pointwise [eR]
  rw [mR_apply, ofBits_two, Cert.Soft.pow_two]

theorem pR_apply (e : FVec Ideal S8x16x4096x4096 .f32) (b : Fin 8) (h : Fin 16) (n j : Fin 4096) :
    pR e (ix4 b h n j) = Ideal.div (e (ix4 b h n j)) (∑ k : Fin 4096, e (ix4 b h n k)) := by
  pointwise [pR]

theorem oR_apply (v : FVec Ideal S8x16x4096x64 .f32) (w : FVec Ideal S8x16x4096x4096 .f32) (b : Fin 8) (n : Fin 4096) (l : Fin 1024) :
    oR v w (ix3 b n l) = ∑ k : Fin 4096, v (ix4 b ⟨l.val / 64, by omega⟩ k ⟨l.val % 64, by omega⟩) * w (ix4 b ⟨l.val / 64, by omega⟩ n k) := by
  pointwise [oR]

/-- The score of a query and a key of one head. -/
def score (q k : FVec Ideal S8x8x4096x128 .bf16) (t : FVec Ideal S16x257 .f32) (b : Fin 8) (h : Fin 16) (n j : Fin 4096) : EReal :=
  if j.val / 64 ≤ n.val / 64 ∧ n.val / 64 ≤ j.val / 64 + 8 then
    ∑ x : Fin 64, q (ix4 b ⟨h.val / 2, by omega⟩ n ⟨h.val % 2 * 64 + x.val, by omega⟩) * k (ix4 b ⟨h.val / 2, by omega⟩ j ⟨h.val % 2 * 64 + x.val, by omega⟩)
      + t (ix2 h ⟨min (n.val + 128 - j.val) 256, by omega⟩) * Ideal.ofBits .f32 0x3FB8AA3B#32
  else ⊥

theorem outR_apply (q k v : FVec Ideal S8x8x4096x128 .bf16) (t : FVec Ideal S16x257 .f32) (b : Fin 8) (n : Fin 4096) (l : Fin 1024) :
    outR q k v t (ix3 b n l) = ∑ j : Fin 4096, v (ix4 b ⟨l.val / 128, by omega⟩ j ⟨l.val % 128, by omega⟩)
      * Ideal.div (Ideal.exp2 (score q k t b ⟨l.val / 64, by omega⟩ n j - Finset.univ.sup fun i => score q k t b ⟨l.val / 64, by omega⟩ n i))
          (∑ i : Fin 4096, Ideal.exp2 (score q k t b ⟨l.val / 64, by omega⟩ n i - Finset.univ.sup fun i => score q k t b ⟨l.val / 64, by omega⟩ n i)) := by
  have hs : ∀ j : Fin 4096, sR (headsR q) (headsR k) (tabR t) (ix4 b ⟨l.val / 64, by omega⟩ n j) = score q k t b ⟨l.val / 64, by omega⟩ n j := fun j => by
    rw [sR_apply]
    simp only [headsR_apply, tabR_apply]
    rfl
  show oR (headsR v) (pR (eR (sR (headsR q) (headsR k) (tabR t)))) (ix3 b n l) = _
  rw [oR_apply]
  refine Finset.sum_congr rfl fun j _ => ?_
  rw [pR_apply, headsR_apply]
  simp only [eR_apply, hs]
  congr 2
  funext a
  fin_cases a
  · rfl
  · exact Fin.ext (show l.val / 64 / 2 = l.val / 128 by omega)
  · rfl
  · exact Fin.ext (show l.val / 64 % 2 * 64 + l.val % 64 = l.val % 128 by omega)

end Cert.Reference7Ideal.Hand

end
-- ==== Proof.C7Core.lean ====
/- A row of a block of the chunked attention is the reference's row. -/
module

public import proofs.«01_k».proof.Proof.C7At
public import proofs.«01_k».proof.Proof.R7Val

@[expose] public section

set_option maxRecDepth 16384

noncomputable section

namespace Cert.Kernel7Ideal.Hand

open Cert.Kernel7Ideal Cert.Kernel7Ideal.Gen
open Idealize.ShloMosaic Idealize.ShloMosaic.TcCoe Cert.Soft
open Cert.Reference7Ideal.Hand (outR outR_apply score)

theorem fin_add (x y : EReal) (hx : IsNum x) (hy : IsNum y) : IsNum (x + y) := by
  lift x to ℝ using hx
  lift y to ℝ using hy
  exact ⟨EReal.coe_ne_top (x + y), EReal.coe_ne_bot (x + y)⟩

theorem fin_log2e : IsNum (Ideal.ofBits FTy.f32 0x3FB8AA3B#32) := by
  simp [Ideal.ofBits, Ideal.ieee, -EReal.coe_mul]
  exact ⟨EReal.coe_ne_top _, EReal.coe_ne_bot _⟩

/-- The position of a row of a block. -/
def posOf (i : Fin 4) (n : Fin 1024) : Fin 4096 := ⟨1024 * i.val + n.val, by omega⟩
/-- The lane of the result that is lane `x` of the heads' pair `p`. -/
def laneOf (p : Fin 8) (x : Fin 128) : Fin 1024 := ⟨128 * p.val + x.val, by omega⟩
/-- The head of lane `c` of the heads' pair `p`. -/
def headOf (p : Fin 8) (c : Fin 2) : Fin 16 := ⟨2 * p.val + c.val, by omega⟩

theorem core (q k v : FVec Ideal S8x8x4096x128 .bf16) (t : FVec Ideal S16x257 .f32) (hq : ∀ i, IsNum (q i)) (hk : ∀ i, IsNum (k i)) (ht : ∀ i, IsNum (t i))
    (b p : Fin 8) (i : Fin 4) (x0 : FVec Ideal S1x1x1024x128 .bf16) (x1 x2 : FVec Ideal S1x1x4608x128 .bf16) (x3 : FVec Ideal S2x256x768 .f32)
    (e0 : ∀ (n : Fin 1024) (x : Fin 128), x0 (ix4 0 0 n x) = q (ix4 b p (posOf i n) x))
    (e1 : ∀ (j : Fin 4608) (x : Fin 128) (h : 512 ≤ j.val), x1 (ix4 0 0 j x) = k (ix4 b p ⟨j.val - 512, by omega⟩ x))
    (e2 : ∀ (j : Fin 4608) (x : Fin 128) (h : 512 ≤ j.val), x2 (ix4 0 0 j x) = v (ix4 b p ⟨j.val - 512, by omega⟩ x))
    (e3 : ∀ (c : Fin 2) (a : Fin 256) (j : Fin 768), x3 (ix3 c a j) = if a.val / 64 ≤ j.val / 64 ∧ j.val / 64 ≤ a.val / 64 + 8 then t (ix2 (headOf p c) ⟨min (a.val + 640 - j.val) 256, by omega⟩) * Ideal.ofBits .f32 0x3FB8AA3B#32 else ⊥)
    (n : Fin 1024) (x : Fin 128) :
    attB x0 x1 x2 x3 (tileN i (sub n)) n x = outR q k v t (ix3 b (posOf i n) (laneOf p x)) := by
  have hT : (tileN i (sub n)).val = 4 * i.val + n.val / 256 := rfl
  have hhead : headOf p (lh x) = ⟨(laneOf p x).val / 64, by omega⟩ := Fin.ext (show 2 * p.val + x.val / 64 = (128 * p.val + x.val) / 64 by omega)
  have hlane : (⟨(laneOf p x).val / 128, by omega⟩ : Fin 8) = p := Fin.ext (show (128 * p.val + x.val) / 128 = p.val by omega)
  have hx : (⟨(laneOf p x).val % 128, by omega⟩ : Fin 128) = x := Fin.ext (show (128 * p.val + x.val) % 128 = x.val by omega)
  have hN : (posOf i n).val = 1024 * i.val + n.val := rfl
  rw [outR_apply, hlane, hx, ← hhead]
  generalize hh : headOf p (lh x) = h
  have hval : h.val = 2 * p.val + (lh x).val := congrArg Fin.val hh.symm
  have hp : (⟨h.val / 2, by omega⟩ : Fin 8) = p := Fin.ext (show h.val / 2 = p.val by omega)
  have hy : ∀ y : Fin 64, (⟨h.val % 2 * 64 + y.val, by omega⟩ : Fin 128) = half (lh x) y := fun y => by
    refine Fin.ext ?_
    show h.val % 2 * 64 + y.val = 64 * (lh x).val + y.val
    omega
  have hnum : ∀ j, (j.val / 64 ≤ (posOf i n).val / 64 ∧ (posOf i n).val / 64 ≤ j.val / 64 + 8) → IsNum (score q k t b h (posOf i n) j) := fun j hj => by
    unfold score
    rw [if_pos hj]
    exact fin_add _ _ (fin_sum _ fun y => fin_mul _ _ (hq _) (hk _)) (fin_mul _ _ (ht _) fin_log2e)
  have hbot : ∀ j, ¬(j.val / 64 ≤ (posOf i n).val / 64 ∧ (posOf i n).val / 64 ≤ j.val / 64 + 8) → score q k t b h (posOf i n) j = ⊥ := fun j hj => by
    unfold score
    rw [if_neg hj]
  have hs : ∀ m, sB x0 x1 x3 (tileN i (sub n)) n (lh x) m = behind ⊥ (score q k t b h (posOf i n)) ⟨256 * (tileN i (sub n)).val + m.val, by omega⟩ := fun m => by
    unfold sB behind
    by_cases h5 : 512 ≤ 256 * (tileN i (sub n)).val + m.val
    · rw [if_pos h5, dif_pos h5, e3]
      unfold score
      by_cases g : n.val % 256 / 64 ≤ m.val / 64 ∧ m.val / 64 ≤ n.val % 256 / 64 + 8
      · rw [if_pos g, if_pos (by dsimp only; omega), hp, hh]
        refine congrArg₂ (· + ·) (Finset.sum_congr rfl fun y _ => ?_) (congrArg (fun z => t (ix2 h z) * _) (Fin.ext ?_))
        · rw [e0, e1 _ _ h5, hy]
        · dsimp only; omega
      · rw [if_neg g, if_neg (by dsimp only; omega)]
        exact EReal.add_bot _
    · rw [if_neg h5, dif_neg h5]
  refine (band (tileN i (sub n)).val (tileN i (sub n)).isLt (score q k t b h (posOf i n)) (fun j => v (ix4 b p j x)) (fun j hj => hbot j (by omega)) _ (fun j => x2 (ix4 0 0 ⟨256 * (tileN i (sub n)).val + j.val, by omega⟩ x)) hs (fun m hm => e2 _ x hm)).trans ?_
  refine soft (score q k t b h (posOf i n)) (fun j => v (ix4 b p j x)) (fun j => ?_) (posOf i n) (hnum _ (by omega)).2
  by_cases g : j.val / 64 ≤ (posOf i n).val / 64 ∧ (posOf i n).val / 64 ≤ j.val / 64 + 8
  · exact (hnum j g).1
  · rw [hbot j g]; exact bot_ne_top

end Cert.Kernel7Ideal.Hand

end
-- ==== Proof.C7Host.lean ====
/- What the chunked attention's two regions find in their arrays, and the table of biases that the first leaves. -/
module

public import proofs.«01_k».proof.Proof.C7Pc
public import proofs.«01_k».proof.Proof.Gen.Kernel7Ideal.Frame
public import Idealize.ShloMosaic.Lib.KernelVsHost
public import Idealize.ShloMosaic.Lib.Pipeline.Value
public import Idealize.ShloMosaic.Lib.Pipeline.ValueKit
public import Idealize.ShloMosaic.Lib.Tactic.CleanTypes

@[expose] public section

set_option maxRecDepth 16384

noncomputable section

namespace Cert.Kernel7Ideal.Hand

open Cert.Kernel7Ideal Cert.Kernel7Ideal.Gen
open Idealize.ShloMosaic Idealize.ShloMosaic.TcCoe Idealize.SL Idealize.SL.Sem Cert.Soft
open Idealize.ShloMosaic.Pipeline (Dat Cfg Window)

theorem index0_0 : ∀ t, win0_0.index t = ![0, 0] := by decide +kernel
theorem index0_1 : ∀ t, win0_1.index t = ![(grid0.coords t 0).val, 0, 0] := by decide +kernel

theorem pay2_eq (x0 : Vec Ideal S16x384 .f32) : k0_pay2 (View.ld x0 r0_0) = x0 := by
  rw [View.ld_unit_lit _ _ (by decide)]
  funext y
  have hy : y = ix2 (y 0) (y 1) := by
    funext a
    fin_cases a <;> rfl
  rw [hy]
  pointwise [k0_pay2]

theorem bw_fin : ∀ (a : Fin 32) (j : Fin 8), Scalar.addi (Scalar.muli (BitVec.ofNat 32 a.val) 8#32) (BitVec.ofNat 32 j.val) = BitVec.ofNat 32 (8 * a.val + j.val) := by decide +kernel

/-- The table of biases of a padded table of columns, row by row. -/
def biasA (x0 : FVec Ideal S16x384 .f32) (y : S256x16x768.Idx) : EReal := tileB x0 (BitVec.ofNat 32 (y 0).val) (ix3 0 (y 1) (y 2))

/-- A tile's biases, row by row. -/
def blkA (i : grid0.Coords) (x0 : Vec Ideal S16x384 .f32) (y : S8x16x768.Idx) : EReal := tileB x0 (BitVec.ofNat 32 (8 * (i 0).val + (y 0).val)) (ix3 0 (y 1) (y 2))

theorem pieceA (i : grid0.Coords) (x0 : Vec Ideal S16x384 .f32) (j : Fin 8) (inb) (x : S1x16x768.Idx) :
    tileB (k0_pay2 (View.ld x0 r0_0)) (bw i (BitVec.ofNat 32 j.val)) x = blkA i x0 ((Rect.unit (s := S8x16x768) ![j.val, 0, 0] S1x16x768.size inb).idx x) := by
  have ex : x = ix3 0 (x 1) (x 2) := by
    funext d
    fin_cases d
    · exact Subsingleton.elim (α := Fin 1) _ _
    · rfl
    · rfl
  have ey : (Rect.unit (s := S8x16x768) ![j.val, 0, 0] S1x16x768.size inb).idx x = ix3 j (x 1) (x 2) := by
    funext d
    match d with
    | ⟨0, _⟩ =>
      have h0 : (x 0).val = 0 := congrArg Fin.val (Subsingleton.elim (α := Fin 1) (x 0) 0)
      exact Fin.ext (show j.val + 1 * (x 0).val = j.val by rw [h0]; rfl)
    | ⟨1, _⟩ => exact Fin.ext (show 0 + 1 * (x 1).val = (x 1).val by rw [Nat.one_mul, Nat.zero_add])
    | ⟨2, _⟩ => exact Fin.ext (show 0 + 1 * (x 2).val = (x 2).val by rw [Nat.one_mul, Nat.zero_add])
  rw [ey, pay2_eq]
  refine (congrArg (tileB x0 (bw i (BitVec.ofNat 32 j.val))) ex).trans ?_
  exact congrArg (fun w => tileB x0 w (ix3 0 (x 1) (x 2))) (bw_fin (i 0) j)

theorem out0_apply (i : grid0.Coords) (x0 : Vec Ideal S16x384 .f32) (y : S8x16x768.Idx) : out0_1 i x0 y = blkA i x0 y := by
  rw [out0_eq]
  refine View.canon_apply_of_pieces (Val := Elt Ideal) (e := .f32) (blkA i x0) _ ?_ y (cover0_1 _ _ _ _ _ _ _ _ y)
  intro pc hpc z
  rcases List.mem_cons.mp hpc with rfl | hpc
  · exact pieceA i x0 7 inb_S8x16x768_S1x16x768_7_0_0 z
  rcases List.mem_cons.mp hpc with rfl | hpc
  · exact pieceA i x0 6 inb_S8x16x768_S1x16x768_6_0_0 z
  rcases List.mem_cons.mp hpc with rfl | hpc
  · exact pieceA i x0 5 inb_S8x16x768_S1x16x768_5_0_0 z
  rcases List.mem_cons.mp hpc with rfl | hpc
  · exact pieceA i x0 4 inb_S8x16x768_S1x16x768_4_0_0 z
  rcases List.mem_cons.mp hpc with rfl | hpc
  · exact pieceA i x0 3 inb_S8x16x768_S1x16x768_3_0_0 z
  rcases List.mem_cons.mp hpc with rfl | hpc
  · exact pieceA i x0 2 inb_S8x16x768_S1x16x768_2_0_0 z
  rcases List.mem_cons.mp hpc with rfl | hpc
  · exact pieceA i x0 1 inb_S8x16x768_S1x16x768_1_0_0 z
  rcases List.mem_cons.mp hpc with rfl | hpc
  · exact pieceA i x0 0 inb_S8x16x768_S1x16x768_0_0_0 z
  nomatch hpc

section

variable (V : (c : Dev nD) → (b : Ref sig .tc) → Buf (Elt Ideal) ((c : Thread nD τ).loc b))

theorem iblk0_0 (c : Dev nD) (t : Fin cfg0.N) : iblk0 V c 0 t = V c main_v0 := by
  funext y
  refine congrArg (V c main_v0) (funext fun a => Fin.ext ?_)
  blk_simp
  rw [index0_0]
  fin_cases a <;> simp

/-- The first region leaves the table of biases. -/
theorem final0 (c : Dev nD) : (dat0 V c).arrAt 1 cfg0.N = biasA (V c main_v0) := by
  refine (dat0 V c).arrAt_eq_of_covers 1 _ (by decide +kernel) fun t hf y => ?_
  blk_simp
  rw [after0_1, iblk0_0, out0_apply]
  have e1 : ∀ y : S8x16x768.Idx, blkA (grid0.coords t) (V c main_v0) y = biasA (V c main_v0) (((cfg0.win 1).blk t).view.emb y) := fun y => by
    have h0 : (((cfg0.win 1).blk t).view.emb y 0).val = 8 * (grid0.coords t 0).val + (y 0).val := by
      blk_simp
      rw [index0_1]
      simp
      exact mul_comm _ _
    have h1 : (((cfg0.win 1).blk t).view.emb y 1).val = (y 1).val := by
      blk_simp
      rw [index0_1]
      simp
    have h2 : (((cfg0.win 1).blk t).view.emb y 2).val = (y 2).val := by
      blk_simp
      rw [index0_1]
      simp
    unfold blkA biasA
    rw [h0]
    exact congrArg (tileB (V c main_v0) _) (funext fun d => match d with
      | ⟨0, _⟩ => rfl
      | ⟨1, _⟩ => Fin.ext h1.symm
      | ⟨2, _⟩ => Fin.ext h2.symm)
  exact e1 y

end

variable (m : (ℓ : Loc nD τ sig) → Buf (Elt Ideal) ℓ) (ρ : Dev nD → PrngReg)

/-- The queries. -/
abbrev Q (c : Dev nD) : FVec Ideal S8x8x4096x128 .bf16 := m ((c : Thread nD τ).loc main_arg0)
/-- The keys. -/
abbrev K (c : Dev nD) : FVec Ideal S8x8x4096x128 .bf16 := m ((c : Thread nD τ).loc main_arg1)
/-- The values. -/
abbrev U (c : Dev nD) : FVec Ideal S8x8x4096x128 .bf16 := m ((c : Thread nD τ).loc main_arg2)
/-- The table of biases by distance. -/
abbrev T (c : Dev nD) : FVec Ideal S16x257 .f32 := m ((c : Thread nD τ).loc main_arg3)

theorem host0 (w : Valuation τ sig (Elt Ideal)) : StableHlo.after hostOps0_1 w (Proc.devRef .tc main_v0)
    = pad S16x384 ![0, 0] ![0, 127] ![0, 0] (w (Proc.devRef .tc main_arg3) : FVec Ideal S16x257 .f32) (sitofp .f32 (w (Proc.devRef .tc main_c) : IVec S_ 32) : FVec Ideal S_ .f32) pads_S16x257_S16x384_000_01270 h_S_ := by
  simp only [hostOps0_1]
  after_results_simp
  try rfl

theorem host1 (w : Valuation τ sig (Elt Ideal)) : StableHlo.after hostOps1 w (Proc.devRef .tc main_v2)
    = transpose S16x256x768 [1, 0, 2] (w (Proc.devRef .tc main_v1) : FVec Ideal S256x16x768 .f32) transposes_S256x16x768_S16x256x768_1_0_2 := by
  simp only [hostOps1]
  after_results_simp
  try rfl

theorem host1_1 (w : Valuation τ sig (Elt Ideal)) : StableHlo.after hostOps1_1 w (Proc.devRef .tc main_v3)
    = pad S8x8x4608x128 ![0, 0, 512, 0] ![0, 0, 0, 0] ![0, 0, 0, 0] (w (Proc.devRef .tc main_arg1) : FVec Ideal S8x8x4096x128 .bf16) (sitofp .bf16 (w (Proc.devRef .tc main_c_0) : IVec S_ 32) : FVec Ideal S_ .bf16) pads_S8x8x4096x128_S8x8x4608x128_000_000_51200_000 h_S_ := by
  simp only [hostOps1_1]
  after_results_simp
  try rfl

theorem host1_3 (w : Valuation τ sig (Elt Ideal)) : StableHlo.after hostOps1_3 w (Proc.devRef .tc main_v4)
    = pad S8x8x4608x128 ![0, 0, 512, 0] ![0, 0, 0, 0] ![0, 0, 0, 0] (w (Proc.devRef .tc main_arg2) : FVec Ideal S8x8x4096x128 .bf16) (sitofp .bf16 (w (Proc.devRef .tc main_c_1) : IVec S_ 32) : FVec Ideal S_ .bf16) pads_S8x8x4096x128_S8x8x4608x128_000_000_51200_000 h_S_ := by
  simp only [hostOps1_3]
  after_results_simp
  try rfl

theorem pad_k (x : FVec Ideal S8x8x4096x128 .bf16) (z : FVec Ideal S_ .bf16) (b p : Fin 8) (j : Fin 4608) (x' : Fin 128) (h : 512 ≤ j.val) :
    pad S8x8x4608x128 ![0, 0, 512, 0] ![0, 0, 0, 0] ![0, 0, 0, 0] x z pads_S8x8x4096x128_S8x8x4608x128_000_000_51200_000 h_S_ (ix4 b p j x') = x (ix4 b p ⟨j.val - 512, by omega⟩ x') := by
  refine pad_apply_of_inside _ _ _ x z _ _ _ (ix4 b p ⟨j.val - 512, by omega⟩ x') fun a => ?_
  match a with
  | ⟨0, _⟩ => show b.val = 0 + b.val * 1; omega
  | ⟨1, _⟩ => show p.val = 0 + p.val * 1; omega
  | ⟨2, _⟩ => show j.val = 512 + (j.val - 512) * 1; omega
  | ⟨3, _⟩ => show x'.val = 0 + x'.val * 1; omega

theorem pad_t (x : FVec Ideal S16x257 .f32) (z : FVec Ideal S_ .f32) (h : Fin 16) (j : Fin 384) (hj : j.val < 257) :
    pad S16x384 ![0, 0] ![0, 127] ![0, 0] x z pads_S16x257_S16x384_000_01270 h_S_ (ix2 h j) = x (ix2 h ⟨j.val, hj⟩) := by
  refine pad_apply_of_inside _ _ _ x z _ _ _ (ix2 h ⟨j.val, hj⟩) fun a => ?_
  match a with
  | ⟨0, _⟩ => show h.val = 0 + h.val * 1; omega
  | ⟨1, _⟩ => show j.val = 0 + j.val * 1; omega

theorem V2_v0 (c : Dev nD) (h : Fin 16) (j : Fin 384) (hj : j.val < 257) : (V2 m ρ c main_v0 : FVec Ideal S16x384 .f32) (ix2 h j) = T m c (ix2 h ⟨j.val, hj⟩) := by
  refine (congrFun (host0 (W1 m ρ c)) _).trans ((pad_t _ _ h j hj).trans ?_)
  exact congrFun (W1_args m ρ c main_arg3 (by decide)) _

theorem V7_q (c : Dev nD) : V7 m ρ c main_arg0 = Q m c := W7_args m ρ c main_arg0 (by decide)

theorem V7_k (c : Dev nD) (b p : Fin 8) (j : Fin 4608) (x : Fin 128) (h : 512 ≤ j.val) : (V7 m ρ c main_v3 : FVec Ideal S8x8x4608x128 .bf16) (ix4 b p j x) = K m c (ix4 b p ⟨j.val - 512, by omega⟩ x) := by
  have e : V7 m ρ c main_v3 = StableHlo.after hostOps1_1 (W4 m ρ c) (Proc.devRef .tc main_v3) := (W7_of m ρ c main_v3 (by decide)).trans (W6_of m ρ c main_v3 (by decide))
  refine (congrFun (e.trans (host1_1 (W4 m ρ c))) _).trans ((pad_k _ _ b p j x h).trans ?_)
  exact congrFun (W4_args m ρ c main_arg1 (by decide)) _

theorem V7_v (c : Dev nD) (b p : Fin 8) (j : Fin 4608) (x : Fin 128) (h : 512 ≤ j.val) : (V7 m ρ c main_v4 : FVec Ideal S8x8x4608x128 .bf16) (ix4 b p j x) = U m c (ix4 b p ⟨j.val - 512, by omega⟩ x) := by
  refine (congrFun (host1_3 (W6 m ρ c)) _).trans ((pad_k _ _ b p j x h).trans ?_)
  exact congrFun (W6_args m ρ c main_arg2 (by decide)) _

theorem V7_b (c : Dev nD) (h : Fin 16) (a : Fin 256) (j : Fin 768) : (V7 m ρ c main_v2 : FVec Ideal S16x256x768 .f32) (ix3 h a j)
    = if a.val / 64 ≤ j.val / 64 ∧ j.val / 64 ≤ a.val / 64 + 8 then T m c (ix2 h ⟨min (a.val + 640 - j.val) 256, by omega⟩) * Ideal.ofBits .f32 0x3FB8AA3B#32 else ⊥ := by
  have e : V7 m ρ c main_v2 = StableHlo.after hostOps1 (W3 m ρ c) (Proc.devRef .tc main_v2) :=
    ((W7_of m ρ c main_v2 (by decide)).trans (W6_of m ρ c main_v2 (by decide))).trans (W5_of m ρ c main_v2 (by decide))
  have e1 : W3 m ρ c (Proc.devRef .tc main_v1) = biasA (V2 m ρ c main_v0) := (W3_arr m ρ c 1).trans (final0 (V2 m ρ) c)
  refine (congrFun (e.trans (host1 (W3 m ρ c))) _).trans ?_
  rw [e1]
  have et : ∀ f : FVec Ideal S256x16x768 .f32, transpose S16x256x768 [1, 0, 2] f transposes_S256x16x768_S16x256x768_1_0_2 (ix3 h a j) = f (ix3 a h j) := fun f => by pointwise
  refine (et _).trans ((tileB_apply (V2 m ρ c main_v0) a.val a.isLt h j).trans ?_)
  rw [V2_v0 m ρ c h _ (by show min (a.val + 640 - j.val) 256 < 257; omega)]

end Cert.Kernel7Ideal.Hand

end
-- ==== Proof.C7Out.lean ====
/- The chunked attention's result: every block of queries holds the reference's rows. -/
module

public import proofs.«01_k».proof.Proof.C7At
public import proofs.«01_k».proof.Proof.C7Core
public import proofs.«01_k».proof.Proof.C7Host

@[expose] public section

set_option maxRecDepth 16384

noncomputable section

namespace Cert.Kernel7Ideal.Hand

open Cert.Kernel7Ideal Cert.Kernel7Ideal.Gen
open Idealize.ShloMosaic Idealize.ShloMosaic.TcCoe Idealize.SL Idealize.SL.Sem Cert.Soft
open Idealize.ShloMosaic.Pipeline (Dat Cfg Window)
open Cert.Reference7Ideal.Hand (outR outR_apply)

theorem index1_0 : ∀ t, win1_0.index t = ![(grid1.coords t 0).val, (grid1.coords t 1).val, (grid1.coords t 2).val, 0] := by decide +kernel
theorem index1_1 : ∀ t, win1_1.index t = ![(grid1.coords t 0).val, (grid1.coords t 1).val, 0, 0] := by decide +kernel
theorem index1_2 : ∀ t, win1_2.index t = ![(grid1.coords t 0).val, (grid1.coords t 1).val, 0, 0] := by decide +kernel
theorem index1_3 : ∀ t, win1_3.index t = ![(grid1.coords t 1).val, 0, 0] := by decide +kernel
theorem index1_4 : ∀ t, win1_4.index t = ![(grid1.coords t 0).val, (grid1.coords t 2).val, (grid1.coords t 1).val] := by decide +kernel

/-- The batch row of a point. -/
abbrev pB (t : Fin cfg1.N) : Fin 8 := grid1.coords t 0
/-- The pair of heads of a point. -/
abbrev pP (t : Fin cfg1.N) : Fin 8 := grid1.coords t 1
/-- The block of queries of a point. -/
abbrev pI (t : Fin cfg1.N) : Fin 4 := grid1.coords t 2

section

variable (V : (c : Dev nD) → (b : Ref sig .tc) → Buf (Elt Ideal) ((c : Thread nD τ).loc b))

theorem iblk1_0 (c : Dev nD) (t : Fin cfg1.N) (n : Fin 1024) (x : Fin 128) :
    (iblk1 V c 0 t : FVec Ideal S1x1x1024x128 .bf16) (ix4 0 0 n x) = (V c main_arg0 : FVec Ideal S8x8x4096x128 .bf16) (ix4 (pB t) (pP t) (posOf (pI t) n) x) := by
  refine congrArg (V c main_arg0) (funext fun a => Fin.ext ?_)
  blk_simp
  rw [index1_0]
  fin_cases a <;> simp [ix4, posOf]
  all_goals exact mul_comm _ _

theorem iblk1_1 (c : Dev nD) (t : Fin cfg1.N) (j : Fin 4608) (x : Fin 128) :
    (iblk1 V c 1 t : FVec Ideal S1x1x4608x128 .bf16) (ix4 0 0 j x) = (V c main_v3 : FVec Ideal S8x8x4608x128 .bf16) (ix4 (pB t) (pP t) j x) := by
  refine congrArg (V c main_v3) (funext fun a => Fin.ext ?_)
  blk_simp
  rw [index1_1]
  fin_cases a <;> simp [ix4]

theorem iblk1_2 (c : Dev nD) (t : Fin cfg1.N) (j : Fin 4608) (x : Fin 128) :
    (iblk1 V c 2 t : FVec Ideal S1x1x4608x128 .bf16) (ix4 0 0 j x) = (V c main_v4 : FVec Ideal S8x8x4608x128 .bf16) (ix4 (pB t) (pP t) j x) := by
  refine congrArg (V c main_v4) (funext fun a => Fin.ext ?_)
  blk_simp
  rw [index1_2]
  fin_cases a <;> simp [ix4]

theorem iblk1_3 (c : Dev nD) (t : Fin cfg1.N) (d : Fin 2) (a : Fin 256) (j : Fin 768) :
    (iblk1 V c 3 t : FVec Ideal S2x256x768 .f32) (ix3 d a j) = (V c main_v2 : FVec Ideal S16x256x768 .f32) (ix3 (headOf (pP t) d) a j) := by
  refine congrArg (V c main_v2) (funext fun a => Fin.ext ?_)
  blk_simp
  rw [index1_3]
  fin_cases a <;> simp [ix3, headOf]
  all_goals exact mul_comm _ _

end

variable (m : (ℓ : Loc nD τ sig) → Buf (Elt Ideal) ℓ) (ρ : Dev nD → PrngReg)

/-- A block of queries leaves the reference's rows. -/
theorem outs1_apply (c : Dev nD) (hq : ∀ i, IsNum (Q m c i)) (hk : ∀ i, IsNum (K m c i)) (ht : ∀ i, IsNum (T m c i)) (t : Fin cfg1.N) (n : Fin 1024) (x : Fin 128) :
    outsAt1 (V7 m ρ) c t (ix3 0 n x) = outR (Q m c) (K m c) (U m c) (T m c) (ix3 (pB t) (posOf (pI t) n) (laneOf (pP t) x)) := by
  unfold outsAt1
  refine (out1_apply _ _ _ _ _ _ _ _ _ _ _ _ _ _ _ _ n x).trans ?_
  exact core (Q m c) (K m c) (U m c) (T m c) hq hk ht (pB t) (pP t) (pI t) _ _ _ _
    (fun n x => (iblk1_0 (V7 m ρ) c t n x).trans (congrFun (V7_q m ρ c) _))
    (fun j x h => (iblk1_1 (V7 m ρ) c t j x).trans (V7_k m ρ c _ _ j x h))
    (fun j x h => (iblk1_2 (V7 m ρ) c t j x).trans (V7_v m ρ c _ _ j x h))
    (fun d a j => (iblk1_3 (V7 m ρ) c t d a j).trans (V7_b m ρ c _ a j)) n x

/-- The call's result is the reference's function of its arguments. -/
theorem final_4 (c : Dev nD) (hq : ∀ i, IsNum (Q m c i)) (hk : ∀ i, IsNum (K m c i)) (ht : ∀ i, IsNum (T m c i)) :
    (dat1 (V7 m ρ) c).arrAt 4 cfg1.N = outR (Q m c) (K m c) (U m c) (T m c) := by
  refine (dat1 (V7 m ρ) c).arrAt_eq_of_covers 4 _ (by decide +kernel) fun t hf y => ?_
  blk_simp
  rw [after1_4]
  have hy : y = ix3 0 (y 1) (y 2) := by
    funext a
    fin_cases a
    · exact Subsingleton.elim (α := Fin 1) _ _
    · rfl
    · rfl
  rw [hy]
  refine (outs1_apply m ρ c hq hk ht t (y 1) (y 2)).trans (congrArg (outR (Q m c) (K m c) (U m c) (T m c)) (funext fun a => Fin.ext ?_))
  blk_simp
  rw [index1_4]
  fin_cases a <;> simp [ix3, posOf, laneOf]
  all_goals exact mul_comm _ _

end Cert.Kernel7Ideal.Hand

end
-- ==== Proof.C7Run.lean ====
/- The chunked attention's run, with what its second region leaves in the result. -/
module

public import proofs.«01_k».proof.Proof.Gen.Kernel7Ideal.Frame

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The call runs, its result is what the second region leaves in it, its arguments end unchanged, and every counter ends at zero. -/
theorem run_main : θ_run defs (onTc (τ := τ) (main (F := F))) ⟨m, fun _ => 0, ρ⟩ (fun r => (∀ c : Dev nD,
      r.2.mem ((c.tc : Thread nD τ).loc main_v5) = (dat1 (V7 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨(h c _ (mem_uc main_v5 (by decide))).trans (W8_arr m ρ c 4),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩), funext fun g => hz g (.inr (no_unscoped g.2))⟩)

end Cert.Kernel7Ideal.Hand

end
-- ==== Proof.Pre7.lean ====
/- The seventh precondition read back: every number of the queries, the keys and the table is finite. -/
module

public import proofs.«01_k».proof.Pre_finite7
public import proofs.«01_k».proof.Proof.Pre
public import proofs.«01_k».proof.Proof.Soft2

@[expose] public section

noncomputable section

namespace Cert.Pre_finite7.Hand

open Cert.Pre_finite7
open Idealize.ShloMosaic Idealize.ShloMosaic.IntOp Cert.Soft Cert.Pre_finite.Hand

variable [Facts]

/-- The precondition gives that no number of the three arrays is an infinity. -/
theorem num_of_fn (q k v : FVec Ideal S8x8x4096x128 .bf16) (t : FVec Ideal S16x257 .f32) (h : fn (F := Ideal) q k v t = fun _ => 1#1) :
    (∀ i, IsNum (q i)) ∧ (∀ i, IsNum (k i)) ∧ (∀ i, IsNum (t i)) := by
  have : Subsingleton S_.Idx := ⟨fun a b => funext fun i => i.elim0⟩
  have h0 := congrFun h (fun i => i.elim0)
  obtain ⟨h2, h3⟩ := andi_eq_one.mp h0
  obtain ⟨h1, h2⟩ := andi_eq_one.mp h2
  refine ⟨fun i => ?_, fun i => ?_, fun i => ?_⟩
  · refine ne_of_abs_lt _ (Eq.trans ?_ (Host.reduce_andi_all _ _ _ _ _ h1 i))
    rw [← ofBits_inf]
    rfl
  · refine ne_of_abs_lt _ (Eq.trans ?_ (Host.reduce_andi_all _ _ _ _ _ h2 i))
    rw [← ofBits_inf]
    rfl
  · refine ne_of_abs_lt _ (Eq.trans ?_ (Host.reduce_andi_all _ _ _ _ _ h3 i))
    rw [← ofBits_inf]
    rfl

end Cert.Pre_finite7.Hand

end
-- ==== Proof.R8Val.lean ====
/- The eighth reference's result over the extended reals, read at an index. -/
module

public import proofs.«01_k».proof.Proof.Soft
public import proofs.«01_k».proof.Proof.Gen.Reference8Ideal.Run
public import Idealize.ShloMosaic.Lib.Tactic.CleanTypes

@[expose] public section

set_option maxRecDepth 16384

noncomputable section

namespace Cert.Reference8Ideal.Hand

open Cert.Reference8Ideal Cert.Reference8Ideal.Gen Cert.Reference8Ideal.Value
open Idealize.ShloMosaic Idealize.ShloMosaic.TcCoe Cert.Soft

/-- The conditioning times its logistic function. -/
def condR {F : FTy → Type} [FloatOps F] (c : FVec F S8x1024 .f32) : FVec F S8x1024 .f32 :=
  mulf c (Host.divf (broadcastInDim S8x1024 ![] bcast_S_S8x1024 (constant S_ .f32 0x3F800000#32)) (addf (broadcastInDim S8x1024 ![] bcast_S_S8x1024 (constant S_ .f32 0x3F800000#32)) (Host.exp (Host.negf c))))

/-- The result of the three arguments: the product with the weights of each block, and its bias. -/
def outR {F : FTy → Type} [FloatOps F] (c : FVec F S8x1024 .f32) (w : FVec F S2x1024x6144 .f32) (b : FVec F S2x6144 .f32) : FVec F S2x8x6144 .f32 :=
  addf (transpose S2x8x6144 [0, 2, 1] (Host.dotGeneral dot_S2x1024x6144_S8x1024_S2x6144x8_1_1_02_0_n_n none w (condR c)) transposes_S2x6144x8_S2x8x6144_0_2_1)
    (broadcastInDim S2x8x6144 ![0, 1, 2] bcast_S2x1x6144_S2x8x6144_0_1_2 (broadcastInDim S2x1x6144 ![0, 2] bcast_S2x6144_S2x1x6144_0_2 b))

theorem condR_apply (c : FVec Ideal S8x1024 .f32) (b : Fin 8) (k : Fin 1024) :
    condR c (ix2 b k) = c (ix2 b k) * Ideal.logistic (c (ix2 b k)) := by
  have h1 : Ideal.ofBits .f32 0x3F800000#32 = 1 := by simp [Ideal.ofBits_one_f32]
  unfold Ideal.logistic
  pointwise [condR]

theorem outR_apply (c : FVec Ideal S8x1024 .f32) (w : FVec Ideal S2x1024x6144 .f32) (b : FVec Ideal S2x6144 .f32) (l : Fin 2) (n : Fin 8) (d : Fin 6144) :
    outR c w b (ix3 l n d) = (∑ k : Fin 1024, w (ix3 l k d) * (c (ix2 n k) * Ideal.logistic (c (ix2 n k)))) + b (ix2 l d) := by
  have e : outR c w b (ix3 l n d) = (∑ k : Fin 1024, w (ix3 l k d) * condR c (ix2 n k)) + b (ix2 l d) := by
    pointwise [outR]
  rw [e]
  exact congrArg (· + _) (Finset.sum_congr rfl fun k _ => by rw [condR_apply])

end Cert.Reference8Ideal.Hand

end
-- ==== Proof.M8Out.lean ====
/- The result array of the modulation over the extended reals is the reference's function of the argument arrays. -/
module

public import proofs.«01_k».proof.Proof.Gen.Kernel8Ideal.Frame
public import proofs.«01_k».proof.Proof.R8Val
public import Idealize.ShloMosaic.Lib.Pipeline.Value
public import Idealize.ShloMosaic.Lib.Pipeline.ValueKit

@[expose] public section

set_option maxRecDepth 16384

noncomputable section

namespace Cert.Kernel8Ideal.Hand

open Cert.Kernel8Ideal Cert.Kernel8Ideal.Gen
open Idealize.ShloMosaic Idealize.ShloMosaic.TcCoe Idealize.SL Idealize.SL.Sem Cert.Soft
open Idealize.ShloMosaic.Pipeline (Dat Cfg Window)
open Cert.Reference8Ideal.Hand (outR outR_apply)

theorem index_0 : ∀ t, win0_0.index t = ![0, 0] := by decide +kernel
theorem index_1 : ∀ t, win0_1.index t = ![(grid0.coords t 0).val, 0, (grid0.coords t 1).val] := by decide +kernel
theorem index_2 : ∀ t, win0_2.index t = ![(grid0.coords t 0).val, 0, (grid0.coords t 1).val] := by decide +kernel
theorem index_3 : ∀ t, win0_3.index t = ![(grid0.coords t 0).val, 0, (grid0.coords t 1).val] := by decide +kernel

variable (m : (ℓ : Loc nD τ sig) → Buf (Elt Ideal) ℓ) (ρ : Dev nD → PrngReg)

/-- The conditioning. -/
abbrev A0 (c : Dev nD) : FVec Ideal S8x1024 .f32 := m ((c : Thread nD τ).loc main_arg0)
/-- The weights of both blocks. -/
abbrev A1 (c : Dev nD) : FVec Ideal S2x1024x6144 .f32 := m ((c : Thread nD τ).loc main_arg1)
/-- The biases of both blocks. -/
abbrev A2 (c : Dev nD) : FVec Ideal S2x6144 .f32 := m ((c : Thread nD τ).loc main_arg2)

/-- The block of the layer and the tile of columns of a point. -/
def pl (t : Fin cfg0.N) : Fin 2 := grid0.coords t 0
def pn (t : Fin cfg0.N) : Fin 12 := grid0.coords t 1

/-- The column of lane `x` of tile `a`. -/
def col (a : Fin 12) (x : Fin 512) : Fin 6144 := ⟨512 * a.val + x.val, by omega⟩

/-- The biases as the call finds them. -/
theorem V_bias (c : Dev nD) : V m c main_v0 = shapeCast S2x1x6144 (A2 m c) shapeCasts_S2x6144_S2x1x6144 := by
  rfl

theorem bias_apply (b : FVec Ideal S2x6144 .f32) (l : Fin 2) (d : Fin 6144) : shapeCast S2x1x6144 b shapeCasts_S2x6144_S2x1x6144 (ix3 l 0 d) = b (ix2 l d) := by
  pointwise

theorem iblk_0 (c : Dev nD) (t : Fin cfg0.N) (b : Fin 8) (k : Fin 1024) : iblk m c 0 t (ix2 b k) = A0 m c (ix2 b k) := by
  refine (congrFun (V_main_arg0 m c) _).trans (congrArg (A0 m c) (funext fun a => Fin.ext ?_))
  blk_simp
  rw [index_0]
  fin_cases a <;> simp [ix2]

theorem iblk_1 (c : Dev nD) (t : Fin cfg0.N) (k : Fin 1024) (x : Fin 512) :
    iblk m c 1 t (ix3 0 k x) = A1 m c (ix3 (pl t) k (col (pn t) x)) := by
  refine (congrFun (V_main_arg1 m c) _).trans (congrArg (A1 m c) (funext fun a => Fin.ext ?_))
  blk_simp
  rw [index_1]
  fin_cases a <;> simp [ix3, col, pl, pn, win0_1]
  all_goals exact mul_comm _ _

theorem iblk_2 (c : Dev nD) (t : Fin cfg0.N) (x : Fin 512) :
    iblk m c 2 t (ix3 0 0 x) = A2 m c (ix2 (pl t) (col (pn t) x)) := by
  refine (congrFun (V_bias m c) _).trans (Eq.trans (congrArg (shapeCast S2x1x6144 (A2 m c) shapeCasts_S2x6144_S2x1x6144) (funext fun a => Fin.ext ?_)) (bias_apply (A2 m c) (pl t) (col (pn t) x)))
  blk_simp
  rw [index_2]
  fin_cases a <;> simp [ix3, col, pl, pn, win0_2]
  all_goals exact mul_comm _ _

theorem pay1_apply (x0 : Vec Ideal S8x1024 .f32) (x1 : Vec Ideal S1x1024x512 .f32) (x2 : Vec Ideal S1x1x512 .f32) (b : Fin 8) (x : Fin 512) :
    k0_pay1 x0 x1 x2 (ix3 0 b x) = (∑ k : Fin 1024, x0 (ix2 b k) * Ideal.logistic (x0 (ix2 b k)) * x1 (ix3 0 k x)) + x2 (ix3 0 0 x) := by
  pointwise [k0_pay1]

/-- The block a point leaves is the body's value of its blocks. -/
theorem out_eq (x0 : Vec Ideal S8x1024 .f32) (x1 : Vec Ideal S1x1024x512 .f32) (x2 : Vec Ideal S1x1x512 .f32) :
    out0_3 x0 x1 x2 = k0_pay1 x0 x1 x2 := by
  unfold out0_3
  rw [View.canon_cons_unit_lit _ _ _ (by decide), View.ld_unit_lit _ _ (by decide), View.ld_unit_lit _ _ (by decide), View.ld_unit_lit _ _ (by decide)]

/-- The body's value of a point's blocks, at a batch and a column. -/
theorem val (c : Dev nD) (t : Fin cfg0.N) (b : Fin 8) (x : Fin 512) :
    k0_pay1 (iblk m c 0 t) (iblk m c 1 t) (iblk m c 2 t) (ix3 0 b x) = outR (A0 m c) (A1 m c) (A2 m c) (ix3 (pl t) b (col (pn t) x)) := by
  refine ((pay1_apply (iblk m c 0 t) (iblk m c 1 t) (iblk m c 2 t) b x).trans ?_).trans (outR_apply _ _ _ _ _ _).symm
  rw [iblk_2]
  exact congrArg (· + _) (Finset.sum_congr rfl fun k _ => by rw [iblk_0, iblk_1]; exact mul_comm _ _)

/-- The result array is the reference's of the argument arrays. -/
theorem final_3 (c : Dev nD) : (dats m 0 c).arrAt 3 cfg0.N = outR (A0 m c) (A1 m c) (A2 m c) := by
  refine (dats m 0 c).arrAt_eq_of_covers 3 _ (by decide +kernel) fun t hf y => ?_
  blk_simp
  rw [after0_3, out_eq]
  have hy : y = ix3 0 (y 1) (y 2) := by
    funext a
    fin_cases a
    · exact Subsingleton.elim (α := Fin 1) _ _
    · rfl
    · rfl
  rw [hy]
  refine (val m c t (y 1) (y 2)).trans (congrArg (outR (A0 m c) (A1 m c) (A2 m c)) (funext fun a => Fin.ext ?_))
  blk_simp
  rw [index_3]
  fin_cases a <;> simp [ix3, col, pl, pn, win0_3]
  all_goals exact mul_comm _ _

end Cert.Kernel8Ideal.Hand

end
-- ==== Proof.R9Val.lean ====
/- The ninth reference's result over the extended reals, read at an index. -/
module

public import proofs.«01_k».proof.Proof.Soft
public import proofs.«01_k».proof.Proof.Gen.Reference9Ideal.Run
public import Idealize.ShloMosaic.Lib.Tactic.CleanTypes

@[expose] public section

set_option maxRecDepth 16384

noncomputable section

namespace Cert.Reference9Ideal.Hand

open Cert.Reference9Ideal Cert.Reference9Ideal.Gen Cert.Reference9Ideal.Value
open Idealize.ShloMosaic Idealize.ShloMosaic.TcCoe Cert.Soft

/-- The product of the tokens with the keys of the experts. -/
def scoreR {F : FTy → Type} [FloatOps F] (h : FVec F S32768x1024 .bf16) (u : FVec F S16384x1024 .f32) : FVec F S32768x16384 .f32 :=
  Host.dotGeneral dot_S32768x1024_S16384x1024_S32768x16384_1_1_0_0_n_n none (extf .f32 h bitsLt_bf16_f32) u

/-- The gates of the experts, at each token. -/
def gateR {F : FTy → Type} [FloatOps F] (g : FVec F S4096x1024x128 .f32) : FVec F S32768x16384 .f32 :=
  shapeCast _ (transpose S4096x8x128x128 [0, 2, 1, 3] (shapeCast _ g shapeCasts_S4096x1024x128_S4096x128x8x128) transposes_S4096x128x8x128_S4096x8x128x128_0_2_1_3) shapeCasts_S4096x8x128x128_S32768x16384

/-- What each expert adds to a token: its activation times its gate. -/
def actR {F : FTy → Type} [FloatOps F] (s g : FVec F S32768x16384 .f32) : FVec F S32768x16384 .f32 :=
  mulf (mulf (mulf (broadcastInDim S32768x16384 ![] bcast_S_S32768x16384 (constant S_ .f32 0x3F000000#32)) s) (addf (broadcastInDim S32768x16384 ![] bcast_S_S32768x16384 (constant S_ .f32 0x3F800000#32)) (Host.erf (mulf s (broadcastInDim S32768x16384 ![] bcast_S_S32768x16384 (constant S_ .f32 0x3F3504F3#32)))))) g

/-- The result of the six arguments. -/
def outR {F : FTy → Type} [FloatOps F] (h : FVec F S32768x1024 .bf16) (u v : FVec F S16384x1024 .f32) (g : FVec F S4096x1024x128 .f32) (x : FVec F S32768x1024 .f32) (gf : FVec F S8x1x1024 .f32) : FVec F S32768x1024 .f32 :=
  addf x (shapeCast _ (mulf (broadcastInDim S8x4096x1024 ![0, 1, 2] bcast_S8x1x1024_S8x4096x1024_0_1_2 gf) (shapeCast _ (Host.dotGeneral dot_S32768x16384_S16384x1024_S32768x1024_1_0_0_1_n_n none (actR (scoreR h u) (gateR g)) v) shapeCasts_S32768x1024_S8x4096x1024)) shapeCasts_S8x4096x1024_S32768x1024)

/-- The activation of an expert's product. -/
def gel (s : Ideal .f32) : Ideal .f32 :=
  Ideal.ofBits .f32 0x3F000000#32 * s * (1 + Ideal.erf (s * Ideal.ofBits .f32 0x3F3504F3#32))

/-- The place of a gate in the gate matrix. -/
def gi (r : Fin 32768) : Fin 4096 := ⟨r.val / 8, by omega⟩
def gj (r : Fin 32768) (e : Fin 16384) : Fin 1024 := ⟨e.val / 128 * 8 + r.val % 8, by omega⟩
def gk (e : Fin 16384) : Fin 128 := ⟨e.val % 128, by omega⟩

/-- The batch of a row. -/
def rb (r : Fin 32768) : Fin 8 := ⟨r.val / 4096, by omega⟩

theorem scoreR_apply (h : FVec Ideal S32768x1024 .bf16) (u : FVec Ideal S16384x1024 .f32) (r : Fin 32768) (e : Fin 16384) :
    scoreR h u (ix2 r e) = ∑ k : Fin 1024, h (ix2 r k) * u (ix2 e k) := by
  pointwise [scoreR]

theorem gateR_apply (g : FVec Ideal S4096x1024x128 .f32) (r : Fin 32768) (e : Fin 16384) :
    gateR g (ix2 r e) = g (ix3 (gi r) (gj r e) (gk e)) := by
  pointwise [gateR, gi, gj, gk]

theorem actR_apply (s g : FVec Ideal S32768x16384 .f32) (r : Fin 32768) (e : Fin 16384) :
    actR s g (ix2 r e) = gel (s (ix2 r e)) * g (ix2 r e) := by
  have h1 : Ideal.ofBits .f32 0x3F800000#32 = 1 := by simp [Ideal.ofBits_one_f32]
  unfold gel
  pointwise [actR]

theorem dot_apply (a : FVec Ideal S32768x16384 .f32) (v : FVec Ideal S16384x1024 .f32) (x : FVec Ideal S32768x1024 .f32) (gf : FVec Ideal S8x1x1024 .f32) (r : Fin 32768) (d : Fin 1024) :
    addf x (shapeCast S32768x1024 (mulf (broadcastInDim S8x4096x1024 ![0, 1, 2] bcast_S8x1x1024_S8x4096x1024_0_1_2 gf) (shapeCast S8x4096x1024 (Host.dotGeneral dot_S32768x16384_S16384x1024_S32768x1024_1_0_0_1_n_n none a v) shapeCasts_S32768x1024_S8x4096x1024)) shapeCasts_S8x4096x1024_S32768x1024) (ix2 r d)
      = x (ix2 r d) + gf (ix3 (rb r) 0 d) * ∑ e : Fin 16384, a (ix2 r e) * v (ix2 e d) := by
  pointwise [rb]

theorem outR_apply (h : FVec Ideal S32768x1024 .bf16) (u v : FVec Ideal S16384x1024 .f32) (g : FVec Ideal S4096x1024x128 .f32) (x : FVec Ideal S32768x1024 .f32) (gf : FVec Ideal S8x1x1024 .f32) (r : Fin 32768) (d : Fin 1024) :
    outR h u v g x gf (ix2 r d) = x (ix2 r d) + gf (ix3 (rb r) 0 d) * ∑ e : Fin 16384, gel (∑ k : Fin 1024, h (ix2 r k) * u (ix2 e k)) * g (ix3 (gi r) (gj r e) (gk e)) * v (ix2 e d) := by
  refine (dot_apply (actR (scoreR h u) (gateR g)) v x gf r d).trans ?_
  exact congrArg (fun z => x (ix2 r d) + gf (ix3 (rb r) 0 d) * z) (Finset.sum_congr rfl fun e _ => by rw [actR_apply, scoreR_apply, gateR_apply])

end Cert.Reference9Ideal.Hand

end
-- ==== Proof.D9Pc.lean ====
/- One point's product of the dense experts: its activations times its gates, times its values. -/
module

public import proofs.«01_k».proof.Proof.Gen.Kernel9Ideal.Frame
public import proofs.«01_k».proof.Proof.R9Val
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.Kernel9Ideal.Hand

open Cert.Kernel9Ideal Cert.Kernel9Ideal.Gen
open Idealize.ShloMosaic Idealize.ShloMosaic.TcCoe Cert.Soft
open Cert.Reference9Ideal.Hand (gel)

/-- Sixteen blocks of 128 columns side by side. -/
def catP (P : Fin 16 → FVec Ideal S512x128 .f32) : FVec Ideal S512x2048 .f32 :=
  concatenate S512x2048 1 [⟨S512x128, P 0⟩, ⟨S512x128, P 1⟩, ⟨S512x128, P 2⟩, ⟨S512x128, P 3⟩, ⟨S512x128, P 4⟩, ⟨S512x128, P 5⟩, ⟨S512x128, P 6⟩, ⟨S512x128, P 7⟩, ⟨S512x128, P 8⟩, ⟨S512x128, P 9⟩, ⟨S512x128, P 10⟩, ⟨S512x128, P 11⟩, ⟨S512x128, P 12⟩, ⟨S512x128, P 13⟩, ⟨S512x128, P 14⟩, ⟨S512x128, P 15⟩] concatenates_S512x128_S512x128_S512x128_S512x128_S512x128_S512x128_S512x128_S512x128_S512x128_S512x128_S512x128_S512x128_S512x128_S512x128_S512x128_S512x128_S512x2048_d1

def ec (e : Fin 2048) : Fin 16 := ⟨e.val / 128, by omega⟩
def el (e : Fin 2048) : Fin 128 := ⟨e.val % 128, by omega⟩

theorem catP_apply (P : Fin 16 → FVec Ideal S512x128 .f32) (r : Fin 512) (e : Fin 2048) :
    catP P (ix2 r e) = P (ec e) (ix2 r (el e)) := by
  refine concatenate_ofFn_apply (t := S512x2048) (s₁ := S512x128) 1 P concatenates_S512x128_S512x128_S512x128_S512x128_S512x128_S512x128_S512x128_S512x128_S512x128_S512x128_S512x128_S512x128_S512x128_S512x128_S512x128_S512x128_S512x2048_d1 rfl 128 rfl (ix2 r e) (ec e) rfl (ix2 r (el e)) rfl fun b hb => ?_
  match b with
  | ⟨0, _⟩ => rfl
  | ⟨1, _⟩ => exact absurd rfl hb

/-- The activations of a point's tokens and experts. -/
theorem pay4_apply (x0 : FVec Ideal S512x1024 .bf16) (x1 : FVec Ideal S2048x1024 .bf16) (r : Fin 512) (e : Fin 2048) :
    k0_pay4 x0 x1 (ix2 r e) = gel (∑ k : Fin 1024, x0 (ix2 r k) * x1 (ix2 e k)) := by
  have h1 : Ideal.ofBits .f32 0x3F800000#32 = 1 := by simp [Ideal.ofBits_one_f32]
  unfold gel
  pointwise [k0_pay4]
  rfl

/-- The product of activations times gates with the values. -/
def prodV (a g : FVec Ideal S512x2048 .f32) (x2 : FVec Ideal S2048x1024 .bf16) : FVec Ideal S512x1024 .f32 :=
  matmul dot_S512x2048_S2048x1024_S512x1024_1_0_0_1_n_n none (truncf .bf16 (mulf a g) bitsLt_bf16_f32) (shapeCast S2048x1024 x2 shapeCasts_S2048x1024_S2048x1024) (constant S512x1024 .f32 0x00000000#32)

theorem prodV_apply (a g : FVec Ideal S512x2048 .f32) (x2 : FVec Ideal S2048x1024 .bf16) (r : Fin 512) (d : Fin 1024) :
    prodV a g x2 (ix2 r d) = ∑ e : Fin 2048, a (ix2 r e) * g (ix2 r e) * x2 (ix2 e d) := by
  pointwise [prodV]

theorem pay1_apply (a b : FVec Ideal S512x1024 .f32) (r : Fin 512) (d : Fin 1024) : k0_pay1 a b (ix2 r d) = a (ix2 r d) + b (ix2 r d) := by
  pointwise [k0_pay1]

theorem pay2_apply (x acc : FVec Ideal S512x1024 .f32) (g : FVec Ideal S1x1x1024 .f32) (r : Fin 512) (d : Fin 1024) :
    k0_pay2 x g acc (ix2 r d) = x (ix2 r d) + g (ix3 0 0 d) * acc (ix2 r d) := by
  pointwise [k0_pay2]

theorem pay3_apply (r : Fin 512) (d : Fin 1024) : k0_pay3 (F := Ideal) (ix2 r d) = 0 := by
  pointwise [k0_pay3]

/-- Eight rows of the gates of a block. -/
def ldP (x3 : Vec Ideal S64x128x128 .f32) (o : Fin 3 → Nat) (inb : ∀ a, o a + S64x8x128.size a ≤ S64x128x128.size a) : FVec Ideal S64x8x128 .f32 :=
  View.ld x3 (Rect.unit (s := S64x128x128) o S64x8x128.size inb)

/-- Eight rows of the gates of every eight tokens, as the rows of the tokens. -/
def rowsP (x3 : Vec Ideal S64x128x128 .f32) (o : Fin 3 → Nat) (inb : ∀ a, o a + S64x8x128.size a ≤ S64x128x128.size a) : FVec Ideal S512x128 .f32 :=
  shapeCast S512x128 (ldP x3 o inb) shapeCasts_S64x8x128_S512x128

def ri (r : Fin 512) : Fin 64 := ⟨r.val / 8, by omega⟩
def rj (c : Fin 16) (r : Fin 512) : Fin 128 := ⟨c.val * 8 + r.val % 8, by omega⟩

theorem cast_apply (y : FVec Ideal S64x8x128 .f32) (r : Fin 512) (l : Fin 128) :
    shapeCast S512x128 y shapeCasts_S64x8x128_S512x128 (ix2 r l) = y (ix3 (ri r) ⟨r.val % 8, by omega⟩ l) := by
  pointwise [ri]

theorem rowsP_apply (x3 : Vec Ideal S64x128x128 .f32) (c : Fin 16) (inb) (r : Fin 512) (l : Fin 128) :
    rowsP x3 ![0, 8 * c.val, 0] inb (ix2 r l) = x3 (ix3 (ri r) (rj c r) l) := by
  refine (cast_apply (ldP x3 ![0, 8 * c.val, 0] inb) r l).trans (congrArg x3 (funext fun d => Fin.ext ?_))
  match d with
  | ⟨0, _⟩ => show 0 + 1 * (r.val / 8) = r.val / 8; omega
  | ⟨1, _⟩ => show 8 * c.val + 1 * (r.val % 8) = c.val * 8 + r.val % 8; omega
  | ⟨2, _⟩ => show 0 + 1 * l.val = l.val; omega

theorem inbC (c : Fin 16) : ∀ a, (![0, 8 * c.val, 0] : Fin 3 → Nat) a + S64x8x128.size a ≤ S64x128x128.size a := by
  intro a
  match a with
  | ⟨0, _⟩ => show 0 + 64 ≤ 64; omega
  | ⟨1, _⟩ => show 8 * c.val + 8 ≤ 128; omega
  | ⟨2, _⟩ => show 0 + 128 ≤ 128; omega

/-- The gates of a point. -/
def gateP (x3 : Vec Ideal S64x128x128 .f32) : FVec Ideal S512x2048 .f32 := catP fun c => rowsP x3 ![0, 8 * c.val, 0] (inbC c)

theorem gateP_apply (x3 : Vec Ideal S64x128x128 .f32) (r : Fin 512) (e : Fin 2048) : gateP x3 (ix2 r e) = x3 (ix3 (ri r) (rj (ec e) r) (el e)) :=
  (catP_apply _ r e).trans (rowsP_apply x3 (ec e) _ r (el e))

/-- What a point adds. -/
def partP (x0 : FVec Ideal S512x1024 .bf16) (x1 x2 : FVec Ideal S2048x1024 .bf16) (x3 : Vec Ideal S64x128x128 .f32) : FVec Ideal S512x1024 .f32 :=
  prodV (k0_pay4 x0 x1) (gateP x3) x2

theorem partP_apply (x0 : FVec Ideal S512x1024 .bf16) (x1 x2 : FVec Ideal S2048x1024 .bf16) (x3 : Vec Ideal S64x128x128 .f32) (r : Fin 512) (d : Fin 1024) :
    partP x0 x1 x2 x3 (ix2 r d) = ∑ e : Fin 2048, gel (∑ k : Fin 1024, x0 (ix2 r k) * x1 (ix2 e k)) * x3 (ix3 (ri r) (rj (ec e) r) (el e)) * x2 (ix2 e d) := by
  refine (prodV_apply _ _ _ r d).trans (Finset.sum_congr rfl fun e _ => ?_)
  rw [pay4_apply, gateP_apply]

/-- A point's sum, as the sixteen loads of its gates give it. -/
theorem pay11_eq (x0 : FVec Ideal S512x1024 .bf16) (x1 x2 : FVec Ideal S2048x1024 .bf16) (x3 : Vec Ideal S64x128x128 .f32) :
    k0_pay11 (k0_pay4 x0 x1) (k0_pay5 (View.ld x3 (Rect.unit (s := S64x128x128) ![0, 0, 0] S64x8x128.size inb_S64x128x128_S64x8x128_0_0_0))) (k0_pay6 (View.ld x3 (Rect.unit (s := S64x128x128) ![0, 8, 0] S64x8x128.size inb_S64x128x128_S64x8x128_0_8_0))) (k0_pay7 (View.ld x3 (Rect.unit (s := S64x128x128) ![0, 16, 0] S64x8x128.size inb_S64x128x128_S64x8x128_0_16_0))) (k0_pay8 (View.ld x3 (Rect.unit (s := S64x128x128) ![0, 24, 0] S64x8x128.size inb_S64x128x128_S64x8x128_0_24_0))) (k0_pay9 (View.ld x3 (Rect.unit (s := S64x128x128) ![0, 32, 0] S64x8x128.size inb_S64x128x128_S64x8x128_0_32_0))) (k0_pay10 (View.ld x3 (Rect.unit (s := S64x128x128) ![0, 40, 0] S64x8x128.size inb_S64x128x128_S64x8x128_0_40_0))) (View.ld x3 (Rect.unit (s := S64x128x128) ![0, 48, 0] S64x8x128.size inb_S64x128x128_S64x8x128_0_48_0)) (View.ld x3 (Rect.unit (s := S64x128x128) ![0, 56, 0] S64x8x128.size inb_S64x128x128_S64x8x128_0_56_0)) (View.ld x3 (Rect.unit (s := S64x128x128) ![0, 64, 0] S64x8x128.size inb_S64x128x128_S64x8x128_0_64_0)) (View.ld x3 (Rect.unit (s := S64x128x128) ![0, 72, 0] S64x8x128.size inb_S64x128x128_S64x8x128_0_72_0)) (View.ld x3 (Rect.unit (s := S64x128x128) ![0, 80, 0] S64x8x128.size inb_S64x128x128_S64x8x128_0_80_0)) (View.ld x3 (Rect.unit (s := S64x128x128) ![0, 88, 0] S64x8x128.size inb_S64x128x128_S64x8x128_0_88_0)) (View.ld x3 (Rect.unit (s := S64x128x128) ![0, 96, 0] S64x8x128.size inb_S64x128x128_S64x8x128_0_96_0)) (View.ld x3 (Rect.unit (s := S64x128x128) ![0, 104, 0] S64x8x128.size inb_S64x128x128_S64x8x128_0_104_0)) (View.ld x3 (Rect.unit (s := S64x128x128) ![0, 112, 0] S64x8x128.size inb_S64x128x128_S64x8x128_0_112_0)) (View.ld x3 (Rect.unit (s := S64x128x128) ![0, 120, 0] S64x8x128.size inb_S64x128x128_S64x8x128_0_120_0)) x2 = partP x0 x1 x2 x3 := by
  rfl

variable (m : (ℓ : Loc nD τ sig) → Buf (Elt Ideal) ℓ)

/-- What a point adds to the sums, of its blocks. -/
def part (c : Dev nD) (t : Fin cfg0.N) : FVec Ideal S512x1024 .f32 := partP (iblk m c 0 t) (iblk m c 1 t) (iblk m c 2 t) (iblk m c 3 t)

theorem sA (c : Dev nD) (t : Fin cfg0.N) (h : t.val % 8 = 0) (h' : ¬t.val % 8 = 7) : (outsAt0 m c t.val t.isLt).2 = k0_pay1 k0_pay3 (part m c t) := by
  rw [outsAt0_A m c t h h']
  frame_out
  exact congrArg (k0_pay1 _) (pay11_eq _ _ _ _)

theorem sB (c : Dev nD) (t : Fin cfg0.N) (h : ¬t.val % 8 = 0) (h' : ¬t.val % 8 = 7) : (outsAt0 m c t.val t.isLt).2 = k0_pay1 (outsAt0 m c (t.val - 1) (by omega)).2 (part m c t) := by
  rw [outsAt0_B m c t h h']
  frame_out
  rw [read_unread_whole]
  exact congrArg (k0_pay1 _) (pay11_eq _ _ _ _)

theorem sC (c : Dev nD) (t : Fin cfg0.N) (h : ¬t.val % 8 = 0) (h' : t.val % 8 = 7) : (outsAt0 m c t.val t.isLt).2 = k0_pay1 (outsAt0 m c (t.val - 1) (by omega)).2 (part m c t) := by
  rw [outsAt0_C m c t h h']
  frame_out
  rw [read_unread_whole]
  exact congrArg (k0_pay1 _) (pay11_eq _ _ _ _)

end Cert.Kernel9Ideal.Hand

end
-- ==== Proof.D9Out.lean ====
/- The result array of the dense experts over the extended reals is the reference's function of the argument arrays. -/
module

public import proofs.«01_k».proof.Proof.D9Pc

@[expose] public section

set_option maxRecDepth 16384

noncomputable section

namespace Cert.Kernel9Ideal.Hand

open Cert.Kernel9Ideal Cert.Kernel9Ideal.Gen
open Idealize.ShloMosaic Idealize.ShloMosaic.TcCoe Idealize.SL Idealize.SL.Sem Cert.Soft
open Idealize.ShloMosaic.Pipeline (Dat Cfg Window)
open Cert.Reference9Ideal.Hand (outR outR_apply gel gi gj gk rb)

theorem index_0 : ∀ t, win0_0.index t = ![t.val / 8, 0] := by decide +kernel
theorem index_1 : ∀ t, win0_1.index t = ![t.val % 8, 0] := by decide +kernel
theorem index_2 : ∀ t, win0_2.index t = ![t.val % 8, 0] := by decide +kernel
theorem index_3 : ∀ t, win0_3.index t = ![t.val / 8, t.val % 8, 0] := by decide +kernel
theorem index_4 : ∀ t, win0_4.index t = ![t.val / 8, 0] := by decide +kernel
theorem index_5 : ∀ t, win0_5.index t = ![t.val / 64, 0, 0] := by decide +kernel
theorem index_7 : ∀ t, win0_7.index t = ![t.val / 8, 0] := by decide +kernel

variable (m : (ℓ : Loc nD τ sig) → Buf (Elt Ideal) ℓ) (ρ : Dev nD → PrngReg)

/-- The tokens. -/
abbrev A0 (c : Dev nD) : FVec Ideal S32768x1024 .bf16 := m ((c : Thread nD τ).loc main_arg0)
/-- The experts' keys. -/
abbrev A1 (c : Dev nD) : FVec Ideal S16384x1024 .f32 := m ((c : Thread nD τ).loc main_arg1)
/-- The experts' values. -/
abbrev A2 (c : Dev nD) : FVec Ideal S16384x1024 .f32 := m ((c : Thread nD τ).loc main_arg2)
/-- The gates. -/
abbrev A3 (c : Dev nD) : FVec Ideal S4096x1024x128 .f32 := m ((c : Thread nD τ).loc main_arg3)
/-- The residual. -/
abbrev A4 (c : Dev nD) : FVec Ideal S32768x1024 .f32 := m ((c : Thread nD τ).loc main_arg4)
/-- The gate of each batch. -/
abbrev A5 (c : Dev nD) : FVec Ideal S8x1x1024 .f32 := m ((c : Thread nD τ).loc main_arg5)

/-- The tile of rows and the tile of experts of a point. -/
def pi (t : Fin cfg0.N) : Fin 64 := ⟨t.val / 8, by have h : t.val < 512 := t.isLt; omega⟩
def pj (t : Fin cfg0.N) : Fin 8 := ⟨t.val % 8, by omega⟩

/-- The row of row `r` of tile `i`, and the expert of expert `e` of tile `j`. -/
def row (i : Fin 64) (r : Fin 512) : Fin 32768 := ⟨512 * i.val + r.val, by omega⟩
def ex (j : Fin 8) (e : Fin 2048) : Fin 16384 := ⟨j.val * 2048 + e.val, by omega⟩

/-- The experts as the call finds them. -/
theorem V_keys (c : Dev nD) : V m c main_v0 = truncf .bf16 (A1 m c) bitsLt_bf16_f32 := by
  rfl
theorem V_values (c : Dev nD) : V m c main_v1 = truncf .bf16 (A2 m c) bitsLt_bf16_f32 := by
  rfl

theorem iblk_0 (c : Dev nD) (t : Fin cfg0.N) (r : Fin 512) (k : Fin 1024) : iblk m c 0 t (ix2 r k) = A0 m c (ix2 (row (pi t) r) k) := by
  refine (congrFun (V_main_arg0 m c) _).trans (congrArg (A0 m c) (funext fun a => Fin.ext ?_))
  blk_simp
  rw [index_0]
  fin_cases a <;> simp [ix2, row, pi, win0_0]
  all_goals exact mul_comm _ _

theorem iblk_1 (c : Dev nD) (t : Fin cfg0.N) (e : Fin 2048) (k : Fin 1024) : iblk m c 1 t (ix2 e k) = A1 m c (ix2 (ex (pj t) e) k) := by
  refine (congrFun (V_keys m c) _).trans (congrArg (A1 m c) (funext fun a => Fin.ext ?_))
  blk_simp
  rw [index_1]
  fin_cases a <;> simp [ix2, ex, pj, win0_1]

theorem iblk_2 (c : Dev nD) (t : Fin cfg0.N) (e : Fin 2048) (d : Fin 1024) : iblk m c 2 t (ix2 e d) = A2 m c (ix2 (ex (pj t) e) d) := by
  refine (congrFun (V_values m c) _).trans (congrArg (A2 m c) (funext fun a => Fin.ext ?_))
  blk_simp
  rw [index_2]
  fin_cases a <;> simp [ix2, ex, pj, win0_2]

theorem iblk_3 (c : Dev nD) (t : Fin cfg0.N) (a : Fin 64) (b l : Fin 128) :
    iblk m c 3 t (ix3 a b l) = A3 m c (ix3 ⟨(pi t).val * 64 + a.val, by omega⟩ ⟨(pj t).val * 128 + b.val, by omega⟩ l) := by
  refine (congrFun (V_main_arg3 m c) _).trans (congrArg (A3 m c) (funext fun a => Fin.ext ?_))
  blk_simp
  rw [index_3]
  fin_cases a <;> simp [ix3, pi, pj, win0_3]

theorem iblk_4 (c : Dev nD) (t : Fin cfg0.N) (r : Fin 512) (d : Fin 1024) : iblk m c 4 t (ix2 r d) = A4 m c (ix2 (row (pi t) r) d) := by
  refine (congrFun (V_main_arg4 m c) _).trans (congrArg (A4 m c) (funext fun a => Fin.ext ?_))
  blk_simp
  rw [index_4]
  fin_cases a <;> simp [ix2, row, pi, win0_4]
  all_goals exact mul_comm _ _

theorem rb_row (i : Fin 64) (r : Fin 512) : (rb (row i r)).val = i.val / 8 := by
  show (512 * i.val + r.val) / 4096 = i.val / 8
  omega

theorem iblk_5 (c : Dev nD) (t : Fin cfg0.N) (r : Fin 512) (d : Fin 1024) : iblk m c 5 t (ix3 0 0 d) = A5 m c (ix3 (rb (row (pi t) r)) 0 d) := by
  refine (congrFun (V_main_arg5 m c) _).trans (congrArg (A5 m c) (funext fun a => Fin.ext ?_))
  blk_simp
  rw [index_5]
  fin_cases a <;> simp [ix3, rb_row, pi, win0_5]
  all_goals omega

theorem gi_row (i : Fin 64) (r : Fin 512) (h) : (⟨i.val * 64 + (ri r).val, h⟩ : Fin 4096) = gi (row i r) := by
  refine Fin.ext ?_
  show i.val * 64 + r.val / 8 = (512 * i.val + r.val) / 8
  omega

theorem gj_row (i : Fin 64) (j : Fin 8) (r : Fin 512) (e : Fin 2048) (h) : (⟨j.val * 128 + (rj (ec e) r).val, h⟩ : Fin 1024) = gj (row i r) (ex j e) := by
  refine Fin.ext ?_
  show j.val * 128 + (e.val / 128 * 8 + r.val % 8) = (j.val * 2048 + e.val) / 128 * 8 + (512 * i.val + r.val) % 8
  omega

theorem gk_ex (j : Fin 8) (e : Fin 2048) : el e = gk (ex j e) := by
  refine Fin.ext ?_
  show e.val % 128 = (j.val * 2048 + e.val) % 128
  omega

/-- What an expert adds to a row. -/
def term (c : Dev nD) (r : Fin 32768) (d : Fin 1024) (e : Fin 16384) : Ideal .f32 :=
  gel (∑ k : Fin 1024, A0 m c (ix2 r k) * A1 m c (ix2 e k)) * A3 m c (ix3 (gi r) (gj r e) (gk e)) * A2 m c (ix2 e d)

/-- What a point adds, of the argument arrays. -/
theorem part_apply (c : Dev nD) (t : Fin cfg0.N) (r : Fin 512) (d : Fin 1024) :
    part m c t (ix2 r d) = ∑ e : Fin 2048, term m c (row (pi t) r) d (ex (pj t) e) := by
  refine (partP_apply _ _ _ _ r d).trans (Finset.sum_congr rfl fun e _ => ?_)
  rw [iblk_3, iblk_2, gi_row, gj_row (pi t), gk_ex (pj t)]
  exact congrArg (fun z => gel z * _ * _) (Finset.sum_congr rfl fun k _ => by rw [iblk_0, iblk_1])

/-- The sums at the last point of a tile of rows. -/
theorem acc_last (c : Dev nD) (t : Fin cfg0.N) (ht : t.val % 8 = 7) (r : Fin 512) (d : Fin 1024) :
    (outsAt0 m c t.val t.isLt).2 (ix2 r d) = ∑ e : Fin 16384, term m c (row (pi t) r) d e := by
  rw [Pipeline.eq_sum_fin_of_reset_step_apply_of_flush (fun n h (i : Fin 512 × Fin 1024) => (outsAt0 m c n h).2 (ix2 i.1 i.2)) 8 (fun _ => (0 : EReal)) (fun t i => part m c t (ix2 i.1 i.2))
    (fun t h i => by
      show (outsAt0 m c t.val t.isLt).2 (ix2 i.1 i.2) = _
      rw [sA m c t h (by omega), pay1_apply, pay3_apply])
    (fun t h i => by
      show (outsAt0 m c t.val t.isLt).2 (ix2 i.1 i.2) = _
      by_cases h7 : t.val % 8 = 7
      · rw [sC m c t h h7, pay1_apply]
      · rw [sB m c t h h7, pay1_apply])
    t ht (r, d), zero_add]
  refine Eq.trans (Finset.sum_congr rfl fun s _ => part_apply m c _ r d) (Fin.sum_mul_add_congr fun s e hl => ?_)
  have e1 : pi ⟨8 * (t.val / 8) + s.val, Pipeline.run_point_lt_of_flush t ht s⟩ = pi t := Fin.ext (show (8 * (t.val / 8) + s.val) / 8 = t.val / 8 by omega)
  have e2 : pj ⟨8 * (t.val / 8) + s.val, Pipeline.run_point_lt_of_flush t ht s⟩ = s := Fin.ext (show (8 * (t.val / 8) + s.val) % 8 = s.val by omega)
  rw [e1, e2]
  rfl

/-- The block the last point of a tile of rows leaves. -/
theorem out_last (c : Dev nD) (t : Fin cfg0.N) (ht : t.val % 8 = 7) :
    (outsAt0 m c t.val t.isLt).1 = k0_pay2 (iblk m c 4 t) (iblk m c 5 t) (outsAt0 m c t.val t.isLt).2 := by
  rw [sC m c t (by omega) ht, outsAt0_C m c t (by omega) ht]
  frame_out
  rw [read_unread_whole]
  exact congrArg (fun z => k0_pay2 _ _ (k0_pay1 _ z)) (pay11_eq _ _ _ _)

/-- The block, at a row and a column. -/
theorem val (c : Dev nD) (t : Fin cfg0.N) (ht : t.val % 8 = 7) (r : Fin 512) (d : Fin 1024) :
    (outsAt0 m c t.val t.isLt).1 (ix2 r d) = outR (A0 m c) (A1 m c) (A2 m c) (A3 m c) (A4 m c) (A5 m c) (ix2 (row (pi t) r) d) := by
  rw [out_last m c t ht]
  refine ((pay2_apply _ _ _ r d).trans ?_).trans (outR_apply _ _ _ _ _ _ _ _).symm
  rw [acc_last m c t ht, iblk_4, iblk_5 m c t r]
  rfl

/-- The result array is the reference's of the argument arrays. -/
theorem final_7 (c : Dev nD) : (dats m 0 c).arrAt 7 cfg0.N = outR (A0 m c) (A1 m c) (A2 m c) (A3 m c) (A4 m c) (A5 m c) := by
  refine (dats m 0 c).arrAt_eq_of_covers 7 _ (by decide +kernel) fun t hf y => ?_
  have ht : t.val % 8 = 7 := (flush0_7 t).mp hf
  blk_simp
  rw [after0_7]
  have hy : y = ix2 (y 0) (y 1) := by
    funext a
    fin_cases a <;> rfl
  rw [hy]
  refine (val m c t ht (y 0) (y 1)).trans (congrArg (outR (A0 m c) (A1 m c) (A2 m c) (A3 m c) (A4 m c) (A5 m c)) (funext fun a => Fin.ext ?_))
  blk_simp
  rw [index_7]
  fin_cases a <;> simp [ix2, row, pi, win0_7]
  all_goals exact mul_comm _ _

end Cert.Kernel9Ideal.Hand

end
-- ==== Proof.lean ====
module

public import proofs.«01_k».proof.Defs
public import proofs.«01_k».proof.Proof.KFrame
public import proofs.«01_k».proof.Proof.IOut
public import proofs.«01_k».proof.Proof.Pre
public import proofs.«01_k».proof.Proof.BFrame
public import proofs.«01_k».proof.Proof.DOut
public import proofs.«01_k».proof.Proof.Pre2
public import proofs.«01_k».proof.Proof.C3Out
public import proofs.«01_k».proof.Proof.O4Out
public import proofs.«01_k».proof.Proof.O5Out
public import proofs.«01_k».proof.Proof.P6Out
public import proofs.«01_k».proof.Proof.C7Out
public import proofs.«01_k».proof.Proof.C7Run
public import proofs.«01_k».proof.Proof.Pre7
public import proofs.«01_k».proof.Proof.M8Out
public import proofs.«01_k».proof.Proof.D9Out
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Pre_finite
public import proofs.«01_k».proof.Proof.Gen.Pre_finite2
public import proofs.«01_k».proof.Proof.Gen.Pre_finite7
public import Idealize.ShloMosaic.Lib.Quiescent
public import Idealize.ShloMosaic.Adequacy
public import Idealize.ShloMosaic.Init

@[expose] public section

noncomputable section

namespace Cert.Proof

open Idealize.ShloMosaic Idealize.SL Idealize.SL.Sem

/-- The reference runs, its arguments end unchanged, and every counter ends at zero: it has none. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run m g)

/-- From the same finite queries and keys, and the same values, the kernel's result is the reference's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hag
  refine ⟨fun c => Cert.KernelIdeal.Hand.G (Cert.KernelIdeal.Hand.A0 m c) (Cert.KernelIdeal.Hand.A1 m c) (Cert.KernelIdeal.Hand.A2 m c), ?_, ?_⟩
  · refine (θ_run _ _ _).mono (fun r h c => ?_) (Cert.KernelIdeal.Hand.run_main m g)
    obtain ⟨hq, hk⟩ := Cert.Pre_finite.Hand.ne_of_fn _ _ _ (hpre c)
    exact ⟨((h.1 c).1 3).trans (Cert.KernelIdeal.Hand.final_3 m c hq hk),
      ((h.1 c).1 0).trans ((Cert.KernelIdeal.Hand.dats m 0 c).arrAt_in 0 rfl _),
      ((h.1 c).1 1).trans ((Cert.KernelIdeal.Hand.dats m 0 c).arrAt_in 1 rfl _),
      ((h.1 c).1 2).trans ((Cert.KernelIdeal.Hand.dats m 0 c).arrAt_in 2 rfl _)⟩
  · refine (θ_run _ _ _).mono (fun r h c => ⟨(h c).1.trans ?_, (h c).2⟩) (Cert.ReferenceIdeal.Value.run m' g')
    rw [Cert.ReferenceIdeal.Hand.res_eq, (hag c).1, (hag c).2.1, (hag c).2.2]
    rfl

/-- The second reference runs, its arguments end unchanged, and every counter ends at zero: it has none. -/
theorem reference2_frame (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0) :=
  (θ_run _ _ _).mono (fun r h => ⟨fun c => (h c).2, sem_eq_zero_of_no_sems (by decide) r.2⟩) (Cert.Reference2Ideal.Value.run m g)

open Cert.Kernel2Ideal.Hand in
/-- From the same finite parameters, queries, keys and values, and the same gains, the second kernel's result is its reference's. -/
theorem algebraic2 : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hag
  refine ⟨fun c => Cert.Reference2Ideal.Hand.outR (A0 m c) (A1 m c) (A2 m c) (A3 m c) (A4 m c), ?_, ?_⟩
  · refine (θ_run _ _ _).mono (fun r h c => ?_) (run_main m g)
    obtain ⟨hl, hq, hk, hv⟩ := Cert.Pre_finite2.Hand.num_of_fn _ _ _ _ _ (hpre c)
    exact ⟨((h.1 c).1 5).trans (final_5 m c hl hq hk hv),
      ((h.1 c).1 0).trans (((dats m 0 c).arrAt_in 0 rfl _).trans ((A_eq m c 0).trans (Cert.Kernel2Ideal.Gen.V_main_arg0 m c))),
      ((h.1 c).2 Cert.Kernel2Ideal.main_arg1 (Pipeline.mem_restRefs_of Cert.Kernel2Ideal.main_arg1 (by decide) (by decide))).trans (Cert.Kernel2Ideal.Gen.V_main_arg1 m c),
      ((h.1 c).1 2).trans (((dats m 0 c).arrAt_in 2 rfl _).trans ((A_eq m c 2).trans (Cert.Kernel2Ideal.Gen.V_main_arg2 m c))),
      ((h.1 c).1 3).trans (((dats m 0 c).arrAt_in 3 rfl _).trans ((A_eq m c 3).trans (Cert.Kernel2Ideal.Gen.V_main_arg3 m c))),
      ((h.1 c).1 4).trans (((dats m 0 c).arrAt_in 4 rfl _).trans ((A_eq m c 4).trans (Cert.Kernel2Ideal.Gen.V_main_arg4 m c)))⟩
  · refine (θ_run _ _ _).mono (fun r h c => ⟨(h c).1.trans ?_, (h c).2⟩) (Cert.Reference2Ideal.Value.run m' g')
    rw [Cert.Reference2Ideal.Hand.res_eq, (hag c).1, (hag c).2.1, (hag c).2.2.1, (hag c).2.2.2.1, (hag c).2.2.2.2]

/-- The third reference runs, its arguments end unchanged, and every counter ends at zero: it has none. -/
theorem reference3_frame (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run _ _ _).mono (fun r h => ⟨fun c => (h c).2.2.2, sem_eq_zero_of_no_sems (by decide) r.2⟩) (Cert.Reference3Ideal.Value.run m g)

open Cert.Kernel3Ideal.Hand in
/-- The reference's product of equal arguments is the one the kernel's results are read from. -/
theorem prod_args (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) :
    Cert.Reference3Ideal.Hand.pR (Cert.Reference3Ideal.Hand.hR (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3))) (m' ((c.tc : Thread Cert.Reference3Ideal.nD Cert.Reference3Ideal.τ).loc Cert.Reference3Ideal.main_arg4)) = PR m c := by
  rw [h.1, h.2.1, h.2.2.1, h.2.2.2.1, h.2.2.2.2]

open Cert.Kernel3Ideal.Hand Cert.Kernel3Ideal.Gen in
/-- From the same arguments the third kernel's three results are its reference's. -/
theorem algebraic3 : Cert.algebraic_Kernel3Ideal_Reference3Ideal (hKernel3Ideal := Cert.Kernel3Ideal.Gen.facts)
    (hReference3Ideal := Cert.Reference3Ideal.Gen.facts) := by
  intro m g m' g' _ hag
  refine ⟨fun c => Cert.Reference3Ideal.Hand.qR (PR m c), fun c => Cert.Reference3Ideal.Hand.kR (PR m c), fun c => Cert.Reference3Ideal.Hand.vR (PR m c), ?_, ?_⟩
  · refine (θ_run _ _ _).mono (fun r h c => ?_) (Cert.Kernel3Ideal.Gen.run_main m g)
    exact ⟨((h c).1 5).trans (final_5 m c),
      ((h c).1 6).trans (final_6 m c),
      ((h c).1 7).trans (final_7 m c),
      ((h c).1 0).trans (((dats m 0 c).arrAt_in 0 rfl _).trans ((A_eq m c 0).trans (Cert.Kernel3Ideal.Gen.V_main_arg0 m c))),
      ((h c).2 Cert.Kernel3Ideal.main_arg1 (Pipeline.mem_restRefs_of Cert.Kernel3Ideal.main_arg1 (by decide) (by decide))).trans (Cert.Kernel3Ideal.Gen.V_main_arg1 m c),
      ((h c).1 2).trans (((dats m 0 c).arrAt_in 2 rfl _).trans ((A_eq m c 2).trans (Cert.Kernel3Ideal.Gen.V_main_arg2 m c))),
      ((h c).1 3).trans (((dats m 0 c).arrAt_in 3 rfl _).trans ((A_eq m c 3).trans (Cert.Kernel3Ideal.Gen.V_main_arg3 m c))),
      ((h c).2 Cert.Kernel3Ideal.main_arg4 (Pipeline.mem_restRefs_of Cert.Kernel3Ideal.main_arg4 (by decide) (by decide))).trans (Cert.Kernel3Ideal.Gen.V_main_arg4 m c)⟩
  · refine (θ_run _ _ _).mono (fun r h c => ⟨(h c).1.trans (congrArg Cert.Reference3Ideal.Hand.qR (prod_args m m' c (hag c))), (h c).2.1.trans (congrArg Cert.Reference3Ideal.Hand.kR (prod_args m m' c (hag c))), (h c).2.2.1.trans (congrArg Cert.Reference3Ideal.Hand.vR (prod_args m m' c (hag c))), (h c).2.2.2⟩) (Cert.Reference3Ideal.Value.run m' g')

/-- The fourth reference runs, its arguments end unchanged, and every counter ends at zero: it has none. -/
theorem reference4_frame (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0) :=
  (θ_run _ _ _).mono (fun r h => ⟨fun c => (h c).2, sem_eq_zero_of_no_sems (by decide) r.2⟩) (Cert.Reference4Ideal.Value.run m g)

open Cert.Kernel4Ideal.Hand Cert.Kernel4Ideal.Gen in
/-- From the same arguments the fourth kernel's result is its reference's. -/
theorem algebraic4 : Cert.algebraic_Kernel4Ideal_Reference4Ideal (hKernel4Ideal := Cert.Kernel4Ideal.Gen.facts)
    (hReference4Ideal := Cert.Reference4Ideal.Gen.facts) := by
  intro m g m' g' _ hag
  refine ⟨fun c => Cert.Reference4Ideal.Hand.outR (A0 m c) (A1 m c) (A2 m c) (A3 m c) (A4 m c), ?_, ?_⟩
  · refine (θ_run _ _ _).mono (fun r h c => ?_) (Cert.Kernel4Ideal.Gen.run_main m g)
    exact ⟨((h c).1 6).trans (final_6 m c),
      ((h c).1 0).trans (((dats m 0 c).arrAt_in 0 rfl _).trans ((A_eq m c 0).trans (Cert.Kernel4Ideal.Gen.V_main_arg0 m c))),
      ((h c).1 1).trans (((dats m 0 c).arrAt_in 1 rfl _).trans ((A_eq m c 1).trans (Cert.Kernel4Ideal.Gen.V_main_arg1 m c))),
      ((h c).1 2).trans (((dats m 0 c).arrAt_in 2 rfl _).trans ((A_eq m c 2).trans (Cert.Kernel4Ideal.Gen.V_main_arg2 m c))),
      ((h c).1 4).trans (((dats m 0 c).arrAt_in 4 rfl _).trans ((A_eq m c 4).trans (Cert.Kernel4Ideal.Gen.V_main_arg3 m c))),
      ((h c).2 Cert.Kernel4Ideal.main_arg4 (Pipeline.mem_restRefs_of Cert.Kernel4Ideal.main_arg4 (by decide) (by decide))).trans (Cert.Kernel4Ideal.Gen.V_main_arg4 m c)⟩
  · refine (θ_run _ _ _).mono (fun r h c => ⟨(h c).1.trans ?_, (h c).2⟩) (Cert.Reference4Ideal.Value.run m' g')
    show Cert.Reference4Ideal.Hand.outR (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) = _
    rw [(hag c).1, (hag c).2.1, (hag c).2.2.1, (hag c).2.2.2.1, (hag c).2.2.2.2]

/-- The fifth reference runs, its arguments end unchanged, and every counter ends at zero: it has none. -/
theorem reference5_frame (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0) :=
  (θ_run _ _ _).mono (fun r h => ⟨fun c => (h c).2, sem_eq_zero_of_no_sems (by decide) r.2⟩) (Cert.Reference5Ideal.Value.run m g)

open Cert.Kernel5Ideal.Hand Cert.Kernel5Ideal.Gen in
/-- From the same arguments the fifth kernel's result is its reference's. -/
theorem algebraic5 : Cert.algebraic_Kernel5Ideal_Reference5Ideal (hKernel5Ideal := Cert.Kernel5Ideal.Gen.facts)
    (hReference5Ideal := Cert.Reference5Ideal.Gen.facts) := by
  intro m g m' g' _ hag
  refine ⟨fun c => Cert.Reference5Ideal.Hand.outR (A0 m c) (A1 m c) (A2 m c) (A3 m c), ?_, ?_⟩
  · refine (θ_run _ _ _).mono (fun r h c => ?_) (Cert.Kernel5Ideal.Gen.run_main m g)
    exact ⟨((h c).1 4).trans (final_4 m c),
      ((h c).1 0).trans (((dats m 0 c).arrAt_in 0 rfl _).trans ((A_eq m c 0).trans (Cert.Kernel5Ideal.Gen.V_main_arg0 m c))),
      ((h c).1 1).trans (((dats m 0 c).arrAt_in 1 rfl _).trans ((A_eq m c 1).trans (Cert.Kernel5Ideal.Gen.V_main_arg1 m c))),
      ((h c).1 2).trans (((dats m 0 c).arrAt_in 2 rfl _).trans ((A_eq m c 2).trans (Cert.Kernel5Ideal.Gen.V_main_arg2 m c))),
      ((h c).2 Cert.Kernel5Ideal.main_arg3 (Pipeline.mem_restRefs_of Cert.Kernel5Ideal.main_arg3 (by decide) (by decide))).trans (Cert.Kernel5Ideal.Gen.V_main_arg3 m c)⟩
  · refine (θ_run _ _ _).mono (fun r h c => ⟨(h c).1.trans ?_, (h c).2⟩) (Cert.Reference5Ideal.Value.run m' g')
    show Cert.Reference5Ideal.Hand.outR (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) = _
    rw [(hag c).1, (hag c).2.1, (hag c).2.2.1, (hag c).2.2.2]

/-- The sixth reference runs, its arguments end unchanged, and every counter ends at zero: it has none. -/
theorem reference6_frame (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0) :=
  (θ_run _ _ _).mono (fun r h => ⟨fun c => (h c).2.2.2.2.2.2, sem_eq_zero_of_no_sems (by decide) r.2⟩) (Cert.Reference6Ideal.Value.run m g)

open Cert.Kernel6Ideal.Hand in
/-- The reference's queries of the first attention, of equal arguments, are the ones the kernel's result is read as. -/
theorem qa_args (m : (ℓ : Loc Cert.Kernel6Ideal.nD Cert.Kernel6Ideal.τ Cert.Kernel6Ideal.sig) → Buf (Elt Ideal) ℓ) (m' : (ℓ : Loc Cert.Reference6Ideal.nD Cert.Reference6Ideal.τ Cert.Reference6Ideal.sig) → Buf (Elt Ideal) ℓ) (c : Dev Cert.Kernel6Ideal.nD)
    (h : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) :
    Cert.Reference6Ideal.Hand.qaR (Cert.Reference6Ideal.Hand.qR (F := Ideal) (Cert.Reference6Ideal.Hand.qlatR (Cert.Reference6Ideal.Hand.pR (F := Ideal) (Cert.Reference6Ideal.Hand.hR (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))) (m' ((c.tc : Thread Cert.Reference6Ideal.nD Cert.Reference6Ideal.τ).loc Cert.Reference6Ideal.main_arg4)))) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6))) (Host.cos (F := Ideal) (Cert.Reference6Ideal.Hand.angA (m' ((c.tc : Thread Cert.Reference6Ideal.nD Cert.Reference6Ideal.τ).loc Cert.Reference6Ideal.main_arg9)))) (Host.sin (F := Ideal) (Cert.Reference6Ideal.Hand.angA (m' ((c.tc : Thread Cert.Reference6Ideal.nD Cert.Reference6Ideal.τ).loc Cert.Reference6Ideal.main_arg9)))) = Cert.Reference6Ideal.Hand.qaR (QR m c) (cosA m c) (sinA m c) := by
  rw [h.1, h.2.1, h.2.2.1, h.2.2.2.1, h.2.2.2.2.1, h.2.2.2.2.2.1, h.2.2.2.2.2.2.1, h.2.2.2.2.2.2.2.2.2]

open Cert.Kernel6Ideal.Hand in
/-- The reference's keys of the first attention, of equal arguments, are the ones the kernel's result is read as. -/
theorem ka_args (m : (ℓ : Loc Cert.Kernel6Ideal.nD Cert.Kernel6Ideal.τ Cert.Kernel6Ideal.sig) → Buf (Elt Ideal) ℓ) (m' : (ℓ : Loc Cert.Reference6Ideal.nD Cert.Reference6Ideal.τ Cert.Reference6Ideal.sig) → Buf (Elt Ideal) ℓ) (c : Dev Cert.Kernel6Ideal.nD)
    (h : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) :
    Cert.Reference6Ideal.Hand.kaR (Cert.Reference6Ideal.Hand.kvR (F := Ideal) (Cert.Reference6Ideal.Hand.kvlatR (Cert.Reference6Ideal.Hand.pR (F := Ideal) (Cert.Reference6Ideal.Hand.hR (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))) (m' ((c.tc : Thread Cert.Reference6Ideal.nD Cert.Reference6Ideal.τ).loc Cert.Reference6Ideal.main_arg4)))) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8))) (Cert.Reference6Ideal.Hand.pR (F := Ideal) (Cert.Reference6Ideal.Hand.hR (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))) (m' ((c.tc : Thread Cert.Reference6Ideal.nD Cert.Reference6Ideal.τ).loc Cert.Reference6Ideal.main_arg4))) (Host.cos (F := Ideal) (Cert.Reference6Ideal.Hand.angA (m' ((c.tc : Thread Cert.Reference6Ideal.nD Cert.Reference6Ideal.τ).loc Cert.Reference6Ideal.main_arg9)))) (Host.sin (F := Ideal) (Cert.Reference6Ideal.Hand.angA (m' ((c.tc : Thread Cert.Reference6Ideal.nD Cert.Reference6Ideal.τ).loc Cert.Reference6Ideal.main_arg9)))) = Cert.Reference6Ideal.Hand.kaR (KVR m c) (PR m c) (cosA m c) (sinA m c) := by
  rw [h.1, h.2.1, h.2.2.1, h.2.2.2.1, h.2.2.2.2.1, h.2.2.2.2.2.2.2.1, h.2.2.2.2.2.2.2.2.1, h.2.2.2.2.2.2.2.2.2]

open Cert.Kernel6Ideal.Hand in
/-- The reference's values of the first attention, of equal arguments, are the ones the kernel's result is read as. -/
theorem va_args (m : (ℓ : Loc Cert.Kernel6Ideal.nD Cert.Kernel6Ideal.τ Cert.Kernel6Ideal.sig) → Buf (Elt Ideal) ℓ) (m' : (ℓ : Loc Cert.Reference6Ideal.nD Cert.Reference6Ideal.τ Cert.Reference6Ideal.sig) → Buf (Elt Ideal) ℓ) (c : Dev Cert.Kernel6Ideal.nD)
    (h : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) :
    Cert.Reference6Ideal.Hand.vaR (Cert.Reference6Ideal.Hand.kvR (F := Ideal) (Cert.Reference6Ideal.Hand.kvlatR (Cert.Reference6Ideal.Hand.pR (F := Ideal) (Cert.Reference6Ideal.Hand.hR (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))) (m' ((c.tc : Thread Cert.Reference6Ideal.nD Cert.Reference6Ideal.τ).loc Cert.Reference6Ideal.main_arg4)))) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8))) = Cert.Reference6Ideal.Hand.vaR (KVR m c) := by
  rw [h.1, h.2.1, h.2.2.1, h.2.2.2.1, h.2.2.2.2.1, h.2.2.2.2.2.2.2.1, h.2.2.2.2.2.2.2.2.1]

open Cert.Kernel6Ideal.Hand in
/-- The reference's queries of the second attention, of equal arguments, are the ones the kernel's result is read as. -/
theorem qb_args (m : (ℓ : Loc Cert.Kernel6Ideal.nD Cert.Kernel6Ideal.τ Cert.Kernel6Ideal.sig) → Buf (Elt Ideal) ℓ) (m' : (ℓ : Loc Cert.Reference6Ideal.nD Cert.Reference6Ideal.τ Cert.Reference6Ideal.sig) → Buf (Elt Ideal) ℓ) (c : Dev Cert.Kernel6Ideal.nD)
    (h : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) :
    Cert.Reference6Ideal.Hand.qbR (Cert.Reference6Ideal.Hand.pR (F := Ideal) (Cert.Reference6Ideal.Hand.hR (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))) (m' ((c.tc : Thread Cert.Reference6Ideal.nD Cert.Reference6Ideal.τ).loc Cert.Reference6Ideal.main_arg4))) (Host.cos (F := Ideal) (Cert.Reference6Ideal.Hand.angB (m' ((c.tc : Thread Cert.Reference6Ideal.nD Cert.Reference6Ideal.τ).loc Cert.Reference6Ideal.main_arg9)))) (Host.sin (F := Ideal) (Cert.Reference6Ideal.Hand.angB (m' ((c.tc : Thread Cert.Reference6Ideal.nD Cert.Reference6Ideal.τ).loc Cert.Reference6Ideal.main_arg9)))) = Cert.Reference6Ideal.Hand.qbR (PR m c) (cosB m c) (sinB m c) := by
  rw [h.1, h.2.1, h.2.2.1, h.2.2.2.1, h.2.2.2.2.1, h.2.2.2.2.2.2.2.2.2]

open Cert.Kernel6Ideal.Hand in
/-- The reference's keys of the second attention, of equal arguments, are the ones the kernel's result is read as. -/
theorem kb_args (m : (ℓ : Loc Cert.Kernel6Ideal.nD Cert.Kernel6Ideal.τ Cert.Kernel6Ideal.sig) → Buf (Elt Ideal) ℓ) (m' : (ℓ : Loc Cert.Reference6Ideal.nD Cert.Reference6Ideal.τ Cert.Reference6Ideal.sig) → Buf (Elt Ideal) ℓ) (c : Dev Cert.Kernel6Ideal.nD)
    (h : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) :
    Cert.Reference6Ideal.Hand.kbR (Cert.Reference6Ideal.Hand.pR (F := Ideal) (Cert.Reference6Ideal.Hand.hR (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))) (m' ((c.tc : Thread Cert.Reference6Ideal.nD Cert.Reference6Ideal.τ).loc Cert.Reference6Ideal.main_arg4))) (Host.cos (F := Ideal) (Cert.Reference6Ideal.Hand.angB (m' ((c.tc : Thread Cert.Reference6Ideal.nD Cert.Reference6Ideal.τ).loc Cert.Reference6Ideal.main_arg9)))) (Host.sin (F := Ideal) (Cert.Reference6Ideal.Hand.angB (m' ((c.tc : Thread Cert.Reference6Ideal.nD Cert.Reference6Ideal.τ).loc Cert.Reference6Ideal.main_arg9)))) = Cert.Reference6Ideal.Hand.kbR (PR m c) (cosB m c) (sinB m c) := by
  rw [h.1, h.2.1, h.2.2.1, h.2.2.2.1, h.2.2.2.2.1, h.2.2.2.2.2.2.2.2.2]

open Cert.Kernel6Ideal.Hand in
/-- The reference's values of the second attention, of equal arguments, are the ones the kernel's result is read as. -/
theorem vb_args (m : (ℓ : Loc Cert.Kernel6Ideal.nD Cert.Kernel6Ideal.τ Cert.Kernel6Ideal.sig) → Buf (Elt Ideal) ℓ) (m' : (ℓ : Loc Cert.Reference6Ideal.nD Cert.Reference6Ideal.τ Cert.Reference6Ideal.sig) → Buf (Elt Ideal) ℓ) (c : Dev Cert.Kernel6Ideal.nD)
    (h : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) :
    Cert.Reference6Ideal.Hand.vbR (Cert.Reference6Ideal.Hand.pR (F := Ideal) (Cert.Reference6Ideal.Hand.hR (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))) (m' ((c.tc : Thread Cert.Reference6Ideal.nD Cert.Reference6Ideal.τ).loc Cert.Reference6Ideal.main_arg4))) = Cert.Reference6Ideal.Hand.vbR (PR m c) := by
  rw [h.1, h.2.1, h.2.2.1, h.2.2.2.1, h.2.2.2.2.1]

open Cert.Kernel6Ideal.Hand Cert.Kernel6Ideal.Gen in
/-- From the same arguments the sixth kernel's six results are its reference's. -/
theorem algebraic6 : Cert.algebraic_Kernel6Ideal_Reference6Ideal (hKernel6Ideal := Cert.Kernel6Ideal.Gen.facts)
    (hReference6Ideal := Cert.Reference6Ideal.Gen.facts) := by
  intro m g m' g' _ hag
  refine ⟨fun c => Cert.Reference6Ideal.Hand.qaR (QR m c) (cosA m c) (sinA m c), fun c => Cert.Reference6Ideal.Hand.kaR (KVR m c) (PR m c) (cosA m c) (sinA m c), fun c => Cert.Reference6Ideal.Hand.vaR (KVR m c), fun c => Cert.Reference6Ideal.Hand.qbR (PR m c) (cosB m c) (sinB m c), fun c => Cert.Reference6Ideal.Hand.kbR (PR m c) (cosB m c) (sinB m c), fun c => Cert.Reference6Ideal.Hand.vbR (PR m c), ?_, ?_⟩
  · refine (θ_run _ _ _).mono (fun r h c => ?_) (Cert.Kernel6Ideal.Gen.run_main m g)
    exact ⟨((h c).1 13).trans (final_13 m c),
      ((h c).1 14).trans (final_14 m c),
      ((h c).1 15).trans (final_15 m c),
      ((h c).1 16).trans (final_16 m c),
      ((h c).1 17).trans (final_17 m c),
      ((h c).1 18).trans (final_18 m c),
      ((h c).1 0).trans (((dats m 0 c).arrAt_in 0 rfl _).trans ((A_eq m c 0).trans (Cert.Kernel6Ideal.Gen.V_main_arg0 m c))),
      ((h c).2 Cert.Kernel6Ideal.main_arg1 (Pipeline.mem_restRefs_of Cert.Kernel6Ideal.main_arg1 (by decide) (by decide))).trans (Cert.Kernel6Ideal.Gen.V_main_arg1 m c),
      ((h c).1 2).trans (((dats m 0 c).arrAt_in 2 rfl _).trans ((A_eq m c 2).trans (Cert.Kernel6Ideal.Gen.V_main_arg2 m c))),
      ((h c).1 3).trans (((dats m 0 c).arrAt_in 3 rfl _).trans ((A_eq m c 3).trans (Cert.Kernel6Ideal.Gen.V_main_arg3 m c))),
      ((h c).2 Cert.Kernel6Ideal.main_arg4 (Pipeline.mem_restRefs_of Cert.Kernel6Ideal.main_arg4 (by decide) (by decide))).trans (Cert.Kernel6Ideal.Gen.V_main_arg4 m c),
      ((h c).2 Cert.Kernel6Ideal.main_arg5 (Pipeline.mem_restRefs_of Cert.Kernel6Ideal.main_arg5 (by decide) (by decide))).trans (Cert.Kernel6Ideal.Gen.V_main_arg5 m c),
      ((h c).2 Cert.Kernel6Ideal.main_arg6 (Pipeline.mem_restRefs_of Cert.Kernel6Ideal.main_arg6 (by decide) (by decide))).trans (Cert.Kernel6Ideal.Gen.V_main_arg6 m c),
      ((h c).2 Cert.Kernel6Ideal.main_arg7 (Pipeline.mem_restRefs_of Cert.Kernel6Ideal.main_arg7 (by decide) (by decide))).trans (Cert.Kernel6Ideal.Gen.V_main_arg7 m c),
      ((h c).2 Cert.Kernel6Ideal.main_arg8 (Pipeline.mem_restRefs_of Cert.Kernel6Ideal.main_arg8 (by decide) (by decide))).trans (Cert.Kernel6Ideal.Gen.V_main_arg8 m c),
      ((h c).2 Cert.Kernel6Ideal.main_arg9 (Pipeline.mem_restRefs_of Cert.Kernel6Ideal.main_arg9 (by decide) (by decide))).trans (Cert.Kernel6Ideal.Gen.V_main_arg9 m c)⟩
  · refine (θ_run _ _ _).mono (fun r h c => ⟨(h c).1.trans (qa_args m m' c (hag c)), (h c).2.1.trans (ka_args m m' c (hag c)), (h c).2.2.1.trans (va_args m m' c (hag c)), (h c).2.2.2.1.trans (qb_args m m' c (hag c)), (h c).2.2.2.2.1.trans (kb_args m m' c (hag c)), (h c).2.2.2.2.2.1.trans (vb_args m m' c (hag c)), (h c).2.2.2.2.2.2⟩) (Cert.Reference6Ideal.Value.run m' g')

/-- The seventh reference runs, its arguments end unchanged, and every counter ends at zero: it has none. -/
theorem reference7_frame (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0) :=
  (θ_run _ _ _).mono (fun r h => ⟨fun c => (h c).2, sem_eq_zero_of_no_sems (by decide) r.2⟩) (Cert.Reference7Ideal.Value.run m g)

open Cert.Kernel7Ideal.Hand in
/-- From the same finite queries, keys and biases, and the same values, the seventh kernel's result is its reference's. -/
theorem algebraic7 : Cert.algebraic_Kernel7Ideal_Reference7Ideal_pre_finite7 (hKernel7Ideal := Cert.Kernel7Ideal.Gen.facts)
    (hReference7Ideal := Cert.Reference7Ideal.Gen.facts) (hPre_finite7 := Cert.Pre_finite7.Gen.facts) := by
  intro m g m' g' hpre hag
  refine ⟨fun c => Cert.Reference7Ideal.Hand.outR (Q m c) (K m c) (U m c) (T m c), ?_, ?_⟩
  · refine (θ_run _ _ _).mono (fun r h c => ?_) (run_main m g)
    obtain ⟨hq, hk, ht⟩ := Cert.Pre_finite7.Hand.num_of_fn _ _ _ _ (hpre c)
    exact ⟨(h.1 c).1.trans (final_4 m g c hq hk ht), (h.1 c).2⟩
  · refine (θ_run _ _ _).mono (fun r h c => ⟨(h c).1.trans ?_, (h c).2⟩) (Cert.Reference7Ideal.Value.run m' g')
    rw [Cert.Reference7Ideal.Hand.res_eq, (hag c).1, (hag c).2.1, (hag c).2.2.1, (hag c).2.2.2]

/-- The eighth reference runs, its arguments end unchanged, and every counter ends at zero: it has none. -/
theorem reference8_frame (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0) :=
  (θ_run _ _ _).mono (fun r h => ⟨fun c => (h c).2, sem_eq_zero_of_no_sems (by decide) r.2⟩) (Cert.Reference8Ideal.Value.run m g)

open Cert.Kernel8Ideal.Hand Cert.Kernel8Ideal.Gen in
/-- From the same arguments the eighth kernel's result is its reference's. -/
theorem algebraic8 : Cert.algebraic_Kernel8Ideal_Reference8Ideal (hKernel8Ideal := Cert.Kernel8Ideal.Gen.facts)
    (hReference8Ideal := Cert.Reference8Ideal.Gen.facts) := by
  intro m g m' g' _ hag
  refine ⟨fun c => Cert.Reference8Ideal.Hand.outR (A0 m c) (A1 m c) (A2 m c), ?_, ?_⟩
  · refine (θ_run _ _ _).mono (fun r h c => ?_) (Cert.Kernel8Ideal.Gen.run_main m g)
    exact ⟨((h c).1 3).trans (final_3 m c),
      ((h c).1 0).trans (((dats m 0 c).arrAt_in 0 rfl _).trans ((A_eq m c 0).trans (Cert.Kernel8Ideal.Gen.V_main_arg0 m c))),
      ((h c).1 1).trans (((dats m 0 c).arrAt_in 1 rfl _).trans ((A_eq m c 1).trans (Cert.Kernel8Ideal.Gen.V_main_arg1 m c))),
      ((h c).2 Cert.Kernel8Ideal.main_arg2 (Pipeline.mem_restRefs_of Cert.Kernel8Ideal.main_arg2 (by decide) (by decide))).trans (Cert.Kernel8Ideal.Gen.V_main_arg2 m c)⟩
  · refine (θ_run _ _ _).mono (fun r h c => ⟨(h c).1.trans ?_, (h c).2⟩) (Cert.Reference8Ideal.Value.run m' g')
    show Cert.Reference8Ideal.Hand.outR (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) = _
    rw [(hag c).1, (hag c).2.1, (hag c).2.2]

/-- The ninth reference runs, its arguments end unchanged, and every counter ends at zero: it has none. -/
theorem reference9_frame (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0) :=
  (θ_run _ _ _).mono (fun r h => ⟨fun c => (h c).2, sem_eq_zero_of_no_sems (by decide) r.2⟩) (Cert.Reference9Ideal.Value.run m g)

open Cert.Kernel9Ideal.Hand Cert.Kernel9Ideal.Gen in
/-- From the same arguments the ninth kernel's result is its reference's. -/
theorem algebraic9 : Cert.algebraic_Kernel9Ideal_Reference9Ideal (hKernel9Ideal := Cert.Kernel9Ideal.Gen.facts)
    (hReference9Ideal := Cert.Reference9Ideal.Gen.facts) := by
  intro m g m' g' _ hag
  refine ⟨fun c => Cert.Reference9Ideal.Hand.outR (A0 m c) (A1 m c) (A2 m c) (A3 m c) (A4 m c) (A5 m c), ?_, ?_⟩
  · refine (θ_run _ _ _).mono (fun r h c => ?_) (Cert.Kernel9Ideal.Gen.run_main m g)
    exact ⟨((h c).1 7).trans (final_7 m c),
      ((h c).1 0).trans (((dats m 0 c).arrAt_in 0 rfl _).trans ((A_eq m c 0).trans (Cert.Kernel9Ideal.Gen.V_main_arg0 m c))),
      ((h c).2 Cert.Kernel9Ideal.main_arg1 (Pipeline.mem_restRefs_of Cert.Kernel9Ideal.main_arg1 (by decide) (by decide))).trans (Cert.Kernel9Ideal.Gen.V_main_arg1 m c),
      ((h c).2 Cert.Kernel9Ideal.main_arg2 (Pipeline.mem_restRefs_of Cert.Kernel9Ideal.main_arg2 (by decide) (by decide))).trans (Cert.Kernel9Ideal.Gen.V_main_arg2 m c),
      ((h c).1 3).trans (((dats m 0 c).arrAt_in 3 rfl _).trans ((A_eq m c 3).trans (Cert.Kernel9Ideal.Gen.V_main_arg3 m c))),
      ((h c).1 4).trans (((dats m 0 c).arrAt_in 4 rfl _).trans ((A_eq m c 4).trans (Cert.Kernel9Ideal.Gen.V_main_arg4 m c))),
      ((h c).1 5).trans (((dats m 0 c).arrAt_in 5 rfl _).trans ((A_eq m c 5).trans (Cert.Kernel9Ideal.Gen.V_main_arg5 m c)))⟩
  · refine (θ_run _ _ _).mono (fun r h c => ⟨(h c).1.trans ?_, (h c).2⟩) (Cert.Reference9Ideal.Value.run m' g')
    show Cert.Reference9Ideal.Hand.outR (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) = _
    rw [(hag c).1, (hag c).2.1, (hag c).2.2.1, (hag c).2.2.2.1, (hag c).2.2.2.2.1, (hag c).2.2.2.2.2]

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_finite.Gen.facts, Cert.Pre_finite2.Gen.facts, Cert.Pre_finite7.Gen.facts,
    fun m g _ => Cert.Kernel.Hand.frame m g,
    fun m g _ => Cert.KernelIdeal.Hand.frame m g,
    fun m g _ => Cert.KernelIdeal.Hand.frame m g,
    fun m g _ => reference_frame m g,
    fun m g _ => reference_frame m g,
    fun m g _ => Cert.Kernel2.Hand.frame m g,
    fun m g _ => Cert.Kernel2Ideal.Hand.frame m g,
    fun m g _ => Cert.Kernel2Ideal.Hand.frame m g,
    fun m g _ => reference2_frame m g,
    fun m g _ => reference2_frame m g,
    fun m g _ => Cert.Kernel3.Gen.frame m g,
    fun m g _ => Cert.Kernel3Ideal.Gen.frame m g,
    fun m g _ => reference3_frame m g,
    fun m g _ => Cert.Kernel4.Gen.frame m g,
    fun m g _ => Cert.Kernel4Ideal.Gen.frame m g,
    fun m g _ => reference4_frame m g,
    fun m g _ => Cert.Kernel5.Gen.frame m g,
    fun m g _ => Cert.Kernel5Ideal.Gen.frame m g,
    fun m g _ => reference5_frame m g,
    fun m g _ => Cert.Kernel6.Gen.frame m g,
    fun m g _ => Cert.Kernel6Ideal.Gen.frame m g,
    fun m g _ => reference6_frame m g,
    fun m g _ => Cert.Kernel7.Gen.frame m g,
    fun m g _ => Cert.Kernel7Ideal.Gen.frame m g,
    fun m g _ => Cert.Kernel7Ideal.Gen.frame m g,
    fun m g _ => reference7_frame m g,
    fun m g _ => reference7_frame m g,
    fun m g _ => Cert.Kernel8.Gen.frame m g,
    fun m g _ => Cert.Kernel8Ideal.Gen.frame m g,
    fun m g _ => reference8_frame m g,
    fun m g _ => Cert.Kernel9.Gen.frame m g,
    fun m g _ => Cert.Kernel9Ideal.Gen.frame m g,
    fun m g _ => reference9_frame m g,
    trivial,
    algebraic,
    trivial,
    algebraic2,
    trivial,
    algebraic3,
    trivial,
    algebraic4,
    trivial,
    algebraic5,
    trivial,
    algebraic6,
    trivial,
    algebraic7,
    trivial,
    algebraic8,
    trivial,
    algebraic9⟩

end Cert.Proof

end
